-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4x2x131072 : Shape := ⟨4, ![16, 4, 2, 131072]⟩
abbrev S_ : Shape := ⟨0, ![]⟩
abbrev S1 : Shape := ⟨1, ![1]⟩
abbrev S2 : Shape := ⟨1, ![2]⟩
abbrev S1x1x1x1 : Shape := ⟨4, ![1, 1, 1, 1]⟩
abbrev S2x1 : Shape := ⟨2, ![2, 1]⟩
abbrev S2x2 : Shape := ⟨2, ![2, 2]⟩
abbrev S1x2 : Shape := ⟨2, ![1, 2]⟩
abbrev S16x4x1x1 : Shape := ⟨4, ![16, 4, 1, 1]⟩
abbrev S64x1 : Shape := ⟨2, ![64, 1]⟩
abbrev S64x2 : Shape := ⟨2, ![64, 2]⟩
abbrev S128 : Shape := ⟨1, ![128]⟩
abbrev S144 : Shape := ⟨1, ![144]⟩
abbrev S128x131072 : Shape := ⟨2, ![128, 131072]⟩
abbrev S128x122880 : Shape := ⟨2, ![128, 122880]⟩
abbrev S30728 : Shape := ⟨1, ![30728]⟩
abbrev S30720 : Shape := ⟨1, ![30720]⟩
abbrev S16 : Shape := ⟨1, ![16]⟩
abbrev S1x30728 : Shape := ⟨2, ![1, 30728]⟩
abbrev S1x30720 : Shape := ⟨2, ![1, 30720]⟩
abbrev S16x4x2x122880 : Shape := ⟨4, ![16, 4, 2, 122880]⟩

abbrev nBuf : Table → Nat
  | .hbm => 814
  | .local .scVector .vmem => 3
  | _ => 0

abbrev hbmTy0_0 (i : Nat) : BufTy := match i % 128 with
  | 0 => ⟨S16x4x2x131072, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S1x1x1x1, .i32⟩
  | 30 => ⟨S1x1x1x1, .i32⟩
  | 31 => ⟨S1, .i32⟩
  | 32 => ⟨S_, .i32⟩
  | 33 => ⟨S1, .i32⟩
  | 34 => ⟨S_, .i32⟩
  | 35 => ⟨S2, .i64⟩
  | 36 => ⟨S_, .i64⟩
  | 37 => ⟨S2, .i64⟩
  | 38 => ⟨S2, .i64⟩
  | 39 => ⟨S_, .i64⟩
  | 40 => ⟨S2, .i64⟩
  | 41 => ⟨S2, .i64⟩
  | 42 => ⟨S2, .i32⟩
  | 43 => ⟨S2, .i32⟩
  | 44 => ⟨S_, .i32⟩
  | 45 => ⟨S_, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S16x4x2x131072, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S16x4x2x131072, .f32⟩

abbrev hbmTy0_2 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S2x1, .i32⟩
  | 11 => ⟨S2x1, .i32⟩
  | 12 => ⟨S2x2, .i32⟩
  | 13 => ⟨S1x2, .i32⟩
  | 14 => ⟨S2, .i32⟩
  | 15 => ⟨S1x2, .i32⟩
  | 16 => ⟨S2, .i32⟩
  | 17 => ⟨S1, .i32⟩
  | 18 => ⟨S_, .i32⟩
  | 19 => ⟨S1, .i32⟩
  | 20 => ⟨S_, .i32⟩
  | 21 => ⟨S16x4x1x1, .i64⟩
  | 22 => ⟨S16x4x1x1, .i64⟩
  | 23 => ⟨S16x4x1x1, .i64⟩
  | 24 => ⟨S16x4x1x1, .i64⟩
  | 25 => ⟨S_, .i64⟩
  | 26 => ⟨S16x4x1x1, .i64⟩
  | 27 => ⟨S16x4x1x1, .i64⟩
  | 28 => ⟨S_, .i64⟩
  | 29 => ⟨S16x4x1x1, .i64⟩
  | 30 => ⟨S16x4x1x1, .i64⟩
  | 31 => ⟨S_, .i64⟩
  | 32 => ⟨S16x4x1x1, .i64⟩
  | 33 => ⟨S16x4x1x1, .i64⟩
  | 34 => ⟨S_, .i64⟩
  | 35 => ⟨S16x4x1x1, .i64⟩
  | 36 => ⟨S16x4x1x1, .i64⟩
  | 37 => ⟨S16x4x1x1, .i64⟩
  | 38 => ⟨S16x4x1x1, .i64⟩
  | 39 => ⟨S16x4x1x1, .i64⟩
  | 40 => ⟨S_, .i64⟩
  | 41 => ⟨S16x4x1x1, .i64⟩
  | 42 => ⟨S16x4x1x1, .i64⟩
  | 43 => ⟨S16x4x1x1, .i32⟩
  | 44 => ⟨S16x4x1x1, .i32⟩
  | 45 => ⟨S_, .i32⟩
  | 46 => ⟨S_, .i32⟩
  | 47 => ⟨S_, .i32⟩
  | 48 => ⟨S16x4x1x1, .i32⟩
  | 49 => ⟨S16x4x1x1, .i32⟩
  | 50 => ⟨S16x4x1x1, .i32⟩
  | 51 => ⟨S16x4x1x1, .i32⟩
  | 52 => ⟨S16x4x1x1, .i32⟩
  | 53 => ⟨S_, .i32⟩
  | 54 => ⟨S16x4x1x1, .i32⟩
  | 55 => ⟨S16x4x1x1, .i32⟩
  | 56 => ⟨S_, .i32⟩
  | 57 => ⟨S16x4x1x1, .i32⟩
  | 58 => ⟨S16x4x1x1, .i32⟩
  | 59 => ⟨S16x4x1x1, .i32⟩
  | 60 => ⟨S16x4x1x1, .i32⟩
  | 61 => ⟨S16x4x1x1, .i32⟩
  | 62 => ⟨S_, .i32⟩
  | 63 => ⟨S16x4x1x1, .i32⟩
  | 64 => ⟨S16x4x1x1, .i32⟩
  | 65 => ⟨S_, .i32⟩
  | 66 => ⟨S16x4x1x1, .i32⟩
  | 67 => ⟨S16x4x1x1, .i32⟩
  | 68 => ⟨S16x4x1x1, .i32⟩
  | 69 => ⟨S16x4x1x1, .i32⟩
  | 70 => ⟨S16x4x1x1, .i32⟩
  | 71 => ⟨S_, .i32⟩
  | 72 => ⟨S16x4x1x1, .i32⟩
  | 73 => ⟨S16x4x1x1, .i32⟩
  | 74 => ⟨S_, .i32⟩
  | 75 => ⟨S16x4x1x1, .i32⟩
  | 76 => ⟨S16x4x1x1, .i32⟩
  | 77 => ⟨S16x4x1x1, .i32⟩
  | 78 => ⟨S16x4x1x1, .i32⟩
  | 79 => ⟨S16x4x1x1, .i32⟩
  | 80 => ⟨S_, .i32⟩
  | 81 => ⟨S16x4x1x1, .i32⟩
  | 82 => ⟨S16x4x1x1, .i32⟩
  | 83 => ⟨S_, .i32⟩
  | 84 => ⟨S16x4x1x1, .i32⟩
  | 85 => ⟨S16x4x1x1, .i32⟩
  | 86 => ⟨S16x4x1x1, .i32⟩
  | 87 => ⟨S16x4x1x1, .i32⟩
  | 88 => ⟨S16x4x1x1, .i32⟩
  | 89 => ⟨S16x4x1x1, .i32⟩
  | 90 => ⟨S16x4x1x1, .i32⟩
  | 91 => ⟨S16x4x1x1, .i32⟩
  | 92 => ⟨S_, .i32⟩
  | 93 => ⟨S16x4x1x1, .i32⟩
  | 94 => ⟨S16x4x1x1, .i32⟩
  | 95 => ⟨S16x4x1x1, .i32⟩
  | 96 => ⟨S_, .i32⟩
  | 97 => ⟨S16x4x1x1, .i32⟩
  | 98 => ⟨S16x4x1x1, .i32⟩
  | 99 => ⟨S_, .i32⟩
  | 100 => ⟨S16x4x1x1, .i32⟩
  | 101 => ⟨S16x4x1x1, .i32⟩
  | 102 => ⟨S16x4x1x1, .i32⟩
  | 103 => ⟨S16x4x1x1, .i32⟩
  | 104 => ⟨S16x4x1x1, .i32⟩
  | 105 => ⟨S_, .i32⟩
  | 106 => ⟨S16x4x1x1, .i32⟩
  | 107 => ⟨S16x4x1x1, .i32⟩
  | 108 => ⟨S_, .i32⟩
  | 109 => ⟨S16x4x1x1, .i32⟩
  | 110 => ⟨S16x4x1x1, .i32⟩
  | 111 => ⟨S16x4x1x1, .i32⟩
  | 112 => ⟨S16x4x1x1, .i32⟩
  | 113 => ⟨S16x4x1x1, .i32⟩
  | 114 => ⟨S_, .i32⟩
  | 115 => ⟨S16x4x1x1, .i32⟩
  | 116 => ⟨S16x4x1x1, .i32⟩
  | 117 => ⟨S_, .i32⟩
  | 118 => ⟨S16x4x1x1, .i32⟩
  | 119 => ⟨S16x4x1x1, .i32⟩
  | 120 => ⟨S16x4x1x1, .i32⟩
  | 121 => ⟨S16x4x1x1, .i32⟩
  | 122 => ⟨S16x4x1x1, .i32⟩
  | 123 => ⟨S_, .i32⟩
  | 124 => ⟨S16x4x1x1, .i32⟩
  | 125 => ⟨S16x4x1x1, .i32⟩
  | 126 => ⟨S_, .i32⟩
  | 127 => ⟨S16x4x1x1, .i32⟩
  | _ => ⟨S16x4x2x131072, .f32⟩

abbrev hbmTy0_3 (i : Nat) : BufTy := match i % 128 with
  | 0 => ⟨S16x4x1x1, .i32⟩
  | 1 => ⟨S16x4x1x1, .i32⟩
  | 2 => ⟨S16x4x1x1, .i32⟩
  | 3 => ⟨S16x4x1x1, .i32⟩
  | 4 => ⟨S16x4x1x1, .i32⟩
  | 5 => ⟨S16x4x1x1, .i32⟩
  | 6 => ⟨S16x4x1x1, .i32⟩
  | 7 => ⟨S_, .i32⟩
  | 8 => ⟨S16x4x1x1, .i32⟩
  | 9 => ⟨S16x4x1x1, .i32⟩
  | 10 => ⟨S16x4x1x1, .i32⟩
  | 11 => ⟨S_, .i32⟩
  | 12 => ⟨S16x4x1x1, .i32⟩
  | 13 => ⟨S16x4x1x1, .i32⟩
  | 14 => ⟨S_, .i32⟩
  | 15 => ⟨S16x4x1x1, .i32⟩
  | 16 => ⟨S16x4x1x1, .i32⟩
  | 17 => ⟨S16x4x1x1, .i32⟩
  | 18 => ⟨S16x4x1x1, .i32⟩
  | 19 => ⟨S16x4x1x1, .i32⟩
  | 20 => ⟨S_, .i32⟩
  | 21 => ⟨S16x4x1x1, .i32⟩
  | 22 => ⟨S16x4x1x1, .i32⟩
  | 23 => ⟨S_, .i32⟩
  | 24 => ⟨S16x4x1x1, .i32⟩
  | 25 => ⟨S16x4x1x1, .i32⟩
  | 26 => ⟨S16x4x1x1, .i32⟩
  | 27 => ⟨S16x4x1x1, .i32⟩
  | 28 => ⟨S16x4x1x1, .i32⟩
  | 29 => ⟨S_, .i32⟩
  | 30 => ⟨S16x4x1x1, .i32⟩
  | 31 => ⟨S16x4x1x1, .i32⟩
  | 32 => ⟨S_, .i32⟩
  | 33 => ⟨S16x4x1x1, .i32⟩
  | 34 => ⟨S16x4x1x1, .i32⟩
  | 35 => ⟨S16x4x1x1, .i32⟩
  | 36 => ⟨S16x4x1x1, .i32⟩
  | 37 => ⟨S16x4x1x1, .i32⟩
  | 38 => ⟨S_, .i32⟩
  | 39 => ⟨S16x4x1x1, .i32⟩
  | 40 => ⟨S16x4x1x1, .i32⟩
  | 41 => ⟨S_, .i32⟩
  | 42 => ⟨S16x4x1x1, .i32⟩
  | 43 => ⟨S16x4x1x1, .i32⟩
  | 44 => ⟨S16x4x1x1, .i32⟩
  | 45 => ⟨S16x4x1x1, .i32⟩
  | 46 => ⟨S16x4x1x1, .i32⟩
  | 47 => ⟨S16x4x1x1, .i32⟩
  | 48 => ⟨S16x4x1x1, .i32⟩
  | 49 => ⟨S16x4x1x1, .i32⟩
  | 50 => ⟨S_, .i32⟩
  | 51 => ⟨S16x4x1x1, .i32⟩
  | 52 => ⟨S16x4x1x1, .i32⟩
  | 53 => ⟨S16x4x1x1, .i32⟩
  | 54 => ⟨S_, .i32⟩
  | 55 => ⟨S16x4x1x1, .i32⟩
  | 56 => ⟨S16x4x1x1, .i32⟩
  | 57 => ⟨S_, .i32⟩
  | 58 => ⟨S16x4x1x1, .i32⟩
  | 59 => ⟨S16x4x1x1, .i32⟩
  | 60 => ⟨S16x4x1x1, .i32⟩
  | 61 => ⟨S16x4x1x1, .i32⟩
  | 62 => ⟨S16x4x1x1, .i32⟩
  | 63 => ⟨S_, .i32⟩
  | 64 => ⟨S16x4x1x1, .i32⟩
  | 65 => ⟨S16x4x1x1, .i32⟩
  | 66 => ⟨S_, .i32⟩
  | 67 => ⟨S16x4x1x1, .i32⟩
  | 68 => ⟨S16x4x1x1, .i32⟩
  | 69 => ⟨S16x4x1x1, .i32⟩
  | 70 => ⟨S16x4x1x1, .i32⟩
  | 71 => ⟨S16x4x1x1, .i32⟩
  | 72 => ⟨S_, .i32⟩
  | 73 => ⟨S16x4x1x1, .i32⟩
  | 74 => ⟨S16x4x1x1, .i32⟩
  | 75 => ⟨S_, .i32⟩
  | 76 => ⟨S16x4x1x1, .i32⟩
  | 77 => ⟨S16x4x1x1, .i32⟩
  | 78 => ⟨S16x4x1x1, .i32⟩
  | 79 => ⟨S16x4x1x1, .i32⟩
  | 80 => ⟨S16x4x1x1, .i32⟩
  | 81 => ⟨S_, .i32⟩
  | 82 => ⟨S16x4x1x1, .i32⟩
  | 83 => ⟨S16x4x1x1, .i32⟩
  | 84 => ⟨S_, .i32⟩
  | 85 => ⟨S16x4x1x1, .i32⟩
  | 86 => ⟨S16x4x1x1, .i32⟩
  | 87 => ⟨S16x4x1x1, .i32⟩
  | 88 => ⟨S16x4x1x1, .i32⟩
  | 89 => ⟨S16x4x1x1, .i32⟩
  | 90 => ⟨S16x4x1x1, .i32⟩
  | 91 => ⟨S16x4x1x1, .i32⟩
  | 92 => ⟨S16x4x1x1, .i32⟩
  | 93 => ⟨S_, .i32⟩
  | 94 => ⟨S16x4x1x1, .i32⟩
  | 95 => ⟨S16x4x1x1, .i32⟩
  | 96 => ⟨S16x4x1x1, .i32⟩
  | 97 => ⟨S_, .i32⟩
  | 98 => ⟨S16x4x1x1, .i32⟩
  | 99 => ⟨S16x4x1x1, .i32⟩
  | 100 => ⟨S_, .i32⟩
  | 101 => ⟨S16x4x1x1, .i32⟩
  | 102 => ⟨S16x4x1x1, .i32⟩
  | 103 => ⟨S16x4x1x1, .i32⟩
  | 104 => ⟨S16x4x1x1, .i32⟩
  | 105 => ⟨S16x4x1x1, .i32⟩
  | 106 => ⟨S_, .i32⟩
  | 107 => ⟨S16x4x1x1, .i32⟩
  | 108 => ⟨S16x4x1x1, .i32⟩
  | 109 => ⟨S_, .i32⟩
  | 110 => ⟨S16x4x1x1, .i32⟩
  | 111 => ⟨S16x4x1x1, .i32⟩
  | 112 => ⟨S16x4x1x1, .i32⟩
  | 113 => ⟨S16x4x1x1, .i32⟩
  | 114 => ⟨S16x4x1x1, .i32⟩
  | 115 => ⟨S_, .i32⟩
  | 116 => ⟨S16x4x1x1, .i32⟩
  | 117 => ⟨S16x4x1x1, .i32⟩
  | 118 => ⟨S_, .i32⟩
  | 119 => ⟨S16x4x1x1, .i32⟩
  | 120 => ⟨S16x4x1x1, .i32⟩
  | 121 => ⟨S16x4x1x1, .i32⟩
  | 122 => ⟨S16x4x1x1, .i32⟩
  | 123 => ⟨S16x4x1x1, .i32⟩
  | 124 => ⟨S_, .i32⟩
  | 125 => ⟨S16x4x1x1, .i32⟩
  | 126 => ⟨S16x4x1x1, .i32⟩
  | 127 => ⟨S_, .i32⟩
  | _ => ⟨S16x4x2x131072, .f32⟩

abbrev hbmTy0_4 (i : Nat) : BufTy := match i % 128 with
  | 0 => ⟨S16x4x1x1, .i32⟩
  | 1 => ⟨S16x4x1x1, .i32⟩
  | 2 => ⟨S16x4x1x1, .i32⟩
  | 3 => ⟨S16x4x1x1, .i32⟩
  | 4 => ⟨S16x4x1x1, .i32⟩
  | 5 => ⟨S16x4x1x1, .i32⟩
  | 6 => ⟨S16x4x1x1, .i32⟩
  | 7 => ⟨S16x4x1x1, .i32⟩
  | 8 => ⟨S_, .i32⟩
  | 9 => ⟨S16x4x1x1, .i32⟩
  | 10 => ⟨S16x4x1x1, .i32⟩
  | 11 => ⟨S16x4x1x1, .i32⟩
  | 12 => ⟨S1, .i32⟩
  | 13 => ⟨S_, .i32⟩
  | 14 => ⟨S1, .i32⟩
  | 15 => ⟨S_, .i32⟩
  | 16 => ⟨S16x4x1x1, .i64⟩
  | 17 => ⟨S16x4x1x1, .i64⟩
  | 18 => ⟨S16x4x1x1, .i64⟩
  | 19 => ⟨S16x4x1x1, .i64⟩
  | 20 => ⟨S_, .i64⟩
  | 21 => ⟨S16x4x1x1, .i64⟩
  | 22 => ⟨S16x4x1x1, .i64⟩
  | 23 => ⟨S_, .i64⟩
  | 24 => ⟨S16x4x1x1, .i64⟩
  | 25 => ⟨S16x4x1x1, .i64⟩
  | 26 => ⟨S_, .i64⟩
  | 27 => ⟨S16x4x1x1, .i64⟩
  | 28 => ⟨S16x4x1x1, .i64⟩
  | 29 => ⟨S_, .i64⟩
  | 30 => ⟨S16x4x1x1, .i64⟩
  | 31 => ⟨S16x4x1x1, .i64⟩
  | 32 => ⟨S16x4x1x1, .i64⟩
  | 33 => ⟨S16x4x1x1, .i64⟩
  | 34 => ⟨S16x4x1x1, .i64⟩
  | 35 => ⟨S_, .i64⟩
  | 36 => ⟨S16x4x1x1, .i64⟩
  | 37 => ⟨S16x4x1x1, .i64⟩
  | 38 => ⟨S16x4x1x1, .i32⟩
  | 39 => ⟨S16x4x1x1, .i32⟩
  | 40 => ⟨S_, .i32⟩
  | 41 => ⟨S_, .i32⟩
  | 42 => ⟨S_, .i32⟩
  | 43 => ⟨S16x4x1x1, .i32⟩
  | 44 => ⟨S16x4x1x1, .i32⟩
  | 45 => ⟨S16x4x1x1, .i32⟩
  | 46 => ⟨S16x4x1x1, .i32⟩
  | 47 => ⟨S16x4x1x1, .i32⟩
  | 48 => ⟨S_, .i32⟩
  | 49 => ⟨S16x4x1x1, .i32⟩
  | 50 => ⟨S16x4x1x1, .i32⟩
  | 51 => ⟨S_, .i32⟩
  | 52 => ⟨S16x4x1x1, .i32⟩
  | 53 => ⟨S16x4x1x1, .i32⟩
  | 54 => ⟨S16x4x1x1, .i32⟩
  | 55 => ⟨S16x4x1x1, .i32⟩
  | 56 => ⟨S16x4x1x1, .i32⟩
  | 57 => ⟨S_, .i32⟩
  | 58 => ⟨S16x4x1x1, .i32⟩
  | 59 => ⟨S16x4x1x1, .i32⟩
  | 60 => ⟨S_, .i32⟩
  | 61 => ⟨S16x4x1x1, .i32⟩
  | 62 => ⟨S16x4x1x1, .i32⟩
  | 63 => ⟨S16x4x1x1, .i32⟩
  | 64 => ⟨S16x4x1x1, .i32⟩
  | 65 => ⟨S16x4x1x1, .i32⟩
  | 66 => ⟨S_, .i32⟩
  | 67 => ⟨S16x4x1x1, .i32⟩
  | 68 => ⟨S16x4x1x1, .i32⟩
  | 69 => ⟨S_, .i32⟩
  | 70 => ⟨S16x4x1x1, .i32⟩
  | 71 => ⟨S16x4x1x1, .i32⟩
  | 72 => ⟨S16x4x1x1, .i32⟩
  | 73 => ⟨S16x4x1x1, .i32⟩
  | 74 => ⟨S16x4x1x1, .i32⟩
  | 75 => ⟨S_, .i32⟩
  | 76 => ⟨S16x4x1x1, .i32⟩
  | 77 => ⟨S16x4x1x1, .i32⟩
  | 78 => ⟨S_, .i32⟩
  | 79 => ⟨S16x4x1x1, .i32⟩
  | 80 => ⟨S16x4x1x1, .i32⟩
  | 81 => ⟨S16x4x1x1, .i32⟩
  | 82 => ⟨S16x4x1x1, .i32⟩
  | 83 => ⟨S16x4x1x1, .i32⟩
  | 84 => ⟨S16x4x1x1, .i32⟩
  | 85 => ⟨S16x4x1x1, .i32⟩
  | 86 => ⟨S16x4x1x1, .i32⟩
  | 87 => ⟨S_, .i32⟩
  | 88 => ⟨S16x4x1x1, .i32⟩
  | 89 => ⟨S16x4x1x1, .i32⟩
  | 90 => ⟨S16x4x1x1, .i32⟩
  | 91 => ⟨S_, .i32⟩
  | 92 => ⟨S16x4x1x1, .i32⟩
  | 93 => ⟨S16x4x1x1, .i32⟩
  | 94 => ⟨S_, .i32⟩
  | 95 => ⟨S16x4x1x1, .i32⟩
  | 96 => ⟨S16x4x1x1, .i32⟩
  | 97 => ⟨S16x4x1x1, .i32⟩
  | 98 => ⟨S16x4x1x1, .i32⟩
  | 99 => ⟨S16x4x1x1, .i32⟩
  | 100 => ⟨S_, .i32⟩
  | 101 => ⟨S16x4x1x1, .i32⟩
  | 102 => ⟨S16x4x1x1, .i32⟩
  | 103 => ⟨S_, .i32⟩
  | 104 => ⟨S16x4x1x1, .i32⟩
  | 105 => ⟨S16x4x1x1, .i32⟩
  | 106 => ⟨S16x4x1x1, .i32⟩
  | 107 => ⟨S16x4x1x1, .i32⟩
  | 108 => ⟨S16x4x1x1, .i32⟩
  | 109 => ⟨S_, .i32⟩
  | 110 => ⟨S16x4x1x1, .i32⟩
  | 111 => ⟨S16x4x1x1, .i32⟩
  | 112 => ⟨S_, .i32⟩
  | 113 => ⟨S16x4x1x1, .i32⟩
  | 114 => ⟨S16x4x1x1, .i32⟩
  | 115 => ⟨S16x4x1x1, .i32⟩
  | 116 => ⟨S16x4x1x1, .i32⟩
  | 117 => ⟨S16x4x1x1, .i32⟩
  | 118 => ⟨S_, .i32⟩
  | 119 => ⟨S16x4x1x1, .i32⟩
  | 120 => ⟨S16x4x1x1, .i32⟩
  | 121 => ⟨S_, .i32⟩
  | 122 => ⟨S16x4x1x1, .i32⟩
  | 123 => ⟨S16x4x1x1, .i32⟩
  | 124 => ⟨S16x4x1x1, .i32⟩
  | 125 => ⟨S16x4x1x1, .i32⟩
  | 126 => ⟨S16x4x1x1, .i32⟩
  | 127 => ⟨S16x4x1x1, .i32⟩
  | _ => ⟨S16x4x2x131072, .f32⟩

abbrev hbmTy0_5 (i : Nat) : BufTy := match i % 128 with
  | 0 => ⟨S16x4x1x1, .i32⟩
  | 1 => ⟨S16x4x1x1, .i32⟩
  | 2 => ⟨S_, .i32⟩
  | 3 => ⟨S16x4x1x1, .i32⟩
  | 4 => ⟨S16x4x1x1, .i32⟩
  | 5 => ⟨S16x4x1x1, .i32⟩
  | 6 => ⟨S_, .i32⟩
  | 7 => ⟨S16x4x1x1, .i32⟩
  | 8 => ⟨S16x4x1x1, .i32⟩
  | 9 => ⟨S_, .i32⟩
  | 10 => ⟨S16x4x1x1, .i32⟩
  | 11 => ⟨S16x4x1x1, .i32⟩
  | 12 => ⟨S16x4x1x1, .i32⟩
  | 13 => ⟨S16x4x1x1, .i32⟩
  | 14 => ⟨S16x4x1x1, .i32⟩
  | 15 => ⟨S_, .i32⟩
  | 16 => ⟨S16x4x1x1, .i32⟩
  | 17 => ⟨S16x4x1x1, .i32⟩
  | 18 => ⟨S_, .i32⟩
  | 19 => ⟨S16x4x1x1, .i32⟩
  | 20 => ⟨S16x4x1x1, .i32⟩
  | 21 => ⟨S16x4x1x1, .i32⟩
  | 22 => ⟨S16x4x1x1, .i32⟩
  | 23 => ⟨S16x4x1x1, .i32⟩
  | 24 => ⟨S_, .i32⟩
  | 25 => ⟨S16x4x1x1, .i32⟩
  | 26 => ⟨S16x4x1x1, .i32⟩
  | 27 => ⟨S_, .i32⟩
  | 28 => ⟨S16x4x1x1, .i32⟩
  | 29 => ⟨S16x4x1x1, .i32⟩
  | 30 => ⟨S16x4x1x1, .i32⟩
  | 31 => ⟨S16x4x1x1, .i32⟩
  | 32 => ⟨S16x4x1x1, .i32⟩
  | 33 => ⟨S_, .i32⟩
  | 34 => ⟨S16x4x1x1, .i32⟩
  | 35 => ⟨S16x4x1x1, .i32⟩
  | 36 => ⟨S_, .i32⟩
  | 37 => ⟨S16x4x1x1, .i32⟩
  | 38 => ⟨S16x4x1x1, .i32⟩
  | 39 => ⟨S16x4x1x1, .i32⟩
  | 40 => ⟨S16x4x1x1, .i32⟩
  | 41 => ⟨S16x4x1x1, .i32⟩
  | 42 => ⟨S16x4x1x1, .i32⟩
  | 43 => ⟨S16x4x1x1, .i32⟩
  | 44 => ⟨S16x4x1x1, .i32⟩
  | 45 => ⟨S_, .i32⟩
  | 46 => ⟨S16x4x1x1, .i32⟩
  | 47 => ⟨S16x4x1x1, .i32⟩
  | 48 => ⟨S16x4x1x1, .i32⟩
  | 49 => ⟨S_, .i32⟩
  | 50 => ⟨S16x4x1x1, .i32⟩
  | 51 => ⟨S16x4x1x1, .i32⟩
  | 52 => ⟨S_, .i32⟩
  | 53 => ⟨S16x4x1x1, .i32⟩
  | 54 => ⟨S16x4x1x1, .i32⟩
  | 55 => ⟨S16x4x1x1, .i32⟩
  | 56 => ⟨S16x4x1x1, .i32⟩
  | 57 => ⟨S16x4x1x1, .i32⟩
  | 58 => ⟨S_, .i32⟩
  | 59 => ⟨S16x4x1x1, .i32⟩
  | 60 => ⟨S16x4x1x1, .i32⟩
  | 61 => ⟨S_, .i32⟩
  | 62 => ⟨S16x4x1x1, .i32⟩
  | 63 => ⟨S16x4x1x1, .i32⟩
  | 64 => ⟨S16x4x1x1, .i32⟩
  | 65 => ⟨S16x4x1x1, .i32⟩
  | 66 => ⟨S16x4x1x1, .i32⟩
  | 67 => ⟨S_, .i32⟩
  | 68 => ⟨S16x4x1x1, .i32⟩
  | 69 => ⟨S16x4x1x1, .i32⟩
  | 70 => ⟨S_, .i32⟩
  | 71 => ⟨S16x4x1x1, .i32⟩
  | 72 => ⟨S16x4x1x1, .i32⟩
  | 73 => ⟨S16x4x1x1, .i32⟩
  | 74 => ⟨S16x4x1x1, .i32⟩
  | 75 => ⟨S16x4x1x1, .i32⟩
  | 76 => ⟨S_, .i32⟩
  | 77 => ⟨S16x4x1x1, .i32⟩
  | 78 => ⟨S16x4x1x1, .i32⟩
  | 79 => ⟨S_, .i32⟩
  | 80 => ⟨S16x4x1x1, .i32⟩
  | 81 => ⟨S16x4x1x1, .i32⟩
  | 82 => ⟨S16x4x1x1, .i32⟩
  | 83 => ⟨S16x4x1x1, .i32⟩
  | 84 => ⟨S16x4x1x1, .i32⟩
  | 85 => ⟨S16x4x1x1, .i32⟩
  | 86 => ⟨S16x4x1x1, .i32⟩
  | 87 => ⟨S16x4x1x1, .i32⟩
  | 88 => ⟨S_, .i32⟩
  | 89 => ⟨S16x4x1x1, .i32⟩
  | 90 => ⟨S16x4x1x1, .i32⟩
  | 91 => ⟨S16x4x1x1, .i32⟩
  | 92 => ⟨S_, .i32⟩
  | 93 => ⟨S16x4x1x1, .i32⟩
  | 94 => ⟨S16x4x1x1, .i32⟩
  | 95 => ⟨S_, .i32⟩
  | 96 => ⟨S16x4x1x1, .i32⟩
  | 97 => ⟨S16x4x1x1, .i32⟩
  | 98 => ⟨S16x4x1x1, .i32⟩
  | 99 => ⟨S16x4x1x1, .i32⟩
  | 100 => ⟨S16x4x1x1, .i32⟩
  | 101 => ⟨S_, .i32⟩
  | 102 => ⟨S16x4x1x1, .i32⟩
  | 103 => ⟨S16x4x1x1, .i32⟩
  | 104 => ⟨S_, .i32⟩
  | 105 => ⟨S16x4x1x1, .i32⟩
  | 106 => ⟨S16x4x1x1, .i32⟩
  | 107 => ⟨S16x4x1x1, .i32⟩
  | 108 => ⟨S16x4x1x1, .i32⟩
  | 109 => ⟨S16x4x1x1, .i32⟩
  | 110 => ⟨S_, .i32⟩
  | 111 => ⟨S16x4x1x1, .i32⟩
  | 112 => ⟨S16x4x1x1, .i32⟩
  | 113 => ⟨S_, .i32⟩
  | 114 => ⟨S16x4x1x1, .i32⟩
  | 115 => ⟨S16x4x1x1, .i32⟩
  | 116 => ⟨S16x4x1x1, .i32⟩
  | 117 => ⟨S16x4x1x1, .i32⟩
  | 118 => ⟨S16x4x1x1, .i32⟩
  | 119 => ⟨S_, .i32⟩
  | 120 => ⟨S16x4x1x1, .i32⟩
  | 121 => ⟨S16x4x1x1, .i32⟩
  | 122 => ⟨S_, .i32⟩
  | 123 => ⟨S16x4x1x1, .i32⟩
  | 124 => ⟨S16x4x1x1, .i32⟩
  | 125 => ⟨S16x4x1x1, .i32⟩
  | 126 => ⟨S16x4x1x1, .i32⟩
  | 127 => ⟨S16x4x1x1, .i32⟩
  | _ => ⟨S16x4x2x131072, .f32⟩

abbrev hbmTy0_6 (i : Nat) : BufTy := match i % 128 with
  | 0 => ⟨S16x4x1x1, .i32⟩
  | 1 => ⟨S16x4x1x1, .i32⟩
  | 2 => ⟨S16x4x1x1, .i32⟩
  | 3 => ⟨S_, .i32⟩
  | 4 => ⟨S16x4x1x1, .i32⟩
  | 5 => ⟨S16x4x1x1, .i32⟩
  | 6 => ⟨S16x4x1x1, .i32⟩
  | 7 => ⟨S1x1x1x1, .i32⟩
  | 8 => ⟨S1x1x1x1, .i32⟩
  | 9 => ⟨S1x1x1x1, .i1⟩
  | 10 => ⟨S_, .i32⟩
  | 11 => ⟨S1x1x1x1, .i32⟩
  | 12 => ⟨S1x1x1x1, .i32⟩
  | 13 => ⟨S1x1x1x1, .i1⟩
  | 14 => ⟨S1x1x1x1, .i1⟩
  | 15 => ⟨S1x1x1x1, .i1⟩
  | 16 => ⟨S_, .i32⟩
  | 17 => ⟨S1x1x1x1, .i32⟩
  | 18 => ⟨S1x1x1x1, .i32⟩
  | 19 => ⟨S1x1x1x1, .i32⟩
  | 20 => ⟨S_, .i32⟩
  | 21 => ⟨S1x1x1x1, .i32⟩
  | 22 => ⟨S1x1x1x1, .i32⟩
  | 23 => ⟨S1x1x1x1, .i32⟩
  | 24 => ⟨S1x1x1x1, .i32⟩
  | 25 => ⟨S16x4x1x1, .i32⟩
  | 26 => ⟨S16x4x1x1, .i32⟩
  | 27 => ⟨S16x4x1x1, .i32⟩
  | 28 => ⟨S16x4x1x1, .i32⟩
  | 29 => ⟨S16x4x1x1, .i32⟩
  | 30 => ⟨S16x4x1x1, .i32⟩
  | 31 => ⟨S16x4x1x1, .i32⟩
  | 32 => ⟨S16x4x1x1, .i32⟩
  | 33 => ⟨S16x4x1x1, .i32⟩
  | 34 => ⟨S16x4x1x1, .i32⟩
  | 35 => ⟨S16x4x1x1, .i32⟩
  | 36 => ⟨S16x4x1x1, .i32⟩
  | 37 => ⟨S64x1, .i32⟩
  | 38 => ⟨S64x2, .i32⟩
  | 39 => ⟨S128, .i32⟩
  | 40 => ⟨S_, .i32⟩
  | 41 => ⟨S_, .i32⟩
  | 42 => ⟨S144, .i32⟩
  | 43 => ⟨S128x131072, .f32⟩
  | 44 => ⟨S128x122880, .f32⟩
  | 45 => ⟨S16x4x2x122880, .f32⟩
  | _ => ⟨S16x4x2x131072, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16x4x2x131072, .f32⟩

abbrev bufTy : (tb : Table) → Fin (nBuf tb) → BufTy
  | .hbm, ⟨i, _⟩ => hbmTy i
  | .local .scVector .vmem, ⟨0, _⟩ => ⟨S144, .i32⟩
  | .local .scVector .vmem, ⟨1, _⟩ => ⟨S30728, .f32⟩
  | .local .scVector .vmem, ⟨2, _⟩ => ⟨S30720, .f32⟩
  | _, _ => ⟨S16x4x2x131072, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 33 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | _ => false

abbrev sig : RefSig :=
  ofTables nBuf rfl bufTy 4 33 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_c_3 : Ref sig .tc := ⟨.hbm, 12, rfl⟩
abbrev main_call0_c : Ref sig .tc := ⟨.hbm, 13, rfl⟩
abbrev main_call0_c_0 : Ref sig .tc := ⟨.hbm, 14, rfl⟩
abbrev main_call0_c_1 : Ref sig .tc := ⟨.hbm, 15, rfl⟩
abbrev main_call0_call0_v0 : Ref sig .tc := ⟨.hbm, 16, rfl⟩
abbrev main_call0_v0 : Ref sig .tc := ⟨.hbm, 17, rfl⟩
abbrev main_call0_v1 : Ref sig .tc := ⟨.hbm, 18, rfl⟩
abbrev main_call0_c_2 : Ref sig .tc := ⟨.hbm, 19, rfl⟩
abbrev main_call0_c_3 : Ref sig .tc := ⟨.hbm, 20, rfl⟩
abbrev main_call0_call1_v0 : Ref sig .tc := ⟨.hbm, 21, rfl⟩
abbrev main_call0_v2 : Ref sig .tc := ⟨.hbm, 22, rfl⟩
abbrev main_call0_v3 : Ref sig .tc := ⟨.hbm, 23, rfl⟩
abbrev main_call0_c_4 : Ref sig .tc := ⟨.hbm, 24, rfl⟩
abbrev main_call0_c_5 : Ref sig .tc := ⟨.hbm, 25, rfl⟩
abbrev main_call0_call2_v0 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_call3_v0 : Ref sig .tc := ⟨.hbm, 31, rfl⟩
abbrev main_call0_call3_v1 : Ref sig .tc := ⟨.hbm, 32, rfl⟩
abbrev main_call0_call3_v2 : Ref sig .tc := ⟨.hbm, 33, rfl⟩
abbrev main_call0_call3_v3 : Ref sig .tc := ⟨.hbm, 34, rfl⟩
abbrev main_call0_call3_v4 : Ref sig .tc := ⟨.hbm, 35, rfl⟩
abbrev main_call0_call3_c : Ref sig .tc := ⟨.hbm, 36, rfl⟩
abbrev main_call0_call3_v5 : Ref sig .tc := ⟨.hbm, 37, rfl⟩
abbrev main_call0_call3_v6 : Ref sig .tc := ⟨.hbm, 38, rfl⟩
abbrev main_call0_call3_c_0 : Ref sig .tc := ⟨.hbm, 39, rfl⟩
abbrev main_call0_call3_v7 : Ref sig .tc := ⟨.hbm, 40, rfl⟩
abbrev main_call0_call3_v8 : Ref sig .tc := ⟨.hbm, 41, rfl⟩
abbrev main_call0_call3_v9 : Ref sig .tc := ⟨.hbm, 42, rfl⟩
abbrev main_call0_call3_v10 : Ref sig .tc := ⟨.hbm, 43, rfl⟩
abbrev main_call0_call3_call0_v0 : Ref sig .tc := ⟨.hbm, 44, rfl⟩
abbrev main_call0_call3_call0_c : Ref sig .tc := ⟨.hbm, 45, rfl⟩
abbrev main_call0_call3_call0_v1 : Ref sig .tc := ⟨.hbm, 46, rfl⟩
abbrev main_call0_call3_call0_v2 : Ref sig .tc := ⟨.hbm, 47, rfl⟩
abbrev main_call0_call3_call0_v3 : Ref sig .tc := ⟨.hbm, 48, rfl⟩
abbrev main_call0_call3_call0_v4 : Ref sig .tc := ⟨.hbm, 49, rfl⟩
abbrev main_call0_call3_call0_v5 : Ref sig .tc := ⟨.hbm, 50, rfl⟩
abbrev main_call0_call3_call0_v6 : Ref sig .tc := ⟨.hbm, 51, rfl⟩
abbrev main_call0_call3_call0_c_0 : Ref sig .tc := ⟨.hbm, 52, rfl⟩
abbrev main_call0_call3_call0_v7 : Ref sig .tc := ⟨.hbm, 53, rfl⟩
abbrev main_call0_call3_call0_v8 : Ref sig .tc := ⟨.hbm, 54, rfl⟩
abbrev main_call0_call3_call0_c_1 : Ref sig .tc := ⟨.hbm, 55, rfl⟩
abbrev main_call0_call3_call0_v9 : Ref sig .tc := ⟨.hbm, 56, rfl⟩
abbrev main_call0_call3_call0_v10 : Ref sig .tc := ⟨.hbm, 57, rfl⟩
abbrev main_call0_call3_call0_v11 : Ref sig .tc := ⟨.hbm, 58, rfl⟩
abbrev main_call0_call3_call0_v12 : Ref sig .tc := ⟨.hbm, 59, rfl⟩
abbrev main_call0_call3_call0_v13 : Ref sig .tc := ⟨.hbm, 60, rfl⟩
abbrev main_call0_call3_call0_c_2 : Ref sig .tc := ⟨.hbm, 61, rfl⟩
abbrev main_call0_call3_call0_v14 : Ref sig .tc := ⟨.hbm, 62, rfl⟩
abbrev main_call0_call3_call0_v15 : Ref sig .tc := ⟨.hbm, 63, rfl⟩
abbrev main_call0_call3_call0_c_3 : Ref sig .tc := ⟨.hbm, 64, rfl⟩
abbrev main_call0_call3_call0_v16 : Ref sig .tc := ⟨.hbm, 65, rfl⟩
abbrev main_call0_call3_call0_v17 : Ref sig .tc := ⟨.hbm, 66, rfl⟩
abbrev main_call0_call3_call0_v18 : Ref sig .tc := ⟨.hbm, 67, rfl⟩
abbrev main_call0_call3_call0_v19 : Ref sig .tc := ⟨.hbm, 68, rfl⟩
abbrev main_call0_call3_call0_v20 : Ref sig .tc := ⟨.hbm, 69, rfl⟩
abbrev main_call0_call3_call0_c_4 : Ref sig .tc := ⟨.hbm, 70, rfl⟩
abbrev main_call0_call3_call0_v21 : Ref sig .tc := ⟨.hbm, 71, rfl⟩
abbrev main_call0_call3_call0_v22 : Ref sig .tc := ⟨.hbm, 72, rfl⟩
abbrev main_call0_call3_call0_c_5 : Ref sig .tc := ⟨.hbm, 73, rfl⟩
abbrev main_call0_call3_call0_v23 : Ref sig .tc := ⟨.hbm, 74, rfl⟩
abbrev main_call0_call3_call0_v24 : Ref sig .tc := ⟨.hbm, 75, rfl⟩
abbrev main_call0_call3_call0_v25 : Ref sig .tc := ⟨.hbm, 76, rfl⟩
abbrev main_call0_call3_call0_v26 : Ref sig .tc := ⟨.hbm, 77, rfl⟩
abbrev main_call0_call3_call0_v27 : Ref sig .tc := ⟨.hbm, 78, rfl⟩
abbrev main_call0_call3_call0_c_6 : Ref sig .tc := ⟨.hbm, 79, rfl⟩
abbrev main_call0_call3_call0_v28 : Ref sig .tc := ⟨.hbm, 80, rfl⟩
abbrev main_call0_call3_call0_v29 : Ref sig .tc := ⟨.hbm, 81, rfl⟩
abbrev main_call0_call3_call0_c_7 : Ref sig .tc := ⟨.hbm, 82, rfl⟩
abbrev main_call0_call3_call0_v30 : Ref sig .tc := ⟨.hbm, 83, rfl⟩
abbrev main_call0_call3_call0_v31 : Ref sig .tc := ⟨.hbm, 84, rfl⟩
abbrev main_call0_call3_call0_v32 : Ref sig .tc := ⟨.hbm, 85, rfl⟩
abbrev main_call0_call3_call0_v33 : Ref sig .tc := ⟨.hbm, 86, rfl⟩
abbrev main_call0_call3_call0_v34 : Ref sig .tc := ⟨.hbm, 87, rfl⟩
abbrev main_call0_call3_call0_v35 : Ref sig .tc := ⟨.hbm, 88, rfl⟩
abbrev main_call0_call3_call0_v36 : Ref sig .tc := ⟨.hbm, 89, rfl⟩
abbrev main_call0_call3_call0_v37 : Ref sig .tc := ⟨.hbm, 90, rfl⟩
abbrev main_call0_call3_call0_c_8 : Ref sig .tc := ⟨.hbm, 91, rfl⟩
abbrev main_call0_call3_call0_v38 : Ref sig .tc := ⟨.hbm, 92, rfl⟩
abbrev main_call0_call3_call0_v39 : Ref sig .tc := ⟨.hbm, 93, rfl⟩
abbrev main_call0_call3_call0_v40 : Ref sig .tc := ⟨.hbm, 94, rfl⟩
abbrev main_call0_call3_call0_c_9 : Ref sig .tc := ⟨.hbm, 95, rfl⟩
abbrev main_call0_call3_call0_v41 : Ref sig .tc := ⟨.hbm, 96, rfl⟩
abbrev main_call0_call3_call0_v42 : Ref sig .tc := ⟨.hbm, 97, rfl⟩
abbrev main_call0_call3_call0_c_10 : Ref sig .tc := ⟨.hbm, 98, rfl⟩
abbrev main_call0_call3_call0_v43 : Ref sig .tc := ⟨.hbm, 99, rfl⟩
abbrev main_call0_call3_call0_v44 : Ref sig .tc := ⟨.hbm, 100, rfl⟩
abbrev main_call0_call3_call0_v45 : Ref sig .tc := ⟨.hbm, 101, rfl⟩
abbrev main_call0_call3_call0_v46 : Ref sig .tc := ⟨.hbm, 102, rfl⟩
abbrev main_call0_call3_call0_v47 : Ref sig .tc := ⟨.hbm, 103, rfl⟩
abbrev main_call0_call3_call0_c_11 : Ref sig .tc := ⟨.hbm, 104, rfl⟩
abbrev main_call0_call3_call0_v48 : Ref sig .tc := ⟨.hbm, 105, rfl⟩
abbrev main_call0_call3_call0_v49 : Ref sig .tc := ⟨.hbm, 106, rfl⟩
abbrev main_call0_call3_call0_c_12 : Ref sig .tc := ⟨.hbm, 107, rfl⟩
abbrev main_call0_call3_call0_v50 : Ref sig .tc := ⟨.hbm, 108, rfl⟩
abbrev main_call0_call3_call0_v51 : Ref sig .tc := ⟨.hbm, 109, rfl⟩
abbrev main_call0_call3_call0_v52 : Ref sig .tc := ⟨.hbm, 110, rfl⟩
abbrev main_call0_call3_call0_v53 : Ref sig .tc := ⟨.hbm, 111, rfl⟩
abbrev main_call0_call3_call0_v54 : Ref sig .tc := ⟨.hbm, 112, rfl⟩
abbrev main_call0_call3_call0_c_13 : Ref sig .tc := ⟨.hbm, 113, rfl⟩
abbrev main_call0_call3_call0_v55 : Ref sig .tc := ⟨.hbm, 114, rfl⟩
abbrev main_call0_call3_call0_v56 : Ref sig .tc := ⟨.hbm, 115, rfl⟩
abbrev main_call0_call3_call0_c_14 : Ref sig .tc := ⟨.hbm, 116, rfl⟩
abbrev main_call0_call3_call0_v57 : Ref sig .tc := ⟨.hbm, 117, rfl⟩
abbrev main_call0_call3_call0_v58 : Ref sig .tc := ⟨.hbm, 118, rfl⟩
abbrev main_call0_call3_call0_v59 : Ref sig .tc := ⟨.hbm, 119, rfl⟩
abbrev main_call0_call3_call0_v60 : Ref sig .tc := ⟨.hbm, 120, rfl⟩
abbrev main_call0_call3_call0_v61 : Ref sig .tc := ⟨.hbm, 121, rfl⟩
abbrev main_call0_call3_call0_c_15 : Ref sig .tc := ⟨.hbm, 122, rfl⟩
abbrev main_call0_call3_call0_v62 : Ref sig .tc := ⟨.hbm, 123, rfl⟩
abbrev main_call0_call3_call0_v63 : Ref sig .tc := ⟨.hbm, 124, rfl⟩
abbrev main_call0_call3_call0_c_16 : Ref sig .tc := ⟨.hbm, 125, rfl⟩
abbrev main_call0_call3_call0_v64 : Ref sig .tc := ⟨.hbm, 126, rfl⟩
abbrev main_call0_call3_call0_v65 : Ref sig .tc := ⟨.hbm, 127, rfl⟩
abbrev main_call0_call3_call0_v66 : Ref sig .tc := ⟨.hbm, 128, rfl⟩
abbrev main_call0_call3_call0_v67 : Ref sig .tc := ⟨.hbm, 129, rfl⟩
abbrev main_call0_call3_call0_v68 : Ref sig .tc := ⟨.hbm, 130, rfl⟩
abbrev main_call0_call3_call0_v69 : Ref sig .tc := ⟨.hbm, 131, rfl⟩
abbrev main_call0_call3_call0_v70 : Ref sig .tc := ⟨.hbm, 132, rfl⟩
abbrev main_call0_call3_call0_v71 : Ref sig .tc := ⟨.hbm, 133, rfl⟩
abbrev main_call0_call3_call0_c_17 : Ref sig .tc := ⟨.hbm, 134, rfl⟩
abbrev main_call0_call3_call0_v72 : Ref sig .tc := ⟨.hbm, 135, rfl⟩
abbrev main_call0_call3_call0_v73 : Ref sig .tc := ⟨.hbm, 136, rfl⟩
abbrev main_call0_call3_call0_v74 : Ref sig .tc := ⟨.hbm, 137, rfl⟩
abbrev main_call0_call3_call0_c_18 : Ref sig .tc := ⟨.hbm, 138, rfl⟩
abbrev main_call0_call3_call0_v75 : Ref sig .tc := ⟨.hbm, 139, rfl⟩
abbrev main_call0_call3_call0_v76 : Ref sig .tc := ⟨.hbm, 140, rfl⟩
abbrev main_call0_call3_call0_c_19 : Ref sig .tc := ⟨.hbm, 141, rfl⟩
abbrev main_call0_call3_call0_v77 : Ref sig .tc := ⟨.hbm, 142, rfl⟩
abbrev main_call0_call3_call0_v78 : Ref sig .tc := ⟨.hbm, 143, rfl⟩
abbrev main_call0_call3_call0_v79 : Ref sig .tc := ⟨.hbm, 144, rfl⟩
abbrev main_call0_call3_call0_v80 : Ref sig .tc := ⟨.hbm, 145, rfl⟩
abbrev main_call0_call3_call0_v81 : Ref sig .tc := ⟨.hbm, 146, rfl⟩
abbrev main_call0_call3_call0_c_20 : Ref sig .tc := ⟨.hbm, 147, rfl⟩
abbrev main_call0_call3_call0_v82 : Ref sig .tc := ⟨.hbm, 148, rfl⟩
abbrev main_call0_call3_call0_v83 : Ref sig .tc := ⟨.hbm, 149, rfl⟩
abbrev main_call0_call3_call0_c_21 : Ref sig .tc := ⟨.hbm, 150, rfl⟩
abbrev main_call0_call3_call0_v84 : Ref sig .tc := ⟨.hbm, 151, rfl⟩
abbrev main_call0_call3_call0_v85 : Ref sig .tc := ⟨.hbm, 152, rfl⟩
abbrev main_call0_call3_call0_v86 : Ref sig .tc := ⟨.hbm, 153, rfl⟩
abbrev main_call0_call3_call0_v87 : Ref sig .tc := ⟨.hbm, 154, rfl⟩
abbrev main_call0_call3_call0_v88 : Ref sig .tc := ⟨.hbm, 155, rfl⟩
abbrev main_call0_call3_call0_c_22 : Ref sig .tc := ⟨.hbm, 156, rfl⟩
abbrev main_call0_call3_call0_v89 : Ref sig .tc := ⟨.hbm, 157, rfl⟩
abbrev main_call0_call3_call0_v90 : Ref sig .tc := ⟨.hbm, 158, rfl⟩
abbrev main_call0_call3_call0_c_23 : Ref sig .tc := ⟨.hbm, 159, rfl⟩
abbrev main_call0_call3_call0_v91 : Ref sig .tc := ⟨.hbm, 160, rfl⟩
abbrev main_call0_call3_call0_v92 : Ref sig .tc := ⟨.hbm, 161, rfl⟩
abbrev main_call0_call3_call0_v93 : Ref sig .tc := ⟨.hbm, 162, rfl⟩
abbrev main_call0_call3_call0_v94 : Ref sig .tc := ⟨.hbm, 163, rfl⟩
abbrev main_call0_call3_call0_v95 : Ref sig .tc := ⟨.hbm, 164, rfl⟩
abbrev main_call0_call3_call0_c_24 : Ref sig .tc := ⟨.hbm, 165, rfl⟩
abbrev main_call0_call3_call0_v96 : Ref sig .tc := ⟨.hbm, 166, rfl⟩
abbrev main_call0_call3_call0_v97 : Ref sig .tc := ⟨.hbm, 167, rfl⟩
abbrev main_call0_call3_call0_c_25 : Ref sig .tc := ⟨.hbm, 168, rfl⟩
abbrev main_call0_call3_call0_v98 : Ref sig .tc := ⟨.hbm, 169, rfl⟩
abbrev main_call0_call3_call0_v99 : Ref sig .tc := ⟨.hbm, 170, rfl⟩
abbrev main_call0_call3_call0_v100 : Ref sig .tc := ⟨.hbm, 171, rfl⟩
abbrev main_call0_call3_call0_v101 : Ref sig .tc := ⟨.hbm, 172, rfl⟩
abbrev main_call0_call3_call0_v102 : Ref sig .tc := ⟨.hbm, 173, rfl⟩
abbrev main_call0_call3_call0_v103 : Ref sig .tc := ⟨.hbm, 174, rfl⟩
abbrev main_call0_call3_call0_v104 : Ref sig .tc := ⟨.hbm, 175, rfl⟩
abbrev main_call0_call3_call0_v105 : Ref sig .tc := ⟨.hbm, 176, rfl⟩
abbrev main_call0_call3_call0_c_26 : Ref sig .tc := ⟨.hbm, 177, rfl⟩
abbrev main_call0_call3_call0_v106 : Ref sig .tc := ⟨.hbm, 178, rfl⟩
abbrev main_call0_call3_call0_v107 : Ref sig .tc := ⟨.hbm, 179, rfl⟩
abbrev main_call0_call3_call0_v108 : Ref sig .tc := ⟨.hbm, 180, rfl⟩
abbrev main_call0_call3_call0_c_27 : Ref sig .tc := ⟨.hbm, 181, rfl⟩
abbrev main_call0_call3_call0_v109 : Ref sig .tc := ⟨.hbm, 182, rfl⟩
abbrev main_call0_call3_call0_v110 : Ref sig .tc := ⟨.hbm, 183, rfl⟩
abbrev main_call0_call3_call0_c_28 : Ref sig .tc := ⟨.hbm, 184, rfl⟩
abbrev main_call0_call3_call0_v111 : Ref sig .tc := ⟨.hbm, 185, rfl⟩
abbrev main_call0_call3_call0_v112 : Ref sig .tc := ⟨.hbm, 186, rfl⟩
abbrev main_call0_call3_call0_v113 : Ref sig .tc := ⟨.hbm, 187, rfl⟩
abbrev main_call0_call3_call0_v114 : Ref sig .tc := ⟨.hbm, 188, rfl⟩
abbrev main_call0_call3_call0_v115 : Ref sig .tc := ⟨.hbm, 189, rfl⟩
abbrev main_call0_call3_call0_c_29 : Ref sig .tc := ⟨.hbm, 190, rfl⟩
abbrev main_call0_call3_call0_v116 : Ref sig .tc := ⟨.hbm, 191, rfl⟩
abbrev main_call0_call3_call0_v117 : Ref sig .tc := ⟨.hbm, 192, rfl⟩
abbrev main_call0_call3_call0_c_30 : Ref sig .tc := ⟨.hbm, 193, rfl⟩
abbrev main_call0_call3_call0_v118 : Ref sig .tc := ⟨.hbm, 194, rfl⟩
abbrev main_call0_call3_call0_v119 : Ref sig .tc := ⟨.hbm, 195, rfl⟩
abbrev main_call0_call3_call0_v120 : Ref sig .tc := ⟨.hbm, 196, rfl⟩
abbrev main_call0_call3_call0_v121 : Ref sig .tc := ⟨.hbm, 197, rfl⟩
abbrev main_call0_call3_call0_v122 : Ref sig .tc := ⟨.hbm, 198, rfl⟩
abbrev main_call0_call3_call0_c_31 : Ref sig .tc := ⟨.hbm, 199, rfl⟩
abbrev main_call0_call3_call0_v123 : Ref sig .tc := ⟨.hbm, 200, rfl⟩
abbrev main_call0_call3_call0_v124 : Ref sig .tc := ⟨.hbm, 201, rfl⟩
abbrev main_call0_call3_call0_c_32 : Ref sig .tc := ⟨.hbm, 202, rfl⟩
abbrev main_call0_call3_call0_v125 : Ref sig .tc := ⟨.hbm, 203, rfl⟩
abbrev main_call0_call3_call0_v126 : Ref sig .tc := ⟨.hbm, 204, rfl⟩
abbrev main_call0_call3_call0_v127 : Ref sig .tc := ⟨.hbm, 205, rfl⟩
abbrev main_call0_call3_call0_v128 : Ref sig .tc := ⟨.hbm, 206, rfl⟩
abbrev main_call0_call3_call0_v129 : Ref sig .tc := ⟨.hbm, 207, rfl⟩
abbrev main_call0_call3_call0_c_33 : Ref sig .tc := ⟨.hbm, 208, rfl⟩
abbrev main_call0_call3_call0_v130 : Ref sig .tc := ⟨.hbm, 209, rfl⟩
abbrev main_call0_call3_call0_v131 : Ref sig .tc := ⟨.hbm, 210, rfl⟩
abbrev main_call0_call3_call0_c_34 : Ref sig .tc := ⟨.hbm, 211, rfl⟩
abbrev main_call0_call3_call0_v132 : Ref sig .tc := ⟨.hbm, 212, rfl⟩
abbrev main_call0_call3_call0_v133 : Ref sig .tc := ⟨.hbm, 213, rfl⟩
abbrev main_call0_call3_call0_v134 : Ref sig .tc := ⟨.hbm, 214, rfl⟩
abbrev main_call0_call3_call0_v135 : Ref sig .tc := ⟨.hbm, 215, rfl⟩
abbrev main_call0_call3_call0_v136 : Ref sig .tc := ⟨.hbm, 216, rfl⟩
abbrev main_call0_call3_call0_v137 : Ref sig .tc := ⟨.hbm, 217, rfl⟩
abbrev main_call0_call3_call0_v138 : Ref sig .tc := ⟨.hbm, 218, rfl⟩
abbrev main_call0_call3_call0_v139 : Ref sig .tc := ⟨.hbm, 219, rfl⟩
abbrev main_call0_call3_call0_c_35 : Ref sig .tc := ⟨.hbm, 220, rfl⟩
abbrev main_call0_call3_call0_v140 : Ref sig .tc := ⟨.hbm, 221, rfl⟩
abbrev main_call0_call3_call0_v141 : Ref sig .tc := ⟨.hbm, 222, rfl⟩
abbrev main_call0_call3_call0_v142 : Ref sig .tc := ⟨.hbm, 223, rfl⟩
abbrev main_call0_call3_call0_c_36 : Ref sig .tc := ⟨.hbm, 224, rfl⟩
abbrev main_call0_call3_call0_v143 : Ref sig .tc := ⟨.hbm, 225, rfl⟩
abbrev main_call0_call3_call0_v144 : Ref sig .tc := ⟨.hbm, 226, rfl⟩
abbrev main_call0_call3_call0_c_37 : Ref sig .tc := ⟨.hbm, 227, rfl⟩
abbrev main_call0_call3_call0_v145 : Ref sig .tc := ⟨.hbm, 228, rfl⟩
abbrev main_call0_call3_call0_v146 : Ref sig .tc := ⟨.hbm, 229, rfl⟩
abbrev main_call0_call3_call0_v147 : Ref sig .tc := ⟨.hbm, 230, rfl⟩
abbrev main_call0_call3_call0_v148 : Ref sig .tc := ⟨.hbm, 231, rfl⟩
abbrev main_call0_call3_call0_v149 : Ref sig .tc := ⟨.hbm, 232, rfl⟩
abbrev main_call0_call3_call0_c_38 : Ref sig .tc := ⟨.hbm, 233, rfl⟩
abbrev main_call0_call3_call0_v150 : Ref sig .tc := ⟨.hbm, 234, rfl⟩
abbrev main_call0_call3_call0_v151 : Ref sig .tc := ⟨.hbm, 235, rfl⟩
abbrev main_call0_call3_call0_c_39 : Ref sig .tc := ⟨.hbm, 236, rfl⟩
abbrev main_call0_call3_call0_v152 : Ref sig .tc := ⟨.hbm, 237, rfl⟩
abbrev main_call0_call3_call0_v153 : Ref sig .tc := ⟨.hbm, 238, rfl⟩
abbrev main_call0_call3_call0_v154 : Ref sig .tc := ⟨.hbm, 239, rfl⟩
abbrev main_call0_call3_call0_v155 : Ref sig .tc := ⟨.hbm, 240, rfl⟩
abbrev main_call0_call3_call0_v156 : Ref sig .tc := ⟨.hbm, 241, rfl⟩
abbrev main_call0_call3_call0_c_40 : Ref sig .tc := ⟨.hbm, 242, rfl⟩
abbrev main_call0_call3_call0_v157 : Ref sig .tc := ⟨.hbm, 243, rfl⟩
abbrev main_call0_call3_call0_v158 : Ref sig .tc := ⟨.hbm, 244, rfl⟩
abbrev main_call0_call3_call0_c_41 : Ref sig .tc := ⟨.hbm, 245, rfl⟩
abbrev main_call0_call3_call0_v159 : Ref sig .tc := ⟨.hbm, 246, rfl⟩
abbrev main_call0_call3_call0_v160 : Ref sig .tc := ⟨.hbm, 247, rfl⟩
abbrev main_call0_call3_call0_v161 : Ref sig .tc := ⟨.hbm, 248, rfl⟩
abbrev main_call0_call3_call0_v162 : Ref sig .tc := ⟨.hbm, 249, rfl⟩
abbrev main_call0_call3_call0_v163 : Ref sig .tc := ⟨.hbm, 250, rfl⟩
abbrev main_call0_call3_call0_c_42 : Ref sig .tc := ⟨.hbm, 251, rfl⟩
abbrev main_call0_call3_call0_v164 : Ref sig .tc := ⟨.hbm, 252, rfl⟩
abbrev main_call0_call3_call0_v165 : Ref sig .tc := ⟨.hbm, 253, rfl⟩
abbrev main_call0_call3_call0_c_43 : Ref sig .tc := ⟨.hbm, 254, rfl⟩
abbrev main_call0_call3_call0_v166 : Ref sig .tc := ⟨.hbm, 255, rfl⟩
abbrev main_call0_call3_call0_v167 : Ref sig .tc := ⟨.hbm, 256, rfl⟩
abbrev main_call0_call3_call0_v168 : Ref sig .tc := ⟨.hbm, 257, rfl⟩
abbrev main_call0_call3_call0_v169 : Ref sig .tc := ⟨.hbm, 258, rfl⟩
abbrev main_call0_call3_call0_v170 : Ref sig .tc := ⟨.hbm, 259, rfl⟩
abbrev main_call0_call3_v11_0 : Ref sig .tc := ⟨.hbm, 260, rfl⟩
abbrev main_call0_call3_call0_v172 : Ref sig .tc := ⟨.hbm, 261, rfl⟩
abbrev main_call0_call3_call0_v173 : Ref sig .tc := ⟨.hbm, 262, rfl⟩
abbrev main_call0_call3_call0_c_44 : Ref sig .tc := ⟨.hbm, 263, rfl⟩
abbrev main_call0_call3_call0_v174 : Ref sig .tc := ⟨.hbm, 264, rfl⟩
abbrev main_call0_call3_v11_1 : Ref sig .tc := ⟨.hbm, 265, rfl⟩
abbrev main_call0_call3_v12 : Ref sig .tc := ⟨.hbm, 266, rfl⟩
abbrev main_call0_call3_v13 : Ref sig .tc := ⟨.hbm, 267, rfl⟩
abbrev main_call0_v8 : Ref sig .tc := ⟨.hbm, 268, rfl⟩
abbrev main_call0_v9 : Ref sig .tc := ⟨.hbm, 269, rfl⟩
abbrev main_call0_v10 : Ref sig .tc := ⟨.hbm, 270, rfl⟩
abbrev main_call0_v11 : Ref sig .tc := ⟨.hbm, 271, rfl⟩
abbrev main_call0_v12 : Ref sig .tc := ⟨.hbm, 272, rfl⟩
abbrev main_call0_v13 : Ref sig .tc := ⟨.hbm, 273, rfl⟩
abbrev main_call0_v14 : Ref sig .tc := ⟨.hbm, 274, rfl⟩
abbrev main_call0_v15 : Ref sig .tc := ⟨.hbm, 275, rfl⟩
abbrev main_call0_v16 : Ref sig .tc := ⟨.hbm, 276, rfl⟩
abbrev main_call0_v17 : Ref sig .tc := ⟨.hbm, 277, rfl⟩
abbrev main_call0_v18 : Ref sig .tc := ⟨.hbm, 278, rfl⟩
abbrev main_call0_v19 : Ref sig .tc := ⟨.hbm, 279, rfl⟩
abbrev main_call0_v20 : Ref sig .tc := ⟨.hbm, 280, rfl⟩
abbrev main_call0_c_6 : Ref sig .tc := ⟨.hbm, 281, rfl⟩
abbrev main_call0_v21 : Ref sig .tc := ⟨.hbm, 282, rfl⟩
abbrev main_call0_v22 : Ref sig .tc := ⟨.hbm, 283, rfl⟩
abbrev main_call0_c_7 : Ref sig .tc := ⟨.hbm, 284, rfl⟩
abbrev main_call0_v23 : Ref sig .tc := ⟨.hbm, 285, rfl⟩
abbrev main_call0_v24 : Ref sig .tc := ⟨.hbm, 286, rfl⟩
abbrev main_call0_c_8 : Ref sig .tc := ⟨.hbm, 287, rfl⟩
abbrev main_call0_v25 : Ref sig .tc := ⟨.hbm, 288, rfl⟩
abbrev main_call0_v26 : Ref sig .tc := ⟨.hbm, 289, rfl⟩
abbrev main_call0_c_9 : Ref sig .tc := ⟨.hbm, 290, rfl⟩
abbrev main_call0_v27 : Ref sig .tc := ⟨.hbm, 291, rfl⟩
abbrev main_call0_v28 : Ref sig .tc := ⟨.hbm, 292, rfl⟩
abbrev main_call0_v29 : Ref sig .tc := ⟨.hbm, 293, rfl⟩
abbrev main_call0_v30 : Ref sig .tc := ⟨.hbm, 294, rfl⟩
abbrev main_call0_v31 : Ref sig .tc := ⟨.hbm, 295, rfl⟩
abbrev main_call0_c_10 : Ref sig .tc := ⟨.hbm, 296, rfl⟩
abbrev main_call0_v32 : Ref sig .tc := ⟨.hbm, 297, rfl⟩
abbrev main_call0_v33 : Ref sig .tc := ⟨.hbm, 298, rfl⟩
abbrev main_call0_v34 : Ref sig .tc := ⟨.hbm, 299, rfl⟩
abbrev main_call0_v35 : Ref sig .tc := ⟨.hbm, 300, rfl⟩
abbrev main_call0_call4_v0 : Ref sig .tc := ⟨.hbm, 301, rfl⟩
abbrev main_call0_call4_c : Ref sig .tc := ⟨.hbm, 302, rfl⟩
abbrev main_call0_call4_v1 : Ref sig .tc := ⟨.hbm, 303, rfl⟩
abbrev main_call0_call4_v2 : Ref sig .tc := ⟨.hbm, 304, rfl⟩
abbrev main_call0_call4_v3 : Ref sig .tc := ⟨.hbm, 305, rfl⟩
abbrev main_call0_call4_v4 : Ref sig .tc := ⟨.hbm, 306, rfl⟩
abbrev main_call0_call4_v5 : Ref sig .tc := ⟨.hbm, 307, rfl⟩
abbrev main_call0_call4_v6 : Ref sig .tc := ⟨.hbm, 308, rfl⟩
abbrev main_call0_call4_c_0 : Ref sig .tc := ⟨.hbm, 309, rfl⟩
abbrev main_call0_call4_v7 : Ref sig .tc := ⟨.hbm, 310, rfl⟩
abbrev main_call0_call4_v8 : Ref sig .tc := ⟨.hbm, 311, rfl⟩
abbrev main_call0_call4_c_1 : Ref sig .tc := ⟨.hbm, 312, rfl⟩
abbrev main_call0_call4_v9 : Ref sig .tc := ⟨.hbm, 313, rfl⟩
abbrev main_call0_call4_v10 : Ref sig .tc := ⟨.hbm, 314, rfl⟩
abbrev main_call0_call4_v11 : Ref sig .tc := ⟨.hbm, 315, rfl⟩
abbrev main_call0_call4_v12 : Ref sig .tc := ⟨.hbm, 316, rfl⟩
abbrev main_call0_call4_v13 : Ref sig .tc := ⟨.hbm, 317, rfl⟩
abbrev main_call0_call4_c_2 : Ref sig .tc := ⟨.hbm, 318, rfl⟩
abbrev main_call0_call4_v14 : Ref sig .tc := ⟨.hbm, 319, rfl⟩
abbrev main_call0_call4_v15 : Ref sig .tc := ⟨.hbm, 320, rfl⟩
abbrev main_call0_call4_c_3 : Ref sig .tc := ⟨.hbm, 321, rfl⟩
abbrev main_call0_call4_v16 : Ref sig .tc := ⟨.hbm, 322, rfl⟩
abbrev main_call0_call4_v17 : Ref sig .tc := ⟨.hbm, 323, rfl⟩
abbrev main_call0_call4_v18 : Ref sig .tc := ⟨.hbm, 324, rfl⟩
abbrev main_call0_call4_v19 : Ref sig .tc := ⟨.hbm, 325, rfl⟩
abbrev main_call0_call4_v20 : Ref sig .tc := ⟨.hbm, 326, rfl⟩
abbrev main_call0_call4_c_4 : Ref sig .tc := ⟨.hbm, 327, rfl⟩
abbrev main_call0_call4_v21 : Ref sig .tc := ⟨.hbm, 328, rfl⟩
abbrev main_call0_call4_v22 : Ref sig .tc := ⟨.hbm, 329, rfl⟩
abbrev main_call0_call4_c_5 : Ref sig .tc := ⟨.hbm, 330, rfl⟩
abbrev main_call0_call4_v23 : Ref sig .tc := ⟨.hbm, 331, rfl⟩
abbrev main_call0_call4_v24 : Ref sig .tc := ⟨.hbm, 332, rfl⟩
abbrev main_call0_call4_v25 : Ref sig .tc := ⟨.hbm, 333, rfl⟩
abbrev main_call0_call4_v26 : Ref sig .tc := ⟨.hbm, 334, rfl⟩
abbrev main_call0_call4_v27 : Ref sig .tc := ⟨.hbm, 335, rfl⟩
abbrev main_call0_call4_c_6 : Ref sig .tc := ⟨.hbm, 336, rfl⟩
abbrev main_call0_call4_v28 : Ref sig .tc := ⟨.hbm, 337, rfl⟩
abbrev main_call0_call4_v29 : Ref sig .tc := ⟨.hbm, 338, rfl⟩
abbrev main_call0_call4_c_7 : Ref sig .tc := ⟨.hbm, 339, rfl⟩
abbrev main_call0_call4_v30 : Ref sig .tc := ⟨.hbm, 340, rfl⟩
abbrev main_call0_call4_v31 : Ref sig .tc := ⟨.hbm, 341, rfl⟩
abbrev main_call0_call4_v32 : Ref sig .tc := ⟨.hbm, 342, rfl⟩
abbrev main_call0_call4_v33 : Ref sig .tc := ⟨.hbm, 343, rfl⟩
abbrev main_call0_call4_v34 : Ref sig .tc := ⟨.hbm, 344, rfl⟩
abbrev main_call0_call4_v35 : Ref sig .tc := ⟨.hbm, 345, rfl⟩
abbrev main_call0_call4_v36 : Ref sig .tc := ⟨.hbm, 346, rfl⟩
abbrev main_call0_call4_v37 : Ref sig .tc := ⟨.hbm, 347, rfl⟩
abbrev main_call0_call4_c_8 : Ref sig .tc := ⟨.hbm, 348, rfl⟩
abbrev main_call0_call4_v38 : Ref sig .tc := ⟨.hbm, 349, rfl⟩
abbrev main_call0_call4_v39 : Ref sig .tc := ⟨.hbm, 350, rfl⟩
abbrev main_call0_call4_v40 : Ref sig .tc := ⟨.hbm, 351, rfl⟩
abbrev main_call0_call4_c_9 : Ref sig .tc := ⟨.hbm, 352, rfl⟩
abbrev main_call0_call4_v41 : Ref sig .tc := ⟨.hbm, 353, rfl⟩
abbrev main_call0_call4_v42 : Ref sig .tc := ⟨.hbm, 354, rfl⟩
abbrev main_call0_call4_c_10 : Ref sig .tc := ⟨.hbm, 355, rfl⟩
abbrev main_call0_call4_v43 : Ref sig .tc := ⟨.hbm, 356, rfl⟩
abbrev main_call0_call4_v44 : Ref sig .tc := ⟨.hbm, 357, rfl⟩
abbrev main_call0_call4_v45 : Ref sig .tc := ⟨.hbm, 358, rfl⟩
abbrev main_call0_call4_v46 : Ref sig .tc := ⟨.hbm, 359, rfl⟩
abbrev main_call0_call4_v47 : Ref sig .tc := ⟨.hbm, 360, rfl⟩
abbrev main_call0_call4_c_11 : Ref sig .tc := ⟨.hbm, 361, rfl⟩
abbrev main_call0_call4_v48 : Ref sig .tc := ⟨.hbm, 362, rfl⟩
abbrev main_call0_call4_v49 : Ref sig .tc := ⟨.hbm, 363, rfl⟩
abbrev main_call0_call4_c_12 : Ref sig .tc := ⟨.hbm, 364, rfl⟩
abbrev main_call0_call4_v50 : Ref sig .tc := ⟨.hbm, 365, rfl⟩
abbrev main_call0_call4_v51 : Ref sig .tc := ⟨.hbm, 366, rfl⟩
abbrev main_call0_call4_v52 : Ref sig .tc := ⟨.hbm, 367, rfl⟩
abbrev main_call0_call4_v53 : Ref sig .tc := ⟨.hbm, 368, rfl⟩
abbrev main_call0_call4_v54 : Ref sig .tc := ⟨.hbm, 369, rfl⟩
abbrev main_call0_call4_c_13 : Ref sig .tc := ⟨.hbm, 370, rfl⟩
abbrev main_call0_call4_v55 : Ref sig .tc := ⟨.hbm, 371, rfl⟩
abbrev main_call0_call4_v56 : Ref sig .tc := ⟨.hbm, 372, rfl⟩
abbrev main_call0_call4_c_14 : Ref sig .tc := ⟨.hbm, 373, rfl⟩
abbrev main_call0_call4_v57 : Ref sig .tc := ⟨.hbm, 374, rfl⟩
abbrev main_call0_call4_v58 : Ref sig .tc := ⟨.hbm, 375, rfl⟩
abbrev main_call0_call4_v59 : Ref sig .tc := ⟨.hbm, 376, rfl⟩
abbrev main_call0_call4_v60 : Ref sig .tc := ⟨.hbm, 377, rfl⟩
abbrev main_call0_call4_v61 : Ref sig .tc := ⟨.hbm, 378, rfl⟩
abbrev main_call0_call4_c_15 : Ref sig .tc := ⟨.hbm, 379, rfl⟩
abbrev main_call0_call4_v62 : Ref sig .tc := ⟨.hbm, 380, rfl⟩
abbrev main_call0_call4_v63 : Ref sig .tc := ⟨.hbm, 381, rfl⟩
abbrev main_call0_call4_c_16 : Ref sig .tc := ⟨.hbm, 382, rfl⟩
abbrev main_call0_call4_v64 : Ref sig .tc := ⟨.hbm, 383, rfl⟩
abbrev main_call0_call4_v65 : Ref sig .tc := ⟨.hbm, 384, rfl⟩
abbrev main_call0_call4_v66 : Ref sig .tc := ⟨.hbm, 385, rfl⟩
abbrev main_call0_call4_v67 : Ref sig .tc := ⟨.hbm, 386, rfl⟩
abbrev main_call0_call4_v68 : Ref sig .tc := ⟨.hbm, 387, rfl⟩
abbrev main_call0_call4_v69 : Ref sig .tc := ⟨.hbm, 388, rfl⟩
abbrev main_call0_call4_v70 : Ref sig .tc := ⟨.hbm, 389, rfl⟩
abbrev main_call0_call4_v71 : Ref sig .tc := ⟨.hbm, 390, rfl⟩
abbrev main_call0_call4_c_17 : Ref sig .tc := ⟨.hbm, 391, rfl⟩
abbrev main_call0_call4_v72 : Ref sig .tc := ⟨.hbm, 392, rfl⟩
abbrev main_call0_call4_v73 : Ref sig .tc := ⟨.hbm, 393, rfl⟩
abbrev main_call0_call4_v74 : Ref sig .tc := ⟨.hbm, 394, rfl⟩
abbrev main_call0_call4_c_18 : Ref sig .tc := ⟨.hbm, 395, rfl⟩
abbrev main_call0_call4_v75 : Ref sig .tc := ⟨.hbm, 396, rfl⟩
abbrev main_call0_call4_v76 : Ref sig .tc := ⟨.hbm, 397, rfl⟩
abbrev main_call0_call4_c_19 : Ref sig .tc := ⟨.hbm, 398, rfl⟩
abbrev main_call0_call4_v77 : Ref sig .tc := ⟨.hbm, 399, rfl⟩
abbrev main_call0_call4_v78 : Ref sig .tc := ⟨.hbm, 400, rfl⟩
abbrev main_call0_call4_v79 : Ref sig .tc := ⟨.hbm, 401, rfl⟩
abbrev main_call0_call4_v80 : Ref sig .tc := ⟨.hbm, 402, rfl⟩
abbrev main_call0_call4_v81 : Ref sig .tc := ⟨.hbm, 403, rfl⟩
abbrev main_call0_call4_c_20 : Ref sig .tc := ⟨.hbm, 404, rfl⟩
abbrev main_call0_call4_v82 : Ref sig .tc := ⟨.hbm, 405, rfl⟩
abbrev main_call0_call4_v83 : Ref sig .tc := ⟨.hbm, 406, rfl⟩
abbrev main_call0_call4_c_21 : Ref sig .tc := ⟨.hbm, 407, rfl⟩
abbrev main_call0_call4_v84 : Ref sig .tc := ⟨.hbm, 408, rfl⟩
abbrev main_call0_call4_v85 : Ref sig .tc := ⟨.hbm, 409, rfl⟩
abbrev main_call0_call4_v86 : Ref sig .tc := ⟨.hbm, 410, rfl⟩
abbrev main_call0_call4_v87 : Ref sig .tc := ⟨.hbm, 411, rfl⟩
abbrev main_call0_call4_v88 : Ref sig .tc := ⟨.hbm, 412, rfl⟩
abbrev main_call0_call4_c_22 : Ref sig .tc := ⟨.hbm, 413, rfl⟩
abbrev main_call0_call4_v89 : Ref sig .tc := ⟨.hbm, 414, rfl⟩
abbrev main_call0_call4_v90 : Ref sig .tc := ⟨.hbm, 415, rfl⟩
abbrev main_call0_call4_c_23 : Ref sig .tc := ⟨.hbm, 416, rfl⟩
abbrev main_call0_call4_v91 : Ref sig .tc := ⟨.hbm, 417, rfl⟩
abbrev main_call0_call4_v92 : Ref sig .tc := ⟨.hbm, 418, rfl⟩
abbrev main_call0_call4_v93 : Ref sig .tc := ⟨.hbm, 419, rfl⟩
abbrev main_call0_call4_v94 : Ref sig .tc := ⟨.hbm, 420, rfl⟩
abbrev main_call0_call4_v95 : Ref sig .tc := ⟨.hbm, 421, rfl⟩
abbrev main_call0_call4_c_24 : Ref sig .tc := ⟨.hbm, 422, rfl⟩
abbrev main_call0_call4_v96 : Ref sig .tc := ⟨.hbm, 423, rfl⟩
abbrev main_call0_call4_v97 : Ref sig .tc := ⟨.hbm, 424, rfl⟩
abbrev main_call0_call4_c_25 : Ref sig .tc := ⟨.hbm, 425, rfl⟩
abbrev main_call0_call4_v98 : Ref sig .tc := ⟨.hbm, 426, rfl⟩
abbrev main_call0_call4_v99 : Ref sig .tc := ⟨.hbm, 427, rfl⟩
abbrev main_call0_call4_v100 : Ref sig .tc := ⟨.hbm, 428, rfl⟩
abbrev main_call0_call4_v101 : Ref sig .tc := ⟨.hbm, 429, rfl⟩
abbrev main_call0_call4_v102 : Ref sig .tc := ⟨.hbm, 430, rfl⟩
abbrev main_call0_call4_v103 : Ref sig .tc := ⟨.hbm, 431, rfl⟩
abbrev main_call0_call4_v104 : Ref sig .tc := ⟨.hbm, 432, rfl⟩
abbrev main_call0_call4_v105 : Ref sig .tc := ⟨.hbm, 433, rfl⟩
abbrev main_call0_call4_c_26 : Ref sig .tc := ⟨.hbm, 434, rfl⟩
abbrev main_call0_call4_v106 : Ref sig .tc := ⟨.hbm, 435, rfl⟩
abbrev main_call0_call4_v107 : Ref sig .tc := ⟨.hbm, 436, rfl⟩
abbrev main_call0_call4_v108 : Ref sig .tc := ⟨.hbm, 437, rfl⟩
abbrev main_call0_call4_c_27 : Ref sig .tc := ⟨.hbm, 438, rfl⟩
abbrev main_call0_call4_v109 : Ref sig .tc := ⟨.hbm, 439, rfl⟩
abbrev main_call0_call4_v110 : Ref sig .tc := ⟨.hbm, 440, rfl⟩
abbrev main_call0_call4_c_28 : Ref sig .tc := ⟨.hbm, 441, rfl⟩
abbrev main_call0_call4_v111 : Ref sig .tc := ⟨.hbm, 442, rfl⟩
abbrev main_call0_call4_v112 : Ref sig .tc := ⟨.hbm, 443, rfl⟩
abbrev main_call0_call4_v113 : Ref sig .tc := ⟨.hbm, 444, rfl⟩
abbrev main_call0_call4_v114 : Ref sig .tc := ⟨.hbm, 445, rfl⟩
abbrev main_call0_call4_v115 : Ref sig .tc := ⟨.hbm, 446, rfl⟩
abbrev main_call0_call4_c_29 : Ref sig .tc := ⟨.hbm, 447, rfl⟩
abbrev main_call0_call4_v116 : Ref sig .tc := ⟨.hbm, 448, rfl⟩
abbrev main_call0_call4_v117 : Ref sig .tc := ⟨.hbm, 449, rfl⟩
abbrev main_call0_call4_c_30 : Ref sig .tc := ⟨.hbm, 450, rfl⟩
abbrev main_call0_call4_v118 : Ref sig .tc := ⟨.hbm, 451, rfl⟩
abbrev main_call0_call4_v119 : Ref sig .tc := ⟨.hbm, 452, rfl⟩
abbrev main_call0_call4_v120 : Ref sig .tc := ⟨.hbm, 453, rfl⟩
abbrev main_call0_call4_v121 : Ref sig .tc := ⟨.hbm, 454, rfl⟩
abbrev main_call0_call4_v122 : Ref sig .tc := ⟨.hbm, 455, rfl⟩
abbrev main_call0_call4_c_31 : Ref sig .tc := ⟨.hbm, 456, rfl⟩
abbrev main_call0_call4_v123 : Ref sig .tc := ⟨.hbm, 457, rfl⟩
abbrev main_call0_call4_v124 : Ref sig .tc := ⟨.hbm, 458, rfl⟩
abbrev main_call0_call4_c_32 : Ref sig .tc := ⟨.hbm, 459, rfl⟩
abbrev main_call0_call4_v125 : Ref sig .tc := ⟨.hbm, 460, rfl⟩
abbrev main_call0_call4_v126 : Ref sig .tc := ⟨.hbm, 461, rfl⟩
abbrev main_call0_call4_v127 : Ref sig .tc := ⟨.hbm, 462, rfl⟩
abbrev main_call0_call4_v128 : Ref sig .tc := ⟨.hbm, 463, rfl⟩
abbrev main_call0_call4_v129 : Ref sig .tc := ⟨.hbm, 464, rfl⟩
abbrev main_call0_call4_c_33 : Ref sig .tc := ⟨.hbm, 465, rfl⟩
abbrev main_call0_call4_v130 : Ref sig .tc := ⟨.hbm, 466, rfl⟩
abbrev main_call0_call4_v131 : Ref sig .tc := ⟨.hbm, 467, rfl⟩
abbrev main_call0_call4_c_34 : Ref sig .tc := ⟨.hbm, 468, rfl⟩
abbrev main_call0_call4_v132 : Ref sig .tc := ⟨.hbm, 469, rfl⟩
abbrev main_call0_call4_v133 : Ref sig .tc := ⟨.hbm, 470, rfl⟩
abbrev main_call0_call4_v134 : Ref sig .tc := ⟨.hbm, 471, rfl⟩
abbrev main_call0_call4_v135 : Ref sig .tc := ⟨.hbm, 472, rfl⟩
abbrev main_call0_call4_v136 : Ref sig .tc := ⟨.hbm, 473, rfl⟩
abbrev main_call0_call4_v137 : Ref sig .tc := ⟨.hbm, 474, rfl⟩
abbrev main_call0_call4_v138 : Ref sig .tc := ⟨.hbm, 475, rfl⟩
abbrev main_call0_call4_v139 : Ref sig .tc := ⟨.hbm, 476, rfl⟩
abbrev main_call0_call4_c_35 : Ref sig .tc := ⟨.hbm, 477, rfl⟩
abbrev main_call0_call4_v140 : Ref sig .tc := ⟨.hbm, 478, rfl⟩
abbrev main_call0_call4_v141 : Ref sig .tc := ⟨.hbm, 479, rfl⟩
abbrev main_call0_call4_v142 : Ref sig .tc := ⟨.hbm, 480, rfl⟩
abbrev main_call0_call4_c_36 : Ref sig .tc := ⟨.hbm, 481, rfl⟩
abbrev main_call0_call4_v143 : Ref sig .tc := ⟨.hbm, 482, rfl⟩
abbrev main_call0_call4_v144 : Ref sig .tc := ⟨.hbm, 483, rfl⟩
abbrev main_call0_call4_c_37 : Ref sig .tc := ⟨.hbm, 484, rfl⟩
abbrev main_call0_call4_v145 : Ref sig .tc := ⟨.hbm, 485, rfl⟩
abbrev main_call0_call4_v146 : Ref sig .tc := ⟨.hbm, 486, rfl⟩
abbrev main_call0_call4_v147 : Ref sig .tc := ⟨.hbm, 487, rfl⟩
abbrev main_call0_call4_v148 : Ref sig .tc := ⟨.hbm, 488, rfl⟩
abbrev main_call0_call4_v149 : Ref sig .tc := ⟨.hbm, 489, rfl⟩
abbrev main_call0_call4_c_38 : Ref sig .tc := ⟨.hbm, 490, rfl⟩
abbrev main_call0_call4_v150 : Ref sig .tc := ⟨.hbm, 491, rfl⟩
abbrev main_call0_call4_v151 : Ref sig .tc := ⟨.hbm, 492, rfl⟩
abbrev main_call0_call4_c_39 : Ref sig .tc := ⟨.hbm, 493, rfl⟩
abbrev main_call0_call4_v152 : Ref sig .tc := ⟨.hbm, 494, rfl⟩
abbrev main_call0_call4_v153 : Ref sig .tc := ⟨.hbm, 495, rfl⟩
abbrev main_call0_call4_v154 : Ref sig .tc := ⟨.hbm, 496, rfl⟩
abbrev main_call0_call4_v155 : Ref sig .tc := ⟨.hbm, 497, rfl⟩
abbrev main_call0_call4_v156 : Ref sig .tc := ⟨.hbm, 498, rfl⟩
abbrev main_call0_call4_c_40 : Ref sig .tc := ⟨.hbm, 499, rfl⟩
abbrev main_call0_call4_v157 : Ref sig .tc := ⟨.hbm, 500, rfl⟩
abbrev main_call0_call4_v158 : Ref sig .tc := ⟨.hbm, 501, rfl⟩
abbrev main_call0_call4_c_41 : Ref sig .tc := ⟨.hbm, 502, rfl⟩
abbrev main_call0_call4_v159 : Ref sig .tc := ⟨.hbm, 503, rfl⟩
abbrev main_call0_call4_v160 : Ref sig .tc := ⟨.hbm, 504, rfl⟩
abbrev main_call0_call4_v161 : Ref sig .tc := ⟨.hbm, 505, rfl⟩
abbrev main_call0_call4_v162 : Ref sig .tc := ⟨.hbm, 506, rfl⟩
abbrev main_call0_call4_v163 : Ref sig .tc := ⟨.hbm, 507, rfl⟩
abbrev main_call0_call4_c_42 : Ref sig .tc := ⟨.hbm, 508, rfl⟩
abbrev main_call0_call4_v164 : Ref sig .tc := ⟨.hbm, 509, rfl⟩
abbrev main_call0_call4_v165 : Ref sig .tc := ⟨.hbm, 510, rfl⟩
abbrev main_call0_call4_c_43 : Ref sig .tc := ⟨.hbm, 511, rfl⟩
abbrev main_call0_call4_v166 : Ref sig .tc := ⟨.hbm, 512, rfl⟩
abbrev main_call0_call4_v167 : Ref sig .tc := ⟨.hbm, 513, rfl⟩
abbrev main_call0_call4_v168 : Ref sig .tc := ⟨.hbm, 514, rfl⟩
abbrev main_call0_call4_v169 : Ref sig .tc := ⟨.hbm, 515, rfl⟩
abbrev main_call0_call4_v170 : Ref sig .tc := ⟨.hbm, 516, rfl⟩
abbrev main_call0_v36_0 : Ref sig .tc := ⟨.hbm, 517, rfl⟩
abbrev main_call0_call4_v172 : Ref sig .tc := ⟨.hbm, 518, rfl⟩
abbrev main_call0_call4_v173 : Ref sig .tc := ⟨.hbm, 519, rfl⟩
abbrev main_call0_call4_c_44 : Ref sig .tc := ⟨.hbm, 520, rfl⟩
abbrev main_call0_call4_v174 : Ref sig .tc := ⟨.hbm, 521, rfl⟩
abbrev main_call0_v36_1 : Ref sig .tc := ⟨.hbm, 522, rfl⟩
abbrev main_call0_v37 : Ref sig .tc := ⟨.hbm, 523, rfl⟩
abbrev main_call0_v38 : Ref sig .tc := ⟨.hbm, 524, rfl⟩
abbrev main_call0_v39 : Ref sig .tc := ⟨.hbm, 525, rfl⟩
abbrev main_call0_v40 : Ref sig .tc := ⟨.hbm, 526, rfl⟩
abbrev main_call0_v41 : Ref sig .tc := ⟨.hbm, 527, rfl⟩
abbrev main_call0_v42 : Ref sig .tc := ⟨.hbm, 528, rfl⟩
abbrev main_call0_v43 : Ref sig .tc := ⟨.hbm, 529, rfl⟩
abbrev main_call0_v44 : Ref sig .tc := ⟨.hbm, 530, rfl⟩
abbrev main_call0_v45 : Ref sig .tc := ⟨.hbm, 531, rfl⟩
abbrev main_call0_c_11 : Ref sig .tc := ⟨.hbm, 532, rfl⟩
abbrev main_call0_v46 : Ref sig .tc := ⟨.hbm, 533, rfl⟩
abbrev main_call0_v47 : Ref sig .tc := ⟨.hbm, 534, rfl⟩
abbrev main_call0_c_12 : Ref sig .tc := ⟨.hbm, 535, rfl⟩
abbrev main_call0_v48 : Ref sig .tc := ⟨.hbm, 536, rfl⟩
abbrev main_call0_v49 : Ref sig .tc := ⟨.hbm, 537, rfl⟩
abbrev main_call0_c_13 : Ref sig .tc := ⟨.hbm, 538, rfl⟩
abbrev main_call0_v50 : Ref sig .tc := ⟨.hbm, 539, rfl⟩
abbrev main_call0_v51 : Ref sig .tc := ⟨.hbm, 540, rfl⟩
abbrev main_call0_c_14 : Ref sig .tc := ⟨.hbm, 541, rfl⟩
abbrev main_call0_v52 : Ref sig .tc := ⟨.hbm, 542, rfl⟩
abbrev main_call0_v53 : Ref sig .tc := ⟨.hbm, 543, rfl⟩
abbrev main_call0_v54 : Ref sig .tc := ⟨.hbm, 544, rfl⟩
abbrev main_call0_v55 : Ref sig .tc := ⟨.hbm, 545, rfl⟩
abbrev main_call0_v56 : Ref sig .tc := ⟨.hbm, 546, rfl⟩
abbrev main_call0_c_15 : Ref sig .tc := ⟨.hbm, 547, rfl⟩
abbrev main_call0_v57 : Ref sig .tc := ⟨.hbm, 548, rfl⟩
abbrev main_call0_v58 : Ref sig .tc := ⟨.hbm, 549, rfl⟩
abbrev main_call0_v59 : Ref sig .tc := ⟨.hbm, 550, rfl⟩
abbrev main_call0_v60 : Ref sig .tc := ⟨.hbm, 551, rfl⟩
abbrev main_call0_call5_v0 : Ref sig .tc := ⟨.hbm, 552, rfl⟩
abbrev main_call0_call5_c : Ref sig .tc := ⟨.hbm, 553, rfl⟩
abbrev main_call0_call5_v1 : Ref sig .tc := ⟨.hbm, 554, rfl⟩
abbrev main_call0_call5_v2 : Ref sig .tc := ⟨.hbm, 555, rfl⟩
abbrev main_call0_call5_v3 : Ref sig .tc := ⟨.hbm, 556, rfl⟩
abbrev main_call0_call5_v4 : Ref sig .tc := ⟨.hbm, 557, rfl⟩
abbrev main_call0_call5_v5 : Ref sig .tc := ⟨.hbm, 558, rfl⟩
abbrev main_call0_call5_v6 : Ref sig .tc := ⟨.hbm, 559, rfl⟩
abbrev main_call0_call5_c_0 : Ref sig .tc := ⟨.hbm, 560, rfl⟩
abbrev main_call0_call5_v7 : Ref sig .tc := ⟨.hbm, 561, rfl⟩
abbrev main_call0_call5_v8 : Ref sig .tc := ⟨.hbm, 562, rfl⟩
abbrev main_call0_call5_c_1 : Ref sig .tc := ⟨.hbm, 563, rfl⟩
abbrev main_call0_call5_v9 : Ref sig .tc := ⟨.hbm, 564, rfl⟩
abbrev main_call0_call5_v10 : Ref sig .tc := ⟨.hbm, 565, rfl⟩
abbrev main_call0_call5_v11 : Ref sig .tc := ⟨.hbm, 566, rfl⟩
abbrev main_call0_call5_v12 : Ref sig .tc := ⟨.hbm, 567, rfl⟩
abbrev main_call0_call5_v13 : Ref sig .tc := ⟨.hbm, 568, rfl⟩
abbrev main_call0_call5_c_2 : Ref sig .tc := ⟨.hbm, 569, rfl⟩
abbrev main_call0_call5_v14 : Ref sig .tc := ⟨.hbm, 570, rfl⟩
abbrev main_call0_call5_v15 : Ref sig .tc := ⟨.hbm, 571, rfl⟩
abbrev main_call0_call5_c_3 : Ref sig .tc := ⟨.hbm, 572, rfl⟩
abbrev main_call0_call5_v16 : Ref sig .tc := ⟨.hbm, 573, rfl⟩
abbrev main_call0_call5_v17 : Ref sig .tc := ⟨.hbm, 574, rfl⟩
abbrev main_call0_call5_v18 : Ref sig .tc := ⟨.hbm, 575, rfl⟩
abbrev main_call0_call5_v19 : Ref sig .tc := ⟨.hbm, 576, rfl⟩
abbrev main_call0_call5_v20 : Ref sig .tc := ⟨.hbm, 577, rfl⟩
abbrev main_call0_call5_c_4 : Ref sig .tc := ⟨.hbm, 578, rfl⟩
abbrev main_call0_call5_v21 : Ref sig .tc := ⟨.hbm, 579, rfl⟩
abbrev main_call0_call5_v22 : Ref sig .tc := ⟨.hbm, 580, rfl⟩
abbrev main_call0_call5_c_5 : Ref sig .tc := ⟨.hbm, 581, rfl⟩
abbrev main_call0_call5_v23 : Ref sig .tc := ⟨.hbm, 582, rfl⟩
abbrev main_call0_call5_v24 : Ref sig .tc := ⟨.hbm, 583, rfl⟩
abbrev main_call0_call5_v25 : Ref sig .tc := ⟨.hbm, 584, rfl⟩
abbrev main_call0_call5_v26 : Ref sig .tc := ⟨.hbm, 585, rfl⟩
abbrev main_call0_call5_v27 : Ref sig .tc := ⟨.hbm, 586, rfl⟩
abbrev main_call0_call5_c_6 : Ref sig .tc := ⟨.hbm, 587, rfl⟩
abbrev main_call0_call5_v28 : Ref sig .tc := ⟨.hbm, 588, rfl⟩
abbrev main_call0_call5_v29 : Ref sig .tc := ⟨.hbm, 589, rfl⟩
abbrev main_call0_call5_c_7 : Ref sig .tc := ⟨.hbm, 590, rfl⟩
abbrev main_call0_call5_v30 : Ref sig .tc := ⟨.hbm, 591, rfl⟩
abbrev main_call0_call5_v31 : Ref sig .tc := ⟨.hbm, 592, rfl⟩
abbrev main_call0_call5_v32 : Ref sig .tc := ⟨.hbm, 593, rfl⟩
abbrev main_call0_call5_v33 : Ref sig .tc := ⟨.hbm, 594, rfl⟩
abbrev main_call0_call5_v34 : Ref sig .tc := ⟨.hbm, 595, rfl⟩
abbrev main_call0_call5_v35 : Ref sig .tc := ⟨.hbm, 596, rfl⟩
abbrev main_call0_call5_v36 : Ref sig .tc := ⟨.hbm, 597, rfl⟩
abbrev main_call0_call5_v37 : Ref sig .tc := ⟨.hbm, 598, rfl⟩
abbrev main_call0_call5_c_8 : Ref sig .tc := ⟨.hbm, 599, rfl⟩
abbrev main_call0_call5_v38 : Ref sig .tc := ⟨.hbm, 600, rfl⟩
abbrev main_call0_call5_v39 : Ref sig .tc := ⟨.hbm, 601, rfl⟩
abbrev main_call0_call5_v40 : Ref sig .tc := ⟨.hbm, 602, rfl⟩
abbrev main_call0_call5_c_9 : Ref sig .tc := ⟨.hbm, 603, rfl⟩
abbrev main_call0_call5_v41 : Ref sig .tc := ⟨.hbm, 604, rfl⟩
abbrev main_call0_call5_v42 : Ref sig .tc := ⟨.hbm, 605, rfl⟩
abbrev main_call0_call5_c_10 : Ref sig .tc := ⟨.hbm, 606, rfl⟩
abbrev main_call0_call5_v43 : Ref sig .tc := ⟨.hbm, 607, rfl⟩
abbrev main_call0_call5_v44 : Ref sig .tc := ⟨.hbm, 608, rfl⟩
abbrev main_call0_call5_v45 : Ref sig .tc := ⟨.hbm, 609, rfl⟩
abbrev main_call0_call5_v46 : Ref sig .tc := ⟨.hbm, 610, rfl⟩
abbrev main_call0_call5_v47 : Ref sig .tc := ⟨.hbm, 611, rfl⟩
abbrev main_call0_call5_c_11 : Ref sig .tc := ⟨.hbm, 612, rfl⟩
abbrev main_call0_call5_v48 : Ref sig .tc := ⟨.hbm, 613, rfl⟩
abbrev main_call0_call5_v49 : Ref sig .tc := ⟨.hbm, 614, rfl⟩
abbrev main_call0_call5_c_12 : Ref sig .tc := ⟨.hbm, 615, rfl⟩
abbrev main_call0_call5_v50 : Ref sig .tc := ⟨.hbm, 616, rfl⟩
abbrev main_call0_call5_v51 : Ref sig .tc := ⟨.hbm, 617, rfl⟩
abbrev main_call0_call5_v52 : Ref sig .tc := ⟨.hbm, 618, rfl⟩
abbrev main_call0_call5_v53 : Ref sig .tc := ⟨.hbm, 619, rfl⟩
abbrev main_call0_call5_v54 : Ref sig .tc := ⟨.hbm, 620, rfl⟩
abbrev main_call0_call5_c_13 : Ref sig .tc := ⟨.hbm, 621, rfl⟩
abbrev main_call0_call5_v55 : Ref sig .tc := ⟨.hbm, 622, rfl⟩
abbrev main_call0_call5_v56 : Ref sig .tc := ⟨.hbm, 623, rfl⟩
abbrev main_call0_call5_c_14 : Ref sig .tc := ⟨.hbm, 624, rfl⟩
abbrev main_call0_call5_v57 : Ref sig .tc := ⟨.hbm, 625, rfl⟩
abbrev main_call0_call5_v58 : Ref sig .tc := ⟨.hbm, 626, rfl⟩
abbrev main_call0_call5_v59 : Ref sig .tc := ⟨.hbm, 627, rfl⟩
abbrev main_call0_call5_v60 : Ref sig .tc := ⟨.hbm, 628, rfl⟩
abbrev main_call0_call5_v61 : Ref sig .tc := ⟨.hbm, 629, rfl⟩
abbrev main_call0_call5_c_15 : Ref sig .tc := ⟨.hbm, 630, rfl⟩
abbrev main_call0_call5_v62 : Ref sig .tc := ⟨.hbm, 631, rfl⟩
abbrev main_call0_call5_v63 : Ref sig .tc := ⟨.hbm, 632, rfl⟩
abbrev main_call0_call5_c_16 : Ref sig .tc := ⟨.hbm, 633, rfl⟩
abbrev main_call0_call5_v64 : Ref sig .tc := ⟨.hbm, 634, rfl⟩
abbrev main_call0_call5_v65 : Ref sig .tc := ⟨.hbm, 635, rfl⟩
abbrev main_call0_call5_v66 : Ref sig .tc := ⟨.hbm, 636, rfl⟩
abbrev main_call0_call5_v67 : Ref sig .tc := ⟨.hbm, 637, rfl⟩
abbrev main_call0_call5_v68 : Ref sig .tc := ⟨.hbm, 638, rfl⟩
abbrev main_call0_call5_v69 : Ref sig .tc := ⟨.hbm, 639, rfl⟩
abbrev main_call0_call5_v70 : Ref sig .tc := ⟨.hbm, 640, rfl⟩
abbrev main_call0_call5_v71 : Ref sig .tc := ⟨.hbm, 641, rfl⟩
abbrev main_call0_call5_c_17 : Ref sig .tc := ⟨.hbm, 642, rfl⟩
abbrev main_call0_call5_v72 : Ref sig .tc := ⟨.hbm, 643, rfl⟩
abbrev main_call0_call5_v73 : Ref sig .tc := ⟨.hbm, 644, rfl⟩
abbrev main_call0_call5_v74 : Ref sig .tc := ⟨.hbm, 645, rfl⟩
abbrev main_call0_call5_c_18 : Ref sig .tc := ⟨.hbm, 646, rfl⟩
abbrev main_call0_call5_v75 : Ref sig .tc := ⟨.hbm, 647, rfl⟩
abbrev main_call0_call5_v76 : Ref sig .tc := ⟨.hbm, 648, rfl⟩
abbrev main_call0_call5_c_19 : Ref sig .tc := ⟨.hbm, 649, rfl⟩
abbrev main_call0_call5_v77 : Ref sig .tc := ⟨.hbm, 650, rfl⟩
abbrev main_call0_call5_v78 : Ref sig .tc := ⟨.hbm, 651, rfl⟩
abbrev main_call0_call5_v79 : Ref sig .tc := ⟨.hbm, 652, rfl⟩
abbrev main_call0_call5_v80 : Ref sig .tc := ⟨.hbm, 653, rfl⟩
abbrev main_call0_call5_v81 : Ref sig .tc := ⟨.hbm, 654, rfl⟩
abbrev main_call0_call5_c_20 : Ref sig .tc := ⟨.hbm, 655, rfl⟩
abbrev main_call0_call5_v82 : Ref sig .tc := ⟨.hbm, 656, rfl⟩
abbrev main_call0_call5_v83 : Ref sig .tc := ⟨.hbm, 657, rfl⟩
abbrev main_call0_call5_c_21 : Ref sig .tc := ⟨.hbm, 658, rfl⟩
abbrev main_call0_call5_v84 : Ref sig .tc := ⟨.hbm, 659, rfl⟩
abbrev main_call0_call5_v85 : Ref sig .tc := ⟨.hbm, 660, rfl⟩
abbrev main_call0_call5_v86 : Ref sig .tc := ⟨.hbm, 661, rfl⟩
abbrev main_call0_call5_v87 : Ref sig .tc := ⟨.hbm, 662, rfl⟩
abbrev main_call0_call5_v88 : Ref sig .tc := ⟨.hbm, 663, rfl⟩
abbrev main_call0_call5_c_22 : Ref sig .tc := ⟨.hbm, 664, rfl⟩
abbrev main_call0_call5_v89 : Ref sig .tc := ⟨.hbm, 665, rfl⟩
abbrev main_call0_call5_v90 : Ref sig .tc := ⟨.hbm, 666, rfl⟩
abbrev main_call0_call5_c_23 : Ref sig .tc := ⟨.hbm, 667, rfl⟩
abbrev main_call0_call5_v91 : Ref sig .tc := ⟨.hbm, 668, rfl⟩
abbrev main_call0_call5_v92 : Ref sig .tc := ⟨.hbm, 669, rfl⟩
abbrev main_call0_call5_v93 : Ref sig .tc := ⟨.hbm, 670, rfl⟩
abbrev main_call0_call5_v94 : Ref sig .tc := ⟨.hbm, 671, rfl⟩
abbrev main_call0_call5_v95 : Ref sig .tc := ⟨.hbm, 672, rfl⟩
abbrev main_call0_call5_c_24 : Ref sig .tc := ⟨.hbm, 673, rfl⟩
abbrev main_call0_call5_v96 : Ref sig .tc := ⟨.hbm, 674, rfl⟩
abbrev main_call0_call5_v97 : Ref sig .tc := ⟨.hbm, 675, rfl⟩
abbrev main_call0_call5_c_25 : Ref sig .tc := ⟨.hbm, 676, rfl⟩
abbrev main_call0_call5_v98 : Ref sig .tc := ⟨.hbm, 677, rfl⟩
abbrev main_call0_call5_v99 : Ref sig .tc := ⟨.hbm, 678, rfl⟩
abbrev main_call0_call5_v100 : Ref sig .tc := ⟨.hbm, 679, rfl⟩
abbrev main_call0_call5_v101 : Ref sig .tc := ⟨.hbm, 680, rfl⟩
abbrev main_call0_call5_v102 : Ref sig .tc := ⟨.hbm, 681, rfl⟩
abbrev main_call0_call5_v103 : Ref sig .tc := ⟨.hbm, 682, rfl⟩
abbrev main_call0_call5_v104 : Ref sig .tc := ⟨.hbm, 683, rfl⟩
abbrev main_call0_call5_v105 : Ref sig .tc := ⟨.hbm, 684, rfl⟩
abbrev main_call0_call5_c_26 : Ref sig .tc := ⟨.hbm, 685, rfl⟩
abbrev main_call0_call5_v106 : Ref sig .tc := ⟨.hbm, 686, rfl⟩
abbrev main_call0_call5_v107 : Ref sig .tc := ⟨.hbm, 687, rfl⟩
abbrev main_call0_call5_v108 : Ref sig .tc := ⟨.hbm, 688, rfl⟩
abbrev main_call0_call5_c_27 : Ref sig .tc := ⟨.hbm, 689, rfl⟩
abbrev main_call0_call5_v109 : Ref sig .tc := ⟨.hbm, 690, rfl⟩
abbrev main_call0_call5_v110 : Ref sig .tc := ⟨.hbm, 691, rfl⟩
abbrev main_call0_call5_c_28 : Ref sig .tc := ⟨.hbm, 692, rfl⟩
abbrev main_call0_call5_v111 : Ref sig .tc := ⟨.hbm, 693, rfl⟩
abbrev main_call0_call5_v112 : Ref sig .tc := ⟨.hbm, 694, rfl⟩
abbrev main_call0_call5_v113 : Ref sig .tc := ⟨.hbm, 695, rfl⟩
abbrev main_call0_call5_v114 : Ref sig .tc := ⟨.hbm, 696, rfl⟩
abbrev main_call0_call5_v115 : Ref sig .tc := ⟨.hbm, 697, rfl⟩
abbrev main_call0_call5_c_29 : Ref sig .tc := ⟨.hbm, 698, rfl⟩
abbrev main_call0_call5_v116 : Ref sig .tc := ⟨.hbm, 699, rfl⟩
abbrev main_call0_call5_v117 : Ref sig .tc := ⟨.hbm, 700, rfl⟩
abbrev main_call0_call5_c_30 : Ref sig .tc := ⟨.hbm, 701, rfl⟩
abbrev main_call0_call5_v118 : Ref sig .tc := ⟨.hbm, 702, rfl⟩
abbrev main_call0_call5_v119 : Ref sig .tc := ⟨.hbm, 703, rfl⟩
abbrev main_call0_call5_v120 : Ref sig .tc := ⟨.hbm, 704, rfl⟩
abbrev main_call0_call5_v121 : Ref sig .tc := ⟨.hbm, 705, rfl⟩
abbrev main_call0_call5_v122 : Ref sig .tc := ⟨.hbm, 706, rfl⟩
abbrev main_call0_call5_c_31 : Ref sig .tc := ⟨.hbm, 707, rfl⟩
abbrev main_call0_call5_v123 : Ref sig .tc := ⟨.hbm, 708, rfl⟩
abbrev main_call0_call5_v124 : Ref sig .tc := ⟨.hbm, 709, rfl⟩
abbrev main_call0_call5_c_32 : Ref sig .tc := ⟨.hbm, 710, rfl⟩
abbrev main_call0_call5_v125 : Ref sig .tc := ⟨.hbm, 711, rfl⟩
abbrev main_call0_call5_v126 : Ref sig .tc := ⟨.hbm, 712, rfl⟩
abbrev main_call0_call5_v127 : Ref sig .tc := ⟨.hbm, 713, rfl⟩
abbrev main_call0_call5_v128 : Ref sig .tc := ⟨.hbm, 714, rfl⟩
abbrev main_call0_call5_v129 : Ref sig .tc := ⟨.hbm, 715, rfl⟩
abbrev main_call0_call5_c_33 : Ref sig .tc := ⟨.hbm, 716, rfl⟩
abbrev main_call0_call5_v130 : Ref sig .tc := ⟨.hbm, 717, rfl⟩
abbrev main_call0_call5_v131 : Ref sig .tc := ⟨.hbm, 718, rfl⟩
abbrev main_call0_call5_c_34 : Ref sig .tc := ⟨.hbm, 719, rfl⟩
abbrev main_call0_call5_v132 : Ref sig .tc := ⟨.hbm, 720, rfl⟩
abbrev main_call0_call5_v133 : Ref sig .tc := ⟨.hbm, 721, rfl⟩
abbrev main_call0_call5_v134 : Ref sig .tc := ⟨.hbm, 722, rfl⟩
abbrev main_call0_call5_v135 : Ref sig .tc := ⟨.hbm, 723, rfl⟩
abbrev main_call0_call5_v136 : Ref sig .tc := ⟨.hbm, 724, rfl⟩
abbrev main_call0_call5_v137 : Ref sig .tc := ⟨.hbm, 725, rfl⟩
abbrev main_call0_call5_v138 : Ref sig .tc := ⟨.hbm, 726, rfl⟩
abbrev main_call0_call5_v139 : Ref sig .tc := ⟨.hbm, 727, rfl⟩
abbrev main_call0_call5_c_35 : Ref sig .tc := ⟨.hbm, 728, rfl⟩
abbrev main_call0_call5_v140 : Ref sig .tc := ⟨.hbm, 729, rfl⟩
abbrev main_call0_call5_v141 : Ref sig .tc := ⟨.hbm, 730, rfl⟩
abbrev main_call0_call5_v142 : Ref sig .tc := ⟨.hbm, 731, rfl⟩
abbrev main_call0_call5_c_36 : Ref sig .tc := ⟨.hbm, 732, rfl⟩
abbrev main_call0_call5_v143 : Ref sig .tc := ⟨.hbm, 733, rfl⟩
abbrev main_call0_call5_v144 : Ref sig .tc := ⟨.hbm, 734, rfl⟩
abbrev main_call0_call5_c_37 : Ref sig .tc := ⟨.hbm, 735, rfl⟩
abbrev main_call0_call5_v145 : Ref sig .tc := ⟨.hbm, 736, rfl⟩
abbrev main_call0_call5_v146 : Ref sig .tc := ⟨.hbm, 737, rfl⟩
abbrev main_call0_call5_v147 : Ref sig .tc := ⟨.hbm, 738, rfl⟩
abbrev main_call0_call5_v148 : Ref sig .tc := ⟨.hbm, 739, rfl⟩
abbrev main_call0_call5_v149 : Ref sig .tc := ⟨.hbm, 740, rfl⟩
abbrev main_call0_call5_c_38 : Ref sig .tc := ⟨.hbm, 741, rfl⟩
abbrev main_call0_call5_v150 : Ref sig .tc := ⟨.hbm, 742, rfl⟩
abbrev main_call0_call5_v151 : Ref sig .tc := ⟨.hbm, 743, rfl⟩
abbrev main_call0_call5_c_39 : Ref sig .tc := ⟨.hbm, 744, rfl⟩
abbrev main_call0_call5_v152 : Ref sig .tc := ⟨.hbm, 745, rfl⟩
abbrev main_call0_call5_v153 : Ref sig .tc := ⟨.hbm, 746, rfl⟩
abbrev main_call0_call5_v154 : Ref sig .tc := ⟨.hbm, 747, rfl⟩
abbrev main_call0_call5_v155 : Ref sig .tc := ⟨.hbm, 748, rfl⟩
abbrev main_call0_call5_v156 : Ref sig .tc := ⟨.hbm, 749, rfl⟩
abbrev main_call0_call5_c_40 : Ref sig .tc := ⟨.hbm, 750, rfl⟩
abbrev main_call0_call5_v157 : Ref sig .tc := ⟨.hbm, 751, rfl⟩
abbrev main_call0_call5_v158 : Ref sig .tc := ⟨.hbm, 752, rfl⟩
abbrev main_call0_call5_c_41 : Ref sig .tc := ⟨.hbm, 753, rfl⟩
abbrev main_call0_call5_v159 : Ref sig .tc := ⟨.hbm, 754, rfl⟩
abbrev main_call0_call5_v160 : Ref sig .tc := ⟨.hbm, 755, rfl⟩
abbrev main_call0_call5_v161 : Ref sig .tc := ⟨.hbm, 756, rfl⟩
abbrev main_call0_call5_v162 : Ref sig .tc := ⟨.hbm, 757, rfl⟩
abbrev main_call0_call5_v163 : Ref sig .tc := ⟨.hbm, 758, rfl⟩
abbrev main_call0_call5_c_42 : Ref sig .tc := ⟨.hbm, 759, rfl⟩
abbrev main_call0_call5_v164 : Ref sig .tc := ⟨.hbm, 760, rfl⟩
abbrev main_call0_call5_v165 : Ref sig .tc := ⟨.hbm, 761, rfl⟩
abbrev main_call0_call5_c_43 : Ref sig .tc := ⟨.hbm, 762, rfl⟩
abbrev main_call0_call5_v166 : Ref sig .tc := ⟨.hbm, 763, rfl⟩
abbrev main_call0_call5_v167 : Ref sig .tc := ⟨.hbm, 764, rfl⟩
abbrev main_call0_call5_v168 : Ref sig .tc := ⟨.hbm, 765, rfl⟩
abbrev main_call0_call5_v169 : Ref sig .tc := ⟨.hbm, 766, rfl⟩
abbrev main_call0_call5_v170 : Ref sig .tc := ⟨.hbm, 767, rfl⟩
abbrev main_call0_v61_0 : Ref sig .tc := ⟨.hbm, 768, rfl⟩
abbrev main_call0_call5_v172 : Ref sig .tc := ⟨.hbm, 769, rfl⟩
abbrev main_call0_call5_v173 : Ref sig .tc := ⟨.hbm, 770, rfl⟩
abbrev main_call0_call5_c_44 : Ref sig .tc := ⟨.hbm, 771, rfl⟩
abbrev main_call0_call5_v174 : Ref sig .tc := ⟨.hbm, 772, rfl⟩
abbrev main_call0_v61_1 : Ref sig .tc := ⟨.hbm, 773, rfl⟩
abbrev main_call0_v62 : Ref sig .tc := ⟨.hbm, 774, rfl⟩
abbrev main_call0_v63 : Ref sig .tc := ⟨.hbm, 775, rfl⟩
abbrev main_call0_v64 : Ref sig .tc := ⟨.hbm, 776, rfl⟩
abbrev main_call0_v65 : Ref sig .tc := ⟨.hbm, 777, rfl⟩
abbrev main_call0_c_16 : Ref sig .tc := ⟨.hbm, 778, rfl⟩
abbrev main_call0_v66 : Ref sig .tc := ⟨.hbm, 779, rfl⟩
abbrev main_call0_v67 : Ref sig .tc := ⟨.hbm, 780, rfl⟩
abbrev main_call0_v68 : Ref sig .tc := ⟨.hbm, 781, rfl⟩
abbrev main_call0_v69 : Ref sig .tc := ⟨.hbm, 782, rfl⟩
abbrev main_call0_v70 : Ref sig .tc := ⟨.hbm, 783, rfl⟩
abbrev main_call0_c_17 : Ref sig .tc := ⟨.hbm, 784, rfl⟩
abbrev main_call0_v71 : Ref sig .tc := ⟨.hbm, 785, rfl⟩
abbrev main_call0_v72 : Ref sig .tc := ⟨.hbm, 786, rfl⟩
abbrev main_call0_v73 : Ref sig .tc := ⟨.hbm, 787, rfl⟩
abbrev main_call0_c_18 : Ref sig .tc := ⟨.hbm, 788, rfl⟩
abbrev main_call0_v74 : Ref sig .tc := ⟨.hbm, 789, rfl⟩
abbrev main_call0_v75 : Ref sig .tc := ⟨.hbm, 790, rfl⟩
abbrev main_call0_v76 : Ref sig .tc := ⟨.hbm, 791, rfl⟩
abbrev main_call0_v77 : Ref sig .tc := ⟨.hbm, 792, rfl⟩
abbrev main_call0_v78 : Ref sig .tc := ⟨.hbm, 793, rfl⟩
abbrev main_call0_v79 : Ref sig .tc := ⟨.hbm, 794, rfl⟩
abbrev main_call0_v80 : Ref sig .tc := ⟨.hbm, 795, rfl⟩
abbrev main_call0_v81 : Ref sig .tc := ⟨.hbm, 796, rfl⟩
abbrev main_call0_v82 : Ref sig .tc := ⟨.hbm, 797, rfl⟩
abbrev main_call0_v83 : Ref sig .tc := ⟨.hbm, 798, rfl⟩
abbrev main_call0_v84 : Ref sig .tc := ⟨.hbm, 799, rfl⟩
abbrev main_call0_v85 : Ref sig .tc := ⟨.hbm, 800, rfl⟩
abbrev main_call0_v86 : Ref sig .tc := ⟨.hbm, 801, rfl⟩
abbrev main_call0_v87 : Ref sig .tc := ⟨.hbm, 802, rfl⟩
abbrev main_call0_v88 : Ref sig .tc := ⟨.hbm, 803, rfl⟩
abbrev main_v7 : Ref sig .tc := ⟨.hbm, 804, rfl⟩
abbrev main_v8 : Ref sig .tc := ⟨.hbm, 805, rfl⟩
abbrev main_v9 : Ref sig .tc := ⟨.hbm, 806, rfl⟩
abbrev main_v10 : Ref sig .tc := ⟨.hbm, 807, rfl⟩
abbrev main_c_4 : Ref sig .tc := ⟨.hbm, 808, rfl⟩
abbrev main_call1_v0 : Ref sig .tc := ⟨.hbm, 809, rfl⟩
abbrev main_v11 : Ref sig .tc := ⟨.hbm, 810, rfl⟩
abbrev main_v12 : Ref sig .tc := ⟨.hbm, 811, rfl⟩
abbrev main_v13 : Ref sig .tc := ⟨.hbm, 812, rfl⟩
abbrev main_v14 : Ref sig .tc := ⟨.hbm, 813, rfl⟩
abbrev main_v12_scv : Ref sig .scVector := ⟨.hbm, 811, rfl⟩
abbrev main_v11_scv : Ref sig .scVector := ⟨.hbm, 810, rfl⟩
abbrev main_v13_scv : Ref sig .scVector := ⟨.hbm, 812, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : Index := Scalar.indexCast v2
  ![v3.toNat]
def k0_mult1 (v8 : BitVec 32) : BitVec 32 :=
  let c0_i32_0 : BitVec 32 := 0#32
  let v10 : BitVec 1 := Scalar.cmpi .sgt v8 c0_i32_0
  let v11 : BitVec 32 := Scalar.extui v10
  let c0_i32_1 : BitVec 32 := 0#32
  let v12 : BitVec 1 := Scalar.cmpi .slt v8 c0_i32_1
  let v13 : BitVec 32 := Scalar.extui v12
  let v14 : BitVec 32 := Scalar.subi v11 v13
  let c8_i32 : BitVec 32 := 8#32
  let c0_i32_2 : BitVec 32 := 0#32
  let v15 : BitVec 1 := Scalar.cmpi .sgt c8_i32 c0_i32_2
  let v16 : BitVec 32 := Scalar.extui v15
  let c0_i32_3 : BitVec 32 := 0#32
  let v17 : BitVec 1 := Scalar.cmpi .slt c8_i32 c0_i32_3
  let v18 : BitVec 32 := Scalar.extui v17
  let v19 : BitVec 32 := Scalar.subi v16 v18
  let v20 : BitVec 1 := Scalar.cmpi .ne v14 v19
  let v21 : BitVec 32 := Scalar.remsi v8 c8_i32
  let c0_i32_4 : BitVec 32 := 0#32
  let v22 : BitVec 1 := Scalar.cmpi .ne v21 c0_i32_4
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_5 : BitVec 32 := 8#32
  let v26 : BitVec 32 := Scalar.muli v25 c8_i32_5
  v26

def k0_off2 (i : grid0.Coords) (v8 : BitVec 32) (c0_i32_6 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32 : BitVec 32 := 0#32
  let v6 : BitVec 32 := Scalar.addi v2 c0_i32
  let c0_i32_0 : BitVec 32 := 0#32
  let v10 : BitVec 1 := Scalar.cmpi .sgt v8 c0_i32_0
  let v11 : BitVec 32 := Scalar.extui v10
  let c0_i32_1 : BitVec 32 := 0#32
  let v12 : BitVec 1 := Scalar.cmpi .slt v8 c0_i32_1
  let v13 : BitVec 32 := Scalar.extui v12
  let v14 : BitVec 32 := Scalar.subi v11 v13
  let c8_i32 : BitVec 32 := 8#32
  let c0_i32_2 : BitVec 32 := 0#32
  let v15 : BitVec 1 := Scalar.cmpi .sgt c8_i32 c0_i32_2
  let v16 : BitVec 32 := Scalar.extui v15
  let c0_i32_3 : BitVec 32 := 0#32
  let v17 : BitVec 1 := Scalar.cmpi .slt c8_i32 c0_i32_3
  let v18 : BitVec 32 := Scalar.extui v17
  let v19 : BitVec 32 := Scalar.subi v16 v18
  let v20 : BitVec 1 := Scalar.cmpi .ne v14 v19
  let v21 : BitVec 32 := Scalar.remsi v8 c8_i32
  let c0_i32_4 : BitVec 32 := 0#32
  let v22 : BitVec 1 := Scalar.cmpi .ne v21 c0_i32_4
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_5 : BitVec 32 := 8#32
  let v26 : BitVec 32 := Scalar.muli v25 c8_i32_5
  let v27 : BitVec 32 := v26
  let v29 : BitVec 32 := Scalar.addi v27 c0_i32_6
  ![v6.toNat, v29.toNat]
@[reducible] def k0_t1_loop : Scf.Loop 32 :=
  let c0_i32_8 : BitVec 32 := 0#32
  let c1920_i32 : BitVec 32 := 1920#32
  let v30 : BitVec 32 := Scalar.addi c0_i32_8 c1920_i32
  let c1_i32_9 : BitVec 32 := 1#32
  ⟨c0_i32_8, v30, c1_i32_9⟩
def k0_off3 (v8 : BitVec 32) (k0_t1 : Fin k0_t1_loop.trips) : Fin 1 → Nat :=
  let c0_i32_0 : BitVec 32 := 0#32
  let v10 : BitVec 1 := Scalar.cmpi .sgt v8 c0_i32_0
  let v11 : BitVec 32 := Scalar.extui v10
  let c0_i32_1 : BitVec 32 := 0#32
  let v12 : BitVec 1 := Scalar.cmpi .slt v8 c0_i32_1
  let v13 : BitVec 32 := Scalar.extui v12
  let v14 : BitVec 32 := Scalar.subi v11 v13
  let c8_i32 : BitVec 32 := 8#32
  let c0_i32_2 : BitVec 32 := 0#32
  let v15 : BitVec 1 := Scalar.cmpi .sgt c8_i32 c0_i32_2
  let v16 : BitVec 32 := Scalar.extui v15
  let c0_i32_3 : BitVec 32 := 0#32
  let v17 : BitVec 1 := Scalar.cmpi .slt c8_i32 c0_i32_3
  let v18 : BitVec 32 := Scalar.extui v17
  let v19 : BitVec 32 := Scalar.subi v16 v18
  let v20 : BitVec 1 := Scalar.cmpi .ne v14 v19
  let v21 : BitVec 32 := Scalar.remsi v8 c8_i32
  let c0_i32_4 : BitVec 32 := 0#32
  let v22 : BitVec 1 := Scalar.cmpi .ne v21 c0_i32_4
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_5 : BitVec 32 := 8#32
  let v26 : BitVec 32 := Scalar.muli v25 c8_i32_5
  let v27 : BitVec 32 := v26
  let v28 : BitVec 32 := Scalar.subi v8 v27
  let c0_i32_8 : BitVec 32 := 0#32
  let c1_i32_9 : BitVec 32 := 1#32
  let arg8 : BitVec 32 := Scf.iv c0_i32_8 c1_i32_9 k0_t1
  let c16_i32 : BitVec 32 := 16#32
  let v130 : BitVec 32 := Scalar.muli arg8 c16_i32
  let v131 : BitVec 32 := Scalar.addi v28 v130
  let v132 : Index := Scalar.indexCast v131
  ![v132.toNat]
def k0_off4 (k0_t1 : Fin k0_t1_loop.trips) : Fin 1 → Nat :=
  let c0_i32_8 : BitVec 32 := 0#32
  let c1_i32_9 : BitVec 32 := 1#32
  let arg8 : BitVec 32 := Scf.iv c0_i32_8 c1_i32_9 k0_t1
  let c16_i32_124 : BitVec 32 := 16#32
  let v135 : BitVec 32 := Scalar.muli arg8 c16_i32_124
  let v136 : Index := Scalar.indexCast v135
  ![v136.toNat]
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32 : BitVec 32 := 0#32
  let v6 : BitVec 32 := Scalar.addi v2 c0_i32
  let c0_i32_124_r2 : BitVec 32 := 0#32
  ![v6.toNat, 0]
@[reducible] def k0_t2_loop : Scf.Loop 32 :=
  let c0_i32_12 : BitVec 32 := 0#32
  let c1920_i32_13 : BitVec 32 := 1920#32
  let v32 : BitVec 32 := Scalar.addi c0_i32_12 c1920_i32_13
  let c1_i32_14 : BitVec 32 := 1#32
  ⟨c0_i32_12, v32, c1_i32_14⟩
def k0_off6 (v8 : BitVec 32) (k0_t2 : Fin k0_t2_loop.trips) : Fin 1 → Nat :=
  let c0_i32_0 : BitVec 32 := 0#32
  let v10 : BitVec 1 := Scalar.cmpi .sgt v8 c0_i32_0
  let v11 : BitVec 32 := Scalar.extui v10
  let c0_i32_1 : BitVec 32 := 0#32
  let v12 : BitVec 1 := Scalar.cmpi .slt v8 c0_i32_1
  let v13 : BitVec 32 := Scalar.extui v12
  let v14 : BitVec 32 := Scalar.subi v11 v13
  let c8_i32 : BitVec 32 := 8#32
  let c0_i32_2 : BitVec 32 := 0#32
  let v15 : BitVec 1 := Scalar.cmpi .sgt c8_i32 c0_i32_2
  let v16 : BitVec 32 := Scalar.extui v15
  let c0_i32_3 : BitVec 32 := 0#32
  let v17 : BitVec 1 := Scalar.cmpi .slt c8_i32 c0_i32_3
  let v18 : BitVec 32 := Scalar.extui v17
  let v19 : BitVec 32 := Scalar.subi v16 v18
  let v20 : BitVec 1 := Scalar.cmpi .ne v14 v19
  let v21 : BitVec 32 := Scalar.remsi v8 c8_i32
  let c0_i32_4 : BitVec 32 := 0#32
  let v22 : BitVec 1 := Scalar.cmpi .ne v21 c0_i32_4
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_5 : BitVec 32 := 8#32
  let v26 : BitVec 32 := Scalar.muli v25 c8_i32_5
  let v27 : BitVec 32 := v26
  let v28 : BitVec 32 := Scalar.subi v8 v27
  let c0_i32_12 : BitVec 32 := 0#32
  let c1_i32_14 : BitVec 32 := 1#32
  let arg8 : BitVec 32 := Scf.iv c0_i32_12 c1_i32_14 k0_t2
  let c16_i32 : BitVec 32 := 16#32
  let v130 : BitVec 32 := Scalar.muli arg8 c16_i32
  let v131 : BitVec 32 := Scalar.addi v28 v130
  let v132 : Index := Scalar.indexCast v131
  ![v132.toNat]
def k0_off7 (k0_t2 : Fin k0_t2_loop.trips) : Fin 1 → Nat :=
  let c0_i32_12 : BitVec 32 := 0#32
  let c1_i32_14 : BitVec 32 := 1#32
  let arg8 : BitVec 32 := Scf.iv c0_i32_12 c1_i32_14 k0_t2
  let c16_i32_124 : BitVec 32 := 16#32
  let v135 : BitVec 32 := Scalar.muli arg8 c16_i32_124
  let v136 : Index := Scalar.indexCast v135
  ![v136.toNat]
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32 : BitVec 32 := 0#32
  let v6 : BitVec 32 := Scalar.addi v2 c0_i32
  let c30720_i32_124_r4 : BitVec 32 := 30720#32
  ![v6.toNat, 30720]
@[reducible] def k0_t3_loop : Scf.Loop 32 :=
  let c0_i32_17 : BitVec 32 := 0#32
  let c1920_i32_18 : BitVec 32 := 1920#32
  let v34 : BitVec 32 := Scalar.addi c0_i32_17 c1920_i32_18
  let c1_i32_19 : BitVec 32 := 1#32
  ⟨c0_i32_17, v34, c1_i32_19⟩
def k0_off9 (v8 : BitVec 32) (k0_t3 : Fin k0_t3_loop.trips) : Fin 1 → Nat :=
  let c0_i32_0 : BitVec 32 := 0#32
  let v10 : BitVec 1 := Scalar.cmpi .sgt v8 c0_i32_0
  let v11 : BitVec 32 := Scalar.extui v10
  let c0_i32_1 : BitVec 32 := 0#32
  let v12 : BitVec 1 := Scalar.cmpi .slt v8 c0_i32_1
  let v13 : BitVec 32 := Scalar.extui v12
  let v14 : BitVec 32 := Scalar.subi v11 v13
  let c8_i32 : BitVec 32 := 8#32
  let c0_i32_2 : BitVec 32 := 0#32
  let v15 : BitVec 1 := Scalar.cmpi .sgt c8_i32 c0_i32_2
  let v16 : BitVec 32 := Scalar.extui v15
  let c0_i32_3 : BitVec 32 := 0#32
  let v17 : BitVec 1 := Scalar.cmpi .slt c8_i32 c0_i32_3
  let v18 : BitVec 32 := Scalar.extui v17
  let v19 : BitVec 32 := Scalar.subi v16 v18
  let v20 : BitVec 1 := Scalar.cmpi .ne v14 v19
  let v21 : BitVec 32 := Scalar.remsi v8 c8_i32
  let c0_i32_4 : BitVec 32 := 0#32
  let v22 : BitVec 1 := Scalar.cmpi .ne v21 c0_i32_4
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_5 : BitVec 32 := 8#32
  let v26 : BitVec 32 := Scalar.muli v25 c8_i32_5
  let v27 : BitVec 32 := v26
  let v28 : BitVec 32 := Scalar.subi v8 v27
  let c0_i32_17 : BitVec 32 := 0#32
  let c1_i32_19 : BitVec 32 := 1#32
  let arg8 : BitVec 32 := Scf.iv c0_i32_17 c1_i32_19 k0_t3
  let c16_i32 : BitVec 32 := 16#32
  let v130 : BitVec 32 := Scalar.muli arg8 c16_i32
  let v131 : BitVec 32 := Scalar.addi v28 v130
  let v132 : Index := Scalar.indexCast v131
  ![v132.toNat]
def k0_off10 (k0_t3 : Fin k0_t3_loop.trips) : Fin 1 → Nat :=
  let c0_i32_17 : BitVec 32 := 0#32
  let c1_i32_19 : BitVec 32 := 1#32
  let arg8 : BitVec 32 := Scf.iv c0_i32_17 c1_i32_19 k0_t3
  let c16_i32_124 : BitVec 32 := 16#32
  let v135 : BitVec 32 := Scalar.muli arg8 c16_i32_124
  let v136 : Index := Scalar.indexCast v135
  ![v136.toNat]
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32 : BitVec 32 := 0#32
  let v6 : BitVec 32 := Scalar.addi v2 c0_i32
  let c61440_i32_124_r6 : BitVec 32 := 61440#32
  ![v6.toNat, 61440]
@[reducible] def k0_t4_loop : Scf.Loop 32 :=
  let c0_i32_22 : BitVec 32 := 0#32
  let c1920_i32_23 : BitVec 32 := 1920#32
  let v36 : BitVec 32 := Scalar.addi c0_i32_22 c1920_i32_23
  let c1_i32_24 : BitVec 32 := 1#32
  ⟨c0_i32_22, v36, c1_i32_24⟩
def k0_off12 (v8 : BitVec 32) (k0_t4 : Fin k0_t4_loop.trips) : Fin 1 → Nat :=
  let c0_i32_0 : BitVec 32 := 0#32
  let v10 : BitVec 1 := Scalar.cmpi .sgt v8 c0_i32_0
  let v11 : BitVec 32 := Scalar.extui v10
  let c0_i32_1 : BitVec 32 := 0#32
  let v12 : BitVec 1 := Scalar.cmpi .slt v8 c0_i32_1
  let v13 : BitVec 32 := Scalar.extui v12
  let v14 : BitVec 32 := Scalar.subi v11 v13
  let c8_i32 : BitVec 32 := 8#32
  let c0_i32_2 : BitVec 32 := 0#32
  let v15 : BitVec 1 := Scalar.cmpi .sgt c8_i32 c0_i32_2
  let v16 : BitVec 32 := Scalar.extui v15
  let c0_i32_3 : BitVec 32 := 0#32
  let v17 : BitVec 1 := Scalar.cmpi .slt c8_i32 c0_i32_3
  let v18 : BitVec 32 := Scalar.extui v17
  let v19 : BitVec 32 := Scalar.subi v16 v18
  let v20 : BitVec 1 := Scalar.cmpi .ne v14 v19
  let v21 : BitVec 32 := Scalar.remsi v8 c8_i32
  let c0_i32_4 : BitVec 32 := 0#32
  let v22 : BitVec 1 := Scalar.cmpi .ne v21 c0_i32_4
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_5 : BitVec 32 := 8#32
  let v26 : BitVec 32 := Scalar.muli v25 c8_i32_5
  let v27 : BitVec 32 := v26
  let v28 : BitVec 32 := Scalar.subi v8 v27
  let c0_i32_22 : BitVec 32 := 0#32
  let c1_i32_24 : BitVec 32 := 1#32
  let arg8 : BitVec 32 := Scf.iv c0_i32_22 c1_i32_24 k0_t4
  let c16_i32 : BitVec 32 := 16#32
  let v130 : BitVec 32 := Scalar.muli arg8 c16_i32
  let v131 : BitVec 32 := Scalar.addi v28 v130
  let v132 : Index := Scalar.indexCast v131
  ![v132.toNat]

def k0_chk1 (i : grid0.Coords) (v8 : BitVec 32) : Prop :=
  (8 ∣ (k0_mult1 v8).toNat) ∧
  (∀ (r : Fin 4), ∀ a, (k0_off2 i v8 (BitVec.ofNat 32 (30720 * r.val))) a + S1x30728.size a ≤ S128x131072.size a) ∧
  (∀ k0_t1 : Fin k0_t1_loop.trips, ∀ a, (k0_off3 v8 k0_t1) a + S16.size a ≤ S30728.size a) ∧
  (∀ k0_t2 : Fin k0_t2_loop.trips, ∀ a, (k0_off6 v8 k0_t2) a + S16.size a ≤ S30728.size a) ∧
  (∀ k0_t3 : Fin k0_t3_loop.trips, ∀ a, (k0_off9 v8 k0_t3) a + S16.size a ≤ S30728.size a) ∧
  (∀ k0_t4 : Fin k0_t4_loop.trips, ∀ a, (k0_off12 v8 k0_t4) a + S16.size a ≤ S30728.size a)
theorem k0_mult1_dvd : ∀ (i : grid0.Coords) (v8 : BitVec 32) (k0_hw1 : k0_chk1 i v8), 8 ∣ (k0_mult1 v8).toNat := fun i v8 k0_hw1 => k0_hw1.1
theorem k0_off2_inb : ∀ (i : grid0.Coords) (v8 : BitVec 32) (k0_hw1 : k0_chk1 i v8), ∀ (r : Fin 4), ∀ a, (k0_off2 i v8 (BitVec.ofNat 32 (30720 * r.val))) a + S1x30728.size a ≤ S128x131072.size a := fun i v8 k0_hw1 r => k0_hw1.2.1 r
theorem k0_off3_inb : ∀ (i : grid0.Coords) (v8 : BitVec 32) (k0_hw1 : k0_chk1 i v8) (k0_t1 : Fin k0_t1_loop.trips), ∀ a, (k0_off3 v8 k0_t1) a + S16.size a ≤ S30728.size a := fun i v8 k0_hw1 k0_t1 => k0_hw1.2.2.1 k0_t1
theorem k0_off6_inb : ∀ (i : grid0.Coords) (v8 : BitVec 32) (k0_hw1 : k0_chk1 i v8) (k0_t2 : Fin k0_t2_loop.trips), ∀ a, (k0_off6 v8 k0_t2) a + S16.size a ≤ S30728.size a := fun i v8 k0_hw1 k0_t2 => k0_hw1.2.2.2.1 k0_t2
theorem k0_off9_inb : ∀ (i : grid0.Coords) (v8 : BitVec 32) (k0_hw1 : k0_chk1 i v8) (k0_t3 : Fin k0_t3_loop.trips), ∀ a, (k0_off9 v8 k0_t3) a + S16.size a ≤ S30728.size a := fun i v8 k0_hw1 k0_t3 => k0_hw1.2.2.2.2.1 k0_t3
theorem k0_off12_inb : ∀ (i : grid0.Coords) (v8 : BitVec 32) (k0_hw1 : k0_chk1 i v8) (k0_t4 : Fin k0_t4_loop.trips), ∀ a, (k0_off12 v8 k0_t4) a + S16.size a ≤ S30728.size a := fun i v8 k0_hw1 k0_t4 => k0_hw1.2.2.2.2.2 k0_t4

def k0_off13 (k0_t4 : Fin k0_t4_loop.trips) : Fin 1 → Nat :=
  let c0_i32_22 : BitVec 32 := 0#32
  let c1_i32_24 : BitVec 32 := 1#32
  let arg8 : BitVec 32 := Scf.iv c0_i32_22 c1_i32_24 k0_t4
  let c16_i32_124 : BitVec 32 := 16#32
  let v135 : BitVec 32 := Scalar.muli arg8 c16_i32_124
  let v136 : Index := Scalar.indexCast v135
  ![v136.toNat]
def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32 : BitVec 32 := 0#32
  let v6 : BitVec 32 := Scalar.addi v2 c0_i32
  let c92160_i32_124_r8 : BitVec 32 := 92160#32
  ![v6.toNat, 92160]
def k0_mult2 (v39 : BitVec 32) : BitVec 32 :=
  let c0_i32_28 : BitVec 32 := 0#32
  let v41 : BitVec 1 := Scalar.cmpi .sgt v39 c0_i32_28
  let v42 : BitVec 32 := Scalar.extui v41
  let c0_i32_29 : BitVec 32 := 0#32
  let v43 : BitVec 1 := Scalar.cmpi .slt v39 c0_i32_29
  let v44 : BitVec 32 := Scalar.extui v43
  let v45 : BitVec 32 := Scalar.subi v42 v44
  let c8_i32_27 : BitVec 32 := 8#32
  let c0_i32_30 : BitVec 32 := 0#32
  let v46 : BitVec 1 := Scalar.cmpi .sgt c8_i32_27 c0_i32_30
  let v47 : BitVec 32 := Scalar.extui v46
  let c0_i32_31 : BitVec 32 := 0#32
  let v48 : BitVec 1 := Scalar.cmpi .slt c8_i32_27 c0_i32_31
  let v49 : BitVec 32 := Scalar.extui v48
  let v50 : BitVec 32 := Scalar.subi v47 v49
  let v51 : BitVec 1 := Scalar.cmpi .ne v45 v50
  let v52 : BitVec 32 := Scalar.remsi v39 c8_i32_27
  let c0_i32_32 : BitVec 32 := 0#32
  let v53 : BitVec 1 := Scalar.cmpi .ne v52 c0_i32_32
  let v54 : BitVec 1 := Scalar.andi v51 v53
  let v40 : BitVec 32 := Scalar.divsi v39 c8_i32_27
  let c1_i32_33 : BitVec 32 := 1#32
  let v55 : BitVec 32 := Scalar.subi v40 c1_i32_33
  let v56 : BitVec 32 := Scalar.select v54 v55 v40
  let c8_i32_34 : BitVec 32 := 8#32
  let v57 : BitVec 32 := Scalar.muli v56 c8_i32_34
  v57

def k0_off15 (i : grid0.Coords) (v39 : BitVec 32) (c0_i32_35 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c1_i32_26 : BitVec 32 := 1#32
  let v37 : BitVec 32 := Scalar.addi v2 c1_i32_26
  let c0_i32_28 : BitVec 32 := 0#32
  let v41 : BitVec 1 := Scalar.cmpi .sgt v39 c0_i32_28
  let v42 : BitVec 32 := Scalar.extui v41
  let c0_i32_29 : BitVec 32 := 0#32
  let v43 : BitVec 1 := Scalar.cmpi .slt v39 c0_i32_29
  let v44 : BitVec 32 := Scalar.extui v43
  let v45 : BitVec 32 := Scalar.subi v42 v44
  let c8_i32_27 : BitVec 32 := 8#32
  let c0_i32_30 : BitVec 32 := 0#32
  let v46 : BitVec 1 := Scalar.cmpi .sgt c8_i32_27 c0_i32_30
  let v47 : BitVec 32 := Scalar.extui v46
  let c0_i32_31 : BitVec 32 := 0#32
  let v48 : BitVec 1 := Scalar.cmpi .slt c8_i32_27 c0_i32_31
  let v49 : BitVec 32 := Scalar.extui v48
  let v50 : BitVec 32 := Scalar.subi v47 v49
  let v51 : BitVec 1 := Scalar.cmpi .ne v45 v50
  let v52 : BitVec 32 := Scalar.remsi v39 c8_i32_27
  let c0_i32_32 : BitVec 32 := 0#32
  let v53 : BitVec 1 := Scalar.cmpi .ne v52 c0_i32_32
  let v54 : BitVec 1 := Scalar.andi v51 v53
  let v40 : BitVec 32 := Scalar.divsi v39 c8_i32_27
  let c1_i32_33 : BitVec 32 := 1#32
  let v55 : BitVec 32 := Scalar.subi v40 c1_i32_33
  let v56 : BitVec 32 := Scalar.select v54 v55 v40
  let c8_i32_34 : BitVec 32 := 8#32
  let v57 : BitVec 32 := Scalar.muli v56 c8_i32_34
  let v58 : BitVec 32 := v57
  let v60 : BitVec 32 := Scalar.addi v58 c0_i32_35
  ![v37.toNat, v60.toNat]
@[reducible] def k0_t5_loop : Scf.Loop 32 :=
  let c0_i32_37 : BitVec 32 := 0#32
  let c1920_i32_38 : BitVec 32 := 1920#32
  let v61 : BitVec 32 := Scalar.addi c0_i32_37 c1920_i32_38
  let c1_i32_39 : BitVec 32 := 1#32
  ⟨c0_i32_37, v61, c1_i32_39⟩
def k0_off16 (v39 : BitVec 32) (k0_t5 : Fin k0_t5_loop.trips) : Fin 1 → Nat :=
  let c0_i32_28 : BitVec 32 := 0#32
  let v41 : BitVec 1 := Scalar.cmpi .sgt v39 c0_i32_28
  let v42 : BitVec 32 := Scalar.extui v41
  let c0_i32_29 : BitVec 32 := 0#32
  let v43 : BitVec 1 := Scalar.cmpi .slt v39 c0_i32_29
  let v44 : BitVec 32 := Scalar.extui v43
  let v45 : BitVec 32 := Scalar.subi v42 v44
  let c8_i32_27 : BitVec 32 := 8#32
  let c0_i32_30 : BitVec 32 := 0#32
  let v46 : BitVec 1 := Scalar.cmpi .sgt c8_i32_27 c0_i32_30
  let v47 : BitVec 32 := Scalar.extui v46
  let c0_i32_31 : BitVec 32 := 0#32
  let v48 : BitVec 1 := Scalar.cmpi .slt c8_i32_27 c0_i32_31
  let v49 : BitVec 32 := Scalar.extui v48
  let v50 : BitVec 32 := Scalar.subi v47 v49
  let v51 : BitVec 1 := Scalar.cmpi .ne v45 v50
  let v52 : BitVec 32 := Scalar.remsi v39 c8_i32_27
  let c0_i32_32 : BitVec 32 := 0#32
  let v53 : BitVec 1 := Scalar.cmpi .ne v52 c0_i32_32
  let v54 : BitVec 1 := Scalar.andi v51 v53
  let v40 : BitVec 32 := Scalar.divsi v39 c8_i32_27
  let c1_i32_33 : BitVec 32 := 1#32
  let v55 : BitVec 32 := Scalar.subi v40 c1_i32_33
  let v56 : BitVec 32 := Scalar.select v54 v55 v40
  let c8_i32_34 : BitVec 32 := 8#32
  let v57 : BitVec 32 := Scalar.muli v56 c8_i32_34
  let v58 : BitVec 32 := v57
  let v59 : BitVec 32 := Scalar.subi v39 v58
  let c0_i32_37 : BitVec 32 := 0#32
  let c1_i32_39 : BitVec 32 := 1#32
  let arg8 : BitVec 32 := Scf.iv c0_i32_37 c1_i32_39 k0_t5
  let c16_i32 : BitVec 32 := 16#32
  let v130 : BitVec 32 := Scalar.muli arg8 c16_i32
  let v131 : BitVec 32 := Scalar.addi v59 v130
  let v132 : Index := Scalar.indexCast v131
  ![v132.toNat]
def k0_off17 (k0_t5 : Fin k0_t5_loop.trips) : Fin 1 → Nat :=
  let c0_i32_37 : BitVec 32 := 0#32
  let c1_i32_39 : BitVec 32 := 1#32
  let arg8 : BitVec 32 := Scf.iv c0_i32_37 c1_i32_39 k0_t5
  let c16_i32_124 : BitVec 32 := 16#32
  let v135 : BitVec 32 := Scalar.muli arg8 c16_i32_124
  let v136 : Index := Scalar.indexCast v135
  ![v136.toNat]
def k0_off18 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c1_i32_26 : BitVec 32 := 1#32
  let v37 : BitVec 32 := Scalar.addi v2 c1_i32_26
  let c0_i32_124_r10 : BitVec 32 := 0#32
  ![v37.toNat, 0]
@[reducible] def k0_t6_loop : Scf.Loop 32 :=
  let c0_i32_43 : BitVec 32 := 0#32
  let c1920_i32_44 : BitVec 32 := 1920#32
  let v63 : BitVec 32 := Scalar.addi c0_i32_43 c1920_i32_44
  let c1_i32_45 : BitVec 32 := 1#32
  ⟨c0_i32_43, v63, c1_i32_45⟩
def k0_off19 (v39 : BitVec 32) (k0_t6 : Fin k0_t6_loop.trips) : Fin 1 → Nat :=
  let c0_i32_28 : BitVec 32 := 0#32
  let v41 : BitVec 1 := Scalar.cmpi .sgt v39 c0_i32_28
  let v42 : BitVec 32 := Scalar.extui v41
  let c0_i32_29 : BitVec 32 := 0#32
  let v43 : BitVec 1 := Scalar.cmpi .slt v39 c0_i32_29
  let v44 : BitVec 32 := Scalar.extui v43
  let v45 : BitVec 32 := Scalar.subi v42 v44
  let c8_i32_27 : BitVec 32 := 8#32
  let c0_i32_30 : BitVec 32 := 0#32
  let v46 : BitVec 1 := Scalar.cmpi .sgt c8_i32_27 c0_i32_30
  let v47 : BitVec 32 := Scalar.extui v46
  let c0_i32_31 : BitVec 32 := 0#32
  let v48 : BitVec 1 := Scalar.cmpi .slt c8_i32_27 c0_i32_31
  let v49 : BitVec 32 := Scalar.extui v48
  let v50 : BitVec 32 := Scalar.subi v47 v49
  let v51 : BitVec 1 := Scalar.cmpi .ne v45 v50
  let v52 : BitVec 32 := Scalar.remsi v39 c8_i32_27
  let c0_i32_32 : BitVec 32 := 0#32
  let v53 : BitVec 1 := Scalar.cmpi .ne v52 c0_i32_32
  let v54 : BitVec 1 := Scalar.andi v51 v53
  let v40 : BitVec 32 := Scalar.divsi v39 c8_i32_27
  let c1_i32_33 : BitVec 32 := 1#32
  let v55 : BitVec 32 := Scalar.subi v40 c1_i32_33
  let v56 : BitVec 32 := Scalar.select v54 v55 v40
  let c8_i32_34 : BitVec 32 := 8#32
  let v57 : BitVec 32 := Scalar.muli v56 c8_i32_34
  let v58 : BitVec 32 := v57
  let v59 : BitVec 32 := Scalar.subi v39 v58
  let c0_i32_43 : BitVec 32 := 0#32
  let c1_i32_45 : BitVec 32 := 1#32
  let arg8 : BitVec 32 := Scf.iv c0_i32_43 c1_i32_45 k0_t6
  let c16_i32 : BitVec 32 := 16#32
  let v130 : BitVec 32 := Scalar.muli arg8 c16_i32
  let v131 : BitVec 32 := Scalar.addi v59 v130
  let v132 : Index := Scalar.indexCast v131
  ![v132.toNat]
def k0_off20 (k0_t6 : Fin k0_t6_loop.trips) : Fin 1 → Nat :=
  let c0_i32_43 : BitVec 32 := 0#32
  let c1_i32_45 : BitVec 32 := 1#32
  let arg8 : BitVec 32 := Scf.iv c0_i32_43 c1_i32_45 k0_t6
  let c16_i32_124 : BitVec 32 := 16#32
  let v135 : BitVec 32 := Scalar.muli arg8 c16_i32_124
  let v136 : Index := Scalar.indexCast v135
  ![v136.toNat]
def k0_off21 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c1_i32_26 : BitVec 32 := 1#32
  let v37 : BitVec 32 := Scalar.addi v2 c1_i32_26
  let c30720_i32_124_r12 : BitVec 32 := 30720#32
  ![v37.toNat, 30720]
@[reducible] def k0_t7_loop : Scf.Loop 32 :=
  let c0_i32_49 : BitVec 32 := 0#32
  let c1920_i32_50 : BitVec 32 := 1920#32
  let v65 : BitVec 32 := Scalar.addi c0_i32_49 c1920_i32_50
  let c1_i32_51 : BitVec 32 := 1#32
  ⟨c0_i32_49, v65, c1_i32_51⟩
def k0_off22 (v39 : BitVec 32) (k0_t7 : Fin k0_t7_loop.trips) : Fin 1 → Nat :=
  let c0_i32_28 : BitVec 32 := 0#32
  let v41 : BitVec 1 := Scalar.cmpi .sgt v39 c0_i32_28
  let v42 : BitVec 32 := Scalar.extui v41
  let c0_i32_29 : BitVec 32 := 0#32
  let v43 : BitVec 1 := Scalar.cmpi .slt v39 c0_i32_29
  let v44 : BitVec 32 := Scalar.extui v43
  let v45 : BitVec 32 := Scalar.subi v42 v44
  let c8_i32_27 : BitVec 32 := 8#32
  let c0_i32_30 : BitVec 32 := 0#32
  let v46 : BitVec 1 := Scalar.cmpi .sgt c8_i32_27 c0_i32_30
  let v47 : BitVec 32 := Scalar.extui v46
  let c0_i32_31 : BitVec 32 := 0#32
  let v48 : BitVec 1 := Scalar.cmpi .slt c8_i32_27 c0_i32_31
  let v49 : BitVec 32 := Scalar.extui v48
  let v50 : BitVec 32 := Scalar.subi v47 v49
  let v51 : BitVec 1 := Scalar.cmpi .ne v45 v50
  let v52 : BitVec 32 := Scalar.remsi v39 c8_i32_27
  let c0_i32_32 : BitVec 32 := 0#32
  let v53 : BitVec 1 := Scalar.cmpi .ne v52 c0_i32_32
  let v54 : BitVec 1 := Scalar.andi v51 v53
  let v40 : BitVec 32 := Scalar.divsi v39 c8_i32_27
  let c1_i32_33 : BitVec 32 := 1#32
  let v55 : BitVec 32 := Scalar.subi v40 c1_i32_33
  let v56 : BitVec 32 := Scalar.select v54 v55 v40
  let c8_i32_34 : BitVec 32 := 8#32
  let v57 : BitVec 32 := Scalar.muli v56 c8_i32_34
  let v58 : BitVec 32 := v57
  let v59 : BitVec 32 := Scalar.subi v39 v58
  let c0_i32_49 : BitVec 32 := 0#32
  let c1_i32_51 : BitVec 32 := 1#32
  let arg8 : BitVec 32 := Scf.iv c0_i32_49 c1_i32_51 k0_t7
  let c16_i32 : BitVec 32 := 16#32
  let v130 : BitVec 32 := Scalar.muli arg8 c16_i32
  let v131 : BitVec 32 := Scalar.addi v59 v130
  let v132 : Index := Scalar.indexCast v131
  ![v132.toNat]
def k0_off23 (k0_t7 : Fin k0_t7_loop.trips) : Fin 1 → Nat :=
  let c0_i32_49 : BitVec 32 := 0#32
  let c1_i32_51 : BitVec 32 := 1#32
  let arg8 : BitVec 32 := Scf.iv c0_i32_49 c1_i32_51 k0_t7
  let c16_i32_124 : BitVec 32 := 16#32
  let v135 : BitVec 32 := Scalar.muli arg8 c16_i32_124
  let v136 : Index := Scalar.indexCast v135
  ![v136.toNat]
def k0_off24 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c1_i32_26 : BitVec 32 := 1#32
  let v37 : BitVec 32 := Scalar.addi v2 c1_i32_26
  let c61440_i32_124_r14 : BitVec 32 := 61440#32
  ![v37.toNat, 61440]
@[reducible] def k0_t8_loop : Scf.Loop 32 :=
  let c0_i32_55 : BitVec 32 := 0#32
  let c1920_i32_56 : BitVec 32 := 1920#32
  let v67 : BitVec 32 := Scalar.addi c0_i32_55 c1920_i32_56
  let c1_i32_57 : BitVec 32 := 1#32
  ⟨c0_i32_55, v67, c1_i32_57⟩
def k0_off25 (v39 : BitVec 32) (k0_t8 : Fin k0_t8_loop.trips) : Fin 1 → Nat :=
  let c0_i32_28 : BitVec 32 := 0#32
  let v41 : BitVec 1 := Scalar.cmpi .sgt v39 c0_i32_28
  let v42 : BitVec 32 := Scalar.extui v41
  let c0_i32_29 : BitVec 32 := 0#32
  let v43 : BitVec 1 := Scalar.cmpi .slt v39 c0_i32_29
  let v44 : BitVec 32 := Scalar.extui v43
  let v45 : BitVec 32 := Scalar.subi v42 v44
  let c8_i32_27 : BitVec 32 := 8#32
  let c0_i32_30 : BitVec 32 := 0#32
  let v46 : BitVec 1 := Scalar.cmpi .sgt c8_i32_27 c0_i32_30
  let v47 : BitVec 32 := Scalar.extui v46
  let c0_i32_31 : BitVec 32 := 0#32
  let v48 : BitVec 1 := Scalar.cmpi .slt c8_i32_27 c0_i32_31
  let v49 : BitVec 32 := Scalar.extui v48
  let v50 : BitVec 32 := Scalar.subi v47 v49
  let v51 : BitVec 1 := Scalar.cmpi .ne v45 v50
  let v52 : BitVec 32 := Scalar.remsi v39 c8_i32_27
  let c0_i32_32 : BitVec 32 := 0#32
  let v53 : BitVec 1 := Scalar.cmpi .ne v52 c0_i32_32
  let v54 : BitVec 1 := Scalar.andi v51 v53
  let v40 : BitVec 32 := Scalar.divsi v39 c8_i32_27
  let c1_i32_33 : BitVec 32 := 1#32
  let v55 : BitVec 32 := Scalar.subi v40 c1_i32_33
  let v56 : BitVec 32 := Scalar.select v54 v55 v40
  let c8_i32_34 : BitVec 32 := 8#32
  let v57 : BitVec 32 := Scalar.muli v56 c8_i32_34
  let v58 : BitVec 32 := v57
  let v59 : BitVec 32 := Scalar.subi v39 v58
  let c0_i32_55 : BitVec 32 := 0#32
  let c1_i32_57 : BitVec 32 := 1#32
  let arg8 : BitVec 32 := Scf.iv c0_i32_55 c1_i32_57 k0_t8
  let c16_i32 : BitVec 32 := 16#32
  let v130 : BitVec 32 := Scalar.muli arg8 c16_i32
  let v131 : BitVec 32 := Scalar.addi v59 v130
  let v132 : Index := Scalar.indexCast v131
  ![v132.toNat]

def k0_chk2 (i : grid0.Coords) (v39 : BitVec 32) : Prop :=
  (8 ∣ (k0_mult2 v39).toNat) ∧
  (∀ (r : Fin 4), ∀ a, (k0_off15 i v39 (BitVec.ofNat 32 (30720 * r.val))) a + S1x30728.size a ≤ S128x131072.size a) ∧
  (∀ k0_t5 : Fin k0_t5_loop.trips, ∀ a, (k0_off16 v39 k0_t5) a + S16.size a ≤ S30728.size a) ∧
  (∀ k0_t6 : Fin k0_t6_loop.trips, ∀ a, (k0_off19 v39 k0_t6) a + S16.size a ≤ S30728.size a) ∧
  (∀ k0_t7 : Fin k0_t7_loop.trips, ∀ a, (k0_off22 v39 k0_t7) a + S16.size a ≤ S30728.size a) ∧
  (∀ k0_t8 : Fin k0_t8_loop.trips, ∀ a, (k0_off25 v39 k0_t8) a + S16.size a ≤ S30728.size a)
theorem k0_mult2_dvd : ∀ (i : grid0.Coords) (v39 : BitVec 32) (k0_hw2 : k0_chk2 i v39), 8 ∣ (k0_mult2 v39).toNat := fun i v39 k0_hw2 => k0_hw2.1
theorem k0_off15_inb : ∀ (i : grid0.Coords) (v39 : BitVec 32) (k0_hw2 : k0_chk2 i v39), ∀ (r : Fin 4), ∀ a, (k0_off15 i v39 (BitVec.ofNat 32 (30720 * r.val))) a + S1x30728.size a ≤ S128x131072.size a := fun i v39 k0_hw2 r => k0_hw2.2.1 r
theorem k0_off16_inb : ∀ (i : grid0.Coords) (v39 : BitVec 32) (k0_hw2 : k0_chk2 i v39) (k0_t5 : Fin k0_t5_loop.trips), ∀ a, (k0_off16 v39 k0_t5) a + S16.size a ≤ S30728.size a := fun i v39 k0_hw2 k0_t5 => k0_hw2.2.2.1 k0_t5
theorem k0_off19_inb : ∀ (i : grid0.Coords) (v39 : BitVec 32) (k0_hw2 : k0_chk2 i v39) (k0_t6 : Fin k0_t6_loop.trips), ∀ a, (k0_off19 v39 k0_t6) a + S16.size a ≤ S30728.size a := fun i v39 k0_hw2 k0_t6 => k0_hw2.2.2.2.1 k0_t6
theorem k0_off22_inb : ∀ (i : grid0.Coords) (v39 : BitVec 32) (k0_hw2 : k0_chk2 i v39) (k0_t7 : Fin k0_t7_loop.trips), ∀ a, (k0_off22 v39 k0_t7) a + S16.size a ≤ S30728.size a := fun i v39 k0_hw2 k0_t7 => k0_hw2.2.2.2.2.1 k0_t7
theorem k0_off25_inb : ∀ (i : grid0.Coords) (v39 : BitVec 32) (k0_hw2 : k0_chk2 i v39) (k0_t8 : Fin k0_t8_loop.trips), ∀ a, (k0_off25 v39 k0_t8) a + S16.size a ≤ S30728.size a := fun i v39 k0_hw2 k0_t8 => k0_hw2.2.2.2.2.2 k0_t8

def k0_off26 (k0_t8 : Fin k0_t8_loop.trips) : Fin 1 → Nat :=
  let c0_i32_55 : BitVec 32 := 0#32
  let c1_i32_57 : BitVec 32 := 1#32
  let arg8 : BitVec 32 := Scf.iv c0_i32_55 c1_i32_57 k0_t8
  let c16_i32_124 : BitVec 32 := 16#32
  let v135 : BitVec 32 := Scalar.muli arg8 c16_i32_124
  let v136 : Index := Scalar.indexCast v135
  ![v136.toNat]
def k0_off27 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c1_i32_26 : BitVec 32 := 1#32
  let v37 : BitVec 32 := Scalar.addi v2 c1_i32_26
  let c92160_i32_124_r16 : BitVec 32 := 92160#32
  ![v37.toNat, 92160]
def k0_mult3 (v70 : BitVec 32) : BitVec 32 :=
  let c0_i32_61 : BitVec 32 := 0#32
  let v72 : BitVec 1 := Scalar.cmpi .sgt v70 c0_i32_61
  let v73 : BitVec 32 := Scalar.extui v72
  let c0_i32_62 : BitVec 32 := 0#32
  let v74 : BitVec 1 := Scalar.cmpi .slt v70 c0_i32_62
  let v75 : BitVec 32 := Scalar.extui v74
  let v76 : BitVec 32 := Scalar.subi v73 v75
  let c8_i32_60 : BitVec 32 := 8#32
  let c0_i32_63 : BitVec 32 := 0#32
  let v77 : BitVec 1 := Scalar.cmpi .sgt c8_i32_60 c0_i32_63
  let v78 : BitVec 32 := Scalar.extui v77
  let c0_i32_64 : BitVec 32 := 0#32
  let v79 : BitVec 1 := Scalar.cmpi .slt c8_i32_60 c0_i32_64
  let v80 : BitVec 32 := Scalar.extui v79
  let v81 : BitVec 32 := Scalar.subi v78 v80
  let v82 : BitVec 1 := Scalar.cmpi .ne v76 v81
  let v83 : BitVec 32 := Scalar.remsi v70 c8_i32_60
  let c0_i32_65 : BitVec 32 := 0#32
  let v84 : BitVec 1 := Scalar.cmpi .ne v83 c0_i32_65
  let v85 : BitVec 1 := Scalar.andi v82 v84
  let v71 : BitVec 32 := Scalar.divsi v70 c8_i32_60
  let c1_i32_66 : BitVec 32 := 1#32
  let v86 : BitVec 32 := Scalar.subi v71 c1_i32_66
  let v87 : BitVec 32 := Scalar.select v85 v86 v71
  let c8_i32_67 : BitVec 32 := 8#32
  let v88 : BitVec 32 := Scalar.muli v87 c8_i32_67
  v88

def k0_off28 (i : grid0.Coords) (v70 : BitVec 32) (c0_i32_68 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_59 : BitVec 32 := 2#32
  let v68 : BitVec 32 := Scalar.addi v2 c2_i32_59
  let c0_i32_61 : BitVec 32 := 0#32
  let v72 : BitVec 1 := Scalar.cmpi .sgt v70 c0_i32_61
  let v73 : BitVec 32 := Scalar.extui v72
  let c0_i32_62 : BitVec 32 := 0#32
  let v74 : BitVec 1 := Scalar.cmpi .slt v70 c0_i32_62
  let v75 : BitVec 32 := Scalar.extui v74
  let v76 : BitVec 32 := Scalar.subi v73 v75
  let c8_i32_60 : BitVec 32 := 8#32
  let c0_i32_63 : BitVec 32 := 0#32
  let v77 : BitVec 1 := Scalar.cmpi .sgt c8_i32_60 c0_i32_63
  let v78 : BitVec 32 := Scalar.extui v77
  let c0_i32_64 : BitVec 32 := 0#32
  let v79 : BitVec 1 := Scalar.cmpi .slt c8_i32_60 c0_i32_64
  let v80 : BitVec 32 := Scalar.extui v79
  let v81 : BitVec 32 := Scalar.subi v78 v80
  let v82 : BitVec 1 := Scalar.cmpi .ne v76 v81
  let v83 : BitVec 32 := Scalar.remsi v70 c8_i32_60
  let c0_i32_65 : BitVec 32 := 0#32
  let v84 : BitVec 1 := Scalar.cmpi .ne v83 c0_i32_65
  let v85 : BitVec 1 := Scalar.andi v82 v84
  let v71 : BitVec 32 := Scalar.divsi v70 c8_i32_60
  let c1_i32_66 : BitVec 32 := 1#32
  let v86 : BitVec 32 := Scalar.subi v71 c1_i32_66
  let v87 : BitVec 32 := Scalar.select v85 v86 v71
  let c8_i32_67 : BitVec 32 := 8#32
  let v88 : BitVec 32 := Scalar.muli v87 c8_i32_67
  let v89 : BitVec 32 := v88
  let v91 : BitVec 32 := Scalar.addi v89 c0_i32_68
  ![v68.toNat, v91.toNat]
@[reducible] def k0_t9_loop : Scf.Loop 32 :=
  let c0_i32_70 : BitVec 32 := 0#32
  let c1920_i32_71 : BitVec 32 := 1920#32
  let v92 : BitVec 32 := Scalar.addi c0_i32_70 c1920_i32_71
  let c1_i32_72 : BitVec 32 := 1#32
  ⟨c0_i32_70, v92, c1_i32_72⟩
def k0_off29 (v70 : BitVec 32) (k0_t9 : Fin k0_t9_loop.trips) : Fin 1 → Nat :=
  let c0_i32_61 : BitVec 32 := 0#32
  let v72 : BitVec 1 := Scalar.cmpi .sgt v70 c0_i32_61
  let v73 : BitVec 32 := Scalar.extui v72
  let c0_i32_62 : BitVec 32 := 0#32
  let v74 : BitVec 1 := Scalar.cmpi .slt v70 c0_i32_62
  let v75 : BitVec 32 := Scalar.extui v74
  let v76 : BitVec 32 := Scalar.subi v73 v75
  let c8_i32_60 : BitVec 32 := 8#32
  let c0_i32_63 : BitVec 32 := 0#32
  let v77 : BitVec 1 := Scalar.cmpi .sgt c8_i32_60 c0_i32_63
  let v78 : BitVec 32 := Scalar.extui v77
  let c0_i32_64 : BitVec 32 := 0#32
  let v79 : BitVec 1 := Scalar.cmpi .slt c8_i32_60 c0_i32_64
  let v80 : BitVec 32 := Scalar.extui v79
  let v81 : BitVec 32 := Scalar.subi v78 v80
  let v82 : BitVec 1 := Scalar.cmpi .ne v76 v81
  let v83 : BitVec 32 := Scalar.remsi v70 c8_i32_60
  let c0_i32_65 : BitVec 32 := 0#32
  let v84 : BitVec 1 := Scalar.cmpi .ne v83 c0_i32_65
  let v85 : BitVec 1 := Scalar.andi v82 v84
  let v71 : BitVec 32 := Scalar.divsi v70 c8_i32_60
  let c1_i32_66 : BitVec 32 := 1#32
  let v86 : BitVec 32 := Scalar.subi v71 c1_i32_66
  let v87 : BitVec 32 := Scalar.select v85 v86 v71
  let c8_i32_67 : BitVec 32 := 8#32
  let v88 : BitVec 32 := Scalar.muli v87 c8_i32_67
  let v89 : BitVec 32 := v88
  let v90 : BitVec 32 := Scalar.subi v70 v89
  let c0_i32_70 : BitVec 32 := 0#32
  let c1_i32_72 : BitVec 32 := 1#32
  let arg8 : BitVec 32 := Scf.iv c0_i32_70 c1_i32_72 k0_t9
  let c16_i32 : BitVec 32 := 16#32
  let v130 : BitVec 32 := Scalar.muli arg8 c16_i32
  let v131 : BitVec 32 := Scalar.addi v90 v130
  let v132 : Index := Scalar.indexCast v131
  ![v132.toNat]
def k0_off30 (k0_t9 : Fin k0_t9_loop.trips) : Fin 1 → Nat :=
  let c0_i32_70 : BitVec 32 := 0#32
  let c1_i32_72 : BitVec 32 := 1#32
  let arg8 : BitVec 32 := Scf.iv c0_i32_70 c1_i32_72 k0_t9
  let c16_i32_124 : BitVec 32 := 16#32
  let v135 : BitVec 32 := Scalar.muli arg8 c16_i32_124
  let v136 : Index := Scalar.indexCast v135
  ![v136.toNat]
def k0_off31 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_59 : BitVec 32 := 2#32
  let v68 : BitVec 32 := Scalar.addi v2 c2_i32_59
  let c0_i32_124_r18 : BitVec 32 := 0#32
  ![v68.toNat, 0]
@[reducible] def k0_t10_loop : Scf.Loop 32 :=
  let c0_i32_76 : BitVec 32 := 0#32
  let c1920_i32_77 : BitVec 32 := 1920#32
  let v94 : BitVec 32 := Scalar.addi c0_i32_76 c1920_i32_77
  let c1_i32_78 : BitVec 32 := 1#32
  ⟨c0_i32_76, v94, c1_i32_78⟩
def k0_off32 (v70 : BitVec 32) (k0_t10 : Fin k0_t10_loop.trips) : Fin 1 → Nat :=
  let c0_i32_61 : BitVec 32 := 0#32
  let v72 : BitVec 1 := Scalar.cmpi .sgt v70 c0_i32_61
  let v73 : BitVec 32 := Scalar.extui v72
  let c0_i32_62 : BitVec 32 := 0#32
  let v74 : BitVec 1 := Scalar.cmpi .slt v70 c0_i32_62
  let v75 : BitVec 32 := Scalar.extui v74
  let v76 : BitVec 32 := Scalar.subi v73 v75
  let c8_i32_60 : BitVec 32 := 8#32
  let c0_i32_63 : BitVec 32 := 0#32
  let v77 : BitVec 1 := Scalar.cmpi .sgt c8_i32_60 c0_i32_63
  let v78 : BitVec 32 := Scalar.extui v77
  let c0_i32_64 : BitVec 32 := 0#32
  let v79 : BitVec 1 := Scalar.cmpi .slt c8_i32_60 c0_i32_64
  let v80 : BitVec 32 := Scalar.extui v79
  let v81 : BitVec 32 := Scalar.subi v78 v80
  let v82 : BitVec 1 := Scalar.cmpi .ne v76 v81
  let v83 : BitVec 32 := Scalar.remsi v70 c8_i32_60
  let c0_i32_65 : BitVec 32 := 0#32
  let v84 : BitVec 1 := Scalar.cmpi .ne v83 c0_i32_65
  let v85 : BitVec 1 := Scalar.andi v82 v84
  let v71 : BitVec 32 := Scalar.divsi v70 c8_i32_60
  let c1_i32_66 : BitVec 32 := 1#32
  let v86 : BitVec 32 := Scalar.subi v71 c1_i32_66
  let v87 : BitVec 32 := Scalar.select v85 v86 v71
  let c8_i32_67 : BitVec 32 := 8#32
  let v88 : BitVec 32 := Scalar.muli v87 c8_i32_67
  let v89 : BitVec 32 := v88
  let v90 : BitVec 32 := Scalar.subi v70 v89
  let c0_i32_76 : BitVec 32 := 0#32
  let c1_i32_78 : BitVec 32 := 1#32
  let arg8 : BitVec 32 := Scf.iv c0_i32_76 c1_i32_78 k0_t10
  let c16_i32 : BitVec 32 := 16#32
  let v130 : BitVec 32 := Scalar.muli arg8 c16_i32
  let v131 : BitVec 32 := Scalar.addi v90 v130
  let v132 : Index := Scalar.indexCast v131
  ![v132.toNat]
def k0_off33 (k0_t10 : Fin k0_t10_loop.trips) : Fin 1 → Nat :=
  let c0_i32_76 : BitVec 32 := 0#32
  let c1_i32_78 : BitVec 32 := 1#32
  let arg8 : BitVec 32 := Scf.iv c0_i32_76 c1_i32_78 k0_t10
  let c16_i32_124 : BitVec 32 := 16#32
  let v135 : BitVec 32 := Scalar.muli arg8 c16_i32_124
  let v136 : Index := Scalar.indexCast v135
  ![v136.toNat]
def k0_off34 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_59 : BitVec 32 := 2#32
  let v68 : BitVec 32 := Scalar.addi v2 c2_i32_59
  let c30720_i32_124_r20 : BitVec 32 := 30720#32
  ![v68.toNat, 30720]
@[reducible] def k0_t11_loop : Scf.Loop 32 :=
  let c0_i32_82 : BitVec 32 := 0#32
  let c1920_i32_83 : BitVec 32 := 1920#32
  let v96 : BitVec 32 := Scalar.addi c0_i32_82 c1920_i32_83
  let c1_i32_84 : BitVec 32 := 1#32
  ⟨c0_i32_82, v96, c1_i32_84⟩
def k0_off35 (v70 : BitVec 32) (k0_t11 : Fin k0_t11_loop.trips) : Fin 1 → Nat :=
  let c0_i32_61 : BitVec 32 := 0#32
  let v72 : BitVec 1 := Scalar.cmpi .sgt v70 c0_i32_61
  let v73 : BitVec 32 := Scalar.extui v72
  let c0_i32_62 : BitVec 32 := 0#32
  let v74 : BitVec 1 := Scalar.cmpi .slt v70 c0_i32_62
  let v75 : BitVec 32 := Scalar.extui v74
  let v76 : BitVec 32 := Scalar.subi v73 v75
  let c8_i32_60 : BitVec 32 := 8#32
  let c0_i32_63 : BitVec 32 := 0#32
  let v77 : BitVec 1 := Scalar.cmpi .sgt c8_i32_60 c0_i32_63
  let v78 : BitVec 32 := Scalar.extui v77
  let c0_i32_64 : BitVec 32 := 0#32
  let v79 : BitVec 1 := Scalar.cmpi .slt c8_i32_60 c0_i32_64
  let v80 : BitVec 32 := Scalar.extui v79
  let v81 : BitVec 32 := Scalar.subi v78 v80
  let v82 : BitVec 1 := Scalar.cmpi .ne v76 v81
  let v83 : BitVec 32 := Scalar.remsi v70 c8_i32_60
  let c0_i32_65 : BitVec 32 := 0#32
  let v84 : BitVec 1 := Scalar.cmpi .ne v83 c0_i32_65
  let v85 : BitVec 1 := Scalar.andi v82 v84
  let v71 : BitVec 32 := Scalar.divsi v70 c8_i32_60
  let c1_i32_66 : BitVec 32 := 1#32
  let v86 : BitVec 32 := Scalar.subi v71 c1_i32_66
  let v87 : BitVec 32 := Scalar.select v85 v86 v71
  let c8_i32_67 : BitVec 32 := 8#32
  let v88 : BitVec 32 := Scalar.muli v87 c8_i32_67
  let v89 : BitVec 32 := v88
  let v90 : BitVec 32 := Scalar.subi v70 v89
  let c0_i32_82 : BitVec 32 := 0#32
  let c1_i32_84 : BitVec 32 := 1#32
  let arg8 : BitVec 32 := Scf.iv c0_i32_82 c1_i32_84 k0_t11
  let c16_i32 : BitVec 32 := 16#32
  let v130 : BitVec 32 := Scalar.muli arg8 c16_i32
  let v131 : BitVec 32 := Scalar.addi v90 v130
  let v132 : Index := Scalar.indexCast v131
  ![v132.toNat]
def k0_off36 (k0_t11 : Fin k0_t11_loop.trips) : Fin 1 → Nat :=
  let c0_i32_82 : BitVec 32 := 0#32
  let c1_i32_84 : BitVec 32 := 1#32
  let arg8 : BitVec 32 := Scf.iv c0_i32_82 c1_i32_84 k0_t11
  let c16_i32_124 : BitVec 32 := 16#32
  let v135 : BitVec 32 := Scalar.muli arg8 c16_i32_124
  let v136 : Index := Scalar.indexCast v135
  ![v136.toNat]
def k0_off37 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_59 : BitVec 32 := 2#32
  let v68 : BitVec 32 := Scalar.addi v2 c2_i32_59
  let c61440_i32_124_r22 : BitVec 32 := 61440#32
  ![v68.toNat, 61440]
@[reducible] def k0_t12_loop : Scf.Loop 32 :=
  let c0_i32_88 : BitVec 32 := 0#32
  let c1920_i32_89 : BitVec 32 := 1920#32
  let v98 : BitVec 32 := Scalar.addi c0_i32_88 c1920_i32_89
  let c1_i32_90 : BitVec 32 := 1#32
  ⟨c0_i32_88, v98, c1_i32_90⟩
def k0_off38 (v70 : BitVec 32) (k0_t12 : Fin k0_t12_loop.trips) : Fin 1 → Nat :=
  let c0_i32_61 : BitVec 32 := 0#32
  let v72 : BitVec 1 := Scalar.cmpi .sgt v70 c0_i32_61
  let v73 : BitVec 32 := Scalar.extui v72
  let c0_i32_62 : BitVec 32 := 0#32
  let v74 : BitVec 1 := Scalar.cmpi .slt v70 c0_i32_62
  let v75 : BitVec 32 := Scalar.extui v74
  let v76 : BitVec 32 := Scalar.subi v73 v75
  let c8_i32_60 : BitVec 32 := 8#32
  let c0_i32_63 : BitVec 32 := 0#32
  let v77 : BitVec 1 := Scalar.cmpi .sgt c8_i32_60 c0_i32_63
  let v78 : BitVec 32 := Scalar.extui v77
  let c0_i32_64 : BitVec 32 := 0#32
  let v79 : BitVec 1 := Scalar.cmpi .slt c8_i32_60 c0_i32_64
  let v80 : BitVec 32 := Scalar.extui v79
  let v81 : BitVec 32 := Scalar.subi v78 v80
  let v82 : BitVec 1 := Scalar.cmpi .ne v76 v81
  let v83 : BitVec 32 := Scalar.remsi v70 c8_i32_60
  let c0_i32_65 : BitVec 32 := 0#32
  let v84 : BitVec 1 := Scalar.cmpi .ne v83 c0_i32_65
  let v85 : BitVec 1 := Scalar.andi v82 v84
  let v71 : BitVec 32 := Scalar.divsi v70 c8_i32_60
  let c1_i32_66 : BitVec 32 := 1#32
  let v86 : BitVec 32 := Scalar.subi v71 c1_i32_66
  let v87 : BitVec 32 := Scalar.select v85 v86 v71
  let c8_i32_67 : BitVec 32 := 8#32
  let v88 : BitVec 32 := Scalar.muli v87 c8_i32_67
  let v89 : BitVec 32 := v88
  let v90 : BitVec 32 := Scalar.subi v70 v89
  let c0_i32_88 : BitVec 32 := 0#32
  let c1_i32_90 : BitVec 32 := 1#32
  let arg8 : BitVec 32 := Scf.iv c0_i32_88 c1_i32_90 k0_t12
  let c16_i32 : BitVec 32 := 16#32
  let v130 : BitVec 32 := Scalar.muli arg8 c16_i32
  let v131 : BitVec 32 := Scalar.addi v90 v130
  let v132 : Index := Scalar.indexCast v131
  ![v132.toNat]

def k0_chk3 (i : grid0.Coords) (v70 : BitVec 32) : Prop :=
  (8 ∣ (k0_mult3 v70).toNat) ∧
  (∀ (r : Fin 4), ∀ a, (k0_off28 i v70 (BitVec.ofNat 32 (30720 * r.val))) a + S1x30728.size a ≤ S128x131072.size a) ∧
  (∀ k0_t9 : Fin k0_t9_loop.trips, ∀ a, (k0_off29 v70 k0_t9) a + S16.size a ≤ S30728.size a) ∧
  (∀ k0_t10 : Fin k0_t10_loop.trips, ∀ a, (k0_off32 v70 k0_t10) a + S16.size a ≤ S30728.size a) ∧
  (∀ k0_t11 : Fin k0_t11_loop.trips, ∀ a, (k0_off35 v70 k0_t11) a + S16.size a ≤ S30728.size a) ∧
  (∀ k0_t12 : Fin k0_t12_loop.trips, ∀ a, (k0_off38 v70 k0_t12) a + S16.size a ≤ S30728.size a)
theorem k0_mult3_dvd : ∀ (i : grid0.Coords) (v70 : BitVec 32) (k0_hw3 : k0_chk3 i v70), 8 ∣ (k0_mult3 v70).toNat := fun i v70 k0_hw3 => k0_hw3.1
theorem k0_off28_inb : ∀ (i : grid0.Coords) (v70 : BitVec 32) (k0_hw3 : k0_chk3 i v70), ∀ (r : Fin 4), ∀ a, (k0_off28 i v70 (BitVec.ofNat 32 (30720 * r.val))) a + S1x30728.size a ≤ S128x131072.size a := fun i v70 k0_hw3 r => k0_hw3.2.1 r
theorem k0_off29_inb : ∀ (i : grid0.Coords) (v70 : BitVec 32) (k0_hw3 : k0_chk3 i v70) (k0_t9 : Fin k0_t9_loop.trips), ∀ a, (k0_off29 v70 k0_t9) a + S16.size a ≤ S30728.size a := fun i v70 k0_hw3 k0_t9 => k0_hw3.2.2.1 k0_t9
theorem k0_off32_inb : ∀ (i : grid0.Coords) (v70 : BitVec 32) (k0_hw3 : k0_chk3 i v70) (k0_t10 : Fin k0_t10_loop.trips), ∀ a, (k0_off32 v70 k0_t10) a + S16.size a ≤ S30728.size a := fun i v70 k0_hw3 k0_t10 => k0_hw3.2.2.2.1 k0_t10
theorem k0_off35_inb : ∀ (i : grid0.Coords) (v70 : BitVec 32) (k0_hw3 : k0_chk3 i v70) (k0_t11 : Fin k0_t11_loop.trips), ∀ a, (k0_off35 v70 k0_t11) a + S16.size a ≤ S30728.size a := fun i v70 k0_hw3 k0_t11 => k0_hw3.2.2.2.2.1 k0_t11
theorem k0_off38_inb : ∀ (i : grid0.Coords) (v70 : BitVec 32) (k0_hw3 : k0_chk3 i v70) (k0_t12 : Fin k0_t12_loop.trips), ∀ a, (k0_off38 v70 k0_t12) a + S16.size a ≤ S30728.size a := fun i v70 k0_hw3 k0_t12 => k0_hw3.2.2.2.2.2 k0_t12

def k0_off39 (k0_t12 : Fin k0_t12_loop.trips) : Fin 1 → Nat :=
  let c0_i32_88 : BitVec 32 := 0#32
  let c1_i32_90 : BitVec 32 := 1#32
  let arg8 : BitVec 32 := Scf.iv c0_i32_88 c1_i32_90 k0_t12
  let c16_i32_124 : BitVec 32 := 16#32
  let v135 : BitVec 32 := Scalar.muli arg8 c16_i32_124
  let v136 : Index := Scalar.indexCast v135
  ![v136.toNat]
def k0_off40 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_59 : BitVec 32 := 2#32
  let v68 : BitVec 32 := Scalar.addi v2 c2_i32_59
  let c92160_i32_124_r24 : BitVec 32 := 92160#32
  ![v68.toNat, 92160]
def k0_mult4 (v101 : BitVec 32) : BitVec 32 :=
  let c0_i32_93 : BitVec 32 := 0#32
  let v103 : BitVec 1 := Scalar.cmpi .sgt v101 c0_i32_93
  let v104 : BitVec 32 := Scalar.extui v103
  let c0_i32_94 : BitVec 32 := 0#32
  let v105 : BitVec 1 := Scalar.cmpi .slt v101 c0_i32_94
  let v106 : BitVec 32 := Scalar.extui v105
  let v107 : BitVec 32 := Scalar.subi v104 v106
  let c8_i32_92 : BitVec 32 := 8#32
  let c0_i32_95 : BitVec 32 := 0#32
  let v108 : BitVec 1 := Scalar.cmpi .sgt c8_i32_92 c0_i32_95
  let v109 : BitVec 32 := Scalar.extui v108
  let c0_i32_96 : BitVec 32 := 0#32
  let v110 : BitVec 1 := Scalar.cmpi .slt c8_i32_92 c0_i32_96
  let v111 : BitVec 32 := Scalar.extui v110
  let v112 : BitVec 32 := Scalar.subi v109 v111
  let v113 : BitVec 1 := Scalar.cmpi .ne v107 v112
  let v114 : BitVec 32 := Scalar.remsi v101 c8_i32_92
  let c0_i32_97 : BitVec 32 := 0#32
  let v115 : BitVec 1 := Scalar.cmpi .ne v114 c0_i32_97
  let v116 : BitVec 1 := Scalar.andi v113 v115
  let v102 : BitVec 32 := Scalar.divsi v101 c8_i32_92
  let c1_i32_98 : BitVec 32 := 1#32
  let v117 : BitVec 32 := Scalar.subi v102 c1_i32_98
  let v118 : BitVec 32 := Scalar.select v116 v117 v102
  let c8_i32_99 : BitVec 32 := 8#32
  let v119 : BitVec 32 := Scalar.muli v118 c8_i32_99
  v119

def k0_off41 (i : grid0.Coords) (v101 : BitVec 32) (c0_i32_100 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c3_i32 : BitVec 32 := 3#32
  let v99 : BitVec 32 := Scalar.addi v2 c3_i32
  let c0_i32_93 : BitVec 32 := 0#32
  let v103 : BitVec 1 := Scalar.cmpi .sgt v101 c0_i32_93
  let v104 : BitVec 32 := Scalar.extui v103
  let c0_i32_94 : BitVec 32 := 0#32
  let v105 : BitVec 1 := Scalar.cmpi .slt v101 c0_i32_94
  let v106 : BitVec 32 := Scalar.extui v105
  let v107 : BitVec 32 := Scalar.subi v104 v106
  let c8_i32_92 : BitVec 32 := 8#32
  let c0_i32_95 : BitVec 32 := 0#32
  let v108 : BitVec 1 := Scalar.cmpi .sgt c8_i32_92 c0_i32_95
  let v109 : BitVec 32 := Scalar.extui v108
  let c0_i32_96 : BitVec 32 := 0#32
  let v110 : BitVec 1 := Scalar.cmpi .slt c8_i32_92 c0_i32_96
  let v111 : BitVec 32 := Scalar.extui v110
  let v112 : BitVec 32 := Scalar.subi v109 v111
  let v113 : BitVec 1 := Scalar.cmpi .ne v107 v112
  let v114 : BitVec 32 := Scalar.remsi v101 c8_i32_92
  let c0_i32_97 : BitVec 32 := 0#32
  let v115 : BitVec 1 := Scalar.cmpi .ne v114 c0_i32_97
  let v116 : BitVec 1 := Scalar.andi v113 v115
  let v102 : BitVec 32 := Scalar.divsi v101 c8_i32_92
  let c1_i32_98 : BitVec 32 := 1#32
  let v117 : BitVec 32 := Scalar.subi v102 c1_i32_98
  let v118 : BitVec 32 := Scalar.select v116 v117 v102
  let c8_i32_99 : BitVec 32 := 8#32
  let v119 : BitVec 32 := Scalar.muli v118 c8_i32_99
  let v120 : BitVec 32 := v119
  let v122 : BitVec 32 := Scalar.addi v120 c0_i32_100
  ![v99.toNat, v122.toNat]
@[reducible] def k0_t13_loop : Scf.Loop 32 :=
  let c0_i32_102 : BitVec 32 := 0#32
  let c1920_i32_103 : BitVec 32 := 1920#32
  let v123 : BitVec 32 := Scalar.addi c0_i32_102 c1920_i32_103
  let c1_i32_104 : BitVec 32 := 1#32
  ⟨c0_i32_102, v123, c1_i32_104⟩
def k0_off42 (v101 : BitVec 32) (k0_t13 : Fin k0_t13_loop.trips) : Fin 1 → Nat :=
  let c0_i32_93 : BitVec 32 := 0#32
  let v103 : BitVec 1 := Scalar.cmpi .sgt v101 c0_i32_93
  let v104 : BitVec 32 := Scalar.extui v103
  let c0_i32_94 : BitVec 32 := 0#32
  let v105 : BitVec 1 := Scalar.cmpi .slt v101 c0_i32_94
  let v106 : BitVec 32 := Scalar.extui v105
  let v107 : BitVec 32 := Scalar.subi v104 v106
  let c8_i32_92 : BitVec 32 := 8#32
  let c0_i32_95 : BitVec 32 := 0#32
  let v108 : BitVec 1 := Scalar.cmpi .sgt c8_i32_92 c0_i32_95
  let v109 : BitVec 32 := Scalar.extui v108
  let c0_i32_96 : BitVec 32 := 0#32
  let v110 : BitVec 1 := Scalar.cmpi .slt c8_i32_92 c0_i32_96
  let v111 : BitVec 32 := Scalar.extui v110
  let v112 : BitVec 32 := Scalar.subi v109 v111
  let v113 : BitVec 1 := Scalar.cmpi .ne v107 v112
  let v114 : BitVec 32 := Scalar.remsi v101 c8_i32_92
  let c0_i32_97 : BitVec 32 := 0#32
  let v115 : BitVec 1 := Scalar.cmpi .ne v114 c0_i32_97
  let v116 : BitVec 1 := Scalar.andi v113 v115
  let v102 : BitVec 32 := Scalar.divsi v101 c8_i32_92
  let c1_i32_98 : BitVec 32 := 1#32
  let v117 : BitVec 32 := Scalar.subi v102 c1_i32_98
  let v118 : BitVec 32 := Scalar.select v116 v117 v102
  let c8_i32_99 : BitVec 32 := 8#32
  let v119 : BitVec 32 := Scalar.muli v118 c8_i32_99
  let v120 : BitVec 32 := v119
  let v121 : BitVec 32 := Scalar.subi v101 v120
  let c0_i32_102 : BitVec 32 := 0#32
  let c1_i32_104 : BitVec 32 := 1#32
  let arg8 : BitVec 32 := Scf.iv c0_i32_102 c1_i32_104 k0_t13
  let c16_i32 : BitVec 32 := 16#32
  let v130 : BitVec 32 := Scalar.muli arg8 c16_i32
  let v131 : BitVec 32 := Scalar.addi v121 v130
  let v132 : Index := Scalar.indexCast v131
  ![v132.toNat]
def k0_off43 (k0_t13 : Fin k0_t13_loop.trips) : Fin 1 → Nat :=
  let c0_i32_102 : BitVec 32 := 0#32
  let c1_i32_104 : BitVec 32 := 1#32
  let arg8 : BitVec 32 := Scf.iv c0_i32_102 c1_i32_104 k0_t13
  let c16_i32_124 : BitVec 32 := 16#32
  let v135 : BitVec 32 := Scalar.muli arg8 c16_i32_124
  let v136 : Index := Scalar.indexCast v135
  ![v136.toNat]
def k0_off44 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c3_i32 : BitVec 32 := 3#32
  let v99 : BitVec 32 := Scalar.addi v2 c3_i32
  let c0_i32_124_r26 : BitVec 32 := 0#32
  ![v99.toNat, 0]
@[reducible] def k0_t14_loop : Scf.Loop 32 :=
  let c0_i32_108 : BitVec 32 := 0#32
  let c1920_i32_109 : BitVec 32 := 1920#32
  let v125 : BitVec 32 := Scalar.addi c0_i32_108 c1920_i32_109
  let c1_i32_110 : BitVec 32 := 1#32
  ⟨c0_i32_108, v125, c1_i32_110⟩
def k0_off45 (v101 : BitVec 32) (k0_t14 : Fin k0_t14_loop.trips) : Fin 1 → Nat :=
  let c0_i32_93 : BitVec 32 := 0#32
  let v103 : BitVec 1 := Scalar.cmpi .sgt v101 c0_i32_93
  let v104 : BitVec 32 := Scalar.extui v103
  let c0_i32_94 : BitVec 32 := 0#32
  let v105 : BitVec 1 := Scalar.cmpi .slt v101 c0_i32_94
  let v106 : BitVec 32 := Scalar.extui v105
  let v107 : BitVec 32 := Scalar.subi v104 v106
  let c8_i32_92 : BitVec 32 := 8#32
  let c0_i32_95 : BitVec 32 := 0#32
  let v108 : BitVec 1 := Scalar.cmpi .sgt c8_i32_92 c0_i32_95
  let v109 : BitVec 32 := Scalar.extui v108
  let c0_i32_96 : BitVec 32 := 0#32
  let v110 : BitVec 1 := Scalar.cmpi .slt c8_i32_92 c0_i32_96
  let v111 : BitVec 32 := Scalar.extui v110
  let v112 : BitVec 32 := Scalar.subi v109 v111
  let v113 : BitVec 1 := Scalar.cmpi .ne v107 v112
  let v114 : BitVec 32 := Scalar.remsi v101 c8_i32_92
  let c0_i32_97 : BitVec 32 := 0#32
  let v115 : BitVec 1 := Scalar.cmpi .ne v114 c0_i32_97
  let v116 : BitVec 1 := Scalar.andi v113 v115
  let v102 : BitVec 32 := Scalar.divsi v101 c8_i32_92
  let c1_i32_98 : BitVec 32 := 1#32
  let v117 : BitVec 32 := Scalar.subi v102 c1_i32_98
  let v118 : BitVec 32 := Scalar.select v116 v117 v102
  let c8_i32_99 : BitVec 32 := 8#32
  let v119 : BitVec 32 := Scalar.muli v118 c8_i32_99
  let v120 : BitVec 32 := v119
  let v121 : BitVec 32 := Scalar.subi v101 v120
  let c0_i32_108 : BitVec 32 := 0#32
  let c1_i32_110 : BitVec 32 := 1#32
  let arg8 : BitVec 32 := Scf.iv c0_i32_108 c1_i32_110 k0_t14
  let c16_i32 : BitVec 32 := 16#32
  let v130 : BitVec 32 := Scalar.muli arg8 c16_i32
  let v131 : BitVec 32 := Scalar.addi v121 v130
  let v132 : Index := Scalar.indexCast v131
  ![v132.toNat]
def k0_off46 (k0_t14 : Fin k0_t14_loop.trips) : Fin 1 → Nat :=
  let c0_i32_108 : BitVec 32 := 0#32
  let c1_i32_110 : BitVec 32 := 1#32
  let arg8 : BitVec 32 := Scf.iv c0_i32_108 c1_i32_110 k0_t14
  let c16_i32_124 : BitVec 32 := 16#32
  let v135 : BitVec 32 := Scalar.muli arg8 c16_i32_124
  let v136 : Index := Scalar.indexCast v135
  ![v136.toNat]
def k0_off47 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c3_i32 : BitVec 32 := 3#32
  let v99 : BitVec 32 := Scalar.addi v2 c3_i32
  let c30720_i32_124_r28 : BitVec 32 := 30720#32
  ![v99.toNat, 30720]
@[reducible] def k0_t15_loop : Scf.Loop 32 :=
  let c0_i32_114 : BitVec 32 := 0#32
  let c1920_i32_115 : BitVec 32 := 1920#32
  let v127 : BitVec 32 := Scalar.addi c0_i32_114 c1920_i32_115
  let c1_i32_116 : BitVec 32 := 1#32
  ⟨c0_i32_114, v127, c1_i32_116⟩
def k0_off48 (v101 : BitVec 32) (k0_t15 : Fin k0_t15_loop.trips) : Fin 1 → Nat :=
  let c0_i32_93 : BitVec 32 := 0#32
  let v103 : BitVec 1 := Scalar.cmpi .sgt v101 c0_i32_93
  let v104 : BitVec 32 := Scalar.extui v103
  let c0_i32_94 : BitVec 32 := 0#32
  let v105 : BitVec 1 := Scalar.cmpi .slt v101 c0_i32_94
  let v106 : BitVec 32 := Scalar.extui v105
  let v107 : BitVec 32 := Scalar.subi v104 v106
  let c8_i32_92 : BitVec 32 := 8#32
  let c0_i32_95 : BitVec 32 := 0#32
  let v108 : BitVec 1 := Scalar.cmpi .sgt c8_i32_92 c0_i32_95
  let v109 : BitVec 32 := Scalar.extui v108
  let c0_i32_96 : BitVec 32 := 0#32
  let v110 : BitVec 1 := Scalar.cmpi .slt c8_i32_92 c0_i32_96
  let v111 : BitVec 32 := Scalar.extui v110
  let v112 : BitVec 32 := Scalar.subi v109 v111
  let v113 : BitVec 1 := Scalar.cmpi .ne v107 v112
  let v114 : BitVec 32 := Scalar.remsi v101 c8_i32_92
  let c0_i32_97 : BitVec 32 := 0#32
  let v115 : BitVec 1 := Scalar.cmpi .ne v114 c0_i32_97
  let v116 : BitVec 1 := Scalar.andi v113 v115
  let v102 : BitVec 32 := Scalar.divsi v101 c8_i32_92
  let c1_i32_98 : BitVec 32 := 1#32
  let v117 : BitVec 32 := Scalar.subi v102 c1_i32_98
  let v118 : BitVec 32 := Scalar.select v116 v117 v102
  let c8_i32_99 : BitVec 32 := 8#32
  let v119 : BitVec 32 := Scalar.muli v118 c8_i32_99
  let v120 : BitVec 32 := v119
  let v121 : BitVec 32 := Scalar.subi v101 v120
  let c0_i32_114 : BitVec 32 := 0#32
  let c1_i32_116 : BitVec 32 := 1#32
  let arg8 : BitVec 32 := Scf.iv c0_i32_114 c1_i32_116 k0_t15
  let c16_i32 : BitVec 32 := 16#32
  let v130 : BitVec 32 := Scalar.muli arg8 c16_i32
  let v131 : BitVec 32 := Scalar.addi v121 v130
  let v132 : Index := Scalar.indexCast v131
  ![v132.toNat]
def k0_off49 (k0_t15 : Fin k0_t15_loop.trips) : Fin 1 → Nat :=
  let c0_i32_114 : BitVec 32 := 0#32
  let c1_i32_116 : BitVec 32 := 1#32
  let arg8 : BitVec 32 := Scf.iv c0_i32_114 c1_i32_116 k0_t15
  let c16_i32_124 : BitVec 32 := 16#32
  let v135 : BitVec 32 := Scalar.muli arg8 c16_i32_124
  let v136 : Index := Scalar.indexCast v135
  ![v136.toNat]
def k0_off50 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c3_i32 : BitVec 32 := 3#32
  let v99 : BitVec 32 := Scalar.addi v2 c3_i32
  let c61440_i32_124_r30 : BitVec 32 := 61440#32
  ![v99.toNat, 61440]
@[reducible] def k0_t16_loop : Scf.Loop 32 :=
  let c0_i32_120 : BitVec 32 := 0#32
  let c1920_i32_121 : BitVec 32 := 1920#32
  let v129 : BitVec 32 := Scalar.addi c0_i32_120 c1920_i32_121
  let c1_i32_122 : BitVec 32 := 1#32
  ⟨c0_i32_120, v129, c1_i32_122⟩
def k0_off51 (v101 : BitVec 32) (k0_t16 : Fin k0_t16_loop.trips) : Fin 1 → Nat :=
  let c0_i32_93 : BitVec 32 := 0#32
  let v103 : BitVec 1 := Scalar.cmpi .sgt v101 c0_i32_93
  let v104 : BitVec 32 := Scalar.extui v103
  let c0_i32_94 : BitVec 32 := 0#32
  let v105 : BitVec 1 := Scalar.cmpi .slt v101 c0_i32_94
  let v106 : BitVec 32 := Scalar.extui v105
  let v107 : BitVec 32 := Scalar.subi v104 v106
  let c8_i32_92 : BitVec 32 := 8#32
  let c0_i32_95 : BitVec 32 := 0#32
  let v108 : BitVec 1 := Scalar.cmpi .sgt c8_i32_92 c0_i32_95
  let v109 : BitVec 32 := Scalar.extui v108
  let c0_i32_96 : BitVec 32 := 0#32
  let v110 : BitVec 1 := Scalar.cmpi .slt c8_i32_92 c0_i32_96
  let v111 : BitVec 32 := Scalar.extui v110
  let v112 : BitVec 32 := Scalar.subi v109 v111
  let v113 : BitVec 1 := Scalar.cmpi .ne v107 v112
  let v114 : BitVec 32 := Scalar.remsi v101 c8_i32_92
  let c0_i32_97 : BitVec 32 := 0#32
  let v115 : BitVec 1 := Scalar.cmpi .ne v114 c0_i32_97
  let v116 : BitVec 1 := Scalar.andi v113 v115
  let v102 : BitVec 32 := Scalar.divsi v101 c8_i32_92
  let c1_i32_98 : BitVec 32 := 1#32
  let v117 : BitVec 32 := Scalar.subi v102 c1_i32_98
  let v118 : BitVec 32 := Scalar.select v116 v117 v102
  let c8_i32_99 : BitVec 32 := 8#32
  let v119 : BitVec 32 := Scalar.muli v118 c8_i32_99
  let v120 : BitVec 32 := v119
  let v121 : BitVec 32 := Scalar.subi v101 v120
  let c0_i32_120 : BitVec 32 := 0#32
  let c1_i32_122 : BitVec 32 := 1#32
  let arg8 : BitVec 32 := Scf.iv c0_i32_120 c1_i32_122 k0_t16
  let c16_i32 : BitVec 32 := 16#32
  let v130 : BitVec 32 := Scalar.muli arg8 c16_i32
  let v131 : BitVec 32 := Scalar.addi v121 v130
  let v132 : Index := Scalar.indexCast v131
  ![v132.toNat]

def k0_chk4 (i : grid0.Coords) (v101 : BitVec 32) : Prop :=
  (8 ∣ (k0_mult4 v101).toNat) ∧
  (∀ (r : Fin 4), ∀ a, (k0_off41 i v101 (BitVec.ofNat 32 (30720 * r.val))) a + S1x30728.size a ≤ S128x131072.size a) ∧
  (∀ k0_t13 : Fin k0_t13_loop.trips, ∀ a, (k0_off42 v101 k0_t13) a + S16.size a ≤ S30728.size a) ∧
  (∀ k0_t14 : Fin k0_t14_loop.trips, ∀ a, (k0_off45 v101 k0_t14) a + S16.size a ≤ S30728.size a) ∧
  (∀ k0_t15 : Fin k0_t15_loop.trips, ∀ a, (k0_off48 v101 k0_t15) a + S16.size a ≤ S30728.size a) ∧
  (∀ k0_t16 : Fin k0_t16_loop.trips, ∀ a, (k0_off51 v101 k0_t16) a + S16.size a ≤ S30728.size a)
theorem k0_mult4_dvd : ∀ (i : grid0.Coords) (v101 : BitVec 32) (k0_hw4 : k0_chk4 i v101), 8 ∣ (k0_mult4 v101).toNat := fun i v101 k0_hw4 => k0_hw4.1
theorem k0_off41_inb : ∀ (i : grid0.Coords) (v101 : BitVec 32) (k0_hw4 : k0_chk4 i v101), ∀ (r : Fin 4), ∀ a, (k0_off41 i v101 (BitVec.ofNat 32 (30720 * r.val))) a + S1x30728.size a ≤ S128x131072.size a := fun i v101 k0_hw4 r => k0_hw4.2.1 r
theorem k0_off42_inb : ∀ (i : grid0.Coords) (v101 : BitVec 32) (k0_hw4 : k0_chk4 i v101) (k0_t13 : Fin k0_t13_loop.trips), ∀ a, (k0_off42 v101 k0_t13) a + S16.size a ≤ S30728.size a := fun i v101 k0_hw4 k0_t13 => k0_hw4.2.2.1 k0_t13
theorem k0_off45_inb : ∀ (i : grid0.Coords) (v101 : BitVec 32) (k0_hw4 : k0_chk4 i v101) (k0_t14 : Fin k0_t14_loop.trips), ∀ a, (k0_off45 v101 k0_t14) a + S16.size a ≤ S30728.size a := fun i v101 k0_hw4 k0_t14 => k0_hw4.2.2.2.1 k0_t14
theorem k0_off48_inb : ∀ (i : grid0.Coords) (v101 : BitVec 32) (k0_hw4 : k0_chk4 i v101) (k0_t15 : Fin k0_t15_loop.trips), ∀ a, (k0_off48 v101 k0_t15) a + S16.size a ≤ S30728.size a := fun i v101 k0_hw4 k0_t15 => k0_hw4.2.2.2.2.1 k0_t15
theorem k0_off51_inb : ∀ (i : grid0.Coords) (v101 : BitVec 32) (k0_hw4 : k0_chk4 i v101) (k0_t16 : Fin k0_t16_loop.trips), ∀ a, (k0_off51 v101 k0_t16) a + S16.size a ≤ S30728.size a := fun i v101 k0_hw4 k0_t16 => k0_hw4.2.2.2.2.2 k0_t16

def k0_off52 (k0_t16 : Fin k0_t16_loop.trips) : Fin 1 → Nat :=
  let c0_i32_120 : BitVec 32 := 0#32
  let c1_i32_122 : BitVec 32 := 1#32
  let arg8 : BitVec 32 := Scf.iv c0_i32_120 c1_i32_122 k0_t16
  let c16_i32_124 : BitVec 32 := 16#32
  let v135 : BitVec 32 := Scalar.muli arg8 c16_i32_124
  let v136 : Index := Scalar.indexCast v135
  ![v136.toNat]
def k0_off53 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c3_i32 : BitVec 32 := 3#32
  let v99 : BitVec 32 := Scalar.addi v2 c3_i32
  let c92160_i32_124_r32 : BitVec 32 := 92160#32
  ![v99.toNat, 92160]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4x2x131072 : Shape := ⟨4, ![16, 4, 2, 131072]⟩
abbrev S_ : Shape := ⟨0, ![]⟩
abbrev S1 : Shape := ⟨1, ![1]⟩
abbrev S2 : Shape := ⟨1, ![2]⟩
abbrev S1x1x1x1 : Shape := ⟨4, ![1, 1, 1, 1]⟩
abbrev S2x1 : Shape := ⟨2, ![2, 1]⟩
abbrev S2x2 : Shape := ⟨2, ![2, 2]⟩
abbrev S1x2 : Shape := ⟨2, ![1, 2]⟩
abbrev S16x4x1x1 : Shape := ⟨4, ![16, 4, 1, 1]⟩
abbrev S16x4x2x1 : Shape := ⟨4, ![16, 4, 2, 1]⟩
abbrev S122880 : Shape := ⟨1, ![122880]⟩
abbrev S1x1x1x122880 : Shape := ⟨4, ![1, 1, 1, 122880]⟩
abbrev S16x4x2x122880 : Shape := ⟨4, ![16, 4, 2, 122880]⟩
abbrev S16x4x2x122880x1 : Shape := ⟨5, ![16, 4, 2, 122880, 1]⟩
abbrev S1x1x1x1x1 : Shape := ⟨5, ![1, 1, 1, 1, 1]⟩

abbrev nBuf : Space → Nat
  | .hbm => 833
  | .vmem => 0
  | .smem => 0
  | _ => 0

abbrev hbmTy0_0 (i : Nat) : BufTy := match i % 128 with
  | 0 => ⟨S16x4x2x131072, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S1x1x1x1, .i32⟩
  | 30 => ⟨S1x1x1x1, .i32⟩
  | 31 => ⟨S1, .i32⟩
  | 32 => ⟨S_, .i32⟩
  | 33 => ⟨S1, .i32⟩
  | 34 => ⟨S_, .i32⟩
  | 35 => ⟨S2, .i64⟩
  | 36 => ⟨S_, .i64⟩
  | 37 => ⟨S2, .i64⟩
  | 38 => ⟨S2, .i64⟩
  | 39 => ⟨S_, .i64⟩
  | 40 => ⟨S2, .i64⟩
  | 41 => ⟨S2, .i64⟩
  | 42 => ⟨S2, .i32⟩
  | 43 => ⟨S2, .i32⟩
  | 44 => ⟨S_, .i32⟩
  | 45 => ⟨S_, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S16x4x2x131072, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S16x4x2x131072, .f32⟩

abbrev hbmTy0_2 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S2x1, .i32⟩
  | 11 => ⟨S2x1, .i32⟩
  | 12 => ⟨S2x2, .i32⟩
  | 13 => ⟨S1x2, .i32⟩
  | 14 => ⟨S2, .i32⟩
  | 15 => ⟨S1x2, .i32⟩
  | 16 => ⟨S2, .i32⟩
  | 17 => ⟨S1, .i32⟩
  | 18 => ⟨S_, .i32⟩
  | 19 => ⟨S1, .i32⟩
  | 20 => ⟨S_, .i32⟩
  | 21 => ⟨S16x4x1x1, .i64⟩
  | 22 => ⟨S16x4x1x1, .i64⟩
  | 23 => ⟨S16x4x1x1, .i64⟩
  | 24 => ⟨S16x4x1x1, .i64⟩
  | 25 => ⟨S_, .i64⟩
  | 26 => ⟨S16x4x1x1, .i64⟩
  | 27 => ⟨S16x4x1x1, .i64⟩
  | 28 => ⟨S_, .i64⟩
  | 29 => ⟨S16x4x1x1, .i64⟩
  | 30 => ⟨S16x4x1x1, .i64⟩
  | 31 => ⟨S_, .i64⟩
  | 32 => ⟨S16x4x1x1, .i64⟩
  | 33 => ⟨S16x4x1x1, .i64⟩
  | 34 => ⟨S_, .i64⟩
  | 35 => ⟨S16x4x1x1, .i64⟩
  | 36 => ⟨S16x4x1x1, .i64⟩
  | 37 => ⟨S16x4x1x1, .i64⟩
  | 38 => ⟨S16x4x1x1, .i64⟩
  | 39 => ⟨S16x4x1x1, .i64⟩
  | 40 => ⟨S_, .i64⟩
  | 41 => ⟨S16x4x1x1, .i64⟩
  | 42 => ⟨S16x4x1x1, .i64⟩
  | 43 => ⟨S16x4x1x1, .i32⟩
  | 44 => ⟨S16x4x1x1, .i32⟩
  | 45 => ⟨S_, .i32⟩
  | 46 => ⟨S_, .i32⟩
  | 47 => ⟨S_, .i32⟩
  | 48 => ⟨S16x4x1x1, .i32⟩
  | 49 => ⟨S16x4x1x1, .i32⟩
  | 50 => ⟨S16x4x1x1, .i32⟩
  | 51 => ⟨S16x4x1x1, .i32⟩
  | 52 => ⟨S16x4x1x1, .i32⟩
  | 53 => ⟨S_, .i32⟩
  | 54 => ⟨S16x4x1x1, .i32⟩
  | 55 => ⟨S16x4x1x1, .i32⟩
  | 56 => ⟨S_, .i32⟩
  | 57 => ⟨S16x4x1x1, .i32⟩
  | 58 => ⟨S16x4x1x1, .i32⟩
  | 59 => ⟨S16x4x1x1, .i32⟩
  | 60 => ⟨S16x4x1x1, .i32⟩
  | 61 => ⟨S16x4x1x1, .i32⟩
  | 62 => ⟨S_, .i32⟩
  | 63 => ⟨S16x4x1x1, .i32⟩
  | 64 => ⟨S16x4x1x1, .i32⟩
  | 65 => ⟨S_, .i32⟩
  | 66 => ⟨S16x4x1x1, .i32⟩
  | 67 => ⟨S16x4x1x1, .i32⟩
  | 68 => ⟨S16x4x1x1, .i32⟩
  | 69 => ⟨S16x4x1x1, .i32⟩
  | 70 => ⟨S16x4x1x1, .i32⟩
  | 71 => ⟨S_, .i32⟩
  | 72 => ⟨S16x4x1x1, .i32⟩
  | 73 => ⟨S16x4x1x1, .i32⟩
  | 74 => ⟨S_, .i32⟩
  | 75 => ⟨S16x4x1x1, .i32⟩
  | 76 => ⟨S16x4x1x1, .i32⟩
  | 77 => ⟨S16x4x1x1, .i32⟩
  | 78 => ⟨S16x4x1x1, .i32⟩
  | 79 => ⟨S16x4x1x1, .i32⟩
  | 80 => ⟨S_, .i32⟩
  | 81 => ⟨S16x4x1x1, .i32⟩
  | 82 => ⟨S16x4x1x1, .i32⟩
  | 83 => ⟨S_, .i32⟩
  | 84 => ⟨S16x4x1x1, .i32⟩
  | 85 => ⟨S16x4x1x1, .i32⟩
  | 86 => ⟨S16x4x1x1, .i32⟩
  | 87 => ⟨S16x4x1x1, .i32⟩
  | 88 => ⟨S16x4x1x1, .i32⟩
  | 89 => ⟨S16x4x1x1, .i32⟩
  | 90 => ⟨S16x4x1x1, .i32⟩
  | 91 => ⟨S16x4x1x1, .i32⟩
  | 92 => ⟨S_, .i32⟩
  | 93 => ⟨S16x4x1x1, .i32⟩
  | 94 => ⟨S16x4x1x1, .i32⟩
  | 95 => ⟨S16x4x1x1, .i32⟩
  | 96 => ⟨S_, .i32⟩
  | 97 => ⟨S16x4x1x1, .i32⟩
  | 98 => ⟨S16x4x1x1, .i32⟩
  | 99 => ⟨S_, .i32⟩
  | 100 => ⟨S16x4x1x1, .i32⟩
  | 101 => ⟨S16x4x1x1, .i32⟩
  | 102 => ⟨S16x4x1x1, .i32⟩
  | 103 => ⟨S16x4x1x1, .i32⟩
  | 104 => ⟨S16x4x1x1, .i32⟩
  | 105 => ⟨S_, .i32⟩
  | 106 => ⟨S16x4x1x1, .i32⟩
  | 107 => ⟨S16x4x1x1, .i32⟩
  | 108 => ⟨S_, .i32⟩
  | 109 => ⟨S16x4x1x1, .i32⟩
  | 110 => ⟨S16x4x1x1, .i32⟩
  | 111 => ⟨S16x4x1x1, .i32⟩
  | 112 => ⟨S16x4x1x1, .i32⟩
  | 113 => ⟨S16x4x1x1, .i32⟩
  | 114 => ⟨S_, .i32⟩
  | 115 => ⟨S16x4x1x1, .i32⟩
  | 116 => ⟨S16x4x1x1, .i32⟩
  | 117 => ⟨S_, .i32⟩
  | 118 => ⟨S16x4x1x1, .i32⟩
  | 119 => ⟨S16x4x1x1, .i32⟩
  | 120 => ⟨S16x4x1x1, .i32⟩
  | 121 => ⟨S16x4x1x1, .i32⟩
  | 122 => ⟨S16x4x1x1, .i32⟩
  | 123 => ⟨S_, .i32⟩
  | 124 => ⟨S16x4x1x1, .i32⟩
  | 125 => ⟨S16x4x1x1, .i32⟩
  | 126 => ⟨S_, .i32⟩
  | 127 => ⟨S16x4x1x1, .i32⟩
  | _ => ⟨S16x4x2x131072, .f32⟩

abbrev hbmTy0_3 (i : Nat) : BufTy := match i % 128 with
  | 0 => ⟨S16x4x1x1, .i32⟩
  | 1 => ⟨S16x4x1x1, .i32⟩
  | 2 => ⟨S16x4x1x1, .i32⟩
  | 3 => ⟨S16x4x1x1, .i32⟩
  | 4 => ⟨S16x4x1x1, .i32⟩
  | 5 => ⟨S16x4x1x1, .i32⟩
  | 6 => ⟨S16x4x1x1, .i32⟩
  | 7 => ⟨S_, .i32⟩
  | 8 => ⟨S16x4x1x1, .i32⟩
  | 9 => ⟨S16x4x1x1, .i32⟩
  | 10 => ⟨S16x4x1x1, .i32⟩
  | 11 => ⟨S_, .i32⟩
  | 12 => ⟨S16x4x1x1, .i32⟩
  | 13 => ⟨S16x4x1x1, .i32⟩
  | 14 => ⟨S_, .i32⟩
  | 15 => ⟨S16x4x1x1, .i32⟩
  | 16 => ⟨S16x4x1x1, .i32⟩
  | 17 => ⟨S16x4x1x1, .i32⟩
  | 18 => ⟨S16x4x1x1, .i32⟩
  | 19 => ⟨S16x4x1x1, .i32⟩
  | 20 => ⟨S_, .i32⟩
  | 21 => ⟨S16x4x1x1, .i32⟩
  | 22 => ⟨S16x4x1x1, .i32⟩
  | 23 => ⟨S_, .i32⟩
  | 24 => ⟨S16x4x1x1, .i32⟩
  | 25 => ⟨S16x4x1x1, .i32⟩
  | 26 => ⟨S16x4x1x1, .i32⟩
  | 27 => ⟨S16x4x1x1, .i32⟩
  | 28 => ⟨S16x4x1x1, .i32⟩
  | 29 => ⟨S_, .i32⟩
  | 30 => ⟨S16x4x1x1, .i32⟩
  | 31 => ⟨S16x4x1x1, .i32⟩
  | 32 => ⟨S_, .i32⟩
  | 33 => ⟨S16x4x1x1, .i32⟩
  | 34 => ⟨S16x4x1x1, .i32⟩
  | 35 => ⟨S16x4x1x1, .i32⟩
  | 36 => ⟨S16x4x1x1, .i32⟩
  | 37 => ⟨S16x4x1x1, .i32⟩
  | 38 => ⟨S_, .i32⟩
  | 39 => ⟨S16x4x1x1, .i32⟩
  | 40 => ⟨S16x4x1x1, .i32⟩
  | 41 => ⟨S_, .i32⟩
  | 42 => ⟨S16x4x1x1, .i32⟩
  | 43 => ⟨S16x4x1x1, .i32⟩
  | 44 => ⟨S16x4x1x1, .i32⟩
  | 45 => ⟨S16x4x1x1, .i32⟩
  | 46 => ⟨S16x4x1x1, .i32⟩
  | 47 => ⟨S16x4x1x1, .i32⟩
  | 48 => ⟨S16x4x1x1, .i32⟩
  | 49 => ⟨S16x4x1x1, .i32⟩
  | 50 => ⟨S_, .i32⟩
  | 51 => ⟨S16x4x1x1, .i32⟩
  | 52 => ⟨S16x4x1x1, .i32⟩
  | 53 => ⟨S16x4x1x1, .i32⟩
  | 54 => ⟨S_, .i32⟩
  | 55 => ⟨S16x4x1x1, .i32⟩
  | 56 => ⟨S16x4x1x1, .i32⟩
  | 57 => ⟨S_, .i32⟩
  | 58 => ⟨S16x4x1x1, .i32⟩
  | 59 => ⟨S16x4x1x1, .i32⟩
  | 60 => ⟨S16x4x1x1, .i32⟩
  | 61 => ⟨S16x4x1x1, .i32⟩
  | 62 => ⟨S16x4x1x1, .i32⟩
  | 63 => ⟨S_, .i32⟩
  | 64 => ⟨S16x4x1x1, .i32⟩
  | 65 => ⟨S16x4x1x1, .i32⟩
  | 66 => ⟨S_, .i32⟩
  | 67 => ⟨S16x4x1x1, .i32⟩
  | 68 => ⟨S16x4x1x1, .i32⟩
  | 69 => ⟨S16x4x1x1, .i32⟩
  | 70 => ⟨S16x4x1x1, .i32⟩
  | 71 => ⟨S16x4x1x1, .i32⟩
  | 72 => ⟨S_, .i32⟩
  | 73 => ⟨S16x4x1x1, .i32⟩
  | 74 => ⟨S16x4x1x1, .i32⟩
  | 75 => ⟨S_, .i32⟩
  | 76 => ⟨S16x4x1x1, .i32⟩
  | 77 => ⟨S16x4x1x1, .i32⟩
  | 78 => ⟨S16x4x1x1, .i32⟩
  | 79 => ⟨S16x4x1x1, .i32⟩
  | 80 => ⟨S16x4x1x1, .i32⟩
  | 81 => ⟨S_, .i32⟩
  | 82 => ⟨S16x4x1x1, .i32⟩
  | 83 => ⟨S16x4x1x1, .i32⟩
  | 84 => ⟨S_, .i32⟩
  | 85 => ⟨S16x4x1x1, .i32⟩
  | 86 => ⟨S16x4x1x1, .i32⟩
  | 87 => ⟨S16x4x1x1, .i32⟩
  | 88 => ⟨S16x4x1x1, .i32⟩
  | 89 => ⟨S16x4x1x1, .i32⟩
  | 90 => ⟨S16x4x1x1, .i32⟩
  | 91 => ⟨S16x4x1x1, .i32⟩
  | 92 => ⟨S16x4x1x1, .i32⟩
  | 93 => ⟨S_, .i32⟩
  | 94 => ⟨S16x4x1x1, .i32⟩
  | 95 => ⟨S16x4x1x1, .i32⟩
  | 96 => ⟨S16x4x1x1, .i32⟩
  | 97 => ⟨S_, .i32⟩
  | 98 => ⟨S16x4x1x1, .i32⟩
  | 99 => ⟨S16x4x1x1, .i32⟩
  | 100 => ⟨S_, .i32⟩
  | 101 => ⟨S16x4x1x1, .i32⟩
  | 102 => ⟨S16x4x1x1, .i32⟩
  | 103 => ⟨S16x4x1x1, .i32⟩
  | 104 => ⟨S16x4x1x1, .i32⟩
  | 105 => ⟨S16x4x1x1, .i32⟩
  | 106 => ⟨S_, .i32⟩
  | 107 => ⟨S16x4x1x1, .i32⟩
  | 108 => ⟨S16x4x1x1, .i32⟩
  | 109 => ⟨S_, .i32⟩
  | 110 => ⟨S16x4x1x1, .i32⟩
  | 111 => ⟨S16x4x1x1, .i32⟩
  | 112 => ⟨S16x4x1x1, .i32⟩
  | 113 => ⟨S16x4x1x1, .i32⟩
  | 114 => ⟨S16x4x1x1, .i32⟩
  | 115 => ⟨S_, .i32⟩
  | 116 => ⟨S16x4x1x1, .i32⟩
  | 117 => ⟨S16x4x1x1, .i32⟩
  | 118 => ⟨S_, .i32⟩
  | 119 => ⟨S16x4x1x1, .i32⟩
  | 120 => ⟨S16x4x1x1, .i32⟩
  | 121 => ⟨S16x4x1x1, .i32⟩
  | 122 => ⟨S16x4x1x1, .i32⟩
  | 123 => ⟨S16x4x1x1, .i32⟩
  | 124 => ⟨S_, .i32⟩
  | 125 => ⟨S16x4x1x1, .i32⟩
  | 126 => ⟨S16x4x1x1, .i32⟩
  | 127 => ⟨S_, .i32⟩
  | _ => ⟨S16x4x2x131072, .f32⟩

abbrev hbmTy0_4 (i : Nat) : BufTy := match i % 128 with
  | 0 => ⟨S16x4x1x1, .i32⟩
  | 1 => ⟨S16x4x1x1, .i32⟩
  | 2 => ⟨S16x4x1x1, .i32⟩
  | 3 => ⟨S16x4x1x1, .i32⟩
  | 4 => ⟨S16x4x1x1, .i32⟩
  | 5 => ⟨S16x4x1x1, .i32⟩
  | 6 => ⟨S16x4x1x1, .i32⟩
  | 7 => ⟨S16x4x1x1, .i32⟩
  | 8 => ⟨S_, .i32⟩
  | 9 => ⟨S16x4x1x1, .i32⟩
  | 10 => ⟨S16x4x1x1, .i32⟩
  | 11 => ⟨S16x4x1x1, .i32⟩
  | 12 => ⟨S1, .i32⟩
  | 13 => ⟨S_, .i32⟩
  | 14 => ⟨S1, .i32⟩
  | 15 => ⟨S_, .i32⟩
  | 16 => ⟨S16x4x1x1, .i64⟩
  | 17 => ⟨S16x4x1x1, .i64⟩
  | 18 => ⟨S16x4x1x1, .i64⟩
  | 19 => ⟨S16x4x1x1, .i64⟩
  | 20 => ⟨S_, .i64⟩
  | 21 => ⟨S16x4x1x1, .i64⟩
  | 22 => ⟨S16x4x1x1, .i64⟩
  | 23 => ⟨S_, .i64⟩
  | 24 => ⟨S16x4x1x1, .i64⟩
  | 25 => ⟨S16x4x1x1, .i64⟩
  | 26 => ⟨S_, .i64⟩
  | 27 => ⟨S16x4x1x1, .i64⟩
  | 28 => ⟨S16x4x1x1, .i64⟩
  | 29 => ⟨S_, .i64⟩
  | 30 => ⟨S16x4x1x1, .i64⟩
  | 31 => ⟨S16x4x1x1, .i64⟩
  | 32 => ⟨S16x4x1x1, .i64⟩
  | 33 => ⟨S16x4x1x1, .i64⟩
  | 34 => ⟨S16x4x1x1, .i64⟩
  | 35 => ⟨S_, .i64⟩
  | 36 => ⟨S16x4x1x1, .i64⟩
  | 37 => ⟨S16x4x1x1, .i64⟩
  | 38 => ⟨S16x4x1x1, .i32⟩
  | 39 => ⟨S16x4x1x1, .i32⟩
  | 40 => ⟨S_, .i32⟩
  | 41 => ⟨S_, .i32⟩
  | 42 => ⟨S_, .i32⟩
  | 43 => ⟨S16x4x1x1, .i32⟩
  | 44 => ⟨S16x4x1x1, .i32⟩
  | 45 => ⟨S16x4x1x1, .i32⟩
  | 46 => ⟨S16x4x1x1, .i32⟩
  | 47 => ⟨S16x4x1x1, .i32⟩
  | 48 => ⟨S_, .i32⟩
  | 49 => ⟨S16x4x1x1, .i32⟩
  | 50 => ⟨S16x4x1x1, .i32⟩
  | 51 => ⟨S_, .i32⟩
  | 52 => ⟨S16x4x1x1, .i32⟩
  | 53 => ⟨S16x4x1x1, .i32⟩
  | 54 => ⟨S16x4x1x1, .i32⟩
  | 55 => ⟨S16x4x1x1, .i32⟩
  | 56 => ⟨S16x4x1x1, .i32⟩
  | 57 => ⟨S_, .i32⟩
  | 58 => ⟨S16x4x1x1, .i32⟩
  | 59 => ⟨S16x4x1x1, .i32⟩
  | 60 => ⟨S_, .i32⟩
  | 61 => ⟨S16x4x1x1, .i32⟩
  | 62 => ⟨S16x4x1x1, .i32⟩
  | 63 => ⟨S16x4x1x1, .i32⟩
  | 64 => ⟨S16x4x1x1, .i32⟩
  | 65 => ⟨S16x4x1x1, .i32⟩
  | 66 => ⟨S_, .i32⟩
  | 67 => ⟨S16x4x1x1, .i32⟩
  | 68 => ⟨S16x4x1x1, .i32⟩
  | 69 => ⟨S_, .i32⟩
  | 70 => ⟨S16x4x1x1, .i32⟩
  | 71 => ⟨S16x4x1x1, .i32⟩
  | 72 => ⟨S16x4x1x1, .i32⟩
  | 73 => ⟨S16x4x1x1, .i32⟩
  | 74 => ⟨S16x4x1x1, .i32⟩
  | 75 => ⟨S_, .i32⟩
  | 76 => ⟨S16x4x1x1, .i32⟩
  | 77 => ⟨S16x4x1x1, .i32⟩
  | 78 => ⟨S_, .i32⟩
  | 79 => ⟨S16x4x1x1, .i32⟩
  | 80 => ⟨S16x4x1x1, .i32⟩
  | 81 => ⟨S16x4x1x1, .i32⟩
  | 82 => ⟨S16x4x1x1, .i32⟩
  | 83 => ⟨S16x4x1x1, .i32⟩
  | 84 => ⟨S16x4x1x1, .i32⟩
  | 85 => ⟨S16x4x1x1, .i32⟩
  | 86 => ⟨S16x4x1x1, .i32⟩
  | 87 => ⟨S_, .i32⟩
  | 88 => ⟨S16x4x1x1, .i32⟩
  | 89 => ⟨S16x4x1x1, .i32⟩
  | 90 => ⟨S16x4x1x1, .i32⟩
  | 91 => ⟨S_, .i32⟩
  | 92 => ⟨S16x4x1x1, .i32⟩
  | 93 => ⟨S16x4x1x1, .i32⟩
  | 94 => ⟨S_, .i32⟩
  | 95 => ⟨S16x4x1x1, .i32⟩
  | 96 => ⟨S16x4x1x1, .i32⟩
  | 97 => ⟨S16x4x1x1, .i32⟩
  | 98 => ⟨S16x4x1x1, .i32⟩
  | 99 => ⟨S16x4x1x1, .i32⟩
  | 100 => ⟨S_, .i32⟩
  | 101 => ⟨S16x4x1x1, .i32⟩
  | 102 => ⟨S16x4x1x1, .i32⟩
  | 103 => ⟨S_, .i32⟩
  | 104 => ⟨S16x4x1x1, .i32⟩
  | 105 => ⟨S16x4x1x1, .i32⟩
  | 106 => ⟨S16x4x1x1, .i32⟩
  | 107 => ⟨S16x4x1x1, .i32⟩
  | 108 => ⟨S16x4x1x1, .i32⟩
  | 109 => ⟨S_, .i32⟩
  | 110 => ⟨S16x4x1x1, .i32⟩
  | 111 => ⟨S16x4x1x1, .i32⟩
  | 112 => ⟨S_, .i32⟩
  | 113 => ⟨S16x4x1x1, .i32⟩
  | 114 => ⟨S16x4x1x1, .i32⟩
  | 115 => ⟨S16x4x1x1, .i32⟩
  | 116 => ⟨S16x4x1x1, .i32⟩
  | 117 => ⟨S16x4x1x1, .i32⟩
  | 118 => ⟨S_, .i32⟩
  | 119 => ⟨S16x4x1x1, .i32⟩
  | 120 => ⟨S16x4x1x1, .i32⟩
  | 121 => ⟨S_, .i32⟩
  | 122 => ⟨S16x4x1x1, .i32⟩
  | 123 => ⟨S16x4x1x1, .i32⟩
  | 124 => ⟨S16x4x1x1, .i32⟩
  | 125 => ⟨S16x4x1x1, .i32⟩
  | 126 => ⟨S16x4x1x1, .i32⟩
  | 127 => ⟨S16x4x1x1, .i32⟩
  | _ => ⟨S16x4x2x131072, .f32⟩

abbrev hbmTy0_5 (i : Nat) : BufTy := match i % 128 with
  | 0 => ⟨S16x4x1x1, .i32⟩
  | 1 => ⟨S16x4x1x1, .i32⟩
  | 2 => ⟨S_, .i32⟩
  | 3 => ⟨S16x4x1x1, .i32⟩
  | 4 => ⟨S16x4x1x1, .i32⟩
  | 5 => ⟨S16x4x1x1, .i32⟩
  | 6 => ⟨S_, .i32⟩
  | 7 => ⟨S16x4x1x1, .i32⟩
  | 8 => ⟨S16x4x1x1, .i32⟩
  | 9 => ⟨S_, .i32⟩
  | 10 => ⟨S16x4x1x1, .i32⟩
  | 11 => ⟨S16x4x1x1, .i32⟩
  | 12 => ⟨S16x4x1x1, .i32⟩
  | 13 => ⟨S16x4x1x1, .i32⟩
  | 14 => ⟨S16x4x1x1, .i32⟩
  | 15 => ⟨S_, .i32⟩
  | 16 => ⟨S16x4x1x1, .i32⟩
  | 17 => ⟨S16x4x1x1, .i32⟩
  | 18 => ⟨S_, .i32⟩
  | 19 => ⟨S16x4x1x1, .i32⟩
  | 20 => ⟨S16x4x1x1, .i32⟩
  | 21 => ⟨S16x4x1x1, .i32⟩
  | 22 => ⟨S16x4x1x1, .i32⟩
  | 23 => ⟨S16x4x1x1, .i32⟩
  | 24 => ⟨S_, .i32⟩
  | 25 => ⟨S16x4x1x1, .i32⟩
  | 26 => ⟨S16x4x1x1, .i32⟩
  | 27 => ⟨S_, .i32⟩
  | 28 => ⟨S16x4x1x1, .i32⟩
  | 29 => ⟨S16x4x1x1, .i32⟩
  | 30 => ⟨S16x4x1x1, .i32⟩
  | 31 => ⟨S16x4x1x1, .i32⟩
  | 32 => ⟨S16x4x1x1, .i32⟩
  | 33 => ⟨S_, .i32⟩
  | 34 => ⟨S16x4x1x1, .i32⟩
  | 35 => ⟨S16x4x1x1, .i32⟩
  | 36 => ⟨S_, .i32⟩
  | 37 => ⟨S16x4x1x1, .i32⟩
  | 38 => ⟨S16x4x1x1, .i32⟩
  | 39 => ⟨S16x4x1x1, .i32⟩
  | 40 => ⟨S16x4x1x1, .i32⟩
  | 41 => ⟨S16x4x1x1, .i32⟩
  | 42 => ⟨S16x4x1x1, .i32⟩
  | 43 => ⟨S16x4x1x1, .i32⟩
  | 44 => ⟨S16x4x1x1, .i32⟩
  | 45 => ⟨S_, .i32⟩
  | 46 => ⟨S16x4x1x1, .i32⟩
  | 47 => ⟨S16x4x1x1, .i32⟩
  | 48 => ⟨S16x4x1x1, .i32⟩
  | 49 => ⟨S_, .i32⟩
  | 50 => ⟨S16x4x1x1, .i32⟩
  | 51 => ⟨S16x4x1x1, .i32⟩
  | 52 => ⟨S_, .i32⟩
  | 53 => ⟨S16x4x1x1, .i32⟩
  | 54 => ⟨S16x4x1x1, .i32⟩
  | 55 => ⟨S16x4x1x1, .i32⟩
  | 56 => ⟨S16x4x1x1, .i32⟩
  | 57 => ⟨S16x4x1x1, .i32⟩
  | 58 => ⟨S_, .i32⟩
  | 59 => ⟨S16x4x1x1, .i32⟩
  | 60 => ⟨S16x4x1x1, .i32⟩
  | 61 => ⟨S_, .i32⟩
  | 62 => ⟨S16x4x1x1, .i32⟩
  | 63 => ⟨S16x4x1x1, .i32⟩
  | 64 => ⟨S16x4x1x1, .i32⟩
  | 65 => ⟨S16x4x1x1, .i32⟩
  | 66 => ⟨S16x4x1x1, .i32⟩
  | 67 => ⟨S_, .i32⟩
  | 68 => ⟨S16x4x1x1, .i32⟩
  | 69 => ⟨S16x4x1x1, .i32⟩
  | 70 => ⟨S_, .i32⟩
  | 71 => ⟨S16x4x1x1, .i32⟩
  | 72 => ⟨S16x4x1x1, .i32⟩
  | 73 => ⟨S16x4x1x1, .i32⟩
  | 74 => ⟨S16x4x1x1, .i32⟩
  | 75 => ⟨S16x4x1x1, .i32⟩
  | 76 => ⟨S_, .i32⟩
  | 77 => ⟨S16x4x1x1, .i32⟩
  | 78 => ⟨S16x4x1x1, .i32⟩
  | 79 => ⟨S_, .i32⟩
  | 80 => ⟨S16x4x1x1, .i32⟩
  | 81 => ⟨S16x4x1x1, .i32⟩
  | 82 => ⟨S16x4x1x1, .i32⟩
  | 83 => ⟨S16x4x1x1, .i32⟩
  | 84 => ⟨S16x4x1x1, .i32⟩
  | 85 => ⟨S16x4x1x1, .i32⟩
  | 86 => ⟨S16x4x1x1, .i32⟩
  | 87 => ⟨S16x4x1x1, .i32⟩
  | 88 => ⟨S_, .i32⟩
  | 89 => ⟨S16x4x1x1, .i32⟩
  | 90 => ⟨S16x4x1x1, .i32⟩
  | 91 => ⟨S16x4x1x1, .i32⟩
  | 92 => ⟨S_, .i32⟩
  | 93 => ⟨S16x4x1x1, .i32⟩
  | 94 => ⟨S16x4x1x1, .i32⟩
  | 95 => ⟨S_, .i32⟩
  | 96 => ⟨S16x4x1x1, .i32⟩
  | 97 => ⟨S16x4x1x1, .i32⟩
  | 98 => ⟨S16x4x1x1, .i32⟩
  | 99 => ⟨S16x4x1x1, .i32⟩
  | 100 => ⟨S16x4x1x1, .i32⟩
  | 101 => ⟨S_, .i32⟩
  | 102 => ⟨S16x4x1x1, .i32⟩
  | 103 => ⟨S16x4x1x1, .i32⟩
  | 104 => ⟨S_, .i32⟩
  | 105 => ⟨S16x4x1x1, .i32⟩
  | 106 => ⟨S16x4x1x1, .i32⟩
  | 107 => ⟨S16x4x1x1, .i32⟩
  | 108 => ⟨S16x4x1x1, .i32⟩
  | 109 => ⟨S16x4x1x1, .i32⟩
  | 110 => ⟨S_, .i32⟩
  | 111 => ⟨S16x4x1x1, .i32⟩
  | 112 => ⟨S16x4x1x1, .i32⟩
  | 113 => ⟨S_, .i32⟩
  | 114 => ⟨S16x4x1x1, .i32⟩
  | 115 => ⟨S16x4x1x1, .i32⟩
  | 116 => ⟨S16x4x1x1, .i32⟩
  | 117 => ⟨S16x4x1x1, .i32⟩
  | 118 => ⟨S16x4x1x1, .i32⟩
  | 119 => ⟨S_, .i32⟩
  | 120 => ⟨S16x4x1x1, .i32⟩
  | 121 => ⟨S16x4x1x1, .i32⟩
  | 122 => ⟨S_, .i32⟩
  | 123 => ⟨S16x4x1x1, .i32⟩
  | 124 => ⟨S16x4x1x1, .i32⟩
  | 125 => ⟨S16x4x1x1, .i32⟩
  | 126 => ⟨S16x4x1x1, .i32⟩
  | 127 => ⟨S16x4x1x1, .i32⟩
  | _ => ⟨S16x4x2x131072, .f32⟩

abbrev hbmTy0_6 (i : Nat) : BufTy := match i % 128 with
  | 0 => ⟨S16x4x1x1, .i32⟩
  | 1 => ⟨S16x4x1x1, .i32⟩
  | 2 => ⟨S16x4x1x1, .i32⟩
  | 3 => ⟨S_, .i32⟩
  | 4 => ⟨S16x4x1x1, .i32⟩
  | 5 => ⟨S16x4x1x1, .i32⟩
  | 6 => ⟨S16x4x1x1, .i32⟩
  | 7 => ⟨S1x1x1x1, .i32⟩
  | 8 => ⟨S1x1x1x1, .i32⟩
  | 9 => ⟨S1x1x1x1, .i1⟩
  | 10 => ⟨S_, .i32⟩
  | 11 => ⟨S1x1x1x1, .i32⟩
  | 12 => ⟨S1x1x1x1, .i32⟩
  | 13 => ⟨S1x1x1x1, .i1⟩
  | 14 => ⟨S1x1x1x1, .i1⟩
  | 15 => ⟨S1x1x1x1, .i1⟩
  | 16 => ⟨S_, .i32⟩
  | 17 => ⟨S1x1x1x1, .i32⟩
  | 18 => ⟨S1x1x1x1, .i32⟩
  | 19 => ⟨S1x1x1x1, .i32⟩
  | 20 => ⟨S_, .i32⟩
  | 21 => ⟨S1x1x1x1, .i32⟩
  | 22 => ⟨S1x1x1x1, .i32⟩
  | 23 => ⟨S1x1x1x1, .i32⟩
  | 24 => ⟨S1x1x1x1, .i32⟩
  | 25 => ⟨S16x4x1x1, .i32⟩
  | 26 => ⟨S16x4x1x1, .i32⟩
  | 27 => ⟨S16x4x1x1, .i32⟩
  | 28 => ⟨S16x4x1x1, .i32⟩
  | 29 => ⟨S16x4x1x1, .i32⟩
  | 30 => ⟨S16x4x1x1, .i32⟩
  | 31 => ⟨S16x4x1x1, .i32⟩
  | 32 => ⟨S16x4x1x1, .i32⟩
  | 33 => ⟨S16x4x1x1, .i32⟩
  | 34 => ⟨S16x4x1x1, .i32⟩
  | 35 => ⟨S16x4x1x1, .i32⟩
  | 36 => ⟨S16x4x1x1, .i32⟩
  | 37 => ⟨S16x4x2x1, .i32⟩
  | 38 => ⟨S122880, .i32⟩
  | 39 => ⟨S1x1x1x122880, .i32⟩
  | 40 => ⟨S16x4x2x122880, .i32⟩
  | 41 => ⟨S16x4x2x122880, .i32⟩
  | 42 => ⟨S16x4x2x122880, .i32⟩
  | 43 => ⟨S_, .i32⟩
  | 44 => ⟨S16x4x2x122880, .i32⟩
  | 45 => ⟨S16x4x2x122880, .i1⟩
  | 46 => ⟨S_, .i32⟩
  | 47 => ⟨S16x4x2x122880, .i32⟩
  | 48 => ⟨S16x4x2x122880, .i32⟩
  | 49 => ⟨S16x4x2x122880, .i32⟩
  | 50 => ⟨S16x4x2x122880x1, .i32⟩
  | 51 => ⟨S1, .i32⟩
  | 52 => ⟨S_, .i32⟩
  | 53 => ⟨S16x4x2x122880x1, .i32⟩
  | 54 => ⟨S16x4x2x122880x1, .i1⟩
  | 55 => ⟨S1x1x1x1x1, .i32⟩
  | 56 => ⟨S16x4x2x122880x1, .i32⟩
  | 57 => ⟨S16x4x2x122880x1, .i1⟩
  | 58 => ⟨S16x4x2x122880x1, .i1⟩
  | 59 => ⟨S_, .i1⟩
  | 60 => ⟨S16x4x2x122880, .i1⟩
  | 61 => ⟨S16x4x2x122880, .f32⟩
  | 62 => ⟨S_, .f32⟩
  | 63 => ⟨S16x4x2x122880, .f32⟩
  | 64 => ⟨S16x4x2x122880, .f32⟩
  | _ => ⟨S16x4x2x131072, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16x4x2x131072, .f32⟩

abbrev bufTy : (tb : Table) → Fin (tcTables nBuf tb) → BufTy
  | .hbm, ⟨i, _⟩ => hbmTy i
  | _, _ => ⟨S16x4x2x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_c_3 : Ref sig .tc := ⟨.hbm, 12, rfl⟩
abbrev main_call0_c : Ref sig .tc := ⟨.hbm, 13, rfl⟩
abbrev main_call0_c_0 : Ref sig .tc := ⟨.hbm, 14, rfl⟩
abbrev main_call0_c_1 : Ref sig .tc := ⟨.hbm, 15, rfl⟩
abbrev main_call0_call0_v0 : Ref sig .tc := ⟨.hbm, 16, rfl⟩
abbrev main_call0_v0 : Ref sig .tc := ⟨.hbm, 17, rfl⟩
abbrev main_call0_v1 : Ref sig .tc := ⟨.hbm, 18, rfl⟩
abbrev main_call0_c_2 : Ref sig .tc := ⟨.hbm, 19, rfl⟩
abbrev main_call0_c_3 : Ref sig .tc := ⟨.hbm, 20, rfl⟩
abbrev main_call0_call1_v0 : Ref sig .tc := ⟨.hbm, 21, rfl⟩
abbrev main_call0_v2 : Ref sig .tc := ⟨.hbm, 22, rfl⟩
abbrev main_call0_v3 : Ref sig .tc := ⟨.hbm, 23, rfl⟩
abbrev main_call0_c_4 : Ref sig .tc := ⟨.hbm, 24, rfl⟩
abbrev main_call0_c_5 : Ref sig .tc := ⟨.hbm, 25, rfl⟩
abbrev main_call0_call2_v0 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_call3_v0 : Ref sig .tc := ⟨.hbm, 31, rfl⟩
abbrev main_call0_call3_v1 : Ref sig .tc := ⟨.hbm, 32, rfl⟩
abbrev main_call0_call3_v2 : Ref sig .tc := ⟨.hbm, 33, rfl⟩
abbrev main_call0_call3_v3 : Ref sig .tc := ⟨.hbm, 34, rfl⟩
abbrev main_call0_call3_v4 : Ref sig .tc := ⟨.hbm, 35, rfl⟩
abbrev main_call0_call3_c : Ref sig .tc := ⟨.hbm, 36, rfl⟩
abbrev main_call0_call3_v5 : Ref sig .tc := ⟨.hbm, 37, rfl⟩
abbrev main_call0_call3_v6 : Ref sig .tc := ⟨.hbm, 38, rfl⟩
abbrev main_call0_call3_c_0 : Ref sig .tc := ⟨.hbm, 39, rfl⟩
abbrev main_call0_call3_v7 : Ref sig .tc := ⟨.hbm, 40, rfl⟩
abbrev main_call0_call3_v8 : Ref sig .tc := ⟨.hbm, 41, rfl⟩
abbrev main_call0_call3_v9 : Ref sig .tc := ⟨.hbm, 42, rfl⟩
abbrev main_call0_call3_v10 : Ref sig .tc := ⟨.hbm, 43, rfl⟩
abbrev main_call0_call3_call0_v0 : Ref sig .tc := ⟨.hbm, 44, rfl⟩
abbrev main_call0_call3_call0_c : Ref sig .tc := ⟨.hbm, 45, rfl⟩
abbrev main_call0_call3_call0_v1 : Ref sig .tc := ⟨.hbm, 46, rfl⟩
abbrev main_call0_call3_call0_v2 : Ref sig .tc := ⟨.hbm, 47, rfl⟩
abbrev main_call0_call3_call0_v3 : Ref sig .tc := ⟨.hbm, 48, rfl⟩
abbrev main_call0_call3_call0_v4 : Ref sig .tc := ⟨.hbm, 49, rfl⟩
abbrev main_call0_call3_call0_v5 : Ref sig .tc := ⟨.hbm, 50, rfl⟩
abbrev main_call0_call3_call0_v6 : Ref sig .tc := ⟨.hbm, 51, rfl⟩
abbrev main_call0_call3_call0_c_0 : Ref sig .tc := ⟨.hbm, 52, rfl⟩
abbrev main_call0_call3_call0_v7 : Ref sig .tc := ⟨.hbm, 53, rfl⟩
abbrev main_call0_call3_call0_v8 : Ref sig .tc := ⟨.hbm, 54, rfl⟩
abbrev main_call0_call3_call0_c_1 : Ref sig .tc := ⟨.hbm, 55, rfl⟩
abbrev main_call0_call3_call0_v9 : Ref sig .tc := ⟨.hbm, 56, rfl⟩
abbrev main_call0_call3_call0_v10 : Ref sig .tc := ⟨.hbm, 57, rfl⟩
abbrev main_call0_call3_call0_v11 : Ref sig .tc := ⟨.hbm, 58, rfl⟩
abbrev main_call0_call3_call0_v12 : Ref sig .tc := ⟨.hbm, 59, rfl⟩
abbrev main_call0_call3_call0_v13 : Ref sig .tc := ⟨.hbm, 60, rfl⟩
abbrev main_call0_call3_call0_c_2 : Ref sig .tc := ⟨.hbm, 61, rfl⟩
abbrev main_call0_call3_call0_v14 : Ref sig .tc := ⟨.hbm, 62, rfl⟩
abbrev main_call0_call3_call0_v15 : Ref sig .tc := ⟨.hbm, 63, rfl⟩
abbrev main_call0_call3_call0_c_3 : Ref sig .tc := ⟨.hbm, 64, rfl⟩
abbrev main_call0_call3_call0_v16 : Ref sig .tc := ⟨.hbm, 65, rfl⟩
abbrev main_call0_call3_call0_v17 : Ref sig .tc := ⟨.hbm, 66, rfl⟩
abbrev main_call0_call3_call0_v18 : Ref sig .tc := ⟨.hbm, 67, rfl⟩
abbrev main_call0_call3_call0_v19 : Ref sig .tc := ⟨.hbm, 68, rfl⟩
abbrev main_call0_call3_call0_v20 : Ref sig .tc := ⟨.hbm, 69, rfl⟩
abbrev main_call0_call3_call0_c_4 : Ref sig .tc := ⟨.hbm, 70, rfl⟩
abbrev main_call0_call3_call0_v21 : Ref sig .tc := ⟨.hbm, 71, rfl⟩
abbrev main_call0_call3_call0_v22 : Ref sig .tc := ⟨.hbm, 72, rfl⟩
abbrev main_call0_call3_call0_c_5 : Ref sig .tc := ⟨.hbm, 73, rfl⟩
abbrev main_call0_call3_call0_v23 : Ref sig .tc := ⟨.hbm, 74, rfl⟩
abbrev main_call0_call3_call0_v24 : Ref sig .tc := ⟨.hbm, 75, rfl⟩
abbrev main_call0_call3_call0_v25 : Ref sig .tc := ⟨.hbm, 76, rfl⟩
abbrev main_call0_call3_call0_v26 : Ref sig .tc := ⟨.hbm, 77, rfl⟩
abbrev main_call0_call3_call0_v27 : Ref sig .tc := ⟨.hbm, 78, rfl⟩
abbrev main_call0_call3_call0_c_6 : Ref sig .tc := ⟨.hbm, 79, rfl⟩
abbrev main_call0_call3_call0_v28 : Ref sig .tc := ⟨.hbm, 80, rfl⟩
abbrev main_call0_call3_call0_v29 : Ref sig .tc := ⟨.hbm, 81, rfl⟩
abbrev main_call0_call3_call0_c_7 : Ref sig .tc := ⟨.hbm, 82, rfl⟩
abbrev main_call0_call3_call0_v30 : Ref sig .tc := ⟨.hbm, 83, rfl⟩
abbrev main_call0_call3_call0_v31 : Ref sig .tc := ⟨.hbm, 84, rfl⟩
abbrev main_call0_call3_call0_v32 : Ref sig .tc := ⟨.hbm, 85, rfl⟩
abbrev main_call0_call3_call0_v33 : Ref sig .tc := ⟨.hbm, 86, rfl⟩
abbrev main_call0_call3_call0_v34 : Ref sig .tc := ⟨.hbm, 87, rfl⟩
abbrev main_call0_call3_call0_v35 : Ref sig .tc := ⟨.hbm, 88, rfl⟩
abbrev main_call0_call3_call0_v36 : Ref sig .tc := ⟨.hbm, 89, rfl⟩
abbrev main_call0_call3_call0_v37 : Ref sig .tc := ⟨.hbm, 90, rfl⟩
abbrev main_call0_call3_call0_c_8 : Ref sig .tc := ⟨.hbm, 91, rfl⟩
abbrev main_call0_call3_call0_v38 : Ref sig .tc := ⟨.hbm, 92, rfl⟩
abbrev main_call0_call3_call0_v39 : Ref sig .tc := ⟨.hbm, 93, rfl⟩
abbrev main_call0_call3_call0_v40 : Ref sig .tc := ⟨.hbm, 94, rfl⟩
abbrev main_call0_call3_call0_c_9 : Ref sig .tc := ⟨.hbm, 95, rfl⟩
abbrev main_call0_call3_call0_v41 : Ref sig .tc := ⟨.hbm, 96, rfl⟩
abbrev main_call0_call3_call0_v42 : Ref sig .tc := ⟨.hbm, 97, rfl⟩
abbrev main_call0_call3_call0_c_10 : Ref sig .tc := ⟨.hbm, 98, rfl⟩
abbrev main_call0_call3_call0_v43 : Ref sig .tc := ⟨.hbm, 99, rfl⟩
abbrev main_call0_call3_call0_v44 : Ref sig .tc := ⟨.hbm, 100, rfl⟩
abbrev main_call0_call3_call0_v45 : Ref sig .tc := ⟨.hbm, 101, rfl⟩
abbrev main_call0_call3_call0_v46 : Ref sig .tc := ⟨.hbm, 102, rfl⟩
abbrev main_call0_call3_call0_v47 : Ref sig .tc := ⟨.hbm, 103, rfl⟩
abbrev main_call0_call3_call0_c_11 : Ref sig .tc := ⟨.hbm, 104, rfl⟩
abbrev main_call0_call3_call0_v48 : Ref sig .tc := ⟨.hbm, 105, rfl⟩
abbrev main_call0_call3_call0_v49 : Ref sig .tc := ⟨.hbm, 106, rfl⟩
abbrev main_call0_call3_call0_c_12 : Ref sig .tc := ⟨.hbm, 107, rfl⟩
abbrev main_call0_call3_call0_v50 : Ref sig .tc := ⟨.hbm, 108, rfl⟩
abbrev main_call0_call3_call0_v51 : Ref sig .tc := ⟨.hbm, 109, rfl⟩
abbrev main_call0_call3_call0_v52 : Ref sig .tc := ⟨.hbm, 110, rfl⟩
abbrev main_call0_call3_call0_v53 : Ref sig .tc := ⟨.hbm, 111, rfl⟩
abbrev main_call0_call3_call0_v54 : Ref sig .tc := ⟨.hbm, 112, rfl⟩
abbrev main_call0_call3_call0_c_13 : Ref sig .tc := ⟨.hbm, 113, rfl⟩
abbrev main_call0_call3_call0_v55 : Ref sig .tc := ⟨.hbm, 114, rfl⟩
abbrev main_call0_call3_call0_v56 : Ref sig .tc := ⟨.hbm, 115, rfl⟩
abbrev main_call0_call3_call0_c_14 : Ref sig .tc := ⟨.hbm, 116, rfl⟩
abbrev main_call0_call3_call0_v57 : Ref sig .tc := ⟨.hbm, 117, rfl⟩
abbrev main_call0_call3_call0_v58 : Ref sig .tc := ⟨.hbm, 118, rfl⟩
abbrev main_call0_call3_call0_v59 : Ref sig .tc := ⟨.hbm, 119, rfl⟩
abbrev main_call0_call3_call0_v60 : Ref sig .tc := ⟨.hbm, 120, rfl⟩
abbrev main_call0_call3_call0_v61 : Ref sig .tc := ⟨.hbm, 121, rfl⟩
abbrev main_call0_call3_call0_c_15 : Ref sig .tc := ⟨.hbm, 122, rfl⟩
abbrev main_call0_call3_call0_v62 : Ref sig .tc := ⟨.hbm, 123, rfl⟩
abbrev main_call0_call3_call0_v63 : Ref sig .tc := ⟨.hbm, 124, rfl⟩
abbrev main_call0_call3_call0_c_16 : Ref sig .tc := ⟨.hbm, 125, rfl⟩
abbrev main_call0_call3_call0_v64 : Ref sig .tc := ⟨.hbm, 126, rfl⟩
abbrev main_call0_call3_call0_v65 : Ref sig .tc := ⟨.hbm, 127, rfl⟩
abbrev main_call0_call3_call0_v66 : Ref sig .tc := ⟨.hbm, 128, rfl⟩
abbrev main_call0_call3_call0_v67 : Ref sig .tc := ⟨.hbm, 129, rfl⟩
abbrev main_call0_call3_call0_v68 : Ref sig .tc := ⟨.hbm, 130, rfl⟩
abbrev main_call0_call3_call0_v69 : Ref sig .tc := ⟨.hbm, 131, rfl⟩
abbrev main_call0_call3_call0_v70 : Ref sig .tc := ⟨.hbm, 132, rfl⟩
abbrev main_call0_call3_call0_v71 : Ref sig .tc := ⟨.hbm, 133, rfl⟩
abbrev main_call0_call3_call0_c_17 : Ref sig .tc := ⟨.hbm, 134, rfl⟩
abbrev main_call0_call3_call0_v72 : Ref sig .tc := ⟨.hbm, 135, rfl⟩
abbrev main_call0_call3_call0_v73 : Ref sig .tc := ⟨.hbm, 136, rfl⟩
abbrev main_call0_call3_call0_v74 : Ref sig .tc := ⟨.hbm, 137, rfl⟩
abbrev main_call0_call3_call0_c_18 : Ref sig .tc := ⟨.hbm, 138, rfl⟩
abbrev main_call0_call3_call0_v75 : Ref sig .tc := ⟨.hbm, 139, rfl⟩
abbrev main_call0_call3_call0_v76 : Ref sig .tc := ⟨.hbm, 140, rfl⟩
abbrev main_call0_call3_call0_c_19 : Ref sig .tc := ⟨.hbm, 141, rfl⟩
abbrev main_call0_call3_call0_v77 : Ref sig .tc := ⟨.hbm, 142, rfl⟩
abbrev main_call0_call3_call0_v78 : Ref sig .tc := ⟨.hbm, 143, rfl⟩
abbrev main_call0_call3_call0_v79 : Ref sig .tc := ⟨.hbm, 144, rfl⟩
abbrev main_call0_call3_call0_v80 : Ref sig .tc := ⟨.hbm, 145, rfl⟩
abbrev main_call0_call3_call0_v81 : Ref sig .tc := ⟨.hbm, 146, rfl⟩
abbrev main_call0_call3_call0_c_20 : Ref sig .tc := ⟨.hbm, 147, rfl⟩
abbrev main_call0_call3_call0_v82 : Ref sig .tc := ⟨.hbm, 148, rfl⟩
abbrev main_call0_call3_call0_v83 : Ref sig .tc := ⟨.hbm, 149, rfl⟩
abbrev main_call0_call3_call0_c_21 : Ref sig .tc := ⟨.hbm, 150, rfl⟩
abbrev main_call0_call3_call0_v84 : Ref sig .tc := ⟨.hbm, 151, rfl⟩
abbrev main_call0_call3_call0_v85 : Ref sig .tc := ⟨.hbm, 152, rfl⟩
abbrev main_call0_call3_call0_v86 : Ref sig .tc := ⟨.hbm, 153, rfl⟩
abbrev main_call0_call3_call0_v87 : Ref sig .tc := ⟨.hbm, 154, rfl⟩
abbrev main_call0_call3_call0_v88 : Ref sig .tc := ⟨.hbm, 155, rfl⟩
abbrev main_call0_call3_call0_c_22 : Ref sig .tc := ⟨.hbm, 156, rfl⟩
abbrev main_call0_call3_call0_v89 : Ref sig .tc := ⟨.hbm, 157, rfl⟩
abbrev main_call0_call3_call0_v90 : Ref sig .tc := ⟨.hbm, 158, rfl⟩
abbrev main_call0_call3_call0_c_23 : Ref sig .tc := ⟨.hbm, 159, rfl⟩
abbrev main_call0_call3_call0_v91 : Ref sig .tc := ⟨.hbm, 160, rfl⟩
abbrev main_call0_call3_call0_v92 : Ref sig .tc := ⟨.hbm, 161, rfl⟩
abbrev main_call0_call3_call0_v93 : Ref sig .tc := ⟨.hbm, 162, rfl⟩
abbrev main_call0_call3_call0_v94 : Ref sig .tc := ⟨.hbm, 163, rfl⟩
abbrev main_call0_call3_call0_v95 : Ref sig .tc := ⟨.hbm, 164, rfl⟩
abbrev main_call0_call3_call0_c_24 : Ref sig .tc := ⟨.hbm, 165, rfl⟩
abbrev main_call0_call3_call0_v96 : Ref sig .tc := ⟨.hbm, 166, rfl⟩
abbrev main_call0_call3_call0_v97 : Ref sig .tc := ⟨.hbm, 167, rfl⟩
abbrev main_call0_call3_call0_c_25 : Ref sig .tc := ⟨.hbm, 168, rfl⟩
abbrev main_call0_call3_call0_v98 : Ref sig .tc := ⟨.hbm, 169, rfl⟩
abbrev main_call0_call3_call0_v99 : Ref sig .tc := ⟨.hbm, 170, rfl⟩
abbrev main_call0_call3_call0_v100 : Ref sig .tc := ⟨.hbm, 171, rfl⟩
abbrev main_call0_call3_call0_v101 : Ref sig .tc := ⟨.hbm, 172, rfl⟩
abbrev main_call0_call3_call0_v102 : Ref sig .tc := ⟨.hbm, 173, rfl⟩
abbrev main_call0_call3_call0_v103 : Ref sig .tc := ⟨.hbm, 174, rfl⟩
abbrev main_call0_call3_call0_v104 : Ref sig .tc := ⟨.hbm, 175, rfl⟩
abbrev main_call0_call3_call0_v105 : Ref sig .tc := ⟨.hbm, 176, rfl⟩
abbrev main_call0_call3_call0_c_26 : Ref sig .tc := ⟨.hbm, 177, rfl⟩
abbrev main_call0_call3_call0_v106 : Ref sig .tc := ⟨.hbm, 178, rfl⟩
abbrev main_call0_call3_call0_v107 : Ref sig .tc := ⟨.hbm, 179, rfl⟩
abbrev main_call0_call3_call0_v108 : Ref sig .tc := ⟨.hbm, 180, rfl⟩
abbrev main_call0_call3_call0_c_27 : Ref sig .tc := ⟨.hbm, 181, rfl⟩
abbrev main_call0_call3_call0_v109 : Ref sig .tc := ⟨.hbm, 182, rfl⟩
abbrev main_call0_call3_call0_v110 : Ref sig .tc := ⟨.hbm, 183, rfl⟩
abbrev main_call0_call3_call0_c_28 : Ref sig .tc := ⟨.hbm, 184, rfl⟩
abbrev main_call0_call3_call0_v111 : Ref sig .tc := ⟨.hbm, 185, rfl⟩
abbrev main_call0_call3_call0_v112 : Ref sig .tc := ⟨.hbm, 186, rfl⟩
abbrev main_call0_call3_call0_v113 : Ref sig .tc := ⟨.hbm, 187, rfl⟩
abbrev main_call0_call3_call0_v114 : Ref sig .tc := ⟨.hbm, 188, rfl⟩
abbrev main_call0_call3_call0_v115 : Ref sig .tc := ⟨.hbm, 189, rfl⟩
abbrev main_call0_call3_call0_c_29 : Ref sig .tc := ⟨.hbm, 190, rfl⟩
abbrev main_call0_call3_call0_v116 : Ref sig .tc := ⟨.hbm, 191, rfl⟩
abbrev main_call0_call3_call0_v117 : Ref sig .tc := ⟨.hbm, 192, rfl⟩
abbrev main_call0_call3_call0_c_30 : Ref sig .tc := ⟨.hbm, 193, rfl⟩
abbrev main_call0_call3_call0_v118 : Ref sig .tc := ⟨.hbm, 194, rfl⟩
abbrev main_call0_call3_call0_v119 : Ref sig .tc := ⟨.hbm, 195, rfl⟩
abbrev main_call0_call3_call0_v120 : Ref sig .tc := ⟨.hbm, 196, rfl⟩
abbrev main_call0_call3_call0_v121 : Ref sig .tc := ⟨.hbm, 197, rfl⟩
abbrev main_call0_call3_call0_v122 : Ref sig .tc := ⟨.hbm, 198, rfl⟩
abbrev main_call0_call3_call0_c_31 : Ref sig .tc := ⟨.hbm, 199, rfl⟩
abbrev main_call0_call3_call0_v123 : Ref sig .tc := ⟨.hbm, 200, rfl⟩
abbrev main_call0_call3_call0_v124 : Ref sig .tc := ⟨.hbm, 201, rfl⟩
abbrev main_call0_call3_call0_c_32 : Ref sig .tc := ⟨.hbm, 202, rfl⟩
abbrev main_call0_call3_call0_v125 : Ref sig .tc := ⟨.hbm, 203, rfl⟩
abbrev main_call0_call3_call0_v126 : Ref sig .tc := ⟨.hbm, 204, rfl⟩
abbrev main_call0_call3_call0_v127 : Ref sig .tc := ⟨.hbm, 205, rfl⟩
abbrev main_call0_call3_call0_v128 : Ref sig .tc := ⟨.hbm, 206, rfl⟩
abbrev main_call0_call3_call0_v129 : Ref sig .tc := ⟨.hbm, 207, rfl⟩
abbrev main_call0_call3_call0_c_33 : Ref sig .tc := ⟨.hbm, 208, rfl⟩
abbrev main_call0_call3_call0_v130 : Ref sig .tc := ⟨.hbm, 209, rfl⟩
abbrev main_call0_call3_call0_v131 : Ref sig .tc := ⟨.hbm, 210, rfl⟩
abbrev main_call0_call3_call0_c_34 : Ref sig .tc := ⟨.hbm, 211, rfl⟩
abbrev main_call0_call3_call0_v132 : Ref sig .tc := ⟨.hbm, 212, rfl⟩
abbrev main_call0_call3_call0_v133 : Ref sig .tc := ⟨.hbm, 213, rfl⟩
abbrev main_call0_call3_call0_v134 : Ref sig .tc := ⟨.hbm, 214, rfl⟩
abbrev main_call0_call3_call0_v135 : Ref sig .tc := ⟨.hbm, 215, rfl⟩
abbrev main_call0_call3_call0_v136 : Ref sig .tc := ⟨.hbm, 216, rfl⟩
abbrev main_call0_call3_call0_v137 : Ref sig .tc := ⟨.hbm, 217, rfl⟩
abbrev main_call0_call3_call0_v138 : Ref sig .tc := ⟨.hbm, 218, rfl⟩
abbrev main_call0_call3_call0_v139 : Ref sig .tc := ⟨.hbm, 219, rfl⟩
abbrev main_call0_call3_call0_c_35 : Ref sig .tc := ⟨.hbm, 220, rfl⟩
abbrev main_call0_call3_call0_v140 : Ref sig .tc := ⟨.hbm, 221, rfl⟩
abbrev main_call0_call3_call0_v141 : Ref sig .tc := ⟨.hbm, 222, rfl⟩
abbrev main_call0_call3_call0_v142 : Ref sig .tc := ⟨.hbm, 223, rfl⟩
abbrev main_call0_call3_call0_c_36 : Ref sig .tc := ⟨.hbm, 224, rfl⟩
abbrev main_call0_call3_call0_v143 : Ref sig .tc := ⟨.hbm, 225, rfl⟩
abbrev main_call0_call3_call0_v144 : Ref sig .tc := ⟨.hbm, 226, rfl⟩
abbrev main_call0_call3_call0_c_37 : Ref sig .tc := ⟨.hbm, 227, rfl⟩
abbrev main_call0_call3_call0_v145 : Ref sig .tc := ⟨.hbm, 228, rfl⟩
abbrev main_call0_call3_call0_v146 : Ref sig .tc := ⟨.hbm, 229, rfl⟩
abbrev main_call0_call3_call0_v147 : Ref sig .tc := ⟨.hbm, 230, rfl⟩
abbrev main_call0_call3_call0_v148 : Ref sig .tc := ⟨.hbm, 231, rfl⟩
abbrev main_call0_call3_call0_v149 : Ref sig .tc := ⟨.hbm, 232, rfl⟩
abbrev main_call0_call3_call0_c_38 : Ref sig .tc := ⟨.hbm, 233, rfl⟩
abbrev main_call0_call3_call0_v150 : Ref sig .tc := ⟨.hbm, 234, rfl⟩
abbrev main_call0_call3_call0_v151 : Ref sig .tc := ⟨.hbm, 235, rfl⟩
abbrev main_call0_call3_call0_c_39 : Ref sig .tc := ⟨.hbm, 236, rfl⟩
abbrev main_call0_call3_call0_v152 : Ref sig .tc := ⟨.hbm, 237, rfl⟩
abbrev main_call0_call3_call0_v153 : Ref sig .tc := ⟨.hbm, 238, rfl⟩
abbrev main_call0_call3_call0_v154 : Ref sig .tc := ⟨.hbm, 239, rfl⟩
abbrev main_call0_call3_call0_v155 : Ref sig .tc := ⟨.hbm, 240, rfl⟩
abbrev main_call0_call3_call0_v156 : Ref sig .tc := ⟨.hbm, 241, rfl⟩
abbrev main_call0_call3_call0_c_40 : Ref sig .tc := ⟨.hbm, 242, rfl⟩
abbrev main_call0_call3_call0_v157 : Ref sig .tc := ⟨.hbm, 243, rfl⟩
abbrev main_call0_call3_call0_v158 : Ref sig .tc := ⟨.hbm, 244, rfl⟩
abbrev main_call0_call3_call0_c_41 : Ref sig .tc := ⟨.hbm, 245, rfl⟩
abbrev main_call0_call3_call0_v159 : Ref sig .tc := ⟨.hbm, 246, rfl⟩
abbrev main_call0_call3_call0_v160 : Ref sig .tc := ⟨.hbm, 247, rfl⟩
abbrev main_call0_call3_call0_v161 : Ref sig .tc := ⟨.hbm, 248, rfl⟩
abbrev main_call0_call3_call0_v162 : Ref sig .tc := ⟨.hbm, 249, rfl⟩
abbrev main_call0_call3_call0_v163 : Ref sig .tc := ⟨.hbm, 250, rfl⟩
abbrev main_call0_call3_call0_c_42 : Ref sig .tc := ⟨.hbm, 251, rfl⟩
abbrev main_call0_call3_call0_v164 : Ref sig .tc := ⟨.hbm, 252, rfl⟩
abbrev main_call0_call3_call0_v165 : Ref sig .tc := ⟨.hbm, 253, rfl⟩
abbrev main_call0_call3_call0_c_43 : Ref sig .tc := ⟨.hbm, 254, rfl⟩
abbrev main_call0_call3_call0_v166 : Ref sig .tc := ⟨.hbm, 255, rfl⟩
abbrev main_call0_call3_call0_v167 : Ref sig .tc := ⟨.hbm, 256, rfl⟩
abbrev main_call0_call3_call0_v168 : Ref sig .tc := ⟨.hbm, 257, rfl⟩
abbrev main_call0_call3_call0_v169 : Ref sig .tc := ⟨.hbm, 258, rfl⟩
abbrev main_call0_call3_call0_v170 : Ref sig .tc := ⟨.hbm, 259, rfl⟩
abbrev main_call0_call3_v11_0 : Ref sig .tc := ⟨.hbm, 260, rfl⟩
abbrev main_call0_call3_call0_v172 : Ref sig .tc := ⟨.hbm, 261, rfl⟩
abbrev main_call0_call3_call0_v173 : Ref sig .tc := ⟨.hbm, 262, rfl⟩
abbrev main_call0_call3_call0_c_44 : Ref sig .tc := ⟨.hbm, 263, rfl⟩
abbrev main_call0_call3_call0_v174 : Ref sig .tc := ⟨.hbm, 264, rfl⟩
abbrev main_call0_call3_v11_1 : Ref sig .tc := ⟨.hbm, 265, rfl⟩
abbrev main_call0_call3_v12 : Ref sig .tc := ⟨.hbm, 266, rfl⟩
abbrev main_call0_call3_v13 : Ref sig .tc := ⟨.hbm, 267, rfl⟩
abbrev main_call0_v8 : Ref sig .tc := ⟨.hbm, 268, rfl⟩
abbrev main_call0_v9 : Ref sig .tc := ⟨.hbm, 269, rfl⟩
abbrev main_call0_v10 : Ref sig .tc := ⟨.hbm, 270, rfl⟩
abbrev main_call0_v11 : Ref sig .tc := ⟨.hbm, 271, rfl⟩
abbrev main_call0_v12 : Ref sig .tc := ⟨.hbm, 272, rfl⟩
abbrev main_call0_v13 : Ref sig .tc := ⟨.hbm, 273, rfl⟩
abbrev main_call0_v14 : Ref sig .tc := ⟨.hbm, 274, rfl⟩
abbrev main_call0_v15 : Ref sig .tc := ⟨.hbm, 275, rfl⟩
abbrev main_call0_v16 : Ref sig .tc := ⟨.hbm, 276, rfl⟩
abbrev main_call0_v17 : Ref sig .tc := ⟨.hbm, 277, rfl⟩
abbrev main_call0_v18 : Ref sig .tc := ⟨.hbm, 278, rfl⟩
abbrev main_call0_v19 : Ref sig .tc := ⟨.hbm, 279, rfl⟩
abbrev main_call0_v20 : Ref sig .tc := ⟨.hbm, 280, rfl⟩
abbrev main_call0_c_6 : Ref sig .tc := ⟨.hbm, 281, rfl⟩
abbrev main_call0_v21 : Ref sig .tc := ⟨.hbm, 282, rfl⟩
abbrev main_call0_v22 : Ref sig .tc := ⟨.hbm, 283, rfl⟩
abbrev main_call0_c_7 : Ref sig .tc := ⟨.hbm, 284, rfl⟩
abbrev main_call0_v23 : Ref sig .tc := ⟨.hbm, 285, rfl⟩
abbrev main_call0_v24 : Ref sig .tc := ⟨.hbm, 286, rfl⟩
abbrev main_call0_c_8 : Ref sig .tc := ⟨.hbm, 287, rfl⟩
abbrev main_call0_v25 : Ref sig .tc := ⟨.hbm, 288, rfl⟩
abbrev main_call0_v26 : Ref sig .tc := ⟨.hbm, 289, rfl⟩
abbrev main_call0_c_9 : Ref sig .tc := ⟨.hbm, 290, rfl⟩
abbrev main_call0_v27 : Ref sig .tc := ⟨.hbm, 291, rfl⟩
abbrev main_call0_v28 : Ref sig .tc := ⟨.hbm, 292, rfl⟩
abbrev main_call0_v29 : Ref sig .tc := ⟨.hbm, 293, rfl⟩
abbrev main_call0_v30 : Ref sig .tc := ⟨.hbm, 294, rfl⟩
abbrev main_call0_v31 : Ref sig .tc := ⟨.hbm, 295, rfl⟩
abbrev main_call0_c_10 : Ref sig .tc := ⟨.hbm, 296, rfl⟩
abbrev main_call0_v32 : Ref sig .tc := ⟨.hbm, 297, rfl⟩
abbrev main_call0_v33 : Ref sig .tc := ⟨.hbm, 298, rfl⟩
abbrev main_call0_v34 : Ref sig .tc := ⟨.hbm, 299, rfl⟩
abbrev main_call0_v35 : Ref sig .tc := ⟨.hbm, 300, rfl⟩
abbrev main_call0_call4_v0 : Ref sig .tc := ⟨.hbm, 301, rfl⟩
abbrev main_call0_call4_c : Ref sig .tc := ⟨.hbm, 302, rfl⟩
abbrev main_call0_call4_v1 : Ref sig .tc := ⟨.hbm, 303, rfl⟩
abbrev main_call0_call4_v2 : Ref sig .tc := ⟨.hbm, 304, rfl⟩
abbrev main_call0_call4_v3 : Ref sig .tc := ⟨.hbm, 305, rfl⟩
abbrev main_call0_call4_v4 : Ref sig .tc := ⟨.hbm, 306, rfl⟩
abbrev main_call0_call4_v5 : Ref sig .tc := ⟨.hbm, 307, rfl⟩
abbrev main_call0_call4_v6 : Ref sig .tc := ⟨.hbm, 308, rfl⟩
abbrev main_call0_call4_c_0 : Ref sig .tc := ⟨.hbm, 309, rfl⟩
abbrev main_call0_call4_v7 : Ref sig .tc := ⟨.hbm, 310, rfl⟩
abbrev main_call0_call4_v8 : Ref sig .tc := ⟨.hbm, 311, rfl⟩
abbrev main_call0_call4_c_1 : Ref sig .tc := ⟨.hbm, 312, rfl⟩
abbrev main_call0_call4_v9 : Ref sig .tc := ⟨.hbm, 313, rfl⟩
abbrev main_call0_call4_v10 : Ref sig .tc := ⟨.hbm, 314, rfl⟩
abbrev main_call0_call4_v11 : Ref sig .tc := ⟨.hbm, 315, rfl⟩
abbrev main_call0_call4_v12 : Ref sig .tc := ⟨.hbm, 316, rfl⟩
abbrev main_call0_call4_v13 : Ref sig .tc := ⟨.hbm, 317, rfl⟩
abbrev main_call0_call4_c_2 : Ref sig .tc := ⟨.hbm, 318, rfl⟩
abbrev main_call0_call4_v14 : Ref sig .tc := ⟨.hbm, 319, rfl⟩
abbrev main_call0_call4_v15 : Ref sig .tc := ⟨.hbm, 320, rfl⟩
abbrev main_call0_call4_c_3 : Ref sig .tc := ⟨.hbm, 321, rfl⟩
abbrev main_call0_call4_v16 : Ref sig .tc := ⟨.hbm, 322, rfl⟩
abbrev main_call0_call4_v17 : Ref sig .tc := ⟨.hbm, 323, rfl⟩
abbrev main_call0_call4_v18 : Ref sig .tc := ⟨.hbm, 324, rfl⟩
abbrev main_call0_call4_v19 : Ref sig .tc := ⟨.hbm, 325, rfl⟩
abbrev main_call0_call4_v20 : Ref sig .tc := ⟨.hbm, 326, rfl⟩
abbrev main_call0_call4_c_4 : Ref sig .tc := ⟨.hbm, 327, rfl⟩
abbrev main_call0_call4_v21 : Ref sig .tc := ⟨.hbm, 328, rfl⟩
abbrev main_call0_call4_v22 : Ref sig .tc := ⟨.hbm, 329, rfl⟩
abbrev main_call0_call4_c_5 : Ref sig .tc := ⟨.hbm, 330, rfl⟩
abbrev main_call0_call4_v23 : Ref sig .tc := ⟨.hbm, 331, rfl⟩
abbrev main_call0_call4_v24 : Ref sig .tc := ⟨.hbm, 332, rfl⟩
abbrev main_call0_call4_v25 : Ref sig .tc := ⟨.hbm, 333, rfl⟩
abbrev main_call0_call4_v26 : Ref sig .tc := ⟨.hbm, 334, rfl⟩
abbrev main_call0_call4_v27 : Ref sig .tc := ⟨.hbm, 335, rfl⟩
abbrev main_call0_call4_c_6 : Ref sig .tc := ⟨.hbm, 336, rfl⟩
abbrev main_call0_call4_v28 : Ref sig .tc := ⟨.hbm, 337, rfl⟩
abbrev main_call0_call4_v29 : Ref sig .tc := ⟨.hbm, 338, rfl⟩
abbrev main_call0_call4_c_7 : Ref sig .tc := ⟨.hbm, 339, rfl⟩
abbrev main_call0_call4_v30 : Ref sig .tc := ⟨.hbm, 340, rfl⟩
abbrev main_call0_call4_v31 : Ref sig .tc := ⟨.hbm, 341, rfl⟩
abbrev main_call0_call4_v32 : Ref sig .tc := ⟨.hbm, 342, rfl⟩
abbrev main_call0_call4_v33 : Ref sig .tc := ⟨.hbm, 343, rfl⟩
abbrev main_call0_call4_v34 : Ref sig .tc := ⟨.hbm, 344, rfl⟩
abbrev main_call0_call4_v35 : Ref sig .tc := ⟨.hbm, 345, rfl⟩
abbrev main_call0_call4_v36 : Ref sig .tc := ⟨.hbm, 346, rfl⟩
abbrev main_call0_call4_v37 : Ref sig .tc := ⟨.hbm, 347, rfl⟩
abbrev main_call0_call4_c_8 : Ref sig .tc := ⟨.hbm, 348, rfl⟩
abbrev main_call0_call4_v38 : Ref sig .tc := ⟨.hbm, 349, rfl⟩
abbrev main_call0_call4_v39 : Ref sig .tc := ⟨.hbm, 350, rfl⟩
abbrev main_call0_call4_v40 : Ref sig .tc := ⟨.hbm, 351, rfl⟩
abbrev main_call0_call4_c_9 : Ref sig .tc := ⟨.hbm, 352, rfl⟩
abbrev main_call0_call4_v41 : Ref sig .tc := ⟨.hbm, 353, rfl⟩
abbrev main_call0_call4_v42 : Ref sig .tc := ⟨.hbm, 354, rfl⟩
abbrev main_call0_call4_c_10 : Ref sig .tc := ⟨.hbm, 355, rfl⟩
abbrev main_call0_call4_v43 : Ref sig .tc := ⟨.hbm, 356, rfl⟩
abbrev main_call0_call4_v44 : Ref sig .tc := ⟨.hbm, 357, rfl⟩
abbrev main_call0_call4_v45 : Ref sig .tc := ⟨.hbm, 358, rfl⟩
abbrev main_call0_call4_v46 : Ref sig .tc := ⟨.hbm, 359, rfl⟩
abbrev main_call0_call4_v47 : Ref sig .tc := ⟨.hbm, 360, rfl⟩
abbrev main_call0_call4_c_11 : Ref sig .tc := ⟨.hbm, 361, rfl⟩
abbrev main_call0_call4_v48 : Ref sig .tc := ⟨.hbm, 362, rfl⟩
abbrev main_call0_call4_v49 : Ref sig .tc := ⟨.hbm, 363, rfl⟩
abbrev main_call0_call4_c_12 : Ref sig .tc := ⟨.hbm, 364, rfl⟩
abbrev main_call0_call4_v50 : Ref sig .tc := ⟨.hbm, 365, rfl⟩
abbrev main_call0_call4_v51 : Ref sig .tc := ⟨.hbm, 366, rfl⟩
abbrev main_call0_call4_v52 : Ref sig .tc := ⟨.hbm, 367, rfl⟩
abbrev main_call0_call4_v53 : Ref sig .tc := ⟨.hbm, 368, rfl⟩
abbrev main_call0_call4_v54 : Ref sig .tc := ⟨.hbm, 369, rfl⟩
abbrev main_call0_call4_c_13 : Ref sig .tc := ⟨.hbm, 370, rfl⟩
abbrev main_call0_call4_v55 : Ref sig .tc := ⟨.hbm, 371, rfl⟩
abbrev main_call0_call4_v56 : Ref sig .tc := ⟨.hbm, 372, rfl⟩
abbrev main_call0_call4_c_14 : Ref sig .tc := ⟨.hbm, 373, rfl⟩
abbrev main_call0_call4_v57 : Ref sig .tc := ⟨.hbm, 374, rfl⟩
abbrev main_call0_call4_v58 : Ref sig .tc := ⟨.hbm, 375, rfl⟩
abbrev main_call0_call4_v59 : Ref sig .tc := ⟨.hbm, 376, rfl⟩
abbrev main_call0_call4_v60 : Ref sig .tc := ⟨.hbm, 377, rfl⟩
abbrev main_call0_call4_v61 : Ref sig .tc := ⟨.hbm, 378, rfl⟩
abbrev main_call0_call4_c_15 : Ref sig .tc := ⟨.hbm, 379, rfl⟩
abbrev main_call0_call4_v62 : Ref sig .tc := ⟨.hbm, 380, rfl⟩
abbrev main_call0_call4_v63 : Ref sig .tc := ⟨.hbm, 381, rfl⟩
abbrev main_call0_call4_c_16 : Ref sig .tc := ⟨.hbm, 382, rfl⟩
abbrev main_call0_call4_v64 : Ref sig .tc := ⟨.hbm, 383, rfl⟩
abbrev main_call0_call4_v65 : Ref sig .tc := ⟨.hbm, 384, rfl⟩
abbrev main_call0_call4_v66 : Ref sig .tc := ⟨.hbm, 385, rfl⟩
abbrev main_call0_call4_v67 : Ref sig .tc := ⟨.hbm, 386, rfl⟩
abbrev main_call0_call4_v68 : Ref sig .tc := ⟨.hbm, 387, rfl⟩
abbrev main_call0_call4_v69 : Ref sig .tc := ⟨.hbm, 388, rfl⟩
abbrev main_call0_call4_v70 : Ref sig .tc := ⟨.hbm, 389, rfl⟩
abbrev main_call0_call4_v71 : Ref sig .tc := ⟨.hbm, 390, rfl⟩
abbrev main_call0_call4_c_17 : Ref sig .tc := ⟨.hbm, 391, rfl⟩
abbrev main_call0_call4_v72 : Ref sig .tc := ⟨.hbm, 392, rfl⟩
abbrev main_call0_call4_v73 : Ref sig .tc := ⟨.hbm, 393, rfl⟩
abbrev main_call0_call4_v74 : Ref sig .tc := ⟨.hbm, 394, rfl⟩
abbrev main_call0_call4_c_18 : Ref sig .tc := ⟨.hbm, 395, rfl⟩
abbrev main_call0_call4_v75 : Ref sig .tc := ⟨.hbm, 396, rfl⟩
abbrev main_call0_call4_v76 : Ref sig .tc := ⟨.hbm, 397, rfl⟩
abbrev main_call0_call4_c_19 : Ref sig .tc := ⟨.hbm, 398, rfl⟩
abbrev main_call0_call4_v77 : Ref sig .tc := ⟨.hbm, 399, rfl⟩
abbrev main_call0_call4_v78 : Ref sig .tc := ⟨.hbm, 400, rfl⟩
abbrev main_call0_call4_v79 : Ref sig .tc := ⟨.hbm, 401, rfl⟩
abbrev main_call0_call4_v80 : Ref sig .tc := ⟨.hbm, 402, rfl⟩
abbrev main_call0_call4_v81 : Ref sig .tc := ⟨.hbm, 403, rfl⟩
abbrev main_call0_call4_c_20 : Ref sig .tc := ⟨.hbm, 404, rfl⟩
abbrev main_call0_call4_v82 : Ref sig .tc := ⟨.hbm, 405, rfl⟩
abbrev main_call0_call4_v83 : Ref sig .tc := ⟨.hbm, 406, rfl⟩
abbrev main_call0_call4_c_21 : Ref sig .tc := ⟨.hbm, 407, rfl⟩
abbrev main_call0_call4_v84 : Ref sig .tc := ⟨.hbm, 408, rfl⟩
abbrev main_call0_call4_v85 : Ref sig .tc := ⟨.hbm, 409, rfl⟩
abbrev main_call0_call4_v86 : Ref sig .tc := ⟨.hbm, 410, rfl⟩
abbrev main_call0_call4_v87 : Ref sig .tc := ⟨.hbm, 411, rfl⟩
abbrev main_call0_call4_v88 : Ref sig .tc := ⟨.hbm, 412, rfl⟩
abbrev main_call0_call4_c_22 : Ref sig .tc := ⟨.hbm, 413, rfl⟩
abbrev main_call0_call4_v89 : Ref sig .tc := ⟨.hbm, 414, rfl⟩
abbrev main_call0_call4_v90 : Ref sig .tc := ⟨.hbm, 415, rfl⟩
abbrev main_call0_call4_c_23 : Ref sig .tc := ⟨.hbm, 416, rfl⟩
abbrev main_call0_call4_v91 : Ref sig .tc := ⟨.hbm, 417, rfl⟩
abbrev main_call0_call4_v92 : Ref sig .tc := ⟨.hbm, 418, rfl⟩
abbrev main_call0_call4_v93 : Ref sig .tc := ⟨.hbm, 419, rfl⟩
abbrev main_call0_call4_v94 : Ref sig .tc := ⟨.hbm, 420, rfl⟩
abbrev main_call0_call4_v95 : Ref sig .tc := ⟨.hbm, 421, rfl⟩
abbrev main_call0_call4_c_24 : Ref sig .tc := ⟨.hbm, 422, rfl⟩
abbrev main_call0_call4_v96 : Ref sig .tc := ⟨.hbm, 423, rfl⟩
abbrev main_call0_call4_v97 : Ref sig .tc := ⟨.hbm, 424, rfl⟩
abbrev main_call0_call4_c_25 : Ref sig .tc := ⟨.hbm, 425, rfl⟩
abbrev main_call0_call4_v98 : Ref sig .tc := ⟨.hbm, 426, rfl⟩
abbrev main_call0_call4_v99 : Ref sig .tc := ⟨.hbm, 427, rfl⟩
abbrev main_call0_call4_v100 : Ref sig .tc := ⟨.hbm, 428, rfl⟩
abbrev main_call0_call4_v101 : Ref sig .tc := ⟨.hbm, 429, rfl⟩
abbrev main_call0_call4_v102 : Ref sig .tc := ⟨.hbm, 430, rfl⟩
abbrev main_call0_call4_v103 : Ref sig .tc := ⟨.hbm, 431, rfl⟩
abbrev main_call0_call4_v104 : Ref sig .tc := ⟨.hbm, 432, rfl⟩
abbrev main_call0_call4_v105 : Ref sig .tc := ⟨.hbm, 433, rfl⟩
abbrev main_call0_call4_c_26 : Ref sig .tc := ⟨.hbm, 434, rfl⟩
abbrev main_call0_call4_v106 : Ref sig .tc := ⟨.hbm, 435, rfl⟩
abbrev main_call0_call4_v107 : Ref sig .tc := ⟨.hbm, 436, rfl⟩
abbrev main_call0_call4_v108 : Ref sig .tc := ⟨.hbm, 437, rfl⟩
abbrev main_call0_call4_c_27 : Ref sig .tc := ⟨.hbm, 438, rfl⟩
abbrev main_call0_call4_v109 : Ref sig .tc := ⟨.hbm, 439, rfl⟩
abbrev main_call0_call4_v110 : Ref sig .tc := ⟨.hbm, 440, rfl⟩
abbrev main_call0_call4_c_28 : Ref sig .tc := ⟨.hbm, 441, rfl⟩
abbrev main_call0_call4_v111 : Ref sig .tc := ⟨.hbm, 442, rfl⟩
abbrev main_call0_call4_v112 : Ref sig .tc := ⟨.hbm, 443, rfl⟩
abbrev main_call0_call4_v113 : Ref sig .tc := ⟨.hbm, 444, rfl⟩
abbrev main_call0_call4_v114 : Ref sig .tc := ⟨.hbm, 445, rfl⟩
abbrev main_call0_call4_v115 : Ref sig .tc := ⟨.hbm, 446, rfl⟩
abbrev main_call0_call4_c_29 : Ref sig .tc := ⟨.hbm, 447, rfl⟩
abbrev main_call0_call4_v116 : Ref sig .tc := ⟨.hbm, 448, rfl⟩
abbrev main_call0_call4_v117 : Ref sig .tc := ⟨.hbm, 449, rfl⟩
abbrev main_call0_call4_c_30 : Ref sig .tc := ⟨.hbm, 450, rfl⟩
abbrev main_call0_call4_v118 : Ref sig .tc := ⟨.hbm, 451, rfl⟩
abbrev main_call0_call4_v119 : Ref sig .tc := ⟨.hbm, 452, rfl⟩
abbrev main_call0_call4_v120 : Ref sig .tc := ⟨.hbm, 453, rfl⟩
abbrev main_call0_call4_v121 : Ref sig .tc := ⟨.hbm, 454, rfl⟩
abbrev main_call0_call4_v122 : Ref sig .tc := ⟨.hbm, 455, rfl⟩
abbrev main_call0_call4_c_31 : Ref sig .tc := ⟨.hbm, 456, rfl⟩
abbrev main_call0_call4_v123 : Ref sig .tc := ⟨.hbm, 457, rfl⟩
abbrev main_call0_call4_v124 : Ref sig .tc := ⟨.hbm, 458, rfl⟩
abbrev main_call0_call4_c_32 : Ref sig .tc := ⟨.hbm, 459, rfl⟩
abbrev main_call0_call4_v125 : Ref sig .tc := ⟨.hbm, 460, rfl⟩
abbrev main_call0_call4_v126 : Ref sig .tc := ⟨.hbm, 461, rfl⟩
abbrev main_call0_call4_v127 : Ref sig .tc := ⟨.hbm, 462, rfl⟩
abbrev main_call0_call4_v128 : Ref sig .tc := ⟨.hbm, 463, rfl⟩
abbrev main_call0_call4_v129 : Ref sig .tc := ⟨.hbm, 464, rfl⟩
abbrev main_call0_call4_c_33 : Ref sig .tc := ⟨.hbm, 465, rfl⟩
abbrev main_call0_call4_v130 : Ref sig .tc := ⟨.hbm, 466, rfl⟩
abbrev main_call0_call4_v131 : Ref sig .tc := ⟨.hbm, 467, rfl⟩
abbrev main_call0_call4_c_34 : Ref sig .tc := ⟨.hbm, 468, rfl⟩
abbrev main_call0_call4_v132 : Ref sig .tc := ⟨.hbm, 469, rfl⟩
abbrev main_call0_call4_v133 : Ref sig .tc := ⟨.hbm, 470, rfl⟩
abbrev main_call0_call4_v134 : Ref sig .tc := ⟨.hbm, 471, rfl⟩
abbrev main_call0_call4_v135 : Ref sig .tc := ⟨.hbm, 472, rfl⟩
abbrev main_call0_call4_v136 : Ref sig .tc := ⟨.hbm, 473, rfl⟩
abbrev main_call0_call4_v137 : Ref sig .tc := ⟨.hbm, 474, rfl⟩
abbrev main_call0_call4_v138 : Ref sig .tc := ⟨.hbm, 475, rfl⟩
abbrev main_call0_call4_v139 : Ref sig .tc := ⟨.hbm, 476, rfl⟩
abbrev main_call0_call4_c_35 : Ref sig .tc := ⟨.hbm, 477, rfl⟩
abbrev main_call0_call4_v140 : Ref sig .tc := ⟨.hbm, 478, rfl⟩
abbrev main_call0_call4_v141 : Ref sig .tc := ⟨.hbm, 479, rfl⟩
abbrev main_call0_call4_v142 : Ref sig .tc := ⟨.hbm, 480, rfl⟩
abbrev main_call0_call4_c_36 : Ref sig .tc := ⟨.hbm, 481, rfl⟩
abbrev main_call0_call4_v143 : Ref sig .tc := ⟨.hbm, 482, rfl⟩
abbrev main_call0_call4_v144 : Ref sig .tc := ⟨.hbm, 483, rfl⟩
abbrev main_call0_call4_c_37 : Ref sig .tc := ⟨.hbm, 484, rfl⟩
abbrev main_call0_call4_v145 : Ref sig .tc := ⟨.hbm, 485, rfl⟩
abbrev main_call0_call4_v146 : Ref sig .tc := ⟨.hbm, 486, rfl⟩
abbrev main_call0_call4_v147 : Ref sig .tc := ⟨.hbm, 487, rfl⟩
abbrev main_call0_call4_v148 : Ref sig .tc := ⟨.hbm, 488, rfl⟩
abbrev main_call0_call4_v149 : Ref sig .tc := ⟨.hbm, 489, rfl⟩
abbrev main_call0_call4_c_38 : Ref sig .tc := ⟨.hbm, 490, rfl⟩
abbrev main_call0_call4_v150 : Ref sig .tc := ⟨.hbm, 491, rfl⟩
abbrev main_call0_call4_v151 : Ref sig .tc := ⟨.hbm, 492, rfl⟩
abbrev main_call0_call4_c_39 : Ref sig .tc := ⟨.hbm, 493, rfl⟩
abbrev main_call0_call4_v152 : Ref sig .tc := ⟨.hbm, 494, rfl⟩
abbrev main_call0_call4_v153 : Ref sig .tc := ⟨.hbm, 495, rfl⟩
abbrev main_call0_call4_v154 : Ref sig .tc := ⟨.hbm, 496, rfl⟩
abbrev main_call0_call4_v155 : Ref sig .tc := ⟨.hbm, 497, rfl⟩
abbrev main_call0_call4_v156 : Ref sig .tc := ⟨.hbm, 498, rfl⟩
abbrev main_call0_call4_c_40 : Ref sig .tc := ⟨.hbm, 499, rfl⟩
abbrev main_call0_call4_v157 : Ref sig .tc := ⟨.hbm, 500, rfl⟩
abbrev main_call0_call4_v158 : Ref sig .tc := ⟨.hbm, 501, rfl⟩
abbrev main_call0_call4_c_41 : Ref sig .tc := ⟨.hbm, 502, rfl⟩
abbrev main_call0_call4_v159 : Ref sig .tc := ⟨.hbm, 503, rfl⟩
abbrev main_call0_call4_v160 : Ref sig .tc := ⟨.hbm, 504, rfl⟩
abbrev main_call0_call4_v161 : Ref sig .tc := ⟨.hbm, 505, rfl⟩
abbrev main_call0_call4_v162 : Ref sig .tc := ⟨.hbm, 506, rfl⟩
abbrev main_call0_call4_v163 : Ref sig .tc := ⟨.hbm, 507, rfl⟩
abbrev main_call0_call4_c_42 : Ref sig .tc := ⟨.hbm, 508, rfl⟩
abbrev main_call0_call4_v164 : Ref sig .tc := ⟨.hbm, 509, rfl⟩
abbrev main_call0_call4_v165 : Ref sig .tc := ⟨.hbm, 510, rfl⟩
abbrev main_call0_call4_c_43 : Ref sig .tc := ⟨.hbm, 511, rfl⟩
abbrev main_call0_call4_v166 : Ref sig .tc := ⟨.hbm, 512, rfl⟩
abbrev main_call0_call4_v167 : Ref sig .tc := ⟨.hbm, 513, rfl⟩
abbrev main_call0_call4_v168 : Ref sig .tc := ⟨.hbm, 514, rfl⟩
abbrev main_call0_call4_v169 : Ref sig .tc := ⟨.hbm, 515, rfl⟩
abbrev main_call0_call4_v170 : Ref sig .tc := ⟨.hbm, 516, rfl⟩
abbrev main_call0_v36_0 : Ref sig .tc := ⟨.hbm, 517, rfl⟩
abbrev main_call0_call4_v172 : Ref sig .tc := ⟨.hbm, 518, rfl⟩
abbrev main_call0_call4_v173 : Ref sig .tc := ⟨.hbm, 519, rfl⟩
abbrev main_call0_call4_c_44 : Ref sig .tc := ⟨.hbm, 520, rfl⟩
abbrev main_call0_call4_v174 : Ref sig .tc := ⟨.hbm, 521, rfl⟩
abbrev main_call0_v36_1 : Ref sig .tc := ⟨.hbm, 522, rfl⟩
abbrev main_call0_v37 : Ref sig .tc := ⟨.hbm, 523, rfl⟩
abbrev main_call0_v38 : Ref sig .tc := ⟨.hbm, 524, rfl⟩
abbrev main_call0_v39 : Ref sig .tc := ⟨.hbm, 525, rfl⟩
abbrev main_call0_v40 : Ref sig .tc := ⟨.hbm, 526, rfl⟩
abbrev main_call0_v41 : Ref sig .tc := ⟨.hbm, 527, rfl⟩
abbrev main_call0_v42 : Ref sig .tc := ⟨.hbm, 528, rfl⟩
abbrev main_call0_v43 : Ref sig .tc := ⟨.hbm, 529, rfl⟩
abbrev main_call0_v44 : Ref sig .tc := ⟨.hbm, 530, rfl⟩
abbrev main_call0_v45 : Ref sig .tc := ⟨.hbm, 531, rfl⟩
abbrev main_call0_c_11 : Ref sig .tc := ⟨.hbm, 532, rfl⟩
abbrev main_call0_v46 : Ref sig .tc := ⟨.hbm, 533, rfl⟩
abbrev main_call0_v47 : Ref sig .tc := ⟨.hbm, 534, rfl⟩
abbrev main_call0_c_12 : Ref sig .tc := ⟨.hbm, 535, rfl⟩
abbrev main_call0_v48 : Ref sig .tc := ⟨.hbm, 536, rfl⟩
abbrev main_call0_v49 : Ref sig .tc := ⟨.hbm, 537, rfl⟩
abbrev main_call0_c_13 : Ref sig .tc := ⟨.hbm, 538, rfl⟩
abbrev main_call0_v50 : Ref sig .tc := ⟨.hbm, 539, rfl⟩
abbrev main_call0_v51 : Ref sig .tc := ⟨.hbm, 540, rfl⟩
abbrev main_call0_c_14 : Ref sig .tc := ⟨.hbm, 541, rfl⟩
abbrev main_call0_v52 : Ref sig .tc := ⟨.hbm, 542, rfl⟩
abbrev main_call0_v53 : Ref sig .tc := ⟨.hbm, 543, rfl⟩
abbrev main_call0_v54 : Ref sig .tc := ⟨.hbm, 544, rfl⟩
abbrev main_call0_v55 : Ref sig .tc := ⟨.hbm, 545, rfl⟩
abbrev main_call0_v56 : Ref sig .tc := ⟨.hbm, 546, rfl⟩
abbrev main_call0_c_15 : Ref sig .tc := ⟨.hbm, 547, rfl⟩
abbrev main_call0_v57 : Ref sig .tc := ⟨.hbm, 548, rfl⟩
abbrev main_call0_v58 : Ref sig .tc := ⟨.hbm, 549, rfl⟩
abbrev main_call0_v59 : Ref sig .tc := ⟨.hbm, 550, rfl⟩
abbrev main_call0_v60 : Ref sig .tc := ⟨.hbm, 551, rfl⟩
abbrev main_call0_call5_v0 : Ref sig .tc := ⟨.hbm, 552, rfl⟩
abbrev main_call0_call5_c : Ref sig .tc := ⟨.hbm, 553, rfl⟩
abbrev main_call0_call5_v1 : Ref sig .tc := ⟨.hbm, 554, rfl⟩
abbrev main_call0_call5_v2 : Ref sig .tc := ⟨.hbm, 555, rfl⟩
abbrev main_call0_call5_v3 : Ref sig .tc := ⟨.hbm, 556, rfl⟩
abbrev main_call0_call5_v4 : Ref sig .tc := ⟨.hbm, 557, rfl⟩
abbrev main_call0_call5_v5 : Ref sig .tc := ⟨.hbm, 558, rfl⟩
abbrev main_call0_call5_v6 : Ref sig .tc := ⟨.hbm, 559, rfl⟩
abbrev main_call0_call5_c_0 : Ref sig .tc := ⟨.hbm, 560, rfl⟩
abbrev main_call0_call5_v7 : Ref sig .tc := ⟨.hbm, 561, rfl⟩
abbrev main_call0_call5_v8 : Ref sig .tc := ⟨.hbm, 562, rfl⟩
abbrev main_call0_call5_c_1 : Ref sig .tc := ⟨.hbm, 563, rfl⟩
abbrev main_call0_call5_v9 : Ref sig .tc := ⟨.hbm, 564, rfl⟩
abbrev main_call0_call5_v10 : Ref sig .tc := ⟨.hbm, 565, rfl⟩
abbrev main_call0_call5_v11 : Ref sig .tc := ⟨.hbm, 566, rfl⟩
abbrev main_call0_call5_v12 : Ref sig .tc := ⟨.hbm, 567, rfl⟩
abbrev main_call0_call5_v13 : Ref sig .tc := ⟨.hbm, 568, rfl⟩
abbrev main_call0_call5_c_2 : Ref sig .tc := ⟨.hbm, 569, rfl⟩
abbrev main_call0_call5_v14 : Ref sig .tc := ⟨.hbm, 570, rfl⟩
abbrev main_call0_call5_v15 : Ref sig .tc := ⟨.hbm, 571, rfl⟩
abbrev main_call0_call5_c_3 : Ref sig .tc := ⟨.hbm, 572, rfl⟩
abbrev main_call0_call5_v16 : Ref sig .tc := ⟨.hbm, 573, rfl⟩
abbrev main_call0_call5_v17 : Ref sig .tc := ⟨.hbm, 574, rfl⟩
abbrev main_call0_call5_v18 : Ref sig .tc := ⟨.hbm, 575, rfl⟩
abbrev main_call0_call5_v19 : Ref sig .tc := ⟨.hbm, 576, rfl⟩
abbrev main_call0_call5_v20 : Ref sig .tc := ⟨.hbm, 577, rfl⟩
abbrev main_call0_call5_c_4 : Ref sig .tc := ⟨.hbm, 578, rfl⟩
abbrev main_call0_call5_v21 : Ref sig .tc := ⟨.hbm, 579, rfl⟩
abbrev main_call0_call5_v22 : Ref sig .tc := ⟨.hbm, 580, rfl⟩
abbrev main_call0_call5_c_5 : Ref sig .tc := ⟨.hbm, 581, rfl⟩
abbrev main_call0_call5_v23 : Ref sig .tc := ⟨.hbm, 582, rfl⟩
abbrev main_call0_call5_v24 : Ref sig .tc := ⟨.hbm, 583, rfl⟩
abbrev main_call0_call5_v25 : Ref sig .tc := ⟨.hbm, 584, rfl⟩
abbrev main_call0_call5_v26 : Ref sig .tc := ⟨.hbm, 585, rfl⟩
abbrev main_call0_call5_v27 : Ref sig .tc := ⟨.hbm, 586, rfl⟩
abbrev main_call0_call5_c_6 : Ref sig .tc := ⟨.hbm, 587, rfl⟩
abbrev main_call0_call5_v28 : Ref sig .tc := ⟨.hbm, 588, rfl⟩
abbrev main_call0_call5_v29 : Ref sig .tc := ⟨.hbm, 589, rfl⟩
abbrev main_call0_call5_c_7 : Ref sig .tc := ⟨.hbm, 590, rfl⟩
abbrev main_call0_call5_v30 : Ref sig .tc := ⟨.hbm, 591, rfl⟩
abbrev main_call0_call5_v31 : Ref sig .tc := ⟨.hbm, 592, rfl⟩
abbrev main_call0_call5_v32 : Ref sig .tc := ⟨.hbm, 593, rfl⟩
abbrev main_call0_call5_v33 : Ref sig .tc := ⟨.hbm, 594, rfl⟩
abbrev main_call0_call5_v34 : Ref sig .tc := ⟨.hbm, 595, rfl⟩
abbrev main_call0_call5_v35 : Ref sig .tc := ⟨.hbm, 596, rfl⟩
abbrev main_call0_call5_v36 : Ref sig .tc := ⟨.hbm, 597, rfl⟩
abbrev main_call0_call5_v37 : Ref sig .tc := ⟨.hbm, 598, rfl⟩
abbrev main_call0_call5_c_8 : Ref sig .tc := ⟨.hbm, 599, rfl⟩
abbrev main_call0_call5_v38 : Ref sig .tc := ⟨.hbm, 600, rfl⟩
abbrev main_call0_call5_v39 : Ref sig .tc := ⟨.hbm, 601, rfl⟩
abbrev main_call0_call5_v40 : Ref sig .tc := ⟨.hbm, 602, rfl⟩
abbrev main_call0_call5_c_9 : Ref sig .tc := ⟨.hbm, 603, rfl⟩
abbrev main_call0_call5_v41 : Ref sig .tc := ⟨.hbm, 604, rfl⟩
abbrev main_call0_call5_v42 : Ref sig .tc := ⟨.hbm, 605, rfl⟩
abbrev main_call0_call5_c_10 : Ref sig .tc := ⟨.hbm, 606, rfl⟩
abbrev main_call0_call5_v43 : Ref sig .tc := ⟨.hbm, 607, rfl⟩
abbrev main_call0_call5_v44 : Ref sig .tc := ⟨.hbm, 608, rfl⟩
abbrev main_call0_call5_v45 : Ref sig .tc := ⟨.hbm, 609, rfl⟩
abbrev main_call0_call5_v46 : Ref sig .tc := ⟨.hbm, 610, rfl⟩
abbrev main_call0_call5_v47 : Ref sig .tc := ⟨.hbm, 611, rfl⟩
abbrev main_call0_call5_c_11 : Ref sig .tc := ⟨.hbm, 612, rfl⟩
abbrev main_call0_call5_v48 : Ref sig .tc := ⟨.hbm, 613, rfl⟩
abbrev main_call0_call5_v49 : Ref sig .tc := ⟨.hbm, 614, rfl⟩
abbrev main_call0_call5_c_12 : Ref sig .tc := ⟨.hbm, 615, rfl⟩
abbrev main_call0_call5_v50 : Ref sig .tc := ⟨.hbm, 616, rfl⟩
abbrev main_call0_call5_v51 : Ref sig .tc := ⟨.hbm, 617, rfl⟩
abbrev main_call0_call5_v52 : Ref sig .tc := ⟨.hbm, 618, rfl⟩
abbrev main_call0_call5_v53 : Ref sig .tc := ⟨.hbm, 619, rfl⟩
abbrev main_call0_call5_v54 : Ref sig .tc := ⟨.hbm, 620, rfl⟩
abbrev main_call0_call5_c_13 : Ref sig .tc := ⟨.hbm, 621, rfl⟩
abbrev main_call0_call5_v55 : Ref sig .tc := ⟨.hbm, 622, rfl⟩
abbrev main_call0_call5_v56 : Ref sig .tc := ⟨.hbm, 623, rfl⟩
abbrev main_call0_call5_c_14 : Ref sig .tc := ⟨.hbm, 624, rfl⟩
abbrev main_call0_call5_v57 : Ref sig .tc := ⟨.hbm, 625, rfl⟩
abbrev main_call0_call5_v58 : Ref sig .tc := ⟨.hbm, 626, rfl⟩
abbrev main_call0_call5_v59 : Ref sig .tc := ⟨.hbm, 627, rfl⟩
abbrev main_call0_call5_v60 : Ref sig .tc := ⟨.hbm, 628, rfl⟩
abbrev main_call0_call5_v61 : Ref sig .tc := ⟨.hbm, 629, rfl⟩
abbrev main_call0_call5_c_15 : Ref sig .tc := ⟨.hbm, 630, rfl⟩
abbrev main_call0_call5_v62 : Ref sig .tc := ⟨.hbm, 631, rfl⟩
abbrev main_call0_call5_v63 : Ref sig .tc := ⟨.hbm, 632, rfl⟩
abbrev main_call0_call5_c_16 : Ref sig .tc := ⟨.hbm, 633, rfl⟩
abbrev main_call0_call5_v64 : Ref sig .tc := ⟨.hbm, 634, rfl⟩
abbrev main_call0_call5_v65 : Ref sig .tc := ⟨.hbm, 635, rfl⟩
abbrev main_call0_call5_v66 : Ref sig .tc := ⟨.hbm, 636, rfl⟩
abbrev main_call0_call5_v67 : Ref sig .tc := ⟨.hbm, 637, rfl⟩
abbrev main_call0_call5_v68 : Ref sig .tc := ⟨.hbm, 638, rfl⟩
abbrev main_call0_call5_v69 : Ref sig .tc := ⟨.hbm, 639, rfl⟩
abbrev main_call0_call5_v70 : Ref sig .tc := ⟨.hbm, 640, rfl⟩
abbrev main_call0_call5_v71 : Ref sig .tc := ⟨.hbm, 641, rfl⟩
abbrev main_call0_call5_c_17 : Ref sig .tc := ⟨.hbm, 642, rfl⟩
abbrev main_call0_call5_v72 : Ref sig .tc := ⟨.hbm, 643, rfl⟩
abbrev main_call0_call5_v73 : Ref sig .tc := ⟨.hbm, 644, rfl⟩
abbrev main_call0_call5_v74 : Ref sig .tc := ⟨.hbm, 645, rfl⟩
abbrev main_call0_call5_c_18 : Ref sig .tc := ⟨.hbm, 646, rfl⟩
abbrev main_call0_call5_v75 : Ref sig .tc := ⟨.hbm, 647, rfl⟩
abbrev main_call0_call5_v76 : Ref sig .tc := ⟨.hbm, 648, rfl⟩
abbrev main_call0_call5_c_19 : Ref sig .tc := ⟨.hbm, 649, rfl⟩
abbrev main_call0_call5_v77 : Ref sig .tc := ⟨.hbm, 650, rfl⟩
abbrev main_call0_call5_v78 : Ref sig .tc := ⟨.hbm, 651, rfl⟩
abbrev main_call0_call5_v79 : Ref sig .tc := ⟨.hbm, 652, rfl⟩
abbrev main_call0_call5_v80 : Ref sig .tc := ⟨.hbm, 653, rfl⟩
abbrev main_call0_call5_v81 : Ref sig .tc := ⟨.hbm, 654, rfl⟩
abbrev main_call0_call5_c_20 : Ref sig .tc := ⟨.hbm, 655, rfl⟩
abbrev main_call0_call5_v82 : Ref sig .tc := ⟨.hbm, 656, rfl⟩
abbrev main_call0_call5_v83 : Ref sig .tc := ⟨.hbm, 657, rfl⟩
abbrev main_call0_call5_c_21 : Ref sig .tc := ⟨.hbm, 658, rfl⟩
abbrev main_call0_call5_v84 : Ref sig .tc := ⟨.hbm, 659, rfl⟩
abbrev main_call0_call5_v85 : Ref sig .tc := ⟨.hbm, 660, rfl⟩
abbrev main_call0_call5_v86 : Ref sig .tc := ⟨.hbm, 661, rfl⟩
abbrev main_call0_call5_v87 : Ref sig .tc := ⟨.hbm, 662, rfl⟩
abbrev main_call0_call5_v88 : Ref sig .tc := ⟨.hbm, 663, rfl⟩
abbrev main_call0_call5_c_22 : Ref sig .tc := ⟨.hbm, 664, rfl⟩
abbrev main_call0_call5_v89 : Ref sig .tc := ⟨.hbm, 665, rfl⟩
abbrev main_call0_call5_v90 : Ref sig .tc := ⟨.hbm, 666, rfl⟩
abbrev main_call0_call5_c_23 : Ref sig .tc := ⟨.hbm, 667, rfl⟩
abbrev main_call0_call5_v91 : Ref sig .tc := ⟨.hbm, 668, rfl⟩
abbrev main_call0_call5_v92 : Ref sig .tc := ⟨.hbm, 669, rfl⟩
abbrev main_call0_call5_v93 : Ref sig .tc := ⟨.hbm, 670, rfl⟩
abbrev main_call0_call5_v94 : Ref sig .tc := ⟨.hbm, 671, rfl⟩
abbrev main_call0_call5_v95 : Ref sig .tc := ⟨.hbm, 672, rfl⟩
abbrev main_call0_call5_c_24 : Ref sig .tc := ⟨.hbm, 673, rfl⟩
abbrev main_call0_call5_v96 : Ref sig .tc := ⟨.hbm, 674, rfl⟩
abbrev main_call0_call5_v97 : Ref sig .tc := ⟨.hbm, 675, rfl⟩
abbrev main_call0_call5_c_25 : Ref sig .tc := ⟨.hbm, 676, rfl⟩
abbrev main_call0_call5_v98 : Ref sig .tc := ⟨.hbm, 677, rfl⟩
abbrev main_call0_call5_v99 : Ref sig .tc := ⟨.hbm, 678, rfl⟩
abbrev main_call0_call5_v100 : Ref sig .tc := ⟨.hbm, 679, rfl⟩
abbrev main_call0_call5_v101 : Ref sig .tc := ⟨.hbm, 680, rfl⟩
abbrev main_call0_call5_v102 : Ref sig .tc := ⟨.hbm, 681, rfl⟩
abbrev main_call0_call5_v103 : Ref sig .tc := ⟨.hbm, 682, rfl⟩
abbrev main_call0_call5_v104 : Ref sig .tc := ⟨.hbm, 683, rfl⟩
abbrev main_call0_call5_v105 : Ref sig .tc := ⟨.hbm, 684, rfl⟩
abbrev main_call0_call5_c_26 : Ref sig .tc := ⟨.hbm, 685, rfl⟩
abbrev main_call0_call5_v106 : Ref sig .tc := ⟨.hbm, 686, rfl⟩
abbrev main_call0_call5_v107 : Ref sig .tc := ⟨.hbm, 687, rfl⟩
abbrev main_call0_call5_v108 : Ref sig .tc := ⟨.hbm, 688, rfl⟩
abbrev main_call0_call5_c_27 : Ref sig .tc := ⟨.hbm, 689, rfl⟩
abbrev main_call0_call5_v109 : Ref sig .tc := ⟨.hbm, 690, rfl⟩
abbrev main_call0_call5_v110 : Ref sig .tc := ⟨.hbm, 691, rfl⟩
abbrev main_call0_call5_c_28 : Ref sig .tc := ⟨.hbm, 692, rfl⟩
abbrev main_call0_call5_v111 : Ref sig .tc := ⟨.hbm, 693, rfl⟩
abbrev main_call0_call5_v112 : Ref sig .tc := ⟨.hbm, 694, rfl⟩
abbrev main_call0_call5_v113 : Ref sig .tc := ⟨.hbm, 695, rfl⟩
abbrev main_call0_call5_v114 : Ref sig .tc := ⟨.hbm, 696, rfl⟩
abbrev main_call0_call5_v115 : Ref sig .tc := ⟨.hbm, 697, rfl⟩
abbrev main_call0_call5_c_29 : Ref sig .tc := ⟨.hbm, 698, rfl⟩
abbrev main_call0_call5_v116 : Ref sig .tc := ⟨.hbm, 699, rfl⟩
abbrev main_call0_call5_v117 : Ref sig .tc := ⟨.hbm, 700, rfl⟩
abbrev main_call0_call5_c_30 : Ref sig .tc := ⟨.hbm, 701, rfl⟩
abbrev main_call0_call5_v118 : Ref sig .tc := ⟨.hbm, 702, rfl⟩
abbrev main_call0_call5_v119 : Ref sig .tc := ⟨.hbm, 703, rfl⟩
abbrev main_call0_call5_v120 : Ref sig .tc := ⟨.hbm, 704, rfl⟩
abbrev main_call0_call5_v121 : Ref sig .tc := ⟨.hbm, 705, rfl⟩
abbrev main_call0_call5_v122 : Ref sig .tc := ⟨.hbm, 706, rfl⟩
abbrev main_call0_call5_c_31 : Ref sig .tc := ⟨.hbm, 707, rfl⟩
abbrev main_call0_call5_v123 : Ref sig .tc := ⟨.hbm, 708, rfl⟩
abbrev main_call0_call5_v124 : Ref sig .tc := ⟨.hbm, 709, rfl⟩
abbrev main_call0_call5_c_32 : Ref sig .tc := ⟨.hbm, 710, rfl⟩
abbrev main_call0_call5_v125 : Ref sig .tc := ⟨.hbm, 711, rfl⟩
abbrev main_call0_call5_v126 : Ref sig .tc := ⟨.hbm, 712, rfl⟩
abbrev main_call0_call5_v127 : Ref sig .tc := ⟨.hbm, 713, rfl⟩
abbrev main_call0_call5_v128 : Ref sig .tc := ⟨.hbm, 714, rfl⟩
abbrev main_call0_call5_v129 : Ref sig .tc := ⟨.hbm, 715, rfl⟩
abbrev main_call0_call5_c_33 : Ref sig .tc := ⟨.hbm, 716, rfl⟩
abbrev main_call0_call5_v130 : Ref sig .tc := ⟨.hbm, 717, rfl⟩
abbrev main_call0_call5_v131 : Ref sig .tc := ⟨.hbm, 718, rfl⟩
abbrev main_call0_call5_c_34 : Ref sig .tc := ⟨.hbm, 719, rfl⟩
abbrev main_call0_call5_v132 : Ref sig .tc := ⟨.hbm, 720, rfl⟩
abbrev main_call0_call5_v133 : Ref sig .tc := ⟨.hbm, 721, rfl⟩
abbrev main_call0_call5_v134 : Ref sig .tc := ⟨.hbm, 722, rfl⟩
abbrev main_call0_call5_v135 : Ref sig .tc := ⟨.hbm, 723, rfl⟩
abbrev main_call0_call5_v136 : Ref sig .tc := ⟨.hbm, 724, rfl⟩
abbrev main_call0_call5_v137 : Ref sig .tc := ⟨.hbm, 725, rfl⟩
abbrev main_call0_call5_v138 : Ref sig .tc := ⟨.hbm, 726, rfl⟩
abbrev main_call0_call5_v139 : Ref sig .tc := ⟨.hbm, 727, rfl⟩
abbrev main_call0_call5_c_35 : Ref sig .tc := ⟨.hbm, 728, rfl⟩
abbrev main_call0_call5_v140 : Ref sig .tc := ⟨.hbm, 729, rfl⟩
abbrev main_call0_call5_v141 : Ref sig .tc := ⟨.hbm, 730, rfl⟩
abbrev main_call0_call5_v142 : Ref sig .tc := ⟨.hbm, 731, rfl⟩
abbrev main_call0_call5_c_36 : Ref sig .tc := ⟨.hbm, 732, rfl⟩
abbrev main_call0_call5_v143 : Ref sig .tc := ⟨.hbm, 733, rfl⟩
abbrev main_call0_call5_v144 : Ref sig .tc := ⟨.hbm, 734, rfl⟩
abbrev main_call0_call5_c_37 : Ref sig .tc := ⟨.hbm, 735, rfl⟩
abbrev main_call0_call5_v145 : Ref sig .tc := ⟨.hbm, 736, rfl⟩
abbrev main_call0_call5_v146 : Ref sig .tc := ⟨.hbm, 737, rfl⟩
abbrev main_call0_call5_v147 : Ref sig .tc := ⟨.hbm, 738, rfl⟩
abbrev main_call0_call5_v148 : Ref sig .tc := ⟨.hbm, 739, rfl⟩
abbrev main_call0_call5_v149 : Ref sig .tc := ⟨.hbm, 740, rfl⟩
abbrev main_call0_call5_c_38 : Ref sig .tc := ⟨.hbm, 741, rfl⟩
abbrev main_call0_call5_v150 : Ref sig .tc := ⟨.hbm, 742, rfl⟩
abbrev main_call0_call5_v151 : Ref sig .tc := ⟨.hbm, 743, rfl⟩
abbrev main_call0_call5_c_39 : Ref sig .tc := ⟨.hbm, 744, rfl⟩
abbrev main_call0_call5_v152 : Ref sig .tc := ⟨.hbm, 745, rfl⟩
abbrev main_call0_call5_v153 : Ref sig .tc := ⟨.hbm, 746, rfl⟩
abbrev main_call0_call5_v154 : Ref sig .tc := ⟨.hbm, 747, rfl⟩
abbrev main_call0_call5_v155 : Ref sig .tc := ⟨.hbm, 748, rfl⟩
abbrev main_call0_call5_v156 : Ref sig .tc := ⟨.hbm, 749, rfl⟩
abbrev main_call0_call5_c_40 : Ref sig .tc := ⟨.hbm, 750, rfl⟩
abbrev main_call0_call5_v157 : Ref sig .tc := ⟨.hbm, 751, rfl⟩
abbrev main_call0_call5_v158 : Ref sig .tc := ⟨.hbm, 752, rfl⟩
abbrev main_call0_call5_c_41 : Ref sig .tc := ⟨.hbm, 753, rfl⟩
abbrev main_call0_call5_v159 : Ref sig .tc := ⟨.hbm, 754, rfl⟩
abbrev main_call0_call5_v160 : Ref sig .tc := ⟨.hbm, 755, rfl⟩
abbrev main_call0_call5_v161 : Ref sig .tc := ⟨.hbm, 756, rfl⟩
abbrev main_call0_call5_v162 : Ref sig .tc := ⟨.hbm, 757, rfl⟩
abbrev main_call0_call5_v163 : Ref sig .tc := ⟨.hbm, 758, rfl⟩
abbrev main_call0_call5_c_42 : Ref sig .tc := ⟨.hbm, 759, rfl⟩
abbrev main_call0_call5_v164 : Ref sig .tc := ⟨.hbm, 760, rfl⟩
abbrev main_call0_call5_v165 : Ref sig .tc := ⟨.hbm, 761, rfl⟩
abbrev main_call0_call5_c_43 : Ref sig .tc := ⟨.hbm, 762, rfl⟩
abbrev main_call0_call5_v166 : Ref sig .tc := ⟨.hbm, 763, rfl⟩
abbrev main_call0_call5_v167 : Ref sig .tc := ⟨.hbm, 764, rfl⟩
abbrev main_call0_call5_v168 : Ref sig .tc := ⟨.hbm, 765, rfl⟩
abbrev main_call0_call5_v169 : Ref sig .tc := ⟨.hbm, 766, rfl⟩
abbrev main_call0_call5_v170 : Ref sig .tc := ⟨.hbm, 767, rfl⟩
abbrev main_call0_v61_0 : Ref sig .tc := ⟨.hbm, 768, rfl⟩
abbrev main_call0_call5_v172 : Ref sig .tc := ⟨.hbm, 769, rfl⟩
abbrev main_call0_call5_v173 : Ref sig .tc := ⟨.hbm, 770, rfl⟩
abbrev main_call0_call5_c_44 : Ref sig .tc := ⟨.hbm, 771, rfl⟩
abbrev main_call0_call5_v174 : Ref sig .tc := ⟨.hbm, 772, rfl⟩
abbrev main_call0_v61_1 : Ref sig .tc := ⟨.hbm, 773, rfl⟩
abbrev main_call0_v62 : Ref sig .tc := ⟨.hbm, 774, rfl⟩
abbrev main_call0_v63 : Ref sig .tc := ⟨.hbm, 775, rfl⟩
abbrev main_call0_v64 : Ref sig .tc := ⟨.hbm, 776, rfl⟩
abbrev main_call0_v65 : Ref sig .tc := ⟨.hbm, 777, rfl⟩
abbrev main_call0_c_16 : Ref sig .tc := ⟨.hbm, 778, rfl⟩
abbrev main_call0_v66 : Ref sig .tc := ⟨.hbm, 779, rfl⟩
abbrev main_call0_v67 : Ref sig .tc := ⟨.hbm, 780, rfl⟩
abbrev main_call0_v68 : Ref sig .tc := ⟨.hbm, 781, rfl⟩
abbrev main_call0_v69 : Ref sig .tc := ⟨.hbm, 782, rfl⟩
abbrev main_call0_v70 : Ref sig .tc := ⟨.hbm, 783, rfl⟩
abbrev main_call0_c_17 : Ref sig .tc := ⟨.hbm, 784, rfl⟩
abbrev main_call0_v71 : Ref sig .tc := ⟨.hbm, 785, rfl⟩
abbrev main_call0_v72 : Ref sig .tc := ⟨.hbm, 786, rfl⟩
abbrev main_call0_v73 : Ref sig .tc := ⟨.hbm, 787, rfl⟩
abbrev main_call0_c_18 : Ref sig .tc := ⟨.hbm, 788, rfl⟩
abbrev main_call0_v74 : Ref sig .tc := ⟨.hbm, 789, rfl⟩
abbrev main_call0_v75 : Ref sig .tc := ⟨.hbm, 790, rfl⟩
abbrev main_call0_v76 : Ref sig .tc := ⟨.hbm, 791, rfl⟩
abbrev main_call0_v77 : Ref sig .tc := ⟨.hbm, 792, rfl⟩
abbrev main_call0_v78 : Ref sig .tc := ⟨.hbm, 793, rfl⟩
abbrev main_call0_v79 : Ref sig .tc := ⟨.hbm, 794, rfl⟩
abbrev main_call0_v80 : Ref sig .tc := ⟨.hbm, 795, rfl⟩
abbrev main_call0_v81 : Ref sig .tc := ⟨.hbm, 796, rfl⟩
abbrev main_call0_v82 : Ref sig .tc := ⟨.hbm, 797, rfl⟩
abbrev main_call0_v83 : Ref sig .tc := ⟨.hbm, 798, rfl⟩
abbrev main_call0_v84 : Ref sig .tc := ⟨.hbm, 799, rfl⟩
abbrev main_call0_v85 : Ref sig .tc := ⟨.hbm, 800, rfl⟩
abbrev main_call0_v86 : Ref sig .tc := ⟨.hbm, 801, rfl⟩
abbrev main_call0_v87 : Ref sig .tc := ⟨.hbm, 802, rfl⟩
abbrev main_call0_v88 : Ref sig .tc := ⟨.hbm, 803, rfl⟩
abbrev main_v7 : Ref sig .tc := ⟨.hbm, 804, rfl⟩
abbrev main_v8 : Ref sig .tc := ⟨.hbm, 805, rfl⟩
abbrev main_v9 : Ref sig .tc := ⟨.hbm, 806, rfl⟩
abbrev main_v10 : Ref sig .tc := ⟨.hbm, 807, rfl⟩
abbrev main_v11 : Ref sig .tc := ⟨.hbm, 808, rfl⟩
abbrev main_v12 : Ref sig .tc := ⟨.hbm, 809, rfl⟩
abbrev main_v13 : Ref sig .tc := ⟨.hbm, 810, rfl⟩
abbrev main_call1_c : Ref sig .tc := ⟨.hbm, 811, rfl⟩
abbrev main_call1_v0 : Ref sig .tc := ⟨.hbm, 812, rfl⟩
abbrev main_call1_v1 : Ref sig .tc := ⟨.hbm, 813, rfl⟩
abbrev main_call1_c_0 : Ref sig .tc := ⟨.hbm, 814, rfl⟩
abbrev main_call1_v2 : Ref sig .tc := ⟨.hbm, 815, rfl⟩
abbrev main_call1_v3 : Ref sig .tc := ⟨.hbm, 816, rfl⟩
abbrev main_call1_v4 : Ref sig .tc := ⟨.hbm, 817, rfl⟩
abbrev main_call1_v5 : Ref sig .tc := ⟨.hbm, 818, rfl⟩
abbrev main_call1_c_1 : Ref sig .tc := ⟨.hbm, 819, rfl⟩
abbrev main_call1_c_2 : Ref sig .tc := ⟨.hbm, 820, rfl⟩
abbrev main_call1_v6 : Ref sig .tc := ⟨.hbm, 821, rfl⟩
abbrev main_call1_v7 : Ref sig .tc := ⟨.hbm, 822, rfl⟩
abbrev main_call1_v8 : Ref sig .tc := ⟨.hbm, 823, rfl⟩
abbrev main_call1_v9 : Ref sig .tc := ⟨.hbm, 824, rfl⟩
abbrev main_call1_v10 : Ref sig .tc := ⟨.hbm, 825, rfl⟩
abbrev main_call1_v11 : Ref sig .tc := ⟨.hbm, 826, rfl⟩
abbrev main_call1_c_3 : Ref sig .tc := ⟨.hbm, 827, rfl⟩
abbrev main_call1_v12 : Ref sig .tc := ⟨.hbm, 828, rfl⟩
abbrev main_call1_v13 : Ref sig .tc := ⟨.hbm, 829, rfl⟩
abbrev main_call1_cst : Ref sig .tc := ⟨.hbm, 830, rfl⟩
abbrev main_call1_v14 : Ref sig .tc := ⟨.hbm, 831, rfl⟩
abbrev main_v14 : Ref sig .tc := ⟨.hbm, 832, rfl⟩

abbrev nD : Nat := 1
abbrev τ : Topo := Topo.v7x

variable {F : FTy → Type} [FloatOps F]
-- ==== Proof.HostLine.lean ====
/- Straight lines of host operations, two at a time. `Both p p' q q' lo hi P` says that the programs `p` and `p'` each
   run a list of host operations and go on as `q` and `q'`; that both lists write, in increasing order, arrays numbered
   from `lo` up to `hi`, reading only arrays numbered lower; that running both from contents that agree on the arrays
   below `lo` ends in contents that agree on the arrays below `hi`; and that the first list's final contents satisfy `P`.
   Because every array is written once, after the arrays it is computed from, the final contents solve each operation's
   own equation, and `P` is gathered from those equations. A statement about one program alone is `Both p p q q`. -/
module

public import Idealize.ShloMosaic.Lib.StableHlo.Run

@[expose] public section

noncomputable section

namespace Cert.Proof.HostLine

open Idealize.ShloMosaic Idealize.ShloMosaic.StableHlo Idealize.SL.Sem

variable {nD nD' : Nat} {τ τ' : Topo} {sig sig' : RefSig} {Val : EltTy → Type} {Λ Λ' : Labels}

/-- Contents of the array `r` names. -/
abbrev at' (V : Valuation τ sig Val) (r : Ref sig .tc) : r.ty.Contents Val := V (Proc.devRef .tc r)

/-- Contents of the array a typed reference names, at the reference's type. -/
abbrev rd {T : BufTy} (V : Valuation τ sig Val) (t : TRef sig T) : T.Contents Val := t.ofBuf (at' V t.ref)

/-- `r` is a main-memory array numbered below `n`. -/
abbrev Below (n : ℕ) (r : Ref sig .tc) : Prop := r.space = .hbm ∧ r.idx.val < n

/-- The two contents agree on every array numbered below `n`. -/
def Agree (n : ℕ) (V : Valuation τ sig Val) (V' : Valuation τ' sig' Val) : Prop :=
  ∀ (r : Ref sig .tc) (r' : Ref sig' .tc), Below n r → Below n r' → r.idx.val = r'.idx.val → HEq (at' V r) (at' V' r')

/-- The operation writes the one array `y`, touches only arrays of the program and leaves nothing undetermined. -/
structure Writes (op : HloOp τ sig Val) (y : Ref sig .tc) : Prop where
  writes : op.writes = {Proc.devRef .tc y}
  bufs : op.bufs ⊆ tcRefs τ sig
  fresh : op.fresh = ∅

/-- What the operation computes depends only on the arrays numbered below `n`. -/
def Reads (op : HloOp τ sig Val) (y : Ref sig .tc) (n : ℕ) : Prop :=
  ∀ V W : Valuation τ sig Val, (∀ r, Below n r → at' V r = at' W r) → at' (op.result V) y = at' (op.result W) y

/-- Each operation of the list writes one array, numbered from `lo` up in increasing order and below `hi`, and reads
    arrays numbered below the one it writes. -/
def Rising : ℕ → List (HloOp τ sig Val) → ℕ → Prop
  | lo, [], hi => lo ≤ hi
  | lo, op :: ops, hi => (∃ y : Ref sig .tc, y.space = .hbm ∧ lo ≤ y.idx.val ∧ y.idx.val < hi ∧ Writes op y ∧ Reads op y y.idx.val
      ∧ Rising (y.idx.val + 1) ops hi)

/-- `W` solves every operation's equation. -/
def Fix (ops : List (HloOp τ sig Val)) (W : Valuation τ sig Val) : Prop := ∀ op ∈ ops, op.result W = W

theorem rising_le : ∀ {ops : List (HloOp τ sig Val)} {lo hi : ℕ}, Rising lo ops hi → lo ≤ hi
  | [], _, _, h => h
  | _ :: _, _, _, ⟨_, _, h₁, h₂, _⟩ => h₁.trans h₂.le

theorem rising_append : ∀ {ops ops' : List (HloOp τ sig Val)} {lo mid hi : ℕ}, Rising lo ops mid → Rising mid ops' hi →
    Rising lo (ops ++ ops') hi
  | [], ops', lo, mid, hi, h, h' => by
    cases ops' with
    | nil => exact Nat.le_trans h h'
    | cons op l => obtain ⟨y, s, h₁, h₂⟩ := h'; exact ⟨y, s, Nat.le_trans h h₁, h₂⟩
  | op :: l, ops', lo, mid, hi, ⟨y, s, h₁, h₂, w, r, t⟩, h' =>
    ⟨y, s, h₁, h₂.trans_le (rising_le h'), w, r, rising_append t h'⟩

theorem rising_ok : ∀ {ops : List (HloOp τ sig Val)} {lo hi : ℕ}, Rising lo ops hi →
    ∀ op ∈ ops, op.bufs ⊆ tcRefs τ sig ∧ op.fresh = ∅
  | _ :: _, _, _, ⟨_, _, _, _, w, _, t⟩, o, ho => by
    rcases List.mem_cons.mp ho with rfl | ho
    · exact ⟨w.bufs, w.fresh⟩
    · exact rising_ok t o ho

theorem result_other {op : HloOp τ sig Val} {y r : Ref sig .tc} (w : Writes op y) (V : Valuation τ sig Val) (h : r ≠ y) :
    at' (op.result V) r = at' V r := result_of_writes_ne op V y r w.writes h

/-- An array numbered below everything the line writes keeps its contents. -/
theorem rising_keeps : ∀ {ops : List (HloOp τ sig Val)} {lo hi : ℕ}, Rising lo ops hi → ∀ (V : Valuation τ sig Val) {r : Ref sig .tc},
    r.space ≠ .hbm ∨ r.idx.val < lo → at' (after ops V) r = at' V r
  | [], _, _, _, _, _, _ => rfl
  | op :: ops, lo, hi, ⟨y, s, h₁, h₂, w, _, t⟩, V, r, hr => by
    have hne : r ≠ y := by
      rintro rfl
      rcases hr with h | h
      · exact h s
      · omega
    show at' (after ops (op.result V)) r = _
    rw [rising_keeps t _ (hr.imp_right fun h => by omega), result_other w V hne]

/-- A device buffer the line does not write keeps its contents. -/
theorem result_dev {op : HloOp τ sig Val} {y : Ref sig .tc} (w : Writes op y) (V : Valuation τ sig Val) {b : DevRef τ sig}
    (h : b ≠ Proc.devRef .tc y) : op.result V b = V b :=
  op.result_of_not_mem V (by rw [w.writes, Finset.mem_singleton]; exact h)

/-- The final contents of a rising line solve every operation's equation. -/
theorem rising_fix : ∀ {ops : List (HloOp τ sig Val)} {lo hi : ℕ}, Rising lo ops hi → ∀ V : Valuation τ sig Val, Fix ops (after ops V)
  | op :: ops, lo, hi, ⟨y, s, h₁, h₂, w, rd, t⟩, V, o, ho => by
    rcases List.mem_cons.mp ho with rfl | ho
    · funext b
      by_cases hb : b = Proc.devRef .tc y
      · subst hb
        show at' (o.result (after ops (o.result V))) y = at' (after ops (o.result V)) y
        rw [rising_keeps t (o.result V) (r := y) (Or.inr (Nat.lt_succ_self _))]
        refine rd _ _ fun r hr => ?_
        rw [rising_keeps t (o.result V) (r := r) (Or.inr (by have := hr.2; omega))]
        exact result_other w V (by rintro rfl; exact absurd hr.2 (lt_irrefl _))
      · exact result_dev w _ hb
    · exact rising_fix t _ o ho

/-- See the file's header. -/
def Both (p : Prog (TpuEff nD τ sig Val Λ .tc) PUnit) (p' : Prog (TpuEff nD' τ' sig' Val Λ' .tc) PUnit)
    (q : Prog (TpuEff nD τ sig Val Λ .tc) PUnit) (q' : Prog (TpuEff nD' τ' sig' Val Λ' .tc) PUnit)
    (lo hi : ℕ) (P : Valuation τ sig Val → Prop) : Prop :=
  ∃ (ops : List (HloOp τ sig Val)) (ops' : List (HloOp τ' sig' Val)),
    (p = seq ops >>= fun _ => q) ∧ (p' = seq ops' >>= fun _ => q') ∧ Rising lo ops hi ∧ Rising lo ops' hi
      ∧ (∀ W, Fix ops W → P W) ∧ ∀ V V', Agree lo V V' → Agree hi (after ops V) (after ops' V')

section Rules

variable {p k q : Prog (TpuEff nD τ sig Val Λ .tc) PUnit} {p' k' q' : Prog (TpuEff nD' τ' sig' Val Λ' .tc) PUnit}
variable {lo mid hi : ℕ} {P P' : Valuation τ sig Val → Prop}

/-- Nothing left to run. -/
theorem Both.done : Both q q' q q' lo lo (fun _ => True) :=
  ⟨[], [], by rw [seq, pure_bind], by rw [seq, pure_bind], le_refl lo, le_refl lo, fun _ _ => trivial, fun _ _ h => h⟩

/-- Nothing left to run, the next number known to be `hi`. -/
theorem Both.stop (h : lo = hi) : Both q q' q q' lo hi (fun _ => True) := h ▸ Both.done

/-- A weaker fact of the final contents. -/
theorem Both.mono (h : Both p p' q q' lo hi P) (hP : ∀ W, P W → P' W) : Both p p' q q' lo hi P' := by
  obtain ⟨o, o', e, e', r, r', hp, a⟩ := h
  exact ⟨o, o', e, e', r, r', fun W w => hP W (hp W w), a⟩

/-- Two lines of the programs, one after the other. -/
theorem Both.bind (h : Both p p' (pure ⟨⟩) (pure ⟨⟩) lo mid P) (h' : Both k k' q q' mid hi P') :
    Both (p >>= fun _ => k) (p' >>= fun _ => k') q q' lo hi (fun W => P W ∧ P' W) := by
  obtain ⟨o, o', rfl, rfl, r, r', hp, a⟩ := h
  obtain ⟨s, s', rfl, rfl, t, t', hs, b⟩ := h'
  refine ⟨o ++ s, o' ++ s', by simp only [seq_append, bind_assoc, pure_bind], by simp only [seq_append, bind_assoc, pure_bind],
    rising_append r t, rising_append r' t', fun W w => ⟨hp W fun op ho => w op (List.mem_append_left _ ho), hs W fun op ho => w op (List.mem_append_right _ ho)⟩,
    fun V V' hV => ?_⟩
  have app : ∀ {τ : Topo} {sig : RefSig} (l₁ l₂ : List (HloOp τ sig Val)) (V : Valuation τ sig Val), after (l₁ ++ l₂) V = after l₂ (after l₁ V) := by
    intro τ sig l₁
    induction l₁ with
    | nil => intro _ _; rfl
    | cons op l ih => intro l₂ V; exact ih l₂ _
  rw [app, app]
  exact b _ _ (a V V' hV)

/-- The same, forgetting what the first line says of the final contents. -/
theorem Both.skip (h : Both p p' (pure ⟨⟩) (pure ⟨⟩) lo mid P) (h' : Both k k' q q' mid hi P') :
    Both (p >>= fun _ => k) (p' >>= fun _ => k') q q' lo hi P' := (h.bind h').mono fun _ w => w.2

/-- The last line of each program. -/
theorem Both.last (h : Both (p >>= fun _ => pure ⟨⟩) (p' >>= fun _ => pure ⟨⟩) q q' lo hi P) : Both p p' q q' lo hi P := by
  rwa [show (p >>= fun _ => pure ⟨⟩) = p from bind_pure p, show (p' >>= fun _ => pure ⟨⟩) = p' from bind_pure p'] at h

/-- A line whose first part is itself two lines. -/
theorem Both.assoc {r : Prog (TpuEff nD τ sig Val Λ .tc) PUnit} {r' : Prog (TpuEff nD' τ' sig' Val Λ' .tc) PUnit}
    (h : Both (p >>= fun _ => k >>= fun _ => r) (p' >>= fun _ => k' >>= fun _ => r') q q' lo hi P) :
    Both ((p >>= fun _ => k) >>= fun _ => r) ((p' >>= fun _ => k') >>= fun _ => r') q q' lo hi P := by
  rwa [bind_assoc, bind_assoc]

/-- A line whose first part runs nothing. -/
theorem Both.ret (h : Both k k' q q' lo hi P) :
    Both ((pure ⟨⟩ : Prog (TpuEff nD τ sig Val Λ .tc) PUnit) >>= fun _ => k) ((pure ⟨⟩ : Prog (TpuEff nD' τ' sig' Val Λ' .tc) PUnit) >>= fun _ => k') q q' lo hi P := by
  rwa [pure_bind, pure_bind]

/-- One operation of each program: both write the array numbered `lo` (`n` is the next number), from arrays numbered
    lower, and their results agree when what they read agrees; `E` is the first operation's equation. -/
structure Pair (op : HloOp τ sig Val) (op' : HloOp τ' sig' Val) (lo n : ℕ) (E : Valuation τ sig Val → Prop) : Prop where
  next : n = lo + 1
  out : ∃ (y : Ref sig .tc) (y' : Ref sig' .tc), Writes op y ∧ Writes op' y' ∧ (y.space = .hbm ∧ y.idx.val = lo) ∧ (y'.space = .hbm ∧ y'.idx.val = lo)
    ∧ Reads op y lo ∧ Reads op' y' lo ∧ (∀ W, at' (op.result W) y = at' W y → E W)
    ∧ ∀ V V', Agree lo V V' → HEq (at' (op.result V) y) (at' (op'.result V') y')

/-- One operation of each program, then the rest of each. -/
theorem Both.cons {op : HloOp τ sig Val} {op' : HloOp τ' sig' Val} {n : ℕ} {E : Valuation τ sig Val → Prop}
    (ho : Pair op op' lo n E) (h : Both k k' q q' n hi P) :
    Both (hlo rfl op (fun _ => .ret (⟨⟩ : PUnit)) >>= fun _ => k) (hlo rfl op' (fun _ => .ret (⟨⟩ : PUnit)) >>= fun _ => k') q q' lo hi
      (fun W => E W ∧ P W) := by
  obtain ⟨rfl, y, y', w, w', ⟨hy, hn⟩, ⟨hy', hn'⟩, hr, hr', hE, hres⟩ := ho
  obtain ⟨s, s', rfl, rfl, t, t', hs, b⟩ := h
  subst hn
  refine ⟨op :: s, op' :: s', by simp only [seq, bind_assoc], by simp only [seq, bind_assoc],
    ⟨y, hy, le_refl _, rising_le t, w, hr, t⟩, ⟨y', hy', by omega, ?_, w', by rwa [hn'], ?_⟩,
    fun W f => ⟨hE W (congrFun (f op List.mem_cons_self) _), hs W fun o ho => f o (List.mem_cons_of_mem _ ho)⟩, fun V V' hV => ?_⟩
  · have := rising_le t'; omega
  · rw [hn']; exact t'
  refine b _ _ fun r r' h₁ h₂ h₃ => ?_
  by_cases hrn : r.idx.val = y.idx.val
  · obtain ⟨rs, ri, rn⟩ := r
    obtain ⟨rs', ri', rn'⟩ := r'
    obtain ⟨ys, yi, yn⟩ := y
    obtain ⟨ys', yi', yn'⟩ := y'
    obtain ⟨rfl, h₁⟩ := h₁
    obtain ⟨rfl, h₂⟩ := h₂
    obtain rfl := hy
    obtain rfl := hy'
    obtain rfl : ri = yi := Fin.ext hrn
    obtain rfl : ri' = yi' := Fin.ext (by simp only at h₃ hrn hn'; omega)
    exact hres V V' hV
  · rw [result_other w V (by rintro rfl; exact hrn rfl), result_other w' V' (by rintro rfl; exact hrn (h₃.trans hn'))]
    have := h₁.2; have := h₂.2
    exact hV r r' ⟨h₁.1, by omega⟩ ⟨h₂.1, by omega⟩ h₃

/-- The same, forgetting the operation's equation. -/
theorem Both.drop {op : HloOp τ sig Val} {op' : HloOp τ' sig' Val} {n : ℕ} {E : Valuation τ sig Val → Prop}
    (ho : Pair op op' lo n E) (h : Both k k' q q' n hi P) :
    Both (hlo rfl op (fun _ => .ret (⟨⟩ : PUnit)) >>= fun _ => k) (hlo rfl op' (fun _ => .ret (⟨⟩ : PUnit)) >>= fun _ => k') q q' lo hi P :=
  (Both.cons ho h).mono fun _ w => w.2

/-- One program alone: it is a line of operations, then `q`; the line's final contents satisfy `P`. -/
def One (p q : Prog (TpuEff nD τ sig Val Λ .tc) PUnit) (lo hi : ℕ) (P : Valuation τ sig Val → Prop) : Prop :=
  ∃ ops : List (HloOp τ sig Val), (p = seq ops >>= fun _ => q) ∧ Rising lo ops hi ∧ ∀ W, Fix ops W → P W

theorem Both.one (h : Both p p' q q' lo hi P) : One p q lo hi P := by
  obtain ⟨o, _, e, _, r, _, hp, _⟩ := h
  exact ⟨o, e, r, hp⟩

/-- A line, then the line that its rest begins with. -/
theorem One.trans (h : One p k lo mid P) (h' : One k q mid hi P') : One p q lo hi (fun W => P W ∧ P' W) := by
  obtain ⟨o, rfl, r, hp⟩ := h
  obtain ⟨s, rfl, t, hs⟩ := h'
  exact ⟨o ++ s, by simp only [seq_append, bind_assoc], rising_append r t, fun W w =>
    ⟨hp W fun op ho => w op (List.mem_append_left _ ho), hs W fun op ho => w op (List.mem_append_right _ ho)⟩⟩

theorem after_append : ∀ (l₁ l₂ : List (HloOp τ sig Val)) (V : Valuation τ sig Val), after (l₁ ++ l₂) V = after l₂ (after l₁ V)
  | [], _, _ => rfl
  | op :: l, l₂, V => after_append l l₂ (op.result V)

/-- Two lines that leave equal arrays, each continued by a line of its own program: the continued lines still leave the
    arrays below `mid` equal. -/
theorem Both.continue {hi' : ℕ} {m : Prog (TpuEff nD τ sig Val Λ .tc) PUnit} {m' : Prog (TpuEff nD' τ' sig' Val Λ' .tc) PUnit}
    {Q : Valuation τ sig Val → Prop} {Q' : Valuation τ' sig' Val → Prop}
    (h : Both p p' k k' lo mid P) (hk : One k m mid hi Q) (hk' : One k' m' mid hi' Q') :
    ∃ (ops : List (HloOp τ sig Val)) (ops' : List (HloOp τ' sig' Val)), (p = seq ops >>= fun _ => m) ∧ (p' = seq ops' >>= fun _ => m')
      ∧ Rising lo ops hi ∧ Rising lo ops' hi' ∧ (∀ W, Fix ops W → P W ∧ Q W) ∧ (∀ W, Fix ops' W → Q' W)
      ∧ ∀ V V', Agree lo V V' → Agree mid (after ops V) (after ops' V') := by
  obtain ⟨o, o', rfl, rfl, r, r', hp, a⟩ := h
  obtain ⟨s, rfl, t, hs⟩ := hk
  obtain ⟨s', rfl, t', hs'⟩ := hk'
  refine ⟨o ++ s, o' ++ s', by simp only [seq_append, bind_assoc], by simp only [seq_append, bind_assoc], rising_append r t, rising_append r' t',
    fun W w => ⟨hp W fun op ho => w op (List.mem_append_left _ ho), hs W fun op ho => w op (List.mem_append_right _ ho)⟩,
    fun W w => hs' W fun op ho => w op (List.mem_append_right _ ho), fun V V' hV x x' h₁ h₂ h₃ => ?_⟩
  rw [after_append, after_append, rising_keeps t _ (Or.inr h₁.2), rising_keeps t' _ (Or.inr h₂.2)]
  exact a V V' hV x x' h₁ h₂ h₃

end Rules

/-! ### The operations, one shape at a time

Two typed references are `Paired` when they name arrays of one number; an operand is `Before` its result when its number
is lower. -/

section Ops

variable {lo : ℕ} {T Tx Ta Tb Tc Ty : BufTy}

/-- Both references name the main-memory array numbered `n`. -/
abbrev Result (y : Ref sig .tc) (y' : Ref sig' .tc) (n : ℕ) : Prop :=
  (y.space = .hbm ∧ y.idx.val = n) ∧ y'.space = .hbm ∧ y'.idx.val = n

/-- Both references name one main-memory array, numbered below `n`. -/
abbrev Operand (x : Ref sig .tc) (x' : Ref sig' .tc) (n : ℕ) : Prop :=
  Below n x ∧ Below n x' ∧ x.idx.val = x'.idx.val

theorem operand_rd {x : TRef sig T} {x' : TRef sig' T} {n : ℕ} (h : Operand x.ref x'.ref n) {V : Valuation τ sig Val} {V' : Valuation τ' sig' Val}
    (hV : Agree n V V') : rd V x = rd V' x' :=
  eq_of_heq ((cast_heq _ _).trans ((hV _ _ h.1 h.2.1 h.2.2).trans (cast_heq _ _).symm))

theorem rd_congr {x : TRef sig T} {V W : Valuation τ sig Val} (h : at' V x.ref = at' W x.ref) : rd V x = rd W x :=
  congrArg x.ofBuf h

theorem toBuf_heq {y : TRef sig T} {y' : TRef sig' T} {u v : T.Contents Val} (h : u = v) : HEq (y.toBuf u) (y'.toBuf v) := by
  subst h
  exact (cast_heq _ _).trans (cast_heq _ _).symm

/-- An operation with a constant result. -/
theorem Pair.nullary {y : TRef sig Ty} {y' : TRef sig' Ty} {v : Ty.Contents Val} (hy : Result y.ref y'.ref lo) :
    Pair (τ := τ) (τ' := τ') (TRef.nullary y v) (TRef.nullary y' v) lo (y.ref.idx.val + 1)
      (fun W => rd W y = v) := by
  have e : ∀ W, at' ((TRef.nullary (τ := τ) y v).result W) y.ref = y.toBuf v := fun W => nullary_result _ _ _ _
  have e' : ∀ W, at' ((TRef.nullary (τ := τ') y' v).result W) y'.ref = y'.toBuf v := fun W => nullary_result _ _ _ _
  refine ⟨by rw [hy.1.2], y.ref, y'.ref, ⟨nullary_writes _ _ _, nullary_bufs_sub _ _ _, rfl⟩, ⟨nullary_writes _ _ _, nullary_bufs_sub _ _ _, rfl⟩, hy.1, hy.2, (fun V W _ => by rw [e, e]), (fun V W _ => by rw [e', e']), fun W hW => ?_, fun V V' hV => ?_⟩
  · rw [e] at hW
    rw [rd, ← hW, TRef.ofBuf_toBuf]
  · rw [e, e']; exact toBuf_heq rfl

/-- An operation of one operand. -/
theorem Pair.unary {x : TRef sig Tx} {x' : TRef sig' Tx} {y : TRef sig Ty} {y' : TRef sig' Ty} {f : Tx.Contents Val → Ty.Contents Val}
    (hy : Result y.ref y'.ref lo) (hx : Operand x.ref x'.ref lo) :
    Pair (τ := τ) (τ' := τ') (TRef.unary x y f) (TRef.unary x' y' f) lo (y.ref.idx.val + 1)
      (fun W => rd W y = f (rd W x)) := by
  have e : ∀ W, at' ((TRef.unary (τ := τ) x y f).result W) y.ref = y.toBuf (f (rd W x)) := fun W => unary_result _ _ _ _ _ _
  have e' : ∀ W, at' ((TRef.unary (τ := τ') x' y' f).result W) y'.ref = y'.toBuf (f (rd W x')) := fun W => unary_result _ _ _ _ _ _
  refine ⟨by rw [hy.1.2], y.ref, y'.ref, ⟨unary_writes _ _ _ _ _, unary_bufs_sub _ _ _ _ _, rfl⟩, ⟨unary_writes _ _ _ _ _, unary_bufs_sub _ _ _ _ _, rfl⟩, hy.1, hy.2, (fun V W hVW => ?_), (fun V W hVW => ?_), fun W hW => ?_, fun V V' hV => ?_⟩
  · rw [e, e, rd_congr (hVW _ hx.1)]
  · rw [e', e', rd_congr (hVW _ hx.2.1)]
  · rw [e] at hW
    rw [rd, ← hW, TRef.ofBuf_toBuf]
  · rw [e, e']; exact toBuf_heq (by rw [operand_rd hx hV])

/-- An operation of two operands. -/
theorem Pair.binary {a : TRef sig Ta} {a' : TRef sig' Ta} {b : TRef sig Tb} {b' : TRef sig' Tb} {y : TRef sig Ty} {y' : TRef sig' Ty}
    {f : Ta.Contents Val → Tb.Contents Val → Ty.Contents Val}
    (hy : Result y.ref y'.ref lo) (ha : Operand a.ref a'.ref lo) (hb : Operand b.ref b'.ref lo) :
    Pair (τ := τ) (τ' := τ') (TRef.binary a b y f) (TRef.binary a' b' y' f) lo (y.ref.idx.val + 1)
      (fun W => rd W y = f (rd W a) (rd W b)) := by
  have e : ∀ W, at' ((TRef.binary (τ := τ) a b y f).result W) y.ref = y.toBuf (f (rd W a) (rd W b)) := fun W => binary_result _ _ _ _ _ _ _ _
  have e' : ∀ W, at' ((TRef.binary (τ := τ') a' b' y' f).result W) y'.ref = y'.toBuf (f (rd W a') (rd W b')) := fun W => binary_result _ _ _ _ _ _ _ _
  refine ⟨by rw [hy.1.2], y.ref, y'.ref, ⟨binary_writes _ _ _ _ _ _ _, binary_bufs_sub _ _ _ _ _ _ _, rfl⟩, ⟨binary_writes _ _ _ _ _ _ _, binary_bufs_sub _ _ _ _ _ _ _, rfl⟩, hy.1, hy.2, (fun V W hVW => ?_), (fun V W hVW => ?_), fun W hW => ?_, fun V V' hV => ?_⟩
  · rw [e, e, rd_congr (hVW _ ha.1), rd_congr (hVW _ hb.1)]
  · rw [e', e', rd_congr (hVW _ ha.2.1), rd_congr (hVW _ hb.2.1)]
  · rw [e] at hW
    rw [rd, ← hW, TRef.ofBuf_toBuf]
  · rw [e, e']; exact toBuf_heq (by rw [operand_rd ha hV, operand_rd hb hV])

/-- An operation of three operands. -/
theorem Pair.ternary {c : TRef sig Tc} {c' : TRef sig' Tc} {a : TRef sig Ta} {a' : TRef sig' Ta} {b : TRef sig Tb} {b' : TRef sig' Tb}
    {y : TRef sig Ty} {y' : TRef sig' Ty} {f : Tc.Contents Val → Ta.Contents Val → Tb.Contents Val → Ty.Contents Val}
    (hy : Result y.ref y'.ref lo) (hc : Operand c.ref c'.ref lo) (ha : Operand a.ref a'.ref lo) (hb : Operand b.ref b'.ref lo) :
    Pair (τ := τ) (τ' := τ') (TRef.ternary c a b y f) (TRef.ternary c' a' b' y' f) lo (y.ref.idx.val + 1)
      (fun W => rd W y = f (rd W c) (rd W a) (rd W b)) := by
  have e : ∀ W, at' ((TRef.ternary (τ := τ) c a b y f).result W) y.ref = y.toBuf (f (rd W c) (rd W a) (rd W b)) := fun W => ternary_result _ _ _ _ _ _ _ _ _ _
  have e' : ∀ W, at' ((TRef.ternary (τ := τ') c' a' b' y' f).result W) y'.ref = y'.toBuf (f (rd W c') (rd W a') (rd W b')) :=
    fun W => ternary_result _ _ _ _ _ _ _ _ _ _
  refine ⟨by rw [hy.1.2], y.ref, y'.ref, ⟨ternary_writes _ _ _ _ _ _ _ _ _, ternary_bufs_sub _ _ _ _ _ _ _ _ _, rfl⟩, ⟨ternary_writes _ _ _ _ _ _ _ _ _, ternary_bufs_sub _ _ _ _ _ _ _ _ _, rfl⟩, hy.1, hy.2, (fun V W hVW => ?_), (fun V W hVW => ?_), fun W hW => ?_, fun V V' hV => ?_⟩
  · rw [e, e, rd_congr (hVW _ hc.1), rd_congr (hVW _ ha.1), rd_congr (hVW _ hb.1)]
  · rw [e', e', rd_congr (hVW _ hc.2.1), rd_congr (hVW _ ha.2.1), rd_congr (hVW _ hb.2.1)]
  · rw [e] at hW
    rw [rd, ← hW, TRef.ofBuf_toBuf]
  · rw [e, e']; exact toBuf_heq (by rw [operand_rd hc hV, operand_rd ha hV, operand_rd hb hV])

theorem reshape_eq (x : TRef sig Tx) (y : TRef sig Ty) (he : Tx.elt = Ty.elt) (hn : Tx.shape.ShapeCasts Ty.shape) (W : Valuation τ sig Val) :
    at' ((TRef.reshape (τ := τ) (Val := Val) x y he hn).result W) y.ref = y.toBuf (fun i => he ▸ shapeCast Ty.shape (rd W x) hn i) := by
  obtain ⟨rx, rfl, _, _⟩ := x
  obtain ⟨ry, rfl, _, _⟩ := y
  exact reshape_result _ _ _ _ _ _ _

/-- An operation that reads its operand in row-major order at another shape. -/
theorem Pair.reshape {x : TRef sig Tx} {x' : TRef sig' Tx} {y : TRef sig Ty} {y' : TRef sig' Ty} {he : Tx.elt = Ty.elt} {hn : Tx.shape.ShapeCasts Ty.shape}
    (hy : Result y.ref y'.ref lo) (hx : Operand x.ref x'.ref lo) :
    Pair (τ := τ) (τ' := τ') (Val := Val) (TRef.reshape x y he hn) (TRef.reshape x' y' he hn) lo (y.ref.idx.val + 1)
      (fun W => rd W y = (fun i => he ▸ shapeCast Ty.shape (rd W x) hn i)) := by
  have e := reshape_eq (τ := τ) (Val := Val) x y he hn
  have e' := reshape_eq (τ := τ') (Val := Val) x' y' he hn
  refine ⟨by rw [hy.1.2], y.ref, y'.ref, ⟨reshape_writes _ _ _ _ _ _, reshape_bufs_sub _ _ _ _ _ _, rfl⟩, ⟨reshape_writes _ _ _ _ _ _, reshape_bufs_sub _ _ _ _ _ _, rfl⟩, hy.1, hy.2, (fun V W hVW => ?_), (fun V W hVW => ?_), fun W hW => ?_, fun V V' hV => ?_⟩
  · rw [e, e, rd_congr (hVW _ hx.1)]
  · rw [e', e', rd_congr (hVW _ hx.2.1)]
  · rw [e] at hW
    rw [rd, ← hW, TRef.ofBuf_toBuf]
  · rw [e, e']; exact toBuf_heq (by rw [operand_rd hx hV])

end Ops

end Cert.Proof.HostLine

end
-- ==== Proof.HostBits.lean ====
module

public import proofs.«01_k».proof.Defs
public import proofs.«01_k».proof.Proof.HostLine
public import proofs.«01_k».proof.Proof.Gen.Kernel
public import proofs.«01_k».proof.Proof.Gen.Kernel

/-! # The random offsets: two programs' lines, one beside the other

The kernel's host program draws its row offsets by the same chain of integer operations as the plain program, on arrays of
the same numbers.  Here the two lines are matched operation by operation, and of the chain's last stretch the equations
are kept: a remainder by 8192, so every offset is below 8192. -/

@[expose] public section

noncomputable section

namespace Cert.Proof.HostBits

open Idealize.ShloMosaic Idealize.ShloMosaic.StableHlo Idealize.SL.Sem Cert.Proof.HostLine

variable {F : FTy → Type} [FloatOps F]

set_option maxRecDepth 4000

set_option maxHeartbeats 4000000
/-- The block cipher inside the key split. -/
theorem cipher0 : Both (Cert.Kernel.fn_threefry2x32.body (F := F) Cert.Kernel.main_call0.call3.v1 Cert.Kernel.main_call0.call3.v3 Cert.Kernel.main_call0.call3.v10 Cert.Kernel.main_call0.call3.v9 Cert.Kernel.main_call0.call3.call0) (Cert.Kernel.fn_threefry2x32.body (F := F) Cert.Kernel.main_call0.call3.v1 Cert.Kernel.main_call0.call3.v3 Cert.Kernel.main_call0.call3.v10 Cert.Kernel.main_call0.call3.v9 Cert.Kernel.main_call0.call3.call0)
      (pure ⟨⟩) (pure ⟨⟩) 44 266 (fun _ => True) := by
  unfold Cert.Kernel.fn_threefry2x32.body; try unfold Cert.Kernel.fn_threefry2x32.body
  refine Both.skip (mid := 104) (P := (fun _ => True)) ?_ (Both.skip (mid := 164) (P := (fun _ => True)) ?_ (Both.skip (mid := 224) (P := (fun _ => True)) ?_ ?_))
  all_goals first
    | unfold Cert.Kernel.fn_threefry2x32.body_part0; try unfold Cert.Kernel.fn_threefry2x32.body_part0
    | unfold Cert.Kernel.fn_threefry2x32.body_part1; try unfold Cert.Kernel.fn_threefry2x32.body_part1
    | unfold Cert.Kernel.fn_threefry2x32.body_part2; try unfold Cert.Kernel.fn_threefry2x32.body_part2
    | unfold Cert.Kernel.fn_threefry2x32.body_part3; try unfold Cert.Kernel.fn_threefry2x32.body_part3
  all_goals repeat' first
    | with_reducible exact Both.stop (by decide +kernel)
    | with_reducible refine Both.drop (by first
        | exact Pair.binary (by decide +kernel) (by decide +kernel) (by decide +kernel)
        | exact Pair.unary (by decide +kernel) (by decide +kernel)
        | exact Pair.nullary (by decide +kernel)
        | exact Pair.reshape (by decide +kernel) (by decide +kernel)
        | exact Pair.ternary (by decide +kernel) (by decide +kernel) (by decide +kernel) (by decide +kernel)) ?_
    | (fail_if_success with_reducible refine Both.bind ?_ ?_); with_reducible refine Both.last ?_

/-- The key split. -/
theorem split : Both (Cert.Kernel.fn_threefry_split.body (F := F) (.of Cert.Kernel.main_v6) Cert.Kernel.main_call0.call3) (Cert.Kernel.fn_threefry_split.body (F := F) (.of Cert.Kernel.main_v6) Cert.Kernel.main_call0.call3)
      (pure ⟨⟩) (pure ⟨⟩) 31 269 (fun _ => True) := by
  unfold Cert.Kernel.fn_threefry_split.body; try unfold Cert.Kernel.fn_threefry_split.body
  repeat' first
    | with_reducible exact Both.stop (by decide +kernel)
    | with_reducible refine Both.drop (by first
        | exact Pair.binary (by decide +kernel) (by decide +kernel) (by decide +kernel)
        | exact Pair.unary (by decide +kernel) (by decide +kernel)
        | exact Pair.nullary (by decide +kernel)
        | exact Pair.reshape (by decide +kernel) (by decide +kernel)
        | exact Pair.ternary (by decide +kernel) (by decide +kernel) (by decide +kernel) (by decide +kernel)) ?_
    | with_reducible refine Both.skip cipher0 ?_
    | (fail_if_success with_reducible refine Both.bind ?_ ?_); with_reducible refine Both.last ?_

/-- The first draw's block cipher. -/
theorem cipher1 : Both (Cert.Kernel.fn_threefry2x32_1.body (F := F) Cert.Kernel.main_call0.v14 Cert.Kernel.main_call0.v16 Cert.Kernel.main_call0.v35 Cert.Kernel.main_call0.v34 Cert.Kernel.main_call0.call4) (Cert.Kernel.fn_threefry2x32_1.body (F := F) Cert.Kernel.main_call0.v14 Cert.Kernel.main_call0.v16 Cert.Kernel.main_call0.v35 Cert.Kernel.main_call0.v34 Cert.Kernel.main_call0.call4)
      (pure ⟨⟩) (pure ⟨⟩) 301 523 (fun _ => True) := by
  unfold Cert.Kernel.fn_threefry2x32_1.body; try unfold Cert.Kernel.fn_threefry2x32_1.body
  refine Both.skip (mid := 361) (P := (fun _ => True)) ?_ (Both.skip (mid := 421) (P := (fun _ => True)) ?_ (Both.skip (mid := 481) (P := (fun _ => True)) ?_ ?_))
  all_goals first
    | unfold Cert.Kernel.fn_threefry2x32_1.body_part0; try unfold Cert.Kernel.fn_threefry2x32_1.body_part0
    | unfold Cert.Kernel.fn_threefry2x32_1.body_part1; try unfold Cert.Kernel.fn_threefry2x32_1.body_part1
    | unfold Cert.Kernel.fn_threefry2x32_1.body_part2; try unfold Cert.Kernel.fn_threefry2x32_1.body_part2
    | unfold Cert.Kernel.fn_threefry2x32_1.body_part3; try unfold Cert.Kernel.fn_threefry2x32_1.body_part3
  all_goals repeat' first
    | with_reducible exact Both.stop (by decide +kernel)
    | with_reducible refine Both.drop (by first
        | exact Pair.binary (by decide +kernel) (by decide +kernel) (by decide +kernel)
        | exact Pair.unary (by decide +kernel) (by decide +kernel)
        | exact Pair.nullary (by decide +kernel)
        | exact Pair.reshape (by decide +kernel) (by decide +kernel)
        | exact Pair.ternary (by decide +kernel) (by decide +kernel) (by decide +kernel) (by decide +kernel)) ?_
    | (fail_if_success with_reducible refine Both.bind ?_ ?_); with_reducible refine Both.last ?_

/-- The second draw's block cipher. -/
theorem cipher2 : Both (Cert.Kernel.fn_threefry2x32_1.body (F := F) Cert.Kernel.main_call0.v39 Cert.Kernel.main_call0.v41 Cert.Kernel.main_call0.v60 Cert.Kernel.main_call0.v59 Cert.Kernel.main_call0.call5) (Cert.Kernel.fn_threefry2x32_1.body (F := F) Cert.Kernel.main_call0.v39 Cert.Kernel.main_call0.v41 Cert.Kernel.main_call0.v60 Cert.Kernel.main_call0.v59 Cert.Kernel.main_call0.call5)
      (pure ⟨⟩) (pure ⟨⟩) 552 774 (fun _ => True) := by
  unfold Cert.Kernel.fn_threefry2x32_1.body; try unfold Cert.Kernel.fn_threefry2x32_1.body
  refine Both.skip (mid := 612) (P := (fun _ => True)) ?_ (Both.skip (mid := 672) (P := (fun _ => True)) ?_ (Both.skip (mid := 732) (P := (fun _ => True)) ?_ ?_))
  all_goals first
    | unfold Cert.Kernel.fn_threefry2x32_1.body_part0; try unfold Cert.Kernel.fn_threefry2x32_1.body_part0
    | unfold Cert.Kernel.fn_threefry2x32_1.body_part1; try unfold Cert.Kernel.fn_threefry2x32_1.body_part1
    | unfold Cert.Kernel.fn_threefry2x32_1.body_part2; try unfold Cert.Kernel.fn_threefry2x32_1.body_part2
    | unfold Cert.Kernel.fn_threefry2x32_1.body_part3; try unfold Cert.Kernel.fn_threefry2x32_1.body_part3
  all_goals repeat' first
    | with_reducible exact Both.stop (by decide +kernel)
    | with_reducible refine Both.drop (by first
        | exact Pair.binary (by decide +kernel) (by decide +kernel) (by decide +kernel)
        | exact Pair.unary (by decide +kernel) (by decide +kernel)
        | exact Pair.nullary (by decide +kernel)
        | exact Pair.reshape (by decide +kernel) (by decide +kernel)
        | exact Pair.ternary (by decide +kernel) (by decide +kernel) (by decide +kernel) (by decide +kernel)) ?_
    | (fail_if_success with_reducible refine Both.bind ?_ ?_); with_reducible refine Both.last ?_

end Cert.Proof.HostBits
-- ==== Proof.RefLine.lean ====
module

public import proofs.«01_k».proof.Defs
public import proofs.«01_k».proof.Proof.HostLine
public import proofs.«01_k».proof.Proof.Gen.ReferenceIdeal

/-! # The plain program after its draw

What the plain program runs once it has its offsets, as a line of operations with its equations. -/

@[expose] public section

noncomputable section

namespace Cert.Proof.RefLine

open Idealize.ShloMosaic Idealize.ShloMosaic.StableHlo Idealize.SL.Sem Cert.Proof.HostLine
open Cert.ReferenceIdeal Cert.ReferenceIdeal.Facts₀ Cert.ReferenceIdeal.Facts

variable {F : FTy → Type} [FloatOps F]

set_option maxRecDepth 4000

set_option maxHeartbeats 4000000

/-- The plain program after its draw: the column indices, and the elements taken at them. -/
def rest (_d : Dev nD) : Prog (TpuEff nD τ sig (Elt F) (Pipeline.Sig Λ₀ (Fin 0) fun p => (pcfgs (F := F) p).Adm) .tc) PUnit := do
  hlo rfl (TRef.unary (.of main_v7 : TRef sig ⟨S16x4x1x1, .i32⟩) (.of main_v8 : TRef sig ⟨S16x4x2x1, .i32⟩) (broadcastInDim S16x4x2x1 ![0, 1, 2, 3] bcast_S16x4x1x1_S16x4x2x1_0_1_2_3)) (fun _ => .ret ⟨⟩)
  hlo rfl (TRef.nullary (.of main_v9 : TRef sig ⟨S122880, .i32⟩) (iotaInDim S122880 32 0)) (fun _ => .ret ⟨⟩)
  hlo rfl (TRef.unary (.of main_v9 : TRef sig ⟨S122880, .i32⟩) (.of main_v10 : TRef sig ⟨S1x1x1x122880, .i32⟩) (broadcastInDim S1x1x1x122880 ![3] bcast_S122880_S1x1x1x122880_3)) (fun _ => .ret ⟨⟩)
  hlo rfl (TRef.unary (.of main_v10 : TRef sig ⟨S1x1x1x122880, .i32⟩) (.of main_v11 : TRef sig ⟨S16x4x2x122880, .i32⟩) (broadcastInDim S16x4x2x122880 ![0, 1, 2, 3] bcast_S1x1x1x122880_S16x4x2x122880_0_1_2_3)) (fun _ => .ret ⟨⟩)
  hlo rfl (TRef.unary (.of main_v8 : TRef sig ⟨S16x4x2x1, .i32⟩) (.of main_v12 : TRef sig ⟨S16x4x2x122880, .i32⟩) (broadcastInDim S16x4x2x122880 ![0, 1, 2, 3] bcast_S16x4x2x1_S16x4x2x122880_0_1_2_3)) (fun _ => .ret ⟨⟩)
  hlo rfl (TRef.binary (.of main_v11 : TRef sig ⟨S16x4x2x122880, .i32⟩) (.of main_v12 : TRef sig ⟨S16x4x2x122880, .i32⟩) (.of main_v13 : TRef sig ⟨S16x4x2x122880, .i32⟩) addi) (fun _ => .ret ⟨⟩)
  fn_take_along_axis.body (.of main_arg0) (.of main_v13) main_call1
  pure ⟨⟩

/-- The plain program up to its draw. -/
def opening (d : Dev nD) : Prog (TpuEff nD τ sig (Elt F) (Pipeline.Sig Λ₀ (Fin 0) fun p => (pcfgs (F := F) p).Adm) .tc) PUnit := do
  hlo rfl (TRef.nullary (.of main_c : TRef sig ⟨S_, .i32⟩) (constantI S_ 32 42#32)) (fun _ => .ret ⟨⟩)
  hlo rfl (TRef.nullary (.of main_c_0 : TRef sig ⟨S_, .i32⟩) (constantI S_ 32 32#32)) (fun _ => .ret ⟨⟩)
  hlo rfl (TRef.binary (.of main_c : TRef sig ⟨S_, .i32⟩) (.of main_c_0 : TRef sig ⟨S_, .i32⟩) (.of main_v0 : TRef sig ⟨S_, .i32⟩) Host.shrui) (fun _ => .ret ⟨⟩)
  hlo rfl (TRef.unary (.of main_v0 : TRef sig ⟨S_, .i32⟩) (.of main_v1 : TRef sig ⟨S_, .i32⟩) id) (fun _ => .ret ⟨⟩)
  hlo rfl (TRef.unary (.of main_v1 : TRef sig ⟨S_, .i32⟩) (.of main_v2 : TRef sig ⟨S1, .i32⟩) (broadcastInDim S1 ![] bcast_S_S1)) (fun _ => .ret ⟨⟩)
  hlo rfl (TRef.nullary (.of main_c_1 : TRef sig ⟨S_, .i32⟩) (constantI S_ 32 4294967295#32)) (fun _ => .ret ⟨⟩)
  hlo rfl (TRef.binary (.of main_c : TRef sig ⟨S_, .i32⟩) (.of main_c_1 : TRef sig ⟨S_, .i32⟩) (.of main_v3 : TRef sig ⟨S_, .i32⟩) andi) (fun _ => .ret ⟨⟩)
  hlo rfl (TRef.unary (.of main_v3 : TRef sig ⟨S_, .i32⟩) (.of main_v4 : TRef sig ⟨S_, .i32⟩) id) (fun _ => .ret ⟨⟩)
  hlo rfl (TRef.unary (.of main_v4 : TRef sig ⟨S_, .i32⟩) (.of main_v5 : TRef sig ⟨S1, .i32⟩) (broadcastInDim S1 ![] bcast_S_S1)) (fun _ => .ret ⟨⟩)
  hlo rfl (TRef.binary (.of main_v2 : TRef sig ⟨S1, .i32⟩) (.of main_v5 : TRef sig ⟨S1, .i32⟩) (.of main_v6 : TRef sig ⟨S2, .i32⟩) (fun a b => concatenate S2 0 [⟨S1, a⟩, ⟨S1, b⟩] concatenates_S1_S1_S2_d0)) (fun _ => .ret ⟨⟩)
  hlo rfl (TRef.nullary (.of main_c_2 : TRef sig ⟨S_, .i32⟩) (constantI S_ 32 0#32)) (fun _ => .ret ⟨⟩)
  hlo rfl (TRef.nullary (.of main_c_3 : TRef sig ⟨S_, .i32⟩) (constantI S_ 32 8192#32)) (fun _ => .ret ⟨⟩)
  fn_randint.body (.of main_v6) (.of main_c_2) (.of main_c_3) main_call0
  rest d

/-- The plain program is that. -/
theorem main_eq (d : Dev nD) : main (F := F) d = opening d := rfl

/-- The line's equations. -/
theorem lines (d : Dev nD) : Both (rest (F := F) d) (rest (F := F) d) (pure ⟨⟩) (pure ⟨⟩) 805 833 (fun W =>
    ∃ (v8 : (⟨S16x4x2x1, .i32⟩ : BufTy).Contents (Elt F)) (v13 v4 : (⟨S16x4x2x122880, .i32⟩ : BufTy).Contents (Elt F))
      (v5 : (⟨S16x4x2x122880x1, .i32⟩ : BufTy).Contents (Elt F)) (v11 : (⟨S16x4x2x122880x1, .i1⟩ : BufTy).Contents (Elt F)),
      v8 = broadcastInDim S16x4x2x1 ![0, 1, 2, 3] bcast_S16x4x1x1_S16x4x2x1_0_1_2_3 (rd W (.of main_v7 : TRef sig ⟨S16x4x1x1, .i32⟩))
      ∧ v13 = addi (broadcastInDim S16x4x2x122880 ![0, 1, 2, 3] bcast_S1x1x1x122880_S16x4x2x122880_0_1_2_3
            (broadcastInDim S1x1x1x122880 ![3] bcast_S122880_S1x1x1x122880_3 (iotaInDim S122880 32 0)))
          (broadcastInDim S16x4x2x122880 ![0, 1, 2, 3] bcast_S16x4x2x1_S16x4x2x122880_0_1_2_3 v8)
      ∧ v4 = select (cmpi .slt v13 (broadcastInDim S16x4x2x122880 ![] bcast_S_S16x4x2x122880 (constantI S_ 32 0#32)))
          (addi v13 (broadcastInDim S16x4x2x122880 ![] bcast_S_S16x4x2x122880 (constantI S_ 32 131072#32))) v13
      ∧ v5 = (fun i => (rfl : (.i32 : EltTy) = .i32) ▸ shapeCast S16x4x2x122880x1 v4 shapeCasts_S16x4x2x122880_S16x4x2x122880x1 i)
      ∧ v11 = andi (cmpi .sge v5 (broadcastInDim S16x4x2x122880x1 ![] bcast_S_S16x4x2x122880x1 (constantI S_ 32 0#32)))
          (cmpi .sle v5 (broadcastInDim S16x4x2x122880x1 ![0, 1, 2, 3, 4] bcast_S1x1x1x1x1_S16x4x2x122880x1_0_1_2_3_4
            (broadcastInDim S1x1x1x1x1 ![4] bcast_S1_S1x1x1x1x1_4 (constantI S1 32 131071#32))))
      ∧ rd W (.of main_v14 : TRef sig ⟨S16x4x2x122880, .f32⟩) = select (Host.reduce IntOp.andi v11 (constantI S_ 1 1#1) reducesTo_S16x4x2x122880x1_S16x4x2x122880_d4 h_S_)
          (Host.gather gather_S16x4x2x131072_S16x4x2x122880x1_S16x4x2x122880_n_3_012_012_3_4_1111 (rd W (.of main_arg0 : TRef sig ⟨S16x4x2x131072, .f32⟩)) v5)
          (broadcastInDim S16x4x2x122880 ![] bcast_S_S16x4x2x122880 (constant S_ .f32 0x7FC00000#32)))  := by
  apply Both.mono
  case h =>
    unfold rest
    repeat' first
      | with_reducible apply Both.assoc
      | with_reducible apply Both.ret
      | with_reducible apply Both.cons
      | unfold fn_take_along_axis.body
      | exact Pair.binary (by decide +kernel) (by decide +kernel) (by decide +kernel)
      | exact Pair.unary (by decide +kernel) (by decide +kernel)
      | exact Pair.nullary (by decide +kernel)
      | exact Pair.reshape (by decide +kernel) (by decide +kernel)
      | exact Pair.ternary (by decide +kernel) (by decide +kernel) (by decide +kernel) (by decide +kernel)
      | with_reducible exact Both.stop (by decide +kernel)
  case hP =>
    rintro W ⟨e8, e9, e10, e11, e12, e13, c, v0, v1, c0, v2, v3, v4, v5, c1, c2, v6, v7, v8, v9, v10, v11, c3, v12, v13, cst, v14, v15, -⟩
    refine ⟨rd W (.of main_v8), rd W (.of main_v13), rd W main_call1.v4, rd W main_call1.v5, rd W main_call1.v11, e8, ?_, ?_, v5, ?_, ?_⟩
    · exact e13.trans (congrArg₂ addi (e11.trans (congrArg _ (e10.trans (congrArg _ e9)))) e12)
    · exact v4.trans (congrArg₂ (select · · _) (v1.trans (congrArg (cmpi .slt _) (v0.trans (congrArg _ c)))) (v3.trans (congrArg (addi _) (v2.trans (congrArg _ c0)))))
    · exact v11.trans (congrArg₂ andi (v7.trans (congrArg (cmpi .sge _) (v6.trans (congrArg _ c2))))
        (v10.trans (congrArg (cmpi .sle _) (v9.trans (congrArg _ (v8.trans (congrArg _ c1)))))))
    · refine v15.trans ?_
      rw [v12, v13, v14, cst, c3]

end Cert.Proof.RefLine
-- ==== Proof.MainBits.lean ====
module

public import proofs.«01_k».proof.Proof.DrawBits
public import proofs.«01_k».proof.Proof.RefLine

/-! # The kernel's host program as a line of operations

The host program is its constants, the draw, the layout of the offsets and of the waveforms, the SparseCore call, and a
reshape of its result.  The line before the call leaves the waveforms as 128 rows, and every row's offset, below 8192. -/

@[expose] public section

noncomputable section

namespace Cert.Proof.MainBits

open Idealize.ShloMosaic Idealize.ShloMosaic.StableHlo Idealize.SL.Sem Cert.Proof.HostLine
open Cert.Kernel Cert.Kernel.Facts₀ Cert.Kernel.Facts

variable {F : FTy → Type} [FloatOps F]

set_option maxRecDepth 4000

set_option maxHeartbeats 4000000

/-- The call and what follows it. -/
def last (d : Dev nD) : Prog (TpuEff nD τ sig (Elt F) (SparseCore.Sig (Pipeline.Sig Λ₀ (Fin 0) fun p => (pcfgs (F := F) p).Adm) 1) .tc) PUnit := do
  sc.run d 0
  hlo rfl (StableHlo.reshape main_v13 main_v14 (rfl : (.f32 : EltTy) = .f32) shapeCasts_S128x122880_S16x4x2x122880) (fun _ => .ret ⟨⟩)
  pure ⟨⟩

/-- The host program after its draw. -/
def rest (d : Dev nD) : Prog (TpuEff nD τ sig (Elt F) (SparseCore.Sig (Pipeline.Sig Λ₀ (Fin 0) fun p => (pcfgs (F := F) p).Adm) 1) .tc) PUnit := do
  hlo rfl (TRef.reshape (.of main_v7 : TRef sig ⟨S16x4x1x1, .i32⟩) (.of main_v8 : TRef sig ⟨S64x1, .i32⟩) (rfl : (.i32 : EltTy) = .i32) shapeCasts_S16x4x1x1_S64x1) (fun _ => .ret ⟨⟩)
  hlo rfl (TRef.unary (.of main_v8 : TRef sig ⟨S64x1, .i32⟩) (.of main_v9 : TRef sig ⟨S64x2, .i32⟩) (broadcastInDim S64x2 ![0, 1] bcast_S64x1_S64x2_0_1)) (fun _ => .ret ⟨⟩)
  hlo rfl (TRef.reshape (.of main_v9 : TRef sig ⟨S64x2, .i32⟩) (.of main_v10 : TRef sig ⟨S128, .i32⟩) (rfl : (.i32 : EltTy) = .i32) shapeCasts_S64x2_S128) (fun _ => .ret ⟨⟩)
  hlo rfl (TRef.nullary (.of main_c_4 : TRef sig ⟨S_, .i32⟩) (constantI S_ 32 0#32)) (fun _ => .ret ⟨⟩)
  fn_pad.body (.of main_v10) (.of main_c_4) main_call1
  hlo rfl (TRef.reshape (.of main_arg0 : TRef sig ⟨S16x4x2x131072, .f32⟩) (.of main_v12 : TRef sig ⟨S128x131072, .f32⟩) (rfl : (.f32 : EltTy) = .f32) shapeCasts_S16x4x2x131072_S128x131072) (fun _ => .ret ⟨⟩)
  last d

/-- The host program, its lines typed. -/
def opening (d : Dev nD) : Prog (TpuEff nD τ sig (Elt F) (SparseCore.Sig (Pipeline.Sig Λ₀ (Fin 0) fun p => (pcfgs (F := F) p).Adm) 1) .tc) PUnit := do
  hlo rfl (TRef.nullary (.of main_c : TRef sig ⟨S_, .i32⟩) (constantI S_ 32 42#32)) (fun _ => .ret ⟨⟩)
  hlo rfl (TRef.nullary (.of main_c_0 : TRef sig ⟨S_, .i32⟩) (constantI S_ 32 32#32)) (fun _ => .ret ⟨⟩)
  hlo rfl (TRef.binary (.of main_c : TRef sig ⟨S_, .i32⟩) (.of main_c_0 : TRef sig ⟨S_, .i32⟩) (.of main_v0 : TRef sig ⟨S_, .i32⟩) Host.shrui) (fun _ => .ret ⟨⟩)
  hlo rfl (TRef.unary (.of main_v0 : TRef sig ⟨S_, .i32⟩) (.of main_v1 : TRef sig ⟨S_, .i32⟩) id) (fun _ => .ret ⟨⟩)
  hlo rfl (TRef.unary (.of main_v1 : TRef sig ⟨S_, .i32⟩) (.of main_v2 : TRef sig ⟨S1, .i32⟩) (broadcastInDim S1 ![] bcast_S_S1)) (fun _ => .ret ⟨⟩)
  hlo rfl (TRef.nullary (.of main_c_1 : TRef sig ⟨S_, .i32⟩) (constantI S_ 32 4294967295#32)) (fun _ => .ret ⟨⟩)
  hlo rfl (TRef.binary (.of main_c : TRef sig ⟨S_, .i32⟩) (.of main_c_1 : TRef sig ⟨S_, .i32⟩) (.of main_v3 : TRef sig ⟨S_, .i32⟩) andi) (fun _ => .ret ⟨⟩)
  hlo rfl (TRef.unary (.of main_v3 : TRef sig ⟨S_, .i32⟩) (.of main_v4 : TRef sig ⟨S_, .i32⟩) id) (fun _ => .ret ⟨⟩)
  hlo rfl (TRef.unary (.of main_v4 : TRef sig ⟨S_, .i32⟩) (.of main_v5 : TRef sig ⟨S1, .i32⟩) (broadcastInDim S1 ![] bcast_S_S1)) (fun _ => .ret ⟨⟩)
  hlo rfl (TRef.binary (.of main_v2 : TRef sig ⟨S1, .i32⟩) (.of main_v5 : TRef sig ⟨S1, .i32⟩) (.of main_v6 : TRef sig ⟨S2, .i32⟩) (fun a b => concatenate S2 0 [⟨S1, a⟩, ⟨S1, b⟩] concatenates_S1_S1_S2_d0)) (fun _ => .ret ⟨⟩)
  hlo rfl (TRef.nullary (.of main_c_2 : TRef sig ⟨S_, .i32⟩) (constantI S_ 32 0#32)) (fun _ => .ret ⟨⟩)
  hlo rfl (TRef.nullary (.of main_c_3 : TRef sig ⟨S_, .i32⟩) (constantI S_ 32 8192#32)) (fun _ => .ret ⟨⟩)
  fn_randint.body (.of main_v6) (.of main_c_2) (.of main_c_3) main_call0
  rest d

/-- The host program is that. -/
theorem main_eq (d : Dev nD) : main (F := F) d = opening d := rfl

/-- The two programs up to the end of their draws: they leave equal arrays, and offsets below 8192. -/
theorem draw_lines (d : Dev nD) (d' : Dev Cert.Kernel.nD) :
    Both (opening (F := F) d) (Cert.Proof.MainBits.opening (F := F) d') (rest d) (Cert.Proof.MainBits.rest d') 1 805
      (fun W => ∀ i, (rd W (.of main_v7 : TRef sig ⟨S16x4x1x1, .i32⟩) i : BitVec 32).toNat < 8192) := by
  apply Both.mono
  case h =>
    unfold opening; try unfold Cert.Proof.MainBits.opening
    iterate 12
      with_reducible apply Both.cons
      on_goal 1 => first
        | exact Pair.binary (by decide +kernel) (by decide +kernel) (by decide +kernel)
        | exact Pair.unary (by decide +kernel) (by decide +kernel)
        | exact Pair.nullary (by decide +kernel)
    unfold Cert.Kernel.fn_randint.body; try unfold Cert.Kernel.fn_randint.body
    with_reducible apply Both.assoc
    with_reducible apply Both.bind
    on_goal 1 => exact Cert.Proof.HostBits.draw_part0
    with_reducible apply Both.bind
    on_goal 1 => exact Cert.Proof.HostBits.draw_part1
    exact Both.done
  case hP =>
    rintro W ⟨-, -, -, -, -, -, -, -, -, -, e2, e3, h0, h1, -⟩
    obtain ⟨a, b, c⟩ := h0 e2 e3
    exact h1 a b c

/-- The layout of the offsets, each twice (one per channel) and 16 zeroes after them, and of the waveforms. -/
theorem layout_lines (d : Dev nD) : Both (rest (F := F) d) (rest (F := F) d) (last d) (last d) 805 812 (fun W =>
    ∃ (v8 : (⟨S64x1, .i32⟩ : BufTy).Contents (Elt F)) (v10 : (⟨S128, .i32⟩ : BufTy).Contents (Elt F)),
      v8 = shapeCast S64x1 (rd W (.of main_v7 : TRef sig ⟨S16x4x1x1, .i32⟩) : S16x4x1x1.Idx → BitVec 32) shapeCasts_S16x4x1x1_S64x1
      ∧ v10 = shapeCast S128 (broadcastInDim S64x2 ![0, 1] bcast_S64x1_S64x2_0_1 v8) shapeCasts_S64x2_S128
      ∧ rd W (.of main_v11 : TRef sig ⟨S144, .i32⟩) = pad S144 ![0] ![16] ![0] v10 (constantI S_ 32 0#32) pads_S128_S144_0160 h_S_
      ∧ rd W (.of main_v12 : TRef sig ⟨S128x131072, .f32⟩)
        = shapeCast S128x131072 (rd W (.of main_arg0 : TRef sig ⟨S16x4x2x131072, .f32⟩) : S16x4x2x131072.Idx → Elt F .f32) shapeCasts_S16x4x2x131072_S128x131072) := by
  apply Both.mono
  case h =>
    unfold rest
    repeat' first
      | with_reducible apply Both.assoc
      | with_reducible apply Both.ret
      | with_reducible apply Both.cons
      | unfold fn_pad.body
      | exact Pair.binary (by decide +kernel) (by decide +kernel) (by decide +kernel)
      | exact Pair.unary (by decide +kernel) (by decide +kernel)
      | exact Pair.nullary (by decide +kernel)
      | exact Pair.reshape (by decide +kernel) (by decide +kernel)
      | with_reducible exact Both.stop (by decide +kernel)
  case hP =>
    rintro W ⟨e8, e9, e10, e4, p0, e11, e12, -⟩
    exact ⟨_, _, e8, e10.trans (congrArg (fun x => shapeCast S128 x shapeCasts_S64x2_S128) e9),
      e11.trans (congrArg (fun x => pad S144 ![0] ![16] ![0] (rd W (.of main_v10 : TRef sig ⟨S128, .i32⟩)) x pads_S128_S144_0160 h_S_) (p0.trans e4)), e12⟩

end Cert.Proof.MainBits
-- ==== Proof.LayoutBits.lean ====
module

public import proofs.«01_k».proof.Proof.ValBits
public import proofs.«01_k».proof.Proof.MainBits
public import Idealize.ShloMosaic.Lib.Pipeline.Value
public import Idealize.ShloMosaic.Lib.KernelVsHost

/-! # What the line before the call leaves, entry by entry

Row `R` of the 128 is signal `R % 2` of source `R / 2 % 4` of batch `R / 8`; its word of the table is that source's offset. -/

@[expose] public section

noncomputable section

namespace Cert.Proof.LayoutBits

open Idealize.ShloMosaic Idealize.ShloMosaic.StableHlo Idealize.SL.Sem Cert.Proof.HostLine Cert.Proof.ValBits Cert.Proof.TileBits
open Cert.Kernel Cert.Kernel.Facts₀ Cert.Kernel.Facts

variable {F : FTy → Type}

/-- The offset of source `s` of batch `b`, among the drawn offsets. -/
def source (b : Fin 16) (s : Fin 4) : S16x4x1x1.Idx := fun | 0 => b | 1 => s | 2 => (0 : Fin 1) | 3 => (0 : Fin 1)

/-- The batch and the source of a row. -/
def batchOf (R : Fin 128) : Fin 16 := ⟨R.val / 8, by omega⟩
def sourceOf (R : Fin 128) : Fin 4 := ⟨R.val / 2 % 4, by omega⟩

/-- The offsets, each repeated for its source's two signals, padded to the table's length: row `R`'s word. -/
theorem table_word (v : S16x4x1x1.Idx → BitVec 32) (z : S_.Idx → BitVec 32) (R : Fin 128) (j : S144.Idx) (hj : (j 0).val = R.val) :
    pad S144 ![0] ![16] ![0] (shapeCast S128 (broadcastInDim S64x2 ![0, 1] bcast_S64x1_S64x2_0_1 (shapeCast S64x1 v shapeCasts_S16x4x1x1_S64x1)) shapeCasts_S64x2_S128)
      z pads_S128_S144_0160 h_S_ j = v (source (batchOf R) (sourceOf R)) := by
  refine (pad_apply_of_inside (s := S128) (t := S144) _ _ _ _ _ _ _ j (fun | 0 => (R : Fin 128)) (fun | 0 => ?_)).trans ?_
  · show (j 0).val = 0 + R.val * (0 + 1)
    omega
  refine (shapeCast_apply (s := S64x2) (t := S128) _ _ _ (fun | 0 => (⟨R.val / 2, by omega⟩ : Fin 64) | 1 => (⟨R.val % 2, by omega⟩ : Fin 2)) ?_).trans ?_
  · refine (Shape.rowMajor_val_two (d := ![64, 2]) _).trans (Eq.trans ?_ (Shape.rowMajor_val_one (d := ![128]) _).symm)
    show R.val / 2 * 2 + R.val % 2 = R.val
    omega
  show shapeCast S64x1 v shapeCasts_S16x4x1x1_S64x1 _ = _
  refine shapeCast_apply (s := S16x4x1x1) (t := S64x1) _ _ _ _ ?_
  refine (Shape.rowMajor_val_four (d := ![16, 4, 1, 1]) _).trans (Eq.trans ?_ (Shape.rowMajor_val_two (d := ![64, 1]) _).symm)
  show ((R.val / 8 * 4 + R.val / 2 % 4) * 1 + 0) * 1 + 0 = R.val / 2 * 1 + 0
  omega

variable [FloatOps F]

/-- The facts the host line leaves, as `MainBits.layout_lines` states them. -/
abbrev Laid (W : Valuation τ sig (Elt F)) : Prop :=
  ∃ (v8 : (⟨S64x1, .i32⟩ : BufTy).Contents (Elt F)) (v10 : (⟨S128, .i32⟩ : BufTy).Contents (Elt F)), v8 = shapeCast S64x1 (rd W (.of main_v7 : TRef sig ⟨S16x4x1x1, .i32⟩) : S16x4x1x1.Idx → BitVec 32) shapeCasts_S16x4x1x1_S64x1
      ∧ v10 = shapeCast S128 (broadcastInDim S64x2 ![0, 1] bcast_S64x1_S64x2_0_1 v8) shapeCasts_S64x2_S128
      ∧ rd W (.of main_v11 : TRef sig ⟨S144, .i32⟩) = pad S144 ![0] ![16] ![0] v10 (constantI S_ 32 0#32) pads_S128_S144_0160 h_S_
      ∧ rd W (.of main_v12 : TRef sig ⟨S128x131072, .f32⟩)
        = shapeCast S128x131072 (rd W (.of main_arg0 : TRef sig ⟨S16x4x2x131072, .f32⟩) : S16x4x2x131072.Idx → Elt F .f32) shapeCasts_S16x4x2x131072_S128x131072

/-- Row `R`'s word of the table is the offset drawn for its source. -/
theorem laid_word (d : Dev nD) (W : Valuation τ sig (Elt F)) (h : Laid W) (R : Fin 128) :
    wordAt d (at' W main_v11) R = (rd W (.of main_v7 : TRef sig ⟨S16x4x1x1, .i32⟩)) (source (batchOf R) (sourceOf R)) := by
  obtain ⟨v8, v10, e8, e10, e11, -⟩ := h
  have e : (at' W main_v11 : S144.Idx → BitVec 32) = rd W (.of main_v11 : TRef sig ⟨S144, .i32⟩) := rfl
  show (at' W main_v11 : S144.Idx → BitVec 32) _ = _
  rw [e, e11, e10, e8]
  exact table_word _ _ R _ rfl

/-- The host program up to the call is one line of operations, leaving the drawn offsets below 8192 and the layout stated above. -/
theorem host_line (d : Dev nD) : ∃ ops : List (HloOp τ sig (Elt F)), main (F := F) d = seq ops >>= (fun _ => MainBits.last d) ∧ Rising 1 ops 812
    ∧ ∀ W, Fix ops W → (∀ i, (rd W (.of main_v7 : TRef sig ⟨S16x4x1x1, .i32⟩) i : BitVec 32).toNat < 8192) ∧ Laid W := by
  rw [MainBits.main_eq]
  exact One.trans (MainBits.draw_lines d d).one (MainBits.layout_lines d).one

/-- The table's words are below 8192. -/
theorem laid_lt (d : Dev nD) (W : Valuation τ sig (Elt F))
    (h : (∀ i, (rd W (.of main_v7 : TRef sig ⟨S16x4x1x1, .i32⟩) i : BitVec 32).toNat < 8192) ∧ Laid W) (R : Fin 128) :
    (wordAt d (at' W main_v11) R).toNat < 8192 := by
  rw [laid_word d W h.2 R]; exact h.1 _

end Cert.Proof.LayoutBits

end
-- ==== Proof.FrameBits.lean ====
module

public import proofs.«01_k».proof.Proof.RunBits
public import proofs.«01_k».proof.Proof.LayoutBits

/-! # Every run of the kernel ends, the argument as it was, no semaphore raised -/

@[expose] public section

noncomputable section

namespace Cert.Proof.FrameBits

open Idealize.ShloMosaic Idealize.ShloMosaic.StableHlo Idealize.SL.Sem Cert.Proof.HostLine Cert.Proof.RunBits Cert.Proof.LayoutBits
open Cert.Kernel

variable {F : FTy → Type} [FloatOps F]

/-- The argument is not written before the call. -/
theorem arg_kept (m : (ℓ : Loc nD τ sig) → Buf (Elt F) ℓ) (d : Dev nD) {ops : List (HloOp τ sig (Elt F))} {hi : ℕ} (h : Rising 1 ops hi) :
    after ops (launchContents m d) aRef = m (aLoc d) :=
  rising_keeps h (launchContents m d) (r := main_arg0) (Or.inr Nat.one_pos)

theorem frame : Cert.quiescent_Kernel := fun m ρ _ => by
  choose ops hm hr hP using fun d => host_line (F := Bits) d
  have run := run_main m ρ (fun d => after (ops d) (launchContents m d)) hm hr (fun _ => rfl)
    (fun d R => laid_lt d _ (hP d _ (rising_fix (hr d) _)) R)
  exact (θ_run _ _ _).mono (fun _ h => ⟨fun c => (h.1 c).1.trans (arg_kept m c (hr c)), h.2⟩) run

end Cert.Proof.FrameBits

end
-- ==== Proof.TileIdeal.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.TileIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide +kernel,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The source rows, the table of offsets and the shifted rows, as locations of device `d`. -/
abbrev wLoc (d : Dev nD) : Loc nD τ sig := (SparseCore.T d).loc main_v12
abbrev tLoc (d : Dev nD) : Loc nD τ sig := (SparseCore.T d).loc main_v11
abbrev oLoc (d : Dev nD) : Loc nD τ sig := (SparseCore.T d).loc main_v13

local notation "wV" => (Memref.whole Cert.KernelIdeal.main_v12_scv : Memref Cert.KernelIdeal.sig Kind.scVector Space.hbm Cert.KernelIdeal.S128x131072 EltTy.f32)
local notation "tV" => (Memref.whole Cert.KernelIdeal.main_v11_scv : Memref Cert.KernelIdeal.sig Kind.scVector Space.hbm Cert.KernelIdeal.S144 EltTy.i32)
local notation "oV" => (Memref.whole Cert.KernelIdeal.main_v13_scv : Memref Cert.KernelIdeal.sig Kind.scVector Space.hbm Cert.KernelIdeal.S128x122880 EltTy.f32)
local notation "sT" => (Memref.whole Cert.KernelIdeal.cc0_scratch0 : Memref Cert.KernelIdeal.sig Kind.scVector Space.vmem Cert.KernelIdeal.S144 EltTy.i32)
local notation "sI" => (Memref.whole Cert.KernelIdeal.cc0_scratch1 : Memref Cert.KernelIdeal.sig Kind.scVector Space.vmem Cert.KernelIdeal.S30728 EltTy.f32)
local notation "sO" => (Memref.whole Cert.KernelIdeal.cc0_scratch2 : Memref Cert.KernelIdeal.sig Kind.scVector Space.vmem Cert.KernelIdeal.S30720 EltTy.f32)

/-! ## Names for the pieces of the output one task fills -/

abbrev cV (L : grid0.Coords) : Fin τ.nSC := (L 0).castLE hcore0
abbrev jV (L : grid0.Coords) : Fin τ.nSub := (L 1).castLE hsub0
/-- The thread that runs the task at coordinates `L`. -/
abbrev tV' (d : Dev nD) (L : grid0.Coords) : Thread nD τ := V d (cV L) (jV L)

/-- Row `R`, columns `[30720 * q, 30720 * (q + 1))` of the output. -/
abbrev pieceRect (R : Fin 128) (q : Fin 4) : Rect S128x122880 :=
  Rect.unit (s := S128x122880) ![R.val, 30720 * q.val] S1x30720.size (by
    have := R.isLt; have := q.isLt
    intro a; match a with
    | 0 => show R.val + 1 ≤ 128; omega
    | 1 => show 30720 * q.val + 30720 ≤ 122880; omega)
abbrev pieceSet (R : Fin 128) (q : Fin 4) : Finset S128x122880.Idx := ((oV).view.slice (pieceRect R q)).set

theorem rowOf_lt (L : grid0.Coords) (r : Fin 4) : 8 * (L 1).val + 4 * (L 0).val + r.val < 128 := by
  have h0 : (L 0).val < 2 := (L 0).isLt
  have h1 : (L 1).val < 16 := (L 1).isLt
  omega
/-- The four rows of the task at `L`. -/
abbrev rowOf (L : grid0.Coords) (r : Fin 4) : Fin 128 := ⟨8 * (L 1).val + 4 * (L 0).val + r.val, rowOf_lt L r⟩

/-! The sixteen pieces as the program slices them. -/

/-- A slice of the output at the offsets of a task's piece has that piece's elements. -/
theorem piece_eq (L : grid0.Coords) (r q : Fin 4) {off : Fin 2 → Nat} (inb : ∀ a, off a + S1x30720.size a ≤ S128x122880.size a)
    (h : off = ![8 * (L 1).val + 4 * (L 0).val + r.val, 30720 * q.val]) :
    (((oV).slice (Rect.unit (s := S128x122880) off S1x30720.size inb) (fun _ => rfl)).squeeze S30720 squeezes_S1x30720_S30720).view.set
      = pieceSet (rowOf L r) q := by
  subst h
  show (((oV).view.slice (pieceRect (rowOf L r) q)).reshape S30720 squeezes_S1x30720_S30720.numel_eq).set = _
  rw [View.set_reshape]

abbrev oK0 (L : grid0.Coords) : Memref sig .scVector .hbm S30720 .f32 :=
  ((oV).slice (Rect.unit (s := S128x122880) (k0_off5 L) S1x30720.size (k0_off5_inb L)) (fun _ => rfl)).squeeze S30720 squeezes_S1x30720_S30720
theorem set_oK0 (L : grid0.Coords) : (oK0 L).view.set = pieceSet (rowOf L 0) 0 := piece_eq L 0 0 (k0_off5_inb L) (k0_off5_eq L)

abbrev oK1 (L : grid0.Coords) : Memref sig .scVector .hbm S30720 .f32 :=
  ((oV).slice (Rect.unit (s := S128x122880) (k0_off8 L) S1x30720.size (k0_off8_inb L)) (fun _ => rfl)).squeeze S30720 squeezes_S1x30720_S30720
theorem set_oK1 (L : grid0.Coords) : (oK1 L).view.set = pieceSet (rowOf L 0) 1 := piece_eq L 0 1 (k0_off8_inb L) (k0_off8_eq L)

abbrev oK2 (L : grid0.Coords) : Memref sig .scVector .hbm S30720 .f32 :=
  ((oV).slice (Rect.unit (s := S128x122880) (k0_off11 L) S1x30720.size (k0_off11_inb L)) (fun _ => rfl)).squeeze S30720 squeezes_S1x30720_S30720
theorem set_oK2 (L : grid0.Coords) : (oK2 L).view.set = pieceSet (rowOf L 0) 2 := piece_eq L 0 2 (k0_off11_inb L) (k0_off11_eq L)

abbrev oK3 (L : grid0.Coords) : Memref sig .scVector .hbm S30720 .f32 :=
  ((oV).slice (Rect.unit (s := S128x122880) (k0_off14 L) S1x30720.size (k0_off14_inb L)) (fun _ => rfl)).squeeze S30720 squeezes_S1x30720_S30720
theorem set_oK3 (L : grid0.Coords) : (oK3 L).view.set = pieceSet (rowOf L 0) 3 := piece_eq L 0 3 (k0_off14_inb L) (k0_off14_eq L)

abbrev oK4 (L : grid0.Coords) : Memref sig .scVector .hbm S30720 .f32 :=
  ((oV).slice (Rect.unit (s := S128x122880) (k0_off18 L) S1x30720.size (k0_off18_inb L)) (fun _ => rfl)).squeeze S30720 squeezes_S1x30720_S30720
theorem set_oK4 (L : grid0.Coords) : (oK4 L).view.set = pieceSet (rowOf L 1) 0 := piece_eq L 1 0 (k0_off18_inb L) (k0_off18_eq L)

abbrev oK5 (L : grid0.Coords) : Memref sig .scVector .hbm S30720 .f32 :=
  ((oV).slice (Rect.unit (s := S128x122880) (k0_off21 L) S1x30720.size (k0_off21_inb L)) (fun _ => rfl)).squeeze S30720 squeezes_S1x30720_S30720
theorem set_oK5 (L : grid0.Coords) : (oK5 L).view.set = pieceSet (rowOf L 1) 1 := piece_eq L 1 1 (k0_off21_inb L) (k0_off21_eq L)

abbrev oK6 (L : grid0.Coords) : Memref sig .scVector .hbm S30720 .f32 :=
  ((oV).slice (Rect.unit (s := S128x122880) (k0_off24 L) S1x30720.size (k0_off24_inb L)) (fun _ => rfl)).squeeze S30720 squeezes_S1x30720_S30720
theorem set_oK6 (L : grid0.Coords) : (oK6 L).view.set = pieceSet (rowOf L 1) 2 := piece_eq L 1 2 (k0_off24_inb L) (k0_off24_eq L)

abbrev oK7 (L : grid0.Coords) : Memref sig .scVector .hbm S30720 .f32 :=
  ((oV).slice (Rect.unit (s := S128x122880) (k0_off27 L) S1x30720.size (k0_off27_inb L)) (fun _ => rfl)).squeeze S30720 squeezes_S1x30720_S30720
theorem set_oK7 (L : grid0.Coords) : (oK7 L).view.set = pieceSet (rowOf L 1) 3 := piece_eq L 1 3 (k0_off27_inb L) (k0_off27_eq L)

abbrev oK8 (L : grid0.Coords) : Memref sig .scVector .hbm S30720 .f32 :=
  ((oV).slice (Rect.unit (s := S128x122880) (k0_off31 L) S1x30720.size (k0_off31_inb L)) (fun _ => rfl)).squeeze S30720 squeezes_S1x30720_S30720
theorem set_oK8 (L : grid0.Coords) : (oK8 L).view.set = pieceSet (rowOf L 2) 0 := piece_eq L 2 0 (k0_off31_inb L) (k0_off31_eq L)

abbrev oK9 (L : grid0.Coords) : Memref sig .scVector .hbm S30720 .f32 :=
  ((oV).slice (Rect.unit (s := S128x122880) (k0_off34 L) S1x30720.size (k0_off34_inb L)) (fun _ => rfl)).squeeze S30720 squeezes_S1x30720_S30720
theorem set_oK9 (L : grid0.Coords) : (oK9 L).view.set = pieceSet (rowOf L 2) 1 := piece_eq L 2 1 (k0_off34_inb L) (k0_off34_eq L)

abbrev oK10 (L : grid0.Coords) : Memref sig .scVector .hbm S30720 .f32 :=
  ((oV).slice (Rect.unit (s := S128x122880) (k0_off37 L) S1x30720.size (k0_off37_inb L)) (fun _ => rfl)).squeeze S30720 squeezes_S1x30720_S30720
theorem set_oK10 (L : grid0.Coords) : (oK10 L).view.set = pieceSet (rowOf L 2) 2 := piece_eq L 2 2 (k0_off37_inb L) (k0_off37_eq L)

abbrev oK11 (L : grid0.Coords) : Memref sig .scVector .hbm S30720 .f32 :=
  ((oV).slice (Rect.unit (s := S128x122880) (k0_off40 L) S1x30720.size (k0_off40_inb L)) (fun _ => rfl)).squeeze S30720 squeezes_S1x30720_S30720
theorem set_oK11 (L : grid0.Coords) : (oK11 L).view.set = pieceSet (rowOf L 2) 3 := piece_eq L 2 3 (k0_off40_inb L) (k0_off40_eq L)

abbrev oK12 (L : grid0.Coords) : Memref sig .scVector .hbm S30720 .f32 :=
  ((oV).slice (Rect.unit (s := S128x122880) (k0_off44 L) S1x30720.size (k0_off44_inb L)) (fun _ => rfl)).squeeze S30720 squeezes_S1x30720_S30720
theorem set_oK12 (L : grid0.Coords) : (oK12 L).view.set = pieceSet (rowOf L 3) 0 := piece_eq L 3 0 (k0_off44_inb L) (k0_off44_eq L)

abbrev oK13 (L : grid0.Coords) : Memref sig .scVector .hbm S30720 .f32 :=
  ((oV).slice (Rect.unit (s := S128x122880) (k0_off47 L) S1x30720.size (k0_off47_inb L)) (fun _ => rfl)).squeeze S30720 squeezes_S1x30720_S30720
theorem set_oK13 (L : grid0.Coords) : (oK13 L).view.set = pieceSet (rowOf L 3) 1 := piece_eq L 3 1 (k0_off47_inb L) (k0_off47_eq L)

abbrev oK14 (L : grid0.Coords) : Memref sig .scVector .hbm S30720 .f32 :=
  ((oV).slice (Rect.unit (s := S128x122880) (k0_off50 L) S1x30720.size (k0_off50_inb L)) (fun _ => rfl)).squeeze S30720 squeezes_S1x30720_S30720
theorem set_oK14 (L : grid0.Coords) : (oK14 L).view.set = pieceSet (rowOf L 3) 2 := piece_eq L 3 2 (k0_off50_inb L) (k0_off50_eq L)

abbrev oK15 (L : grid0.Coords) : Memref sig .scVector .hbm S30720 .f32 :=
  ((oV).slice (Rect.unit (s := S128x122880) (k0_off53 L) S1x30720.size (k0_off53_inb L)) (fun _ => rfl)).squeeze S30720 squeezes_S1x30720_S30720
theorem set_oK15 (L : grid0.Coords) : (oK15 L).view.set = pieceSet (rowOf L 3) 3 := piece_eq L 3 3 (k0_off53_inb L) (k0_off53_eq L)

/-! ## The task's own semaphores and buffers -/

variable (d : Dev nD) (L : grid0.Coords)

/-- The task's semaphore `n`. -/
abbrev cell (n : Fin 33) : GSem nD τ sig := (tV' d L, .dma n)

theorem bigSep_fin_succ {n : ℕ} (Φ : Fin (n + 1) → sProp 𝕄) :
    (bigSep Finset.univ Φ : sProp 𝕄) = iprop(Φ 0 ∗ bigSep Finset.univ fun i : Fin n => Φ i.succ) := by
  rw [Fin.univ_succ, Finset.cons_eq_insert, SparseCore.bigSep_insert' (by simp), bigSep_map]
  rfl
theorem bigSep_fin_zero (Φ : Fin 0 → sProp 𝕄) : (bigSep Finset.univ Φ : sProp 𝕄) = iprop(emp) := rfl

/-- The cells the task owns beside the thirty-three its copies use. -/
abbrev otherCells : Finset (GSem nD τ sig) := (ownCells (tV' d L)) \ Finset.univ.image (cell d L)

/-- The task's semaphores at zero are the thirty-three its copies use and the rest. -/
theorem ownSems0_V :
    (ownSems0 (tV' d L) : sProp 𝕄)
      = iprop((bigSep Finset.univ fun n : Fin 33 => semVal (cell d L n) 0) ∗ bigSep (otherCells d L) fun g => semVal g 0) := by
  have inj : Function.Injective (cell d L) := fun a b h => by
    have := congrArg Prod.snd h
    exact SemLoc.dma.inj this
  have sub : Finset.univ.image (cell d L) ⊆ ownCells (tV' d L) := by
    intro g hg
    obtain ⟨n, -, rfl⟩ := Finset.mem_image.mp hg
    exact mem_ownCells.mpr ⟨rfl, (by decide : ∀ n : Fin 33, (SemLoc.dma n : SemLoc sig).isScoped .scVector = true) n⟩
  unfold SparseCore.Cfg.ownSems0
  refine (bigSep_sdiff_split sub).trans (congrArg (fun X : sProp 𝕄 => iprop(X ∗ bigSep (otherCells d L) fun g => semVal g 0)) ?_)
  have e : Finset.univ.image (cell d L) = Finset.univ.map ⟨cell d L, inj⟩ := by
    ext g; simp
  rw [e, bigSep_map]
  rfl

set_option maxHeartbeats 4000000 in
theorem cells_eq : (bigSep Finset.univ fun n : Fin 33 => semVal (cell d L n) 0 : sProp 𝕄)
      = iprop(semVal (tV' d L, .dma cc0_scoped0.sem) 0 ∗ semVal (tV' d L, .dma cc0_scoped1.sem) 0 ∗ semVal (tV' d L, .dma cc0_scoped2.sem) 0 ∗ semVal (tV' d L, .dma cc0_scoped3.sem) 0 ∗ semVal (tV' d L, .dma cc0_scoped4.sem) 0 ∗ semVal (tV' d L, .dma cc0_scoped5.sem) 0 ∗ semVal (tV' d L, .dma cc0_scoped6.sem) 0 ∗ semVal (tV' d L, .dma cc0_scoped7.sem) 0 ∗ semVal (tV' d L, .dma cc0_scoped8.sem) 0 ∗ semVal (tV' d L, .dma cc0_scoped9.sem) 0 ∗ semVal (tV' d L, .dma cc0_scoped10.sem) 0 ∗ semVal (tV' d L, .dma cc0_scoped11.sem) 0 ∗ semVal (tV' d L, .dma cc0_scoped12.sem) 0 ∗ semVal (tV' d L, .dma cc0_scoped13.sem) 0 ∗ semVal (tV' d L, .dma cc0_scoped14.sem) 0 ∗ semVal (tV' d L, .dma cc0_scoped15.sem) 0 ∗ semVal (tV' d L, .dma cc0_scoped16.sem) 0 ∗ semVal (tV' d L, .dma cc0_scoped17.sem) 0 ∗ semVal (tV' d L, .dma cc0_scoped18.sem) 0 ∗ semVal (tV' d L, .dma cc0_scoped19.sem) 0 ∗ semVal (tV' d L, .dma cc0_scoped20.sem) 0 ∗ semVal (tV' d L, .dma cc0_scoped21.sem) 0 ∗ semVal (tV' d L, .dma cc0_scoped22.sem) 0 ∗ semVal (tV' d L, .dma cc0_scoped23.sem) 0 ∗ semVal (tV' d L, .dma cc0_scoped24.sem) 0 ∗ semVal (tV' d L, .dma cc0_scoped25.sem) 0 ∗ semVal (tV' d L, .dma cc0_scoped26.sem) 0 ∗ semVal (tV' d L, .dma cc0_scoped27.sem) 0 ∗ semVal (tV' d L, .dma cc0_scoped28.sem) 0 ∗ semVal (tV' d L, .dma cc0_scoped29.sem) 0 ∗ semVal (tV' d L, .dma cc0_scoped30.sem) 0 ∗ semVal (tV' d L, .dma cc0_scoped31.sem) 0 ∗ semVal (tV' d L, .dma cc0_scoped32.sem) 0 ∗ emp) := by
  simp only [bigSep_fin_succ, bigSep_fin_zero]
  rfl

/-- A task's sixteen pieces of the output, holding `f` there. -/
abbrev pieces (f : Buf (Elt F) (oLoc d)) : sProp 𝕄 :=
  bigSep Finset.univ fun r : Fin 4 => bigSep Finset.univ fun q : Fin 4 => oLoc d ↦[pieceSet (rowOf L r) q]{fullShare} f

theorem pieces_eq (f : Buf (Elt F) (oLoc d)) : (pieces d L f : sProp 𝕄)
      = iprop(((oLoc d ↦[pieceSet (rowOf L 0) 0]{fullShare} f) ∗ (oLoc d ↦[pieceSet (rowOf L 0) 1]{fullShare} f) ∗ (oLoc d ↦[pieceSet (rowOf L 0) 2]{fullShare} f) ∗ (oLoc d ↦[pieceSet (rowOf L 0) 3]{fullShare} f) ∗ emp) ∗ ((oLoc d ↦[pieceSet (rowOf L 1) 0]{fullShare} f) ∗ (oLoc d ↦[pieceSet (rowOf L 1) 1]{fullShare} f) ∗ (oLoc d ↦[pieceSet (rowOf L 1) 2]{fullShare} f) ∗ (oLoc d ↦[pieceSet (rowOf L 1) 3]{fullShare} f) ∗ emp) ∗ ((oLoc d ↦[pieceSet (rowOf L 2) 0]{fullShare} f) ∗ (oLoc d ↦[pieceSet (rowOf L 2) 1]{fullShare} f) ∗ (oLoc d ↦[pieceSet (rowOf L 2) 2]{fullShare} f) ∗ (oLoc d ↦[pieceSet (rowOf L 2) 3]{fullShare} f) ∗ emp) ∗ ((oLoc d ↦[pieceSet (rowOf L 3) 0]{fullShare} f) ∗ (oLoc d ↦[pieceSet (rowOf L 3) 1]{fullShare} f) ∗ (oLoc d ↦[pieceSet (rowOf L 3) 2]{fullShare} f) ∗ (oLoc d ↦[pieceSet (rowOf L 3) 3]{fullShare} f) ∗ emp) ∗ emp) := by
  unfold pieces
  simp only [bigSep_fin_succ, bigSep_fin_zero]
  rfl

set_option maxRecDepth 65536 in
/-- The task's own buffers: the table, the two staging rows, and the rest. -/
theorem ownBufs_V :
    (ownBufs (tV' d L) : sProp 𝕄)
      = iprop((∃ f, (tV' d L).loc cc0_scratch0 ↦{fullShare} f) ∗ (∃ f, (tV' d L).loc cc0_scratch1 ↦{fullShare} f)
          ∗ (∃ f, (tV' d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  have ne {a b : Ref sig .scVector} (h : a ≠ b) : (Proc.scVector (cV L) (jV L)).devRef a ≠ (Proc.scVector (cV L) (jV L)).devRef b :=
    fun e => h (Proc.devRef_injective _ e)
  have own (b : Ref sig .scVector) (h : ((Proc.scVector (cV L) (jV L)).devRef b).owner = Owner.proc (Proc.scVector (cV L) (jV L))) :=
    SparseCore.Cfg.mem_ownRefs_of_owner (p := Proc.scVector (cV L) (jV L)) (b := (Proc.scVector (cV L) (jV L)).devRef b) h
  rw [SparseCore.bigSep_erase' (own cc0_scratch0 rfl),
    SparseCore.bigSep_erase' (Finset.mem_erase.mpr ⟨ne (by decide), own cc0_scratch1 rfl⟩),
    SparseCore.bigSep_erase' (Finset.mem_erase.mpr ⟨ne (by decide), Finset.mem_erase.mpr ⟨ne (by decide), own cc0_scratch2 rfl⟩⟩)]

end Cert.Proof.TileIdeal

end
-- ==== Proof.LoopIdeal.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.TileIdeal

@[expose] public section

noncomputable section

namespace Cert.Proof.LoopIdeal

open Cert.KernelIdeal Cert.KernelIdeal.Gen

open Cert.Proof.TileIdeal
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "wV" => (Memref.whole Cert.KernelIdeal.main_v12_scv : Memref Cert.KernelIdeal.sig Kind.scVector Space.hbm Cert.KernelIdeal.S128x131072 EltTy.f32)
local notation "tV" => (Memref.whole Cert.KernelIdeal.main_v11_scv : Memref Cert.KernelIdeal.sig Kind.scVector Space.hbm Cert.KernelIdeal.S144 EltTy.i32)
local notation "oV" => (Memref.whole Cert.KernelIdeal.main_v13_scv : Memref Cert.KernelIdeal.sig Kind.scVector Space.hbm Cert.KernelIdeal.S128x122880 EltTy.f32)
local notation "sT" => (Memref.whole Cert.KernelIdeal.cc0_scratch0 : Memref Cert.KernelIdeal.sig Kind.scVector Space.vmem Cert.KernelIdeal.S144 EltTy.i32)
local notation "sI" => (Memref.whole Cert.KernelIdeal.cc0_scratch1 : Memref Cert.KernelIdeal.sig Kind.scVector Space.vmem Cert.KernelIdeal.S30728 EltTy.f32)
local notation "sO" => (Memref.whole Cert.KernelIdeal.cc0_scratch2 : Memref Cert.KernelIdeal.sig Kind.scVector Space.vmem Cert.KernelIdeal.S30720 EltTy.f32)

variable [FloatOps F] (d : Dev nD) (L : grid0.Coords)

/-- Position `n` of a staging row. -/
def at1 (n : ℕ) : S30728.Idx := fun | 0 => (Fin.ofNat 30728 n : Fin 30728)

/-- The staged words from offset `ρ` on. -/
def slid (ρ : ℕ) (fi : Buf (Elt F) ((sI).view.loc (tV' d L))) : Buf (Elt F) ((sO).view.loc (tV' d L)) :=
  fun j : S30720.Idx => (show S30728.Idx → Elt F .f32 from fi) (at1 (ρ + (j 0).val))

/-- Before trip `k`: the staged words as they were, and the first `16 * k` words of the other buffer moved. -/
def inv (ρ : ℕ) (fi : Buf (Elt F) ((sI).view.loc (tV' d L))) (k : ℕ) (_ : Unit) : sProp 𝕄 :=
  iprop(((sI).view.loc (tV' d L) ↦{fullShare} fi)
    ∗ ∃ g : Buf (Elt F) ((sO).view.loc (tV' d L)), ⌜∀ j : S30720.Idx, (j 0).val < 16 * k → g j = slid d L ρ fi j⌝ ∗ ((sO).view.loc (tV' d L) ↦{fullShare} g))

/-- One trip's store extends the moved words by sixteen. -/
theorem trip_words (ρ k : ℕ) (hρ : ρ < 8) (hk : k < 1920) (offI offO : Fin 1 → ℕ) (inbI : ∀ a, offI a + S16.size a ≤ S30728.size a)
    (inbO : ∀ a, offO a + S16.size a ≤ S30720.size a) (hI : offI = ![ρ + 16 * k]) (hO : offO = ![16 * k])
    (fi : Buf (Elt F) ((sI).view.loc (tV' d L))) (g : Buf (Elt F) ((sO).view.loc (tV' d L))) (w : S16.Idx → Elt F .f32)
    (hw : w = View.readAt (Elt F) (sI).view (Rect.unit (s := S30728) offI S16.size inbI).toLoadRect fi)
    (hg : ∀ j : S30720.Idx, (j 0).val < 16 * k → g j = slid d L ρ fi j) (j : S30720.Idx) (hj : (j 0).val < 16 * (k + 1)) :
    (sO).view.writes (Elt F) g [⟨Rect.unit (s := S30720) offO S16.size inbO, w⟩] j = slid d L ρ fi j := by
  subst hI hO hw
  by_cases h : (j 0).val < 16 * k
  · refine Eq.trans ?_ (hg j h)
    exact View.read_writes_cons_miss_of_axis (sO).view g ⟨Rect.unit (s := S30720) ![16 * k] S16.size inbO, _⟩ [] j 0 (16 * k) 16 rfl rfl rfl (.inl h)
  · let x : S16.Idx := fun | 0 => (⟨(j 0).val - 16 * k, by omega⟩ : Fin 16)
    refine (View.read_writes_cons_hit_of_coords (sO).view g (Rect.unit (s := S30720) ![16 * k] S16.size inbO) _ [] x j ?_).trans ?_
    · intro a; match a with
      | 0 => show (j 0).val = 16 * k + 1 * ((j 0).val - 16 * k); omega
    · have e : (Rect.unit (s := S30728) ![ρ + 16 * k] S16.size inbI).toLoadRect.idx x = at1 (ρ + (j 0).val) := by
        funext a; match a with
        | 0 =>
          refine Fin.ext ?_
          show ρ + 16 * k + 1 * ((j 0).val - 16 * k) = (ρ + (j 0).val) % 30728
          rw [Nat.mod_eq_of_lt (by omega)]; omega
      exact congrArg (show S30728.Idx → Elt F .f32 from fi) e

set_option maxHeartbeats 1000000 in
/-- A loop of 1920 trips, each moving sixteen staged words to the start of the other buffer, moves the whole row. -/
theorem shift_loop (l : Scf.Loop 32) (ok : l.OK) (htr : l.trips = 1920) (ρ : ℕ) (hρ : ρ < 8)
    (offI offO : Fin l.trips → Fin 1 → ℕ) (inbI : ∀ t a, offI t a + S16.size a ≤ S30728.size a) (inbO : ∀ t a, offO t a + S16.size a ≤ S30720.size a)
    (hI : ∀ t, offI t = ![ρ + 16 * t.val]) (hO : ∀ t, offO t = ![16 * t.val])
    (pay : Vec F S16 .f32 → FVec F S16 .f32) (hpay : ∀ v, pay v = v)
    (fi : Buf (Elt F) ((sI).view.loc (tV' d L))) (fo : Buf (Elt F) ((sO).view.loc (tV' d L)))
    {α : Type} (k : Unit → Prog (TpuEff nD τ sig (Elt F) Λ₀ (.scVector (cV L) (jV L))) α) (Q : α → sProp 𝕄) :
    iprop(((sI).view.loc (tV' d L) ↦{fullShare} fi) ∗ ((sO).view.loc (tV' d L) ↦{fullShare} fo)
        ∗ (((sI).view.loc (tV' d L) ↦{fullShare} fi) -∗ ((sO).view.loc (tV' d L) ↦{fullShare} slid d L ρ fi)
          -∗ wp frame (wpE (defs₀ (F := F)) 𝒱₀ (tV' d L) none) Set.univ (k ⟨⟩) Q))
      ⊢ wp frame (wpE (defs₀ (F := F)) 𝒱₀ (tV' d L) none) Set.univ
        (Scf.Loop.for l ok ⟨⟩ (fun t _ => do
          let v : Vec F S16 .f32 ← Prog.lift (.load sI (Rect.unit (s := S30728) (offI t) S16.size (inbI t)).toLoadRect (View.loadsAt_vmem h_S16))
          let _ : Vec F S16 .f32 ← Prog.lift (.load sO (Rect.unit (s := S30720) (offO t) S16.size (inbO t)).toLoadRect (View.loadsAt_vmem h_S16))
          Prog.lift (.store sO (Rect.unit (s := S30720) (offO t) S16.size (inbO t)) (pay v) Finset.univ (View.stores_vmem_bits_univ h_S16 rfl) (.inl rfl))
          pure ⟨⟩) >>= k) Q := by
  iintro ⟨HI, HO, Hk⟩
  sl_for (inv d L ρ fi) $$ [HI HO]
  case region =>
    intro t _
    unfold inv
    iintro ⟨HI, %g, %hg, HO⟩
    sl_exec
    sl_step
    isplitl [HI]; · iexact HI
    iexists _
    isplitr
    swap; · iexact HO
    ipureintro
    have ht : t.val < 1920 := htr ▸ t.isLt
    exact trip_words d L ρ t.val hρ ht (offI t) (offO t) (inbI t) (inbO t) (hI t) (hO t) fi g _ (hpay _) hg
  · unfold inv
    isplitl [HI]; · iexact HI
    iexists fo
    isplitr
    · ipureintro; intro j h; omega
    · iexact HO
  iintro %_ H
  unfold inv
  icases H with ⟨HI, %g, %hg, HO⟩
  have e : g = slid d L ρ fi := by
    funext j
    refine hg j ?_
    have : (j 0).val < 30720 := (j 0).isLt
    change _ < 16 * l.trips
    rw [htr]; omega
  subst e
  iapply Hk $$ HI HO

end Cert.Proof.LoopIdeal

end
-- ==== Proof.OffsIdeal.lean ====
module

public import proofs.«01_k».proof.Defs
public import Idealize.ShloMosaic.Lib.Affine
public import proofs.«01_k».proof.Proof.Gen.KernelIdeal

@[expose] public section

namespace Cert.Proof.OffsIdeal

open Cert.KernelIdeal Cert.KernelIdeal.Gen

open Idealize.ShloMosaic

/-! An offset word below 8192 is split as a multiple of eight, where a copy starts, and a remainder, by which the staged
words are moved. Every address the tasks compute follows from the two. -/

/-- A word below `2 ^ 31` reads as its number. -/
theorem word_int (v : BitVec 32) (h : v.toNat < 8192) : Affine.IsInt v (v.toNat : ℤ) := by
  have e : v = BitVec.ofNat 32 v.toNat := by simp
  have := Affine.ofNat (e := (v.toNat : ℤ)) v.toNat ⟨rfl, by omega⟩
  rwa [← e] at this

set_option maxRecDepth 100000 in
theorem mult_all : ∀ (a : Fin 128) (b : Fin 64), k0_mult1 (BitVec.ofNat 32 (64 * a.val + b.val)) = BitVec.ofNat 32 (64 * a.val + 8 * (b.val / 8)) := by
  decide +kernel

/-- The multiple of eight below an offset. -/
theorem mult_int (v : BitVec 32) (h : v.toNat < 8192) : Affine.IsInt (k0_mult1 v) ((v.toNat - v.toNat % 8 : ℕ) : ℤ) := by
  have e : v = BitVec.ofNat 32 (64 * (v.toNat / 64) + v.toNat % 64) := by
    rw [show 64 * (v.toNat / 64) + v.toNat % 64 = v.toNat by omega]; simp
  have := mult_all ⟨v.toNat / 64, by omega⟩ ⟨v.toNat % 64, by omega⟩
  rw [← e] at this
  rw [this]
  exact Affine.ofNat _ ⟨by simp only; omega, by simp only; omega⟩

/-- Where trip `t` of a loop reads the staged words. -/
theorem load_chain (v : BitVec 32) (h : v.toNat < 8192) (t : ℕ) (ht : t < 1920) :
    ![(Scalar.indexCast (Scalar.addi (Scalar.subi v (k0_mult1 v)) (Scalar.muli (Scf.iv 0#32 1#32 t) 16#32))).toNat] = ![v.toNat % 8 + 16 * t] := by
  have h0 : Affine.IsInt 0#32 0 := Affine.ofNat _ (by omega)
  have h1 : Affine.IsInt 1#32 1 := Affine.ofNat _ (by omega)
  have h16 : Affine.IsInt 16#32 16 := Affine.ofNat _ (by omega)
  have hs : Affine.IsInt (Scalar.subi v (k0_mult1 v)) ((v.toNat % 8 : ℕ) : ℤ) := Affine.subi (word_int v h) (mult_int v h) (by omega)
  have hv : Affine.IsInt (Scf.iv 0#32 1#32 t) (t : ℤ) := Affine.iv h0 h1 t (by omega)
  have hm : Affine.IsInt (Scalar.muli (Scf.iv 0#32 1#32 t) 16#32) (16 * (t : ℤ)) := Affine.muli hv h16 (by omega)
  exact Affine.vec_cons (Affine.indexCast (Affine.addi hs hm ⟨rfl, by omega, by omega⟩)) (by omega) Affine.vec_nil

/-- Where a copy of `30728` words of a row starts. -/
theorem row_chain (i : grid0.Coords) (v : BitVec 32) (h : v.toNat < 8192) (r q : Fin 4) :
    ![(Scalar.addi (Scalar.muli (Scalar.addi (Scalar.muli (BitVec.ofNat 32 (i 1).val) 2#32) (BitVec.ofNat 32 (i 0).val)) 4#32) (BitVec.ofNat 32 r.val)).toNat,
      (Scalar.addi (k0_mult1 v) (BitVec.ofNat 32 (30720 * q.val))).toNat]
      = ![8 * (i 1).val + 4 * (i 0).val + r.val, v.toNat - v.toNat % 8 + 30720 * q.val] := by
  have b0 : (i 0).val < 2 := (i 0).isLt
  have b1 : (i 1).val < 16 := (i 1).isLt
  have hr := r.isLt
  have hq := q.isLt
  have h1 : Affine.IsInt (BitVec.ofNat 32 (i 1).val) ((i 1).val : ℤ) := Affine.ofNat _ ⟨rfl, by omega⟩
  have h0 : Affine.IsInt (BitVec.ofNat 32 (i 0).val) ((i 0).val : ℤ) := Affine.ofNat _ ⟨rfl, by omega⟩
  have h2 : Affine.IsInt 2#32 2 := Affine.ofNat _ (by omega)
  have h4 : Affine.IsInt 4#32 4 := Affine.ofNat _ (by omega)
  have hrr : Affine.IsInt (BitVec.ofNat 32 r.val) (r.val : ℤ) := Affine.ofNat _ ⟨rfl, by omega⟩
  have hqq : Affine.IsInt (BitVec.ofNat 32 (30720 * q.val)) ((30720 * q.val : ℕ) : ℤ) := Affine.ofNat _ ⟨rfl, by omega⟩
  have e1 : Affine.IsInt _ (2 * ((i 1).val : ℤ)) := Affine.muli h1 h2 (by omega)
  have e2 : Affine.IsInt _ (2 * ((i 1).val : ℤ) + (i 0).val) := Affine.addi e1 h0 (by omega)
  have e3 : Affine.IsInt _ (8 * ((i 1).val : ℤ) + 4 * (i 0).val) := Affine.muli e2 h4 (by omega)
  have e4 : Affine.IsInt _ (8 * ((i 1).val : ℤ) + 4 * (i 0).val + r.val) := Affine.addi e3 hrr (by omega)
  have e5 : Affine.IsInt _ (((v.toNat - v.toNat % 8 : ℕ) : ℤ) + ((30720 * q.val : ℕ) : ℤ)) := Affine.addi (mult_int v h) hqq ⟨rfl, by omega, by omega⟩
  exact Affine.vec_cons e4 (by omega) <| Affine.vec_cons e5 (by omega) <| Affine.vec_nil

/-! ## The addresses as the program computes them -/

theorem off3_eq (v : BitVec 32) (h : v.toNat < 8192) (t : Fin k0_t1_loop.trips) : k0_off3 v t = ![v.toNat % 8 + 16 * t.val] :=
  load_chain v h t.val (Nat.lt_of_lt_of_le t.isLt k0_t1_abs.2.1)
theorem off6_eq (v : BitVec 32) (h : v.toNat < 8192) (t : Fin k0_t2_loop.trips) : k0_off6 v t = ![v.toNat % 8 + 16 * t.val] :=
  load_chain v h t.val (Nat.lt_of_lt_of_le t.isLt k0_t2_abs.2.1)
theorem off9_eq (v : BitVec 32) (h : v.toNat < 8192) (t : Fin k0_t3_loop.trips) : k0_off9 v t = ![v.toNat % 8 + 16 * t.val] :=
  load_chain v h t.val (Nat.lt_of_lt_of_le t.isLt k0_t3_abs.2.1)
theorem off12_eq (v : BitVec 32) (h : v.toNat < 8192) (t : Fin k0_t4_loop.trips) : k0_off12 v t = ![v.toNat % 8 + 16 * t.val] :=
  load_chain v h t.val (Nat.lt_of_lt_of_le t.isLt k0_t4_abs.2.1)
theorem off16_eq (v : BitVec 32) (h : v.toNat < 8192) (t : Fin k0_t5_loop.trips) : k0_off16 v t = ![v.toNat % 8 + 16 * t.val] :=
  load_chain v h t.val (Nat.lt_of_lt_of_le t.isLt k0_t5_abs.2.1)
theorem off19_eq (v : BitVec 32) (h : v.toNat < 8192) (t : Fin k0_t6_loop.trips) : k0_off19 v t = ![v.toNat % 8 + 16 * t.val] :=
  load_chain v h t.val (Nat.lt_of_lt_of_le t.isLt k0_t6_abs.2.1)
theorem off22_eq (v : BitVec 32) (h : v.toNat < 8192) (t : Fin k0_t7_loop.trips) : k0_off22 v t = ![v.toNat % 8 + 16 * t.val] :=
  load_chain v h t.val (Nat.lt_of_lt_of_le t.isLt k0_t7_abs.2.1)
theorem off25_eq (v : BitVec 32) (h : v.toNat < 8192) (t : Fin k0_t8_loop.trips) : k0_off25 v t = ![v.toNat % 8 + 16 * t.val] :=
  load_chain v h t.val (Nat.lt_of_lt_of_le t.isLt k0_t8_abs.2.1)
theorem off29_eq (v : BitVec 32) (h : v.toNat < 8192) (t : Fin k0_t9_loop.trips) : k0_off29 v t = ![v.toNat % 8 + 16 * t.val] :=
  load_chain v h t.val (Nat.lt_of_lt_of_le t.isLt k0_t9_abs.2.1)
theorem off32_eq (v : BitVec 32) (h : v.toNat < 8192) (t : Fin k0_t10_loop.trips) : k0_off32 v t = ![v.toNat % 8 + 16 * t.val] :=
  load_chain v h t.val (Nat.lt_of_lt_of_le t.isLt k0_t10_abs.2.1)
theorem off35_eq (v : BitVec 32) (h : v.toNat < 8192) (t : Fin k0_t11_loop.trips) : k0_off35 v t = ![v.toNat % 8 + 16 * t.val] :=
  load_chain v h t.val (Nat.lt_of_lt_of_le t.isLt k0_t11_abs.2.1)
theorem off38_eq (v : BitVec 32) (h : v.toNat < 8192) (t : Fin k0_t12_loop.trips) : k0_off38 v t = ![v.toNat % 8 + 16 * t.val] :=
  load_chain v h t.val (Nat.lt_of_lt_of_le t.isLt k0_t12_abs.2.1)
theorem off42_eq (v : BitVec 32) (h : v.toNat < 8192) (t : Fin k0_t13_loop.trips) : k0_off42 v t = ![v.toNat % 8 + 16 * t.val] :=
  load_chain v h t.val (Nat.lt_of_lt_of_le t.isLt k0_t13_abs.2.1)
theorem off45_eq (v : BitVec 32) (h : v.toNat < 8192) (t : Fin k0_t14_loop.trips) : k0_off45 v t = ![v.toNat % 8 + 16 * t.val] :=
  load_chain v h t.val (Nat.lt_of_lt_of_le t.isLt k0_t14_abs.2.1)
theorem off48_eq (v : BitVec 32) (h : v.toNat < 8192) (t : Fin k0_t15_loop.trips) : k0_off48 v t = ![v.toNat % 8 + 16 * t.val] :=
  load_chain v h t.val (Nat.lt_of_lt_of_le t.isLt k0_t15_abs.2.1)
theorem off51_eq (v : BitVec 32) (h : v.toNat < 8192) (t : Fin k0_t16_loop.trips) : k0_off51 v t = ![v.toNat % 8 + 16 * t.val] :=
  load_chain v h t.val (Nat.lt_of_lt_of_le t.isLt k0_t16_abs.2.1)
theorem off2_eq (i : grid0.Coords) (v : BitVec 32) (h : v.toNat < 8192) (q : Fin 4) :
    k0_off2 i v (BitVec.ofNat 32 (30720 * q.val)) = ![8 * (i 1).val + 4 * (i 0).val + 0, v.toNat - v.toNat % 8 + 30720 * q.val] :=
  row_chain i v h 0 q
theorem off15_eq (i : grid0.Coords) (v : BitVec 32) (h : v.toNat < 8192) (q : Fin 4) :
    k0_off15 i v (BitVec.ofNat 32 (30720 * q.val)) = ![8 * (i 1).val + 4 * (i 0).val + 1, v.toNat - v.toNat % 8 + 30720 * q.val] :=
  row_chain i v h 1 q
theorem off28_eq (i : grid0.Coords) (v : BitVec 32) (h : v.toNat < 8192) (q : Fin 4) :
    k0_off28 i v (BitVec.ofNat 32 (30720 * q.val)) = ![8 * (i 1).val + 4 * (i 0).val + 2, v.toNat - v.toNat % 8 + 30720 * q.val] :=
  row_chain i v h 2 q
theorem off41_eq (i : grid0.Coords) (v : BitVec 32) (h : v.toNat < 8192) (q : Fin 4) :
    k0_off41 i v (BitVec.ofNat 32 (30720 * q.val)) = ![8 * (i 1).val + 4 * (i 0).val + 3, v.toNat - v.toNat % 8 + 30720 * q.val] :=
  row_chain i v h 3 q

/-- Sixteen words from a remainder and a trip lie inside the staged row. -/
theorem load_inb (v : BitVec 32) (t : ℕ) (ht : t < 1920) {off : Fin 1 → ℕ} (e : off = ![v.toNat % 8 + 16 * t]) (a : Fin 1) :
    off a + S16.size a ≤ S30728.size a := by
  subst e
  match a with
  | 0 => show v.toNat % 8 + 16 * t + 16 ≤ 30728; omega

/-- A copy's words lie inside their row. -/
theorem row_inb (i : grid0.Coords) (v : BitVec 32) (h : v.toNat < 8192) (r q : Fin 4) {off : Fin 2 → ℕ}
    (e : off = ![8 * (i 1).val + 4 * (i 0).val + r.val, v.toNat - v.toNat % 8 + 30720 * q.val]) (a : Fin 2) :
    off a + S1x30728.size a ≤ S128x131072.size a := by
  subst e
  have b0 : (i 0).val < 2 := (i 0).isLt
  have b1 : (i 1).val < 16 := (i 1).isLt
  have := r.isLt
  have := q.isLt
  match a with
  | 0 => show 8 * (i 1).val + 4 * (i 0).val + r.val + 1 ≤ 128; omega
  | 1 => show v.toNat - v.toNat % 8 + 30720 * q.val + 30728 ≤ 131072; omega

theorem mult_dvd (v : BitVec 32) (h : v.toNat < 8192) : 8 ∣ (k0_mult1 v).toNat :=
  Affine.dvd_of (mult_int v h) 8 (by omega)

/-! ## What a task checks of a loaded offset -/

theorem chk1_of (i : grid0.Coords) (v : BitVec 32) (h : v.toNat < 8192) : k0_chk1 i v :=
  ⟨mult_dvd v h, fun q => row_inb i v h 0 q (off2_eq i v h q),
    fun t => load_inb v t.val (Nat.lt_of_lt_of_le t.isLt k0_t1_abs.2.1) (off3_eq v h t),
    fun t => load_inb v t.val (Nat.lt_of_lt_of_le t.isLt k0_t2_abs.2.1) (off6_eq v h t),
    fun t => load_inb v t.val (Nat.lt_of_lt_of_le t.isLt k0_t3_abs.2.1) (off9_eq v h t),
    fun t => load_inb v t.val (Nat.lt_of_lt_of_le t.isLt k0_t4_abs.2.1) (off12_eq v h t)⟩
theorem chk2_of (i : grid0.Coords) (v : BitVec 32) (h : v.toNat < 8192) : k0_chk2 i v :=
  ⟨mult_dvd v h, fun q => row_inb i v h 1 q (off15_eq i v h q),
    fun t => load_inb v t.val (Nat.lt_of_lt_of_le t.isLt k0_t5_abs.2.1) (off16_eq v h t),
    fun t => load_inb v t.val (Nat.lt_of_lt_of_le t.isLt k0_t6_abs.2.1) (off19_eq v h t),
    fun t => load_inb v t.val (Nat.lt_of_lt_of_le t.isLt k0_t7_abs.2.1) (off22_eq v h t),
    fun t => load_inb v t.val (Nat.lt_of_lt_of_le t.isLt k0_t8_abs.2.1) (off25_eq v h t)⟩
theorem chk3_of (i : grid0.Coords) (v : BitVec 32) (h : v.toNat < 8192) : k0_chk3 i v :=
  ⟨mult_dvd v h, fun q => row_inb i v h 2 q (off28_eq i v h q),
    fun t => load_inb v t.val (Nat.lt_of_lt_of_le t.isLt k0_t9_abs.2.1) (off29_eq v h t),
    fun t => load_inb v t.val (Nat.lt_of_lt_of_le t.isLt k0_t10_abs.2.1) (off32_eq v h t),
    fun t => load_inb v t.val (Nat.lt_of_lt_of_le t.isLt k0_t11_abs.2.1) (off35_eq v h t),
    fun t => load_inb v t.val (Nat.lt_of_lt_of_le t.isLt k0_t12_abs.2.1) (off38_eq v h t)⟩
theorem chk4_of (i : grid0.Coords) (v : BitVec 32) (h : v.toNat < 8192) : k0_chk4 i v :=
  ⟨mult_dvd v h, fun q => row_inb i v h 3 q (off41_eq i v h q),
    fun t => load_inb v t.val (Nat.lt_of_lt_of_le t.isLt k0_t13_abs.2.1) (off42_eq v h t),
    fun t => load_inb v t.val (Nat.lt_of_lt_of_le t.isLt k0_t14_abs.2.1) (off45_eq v h t),
    fun t => load_inb v t.val (Nat.lt_of_lt_of_le t.isLt k0_t15_abs.2.1) (off48_eq v h t),
    fun t => load_inb v t.val (Nat.lt_of_lt_of_le t.isLt k0_t16_abs.2.1) (off51_eq v h t)⟩

end Cert.Proof.OffsIdeal
-- ==== Proof.ValIdeal.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.LoopIdeal
public import proofs.«01_k».proof.Proof.OffsIdeal
public import Idealize.ShloMosaic.Lib.Pipeline.Value

@[expose] public section

noncomputable section

namespace Cert.Proof.ValIdeal

open Cert.KernelIdeal Cert.KernelIdeal.Gen

open Cert.Proof.TileIdeal Cert.Proof.LoopIdeal Cert.Proof.OffsIdeal
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "wV" => (Memref.whole Cert.KernelIdeal.main_v12_scv : Memref Cert.KernelIdeal.sig Kind.scVector Space.hbm Cert.KernelIdeal.S128x131072 EltTy.f32)
local notation "tV" => (Memref.whole Cert.KernelIdeal.main_v11_scv : Memref Cert.KernelIdeal.sig Kind.scVector Space.hbm Cert.KernelIdeal.S144 EltTy.i32)
local notation "oV" => (Memref.whole Cert.KernelIdeal.main_v13_scv : Memref Cert.KernelIdeal.sig Kind.scVector Space.hbm Cert.KernelIdeal.S128x122880 EltTy.f32)
local notation "sT" => (Memref.whole Cert.KernelIdeal.cc0_scratch0 : Memref Cert.KernelIdeal.sig Kind.scVector Space.vmem Cert.KernelIdeal.S144 EltTy.i32)
local notation "sI" => (Memref.whole Cert.KernelIdeal.cc0_scratch1 : Memref Cert.KernelIdeal.sig Kind.scVector Space.vmem Cert.KernelIdeal.S30728 EltTy.f32)
local notation "sO" => (Memref.whole Cert.KernelIdeal.cc0_scratch2 : Memref Cert.KernelIdeal.sig Kind.scVector Space.vmem Cert.KernelIdeal.S30720 EltTy.f32)

variable (d : Dev nD)

/-! ## What the output holds when every row has slid by its offset -/

/-- The table's word for row `R`. -/
def wordAt (t : Buf (Elt F) (tLoc d)) (R : Fin 128) : BitVec 32 :=
  (show S144.Idx → BitVec 32 from t) (fun | 0 => (⟨R.val, Nat.lt_of_lt_of_le R.isLt (by decide)⟩ : Fin 144))

/-- The place of word `n` of row `R` of the wide array. -/
def at2 (R : Fin 128) (n : ℕ) : S128x131072.Idx := fun | 0 => R | 1 => (Fin.ofNat 131072 n : Fin 131072)

/-- Row `R` of the output is row `R` of the wide array from the row's offset on. -/
def shifted (w : Buf (Elt F) (wLoc d)) (t : Buf (Elt F) (tLoc d)) : Buf (Elt F) (oLoc d) :=
  fun x : S128x122880.Idx => (show S128x131072.Idx → Elt F .f32 from w) (at2 (x 0) ((x 1).val + (wordAt d t (x 0)).toNat))

variable [FloatOps F] (L : grid0.Coords)

/-- Where one row's stretch of the wide array keeps its word `n`. -/
theorem row_place (R : Fin 128) (a : ℕ) (off : Fin 2 → ℕ) (inb : ∀ b, off b + S1x30728.size b ≤ S128x131072.size b) (h : off = ![R.val, a])
    (n : ℕ) (hn : n < 30728) (ha : a + n < 131072) :
    (((wV).slice (Rect.unit (s := S128x131072) off S1x30728.size inb) (fun _ => rfl)).squeeze S30728 squeezes_S1x30728_S30728).view.emb (at1 n)
      = at2 R (a + n) := by
  subst h
  show ((wV).view.slice (Rect.unit (s := S128x131072) ![R.val, a] S1x30728.size inb)).emb (Shape.reshapeEquiv _ (at1 n)) = _
  refine funext fun b => Fin.ext ?_
  have e := Shape.reshapeEquiv_cons_one (n := 1) (d := ![30728]) squeezes_S1x30728_S30728.numel_eq (at1 n)
  match b with
  | 0 =>
    show R.val + 1 * ((Shape.reshapeEquiv squeezes_S1x30728_S30728.numel_eq (at1 n)) 0).val = R.val
    have := congrArg (fun x : S1x30728.Idx => (x 0).val) e
    simp only at this
    erw [this]
    rfl
  | 1 =>
    show a + 1 * ((Shape.reshapeEquiv squeezes_S1x30728_S30728.numel_eq (at1 n)) 1).val = (a + n) % 131072
    have := congrArg (fun x : S1x30728.Idx => (x 1).val) e
    simp only at this
    erw [this]
    show a + 1 * (n % 30728) = _
    omega

/-- Where a piece of the output keeps its word `x`. -/
theorem piece_place (R : Fin 128) (a : ℕ) (off : Fin 2 → ℕ) (inb : ∀ b, off b + S1x30720.size b ≤ S128x122880.size b) (h : off = ![R.val, a])
    (x : S30720.Idx) :
    ((((((oV).slice (Rect.unit (s := S128x122880) off S1x30720.size inb) (fun _ => rfl)).squeeze S30720 squeezes_S1x30720_S30720).view.emb x : S128x122880.Idx) 0) = R)
    ∧ ((((((oV).slice (Rect.unit (s := S128x122880) off S1x30720.size inb) (fun _ => rfl)).squeeze S30720 squeezes_S1x30720_S30720).view.emb x : S128x122880.Idx) 1).val = a + (x 0).val) := by
  subst h
  have e := Shape.reshapeEquiv_cons_one (n := 1) (d := ![30720]) squeezes_S1x30720_S30720.numel_eq x
  constructor
  · refine Fin.ext ?_
    show R.val + 1 * ((Shape.reshapeEquiv squeezes_S1x30720_S30720.numel_eq x) 0).val = R.val
    have := congrArg (fun x : S1x30720.Idx => (x 0).val) e
    simp only at this
    erw [this]
    rfl
  · show a + 1 * ((Shape.reshapeEquiv squeezes_S1x30720_S30720.numel_eq x) 1).val = _
    have := congrArg (fun x : S1x30720.Idx => (x 1).val) e
    simp only at this
    erw [this]
    show a + 1 * (x 0).val = _
    omega

/-- A view written whole reads what was written. -/
theorem read_write_all {κ : Kind} {sp : Space} {s : Shape} {e : EltTy} (v : View sig κ sp s e) (f : v.ty.Contents (Elt F)) (p : s.Idx → Elt F e) (x : s.Idx) :
    v.read (Elt F) (v.writes (Elt F) f [⟨Rect.whole s, p⟩]) x = p x :=
  View.read_writes_cons_hit_of_coords v f (Rect.whole s) p [] x x (fun a => by show (x a).val = 0 + 1 * (x a).val; omega)

/-- A piece written with the staged words of its row, slid by the offset's remainder, holds what the whole output is to hold there:
    the staging starts at the offset rounded down to a multiple of eight, and the slide makes up the rest. -/
theorem out_val (w : Buf (Elt F) (wLoc d)) (t : Buf (Elt F) (tLoc d)) (R : Fin 128) (q : Fin 4) (v : BitVec 32) (hv : v.toNat < 8192)
    (ht : v = wordAt d t R)
    (offO : Fin 2 → ℕ) (inbO : ∀ b, offO b + S1x30720.size b ≤ S128x122880.size b) (hO : offO = ![R.val, 30720 * q.val])
    (offI : Fin 2 → ℕ) (inbI : ∀ b, offI b + S1x30728.size b ≤ S128x131072.size b)
    (hI : offI = ![R.val, v.toNat - v.toNat % 8 + 30720 * q.val])
    (g : Buf (Elt F) ((sI).view.loc (tV' d L))) (base : Buf (Elt F) (oLoc d)) (pay : S30720.Idx → Elt F .f32)
    (hpay : pay = slid d L (v.toNat % 8) (View.write (Elt F) (sI).view g
      (View.read (Elt F) (((wV).slice (Rect.unit (s := S128x131072) offI S1x30728.size inbI) (fun _ => rfl)).squeeze S30728 squeezes_S1x30728_S30728).view w)
      Finset.univ)) :
    ∀ i ∈ (((oV).slice (Rect.unit (s := S128x122880) offO S1x30720.size inbO) (fun _ => rfl)).squeeze S30720 squeezes_S1x30720_S30720).view.set,
      View.writes (((oV).slice (Rect.unit (s := S128x122880) offO S1x30720.size inbO) (fun _ => rfl)).squeeze S30720 squeezes_S1x30720_S30720).view
        (Elt F) base [⟨Rect.whole S30720, pay⟩] i = shifted d w t i := by
  intro i hi
  obtain ⟨x, -, rfl⟩ := Finset.mem_map.mp hi
  obtain ⟨p0, p1⟩ := piece_place R (30720 * q.val) offO inbO hO x
  have hx : (x 0).val < 30720 := (x 0).isLt
  have hq := q.isLt
  have h0 : ∀ (f : Buf (Elt F) (oLoc d)) (y : S30720.Idx),
      View.read (Elt F) (((oV).slice (Rect.unit (s := S128x122880) offO S1x30720.size inbO) (fun _ => rfl)).squeeze S30720 squeezes_S1x30720_S30720).view f y
        = f (View.emb (((oV).slice (Rect.unit (s := S128x122880) offO S1x30720.size inbO) (fun _ => rfl)).squeeze S30720 squeezes_S1x30720_S30720).view y) :=
    fun _ _ => rfl
  refine (h0 _ _).symm.trans ((read_write_all _ _ _ _).trans ?_)
  have hs : ∀ P : S30728.Idx → Elt F .f32, slid d L (v.toNat % 8) (View.write (Elt F) (sI).view g P Finset.univ) x = P (at1 (v.toNat % 8 + (x 0).val)) :=
    fun P => by rw [View.write_whole_univ]; rfl
  have hr : ∀ (f : Buf (Elt F) (wLoc d)) (y : S30728.Idx),
      View.read (Elt F) (((wV).slice (Rect.unit (s := S128x131072) offI S1x30728.size inbI) (fun _ => rfl)).squeeze S30728 squeezes_S1x30728_S30728).view f y
        = (show S128x131072.Idx → Elt F .f32 from f) (View.emb (((wV).slice (Rect.unit (s := S128x131072) offI S1x30728.size inbI) (fun _ => rfl)).squeeze S30728 squeezes_S1x30728_S30728).view y) :=
    fun _ _ => rfl
  rw [hpay]
  refine (hs _).trans ((hr _ _).trans ?_)
  rw [row_place R _ offI inbI hI _ (by omega) (by omega)]
  refine congrArg (show S128x131072.Idx → Elt F .f32 from w) ?_
  rw [p0, p1, ← ht]
  exact congrArg (at2 R) (by omega)

/-- So the piece, held with what the task left there, is the piece held at what the whole output is to hold. -/
theorem out_done (w : Buf (Elt F) (wLoc d)) (t : Buf (Elt F) (tLoc d)) (R : Fin 128) (q : Fin 4) (v : BitVec 32) (hv : v.toNat < 8192)
    (ht : v = wordAt d t R)
    (offO : Fin 2 → ℕ) (inbO : ∀ b, offO b + S1x30720.size b ≤ S128x122880.size b) (hO : offO = ![R.val, 30720 * q.val])
    (hS : (((oV).slice (Rect.unit (s := S128x122880) offO S1x30720.size inbO) (fun _ => rfl)).squeeze S30720 squeezes_S1x30720_S30720).view.set
      = pieceSet R q)
    (offI : Fin 2 → ℕ) (inbI : ∀ b, offI b + S1x30728.size b ≤ S128x131072.size b)
    (hI : offI = ![R.val, v.toNat - v.toNat % 8 + 30720 * q.val])
    (g : Buf (Elt F) ((sI).view.loc (tV' d L))) (pay : S30720.Idx → Elt F .f32)
    (hpay : pay = slid d L (v.toNat % 8) (View.write (Elt F) (sI).view g
      (View.read (Elt F) (((wV).slice (Rect.unit (s := S128x131072) offI S1x30728.size inbI) (fun _ => rfl)).squeeze S30728 squeezes_S1x30728_S30728).view w)
      Finset.univ)) (base : Buf (Elt F) (oLoc d)) :
    (oLoc d ↦[(((oV).slice (Rect.unit (s := S128x122880) offO S1x30720.size inbO) (fun _ => rfl)).squeeze S30720 squeezes_S1x30720_S30720).view.set]{fullShare}
      View.writes (((oV).slice (Rect.unit (s := S128x122880) offO S1x30720.size inbO) (fun _ => rfl)).squeeze S30720 squeezes_S1x30720_S30720).view
        (Elt F) base [⟨Rect.whole S30720, pay⟩] : sProp 𝕄) ⊢ (oLoc d ↦[pieceSet R q]{fullShare} shifted d w t) :=
  Entails.of_eq ((pointsTo_congr (out_val d L w t R q v hv ht offO inbO hO offI inbI hI g base pay hpay)).trans (by rw [hS]))

/-! ## The words a task loads -/

theorem off1_eq : ∀ i : grid0.Coords, k0_off1 i = ![8 * (i 1).val + 4 * (i 0).val] := by decide +kernel

/-- Lane `r` of the sixteen words a task loads is the table's word for its row `r`. -/
theorem lane_word (t : Buf (Elt F) (tLoc d)) (ft : Buf (Elt F) ((sT).view.loc (tV' d L))) (r : Fin 4) (n : ℕ) (hn : n = r.val)
    (sl : S16.Slices ![n] S1) (ip : ∀ a, (![0] : Fin 1 → ℕ) a < S1.size a) (V : S16.Idx → BitVec 32)
    (hV : V = shapeCast S16 (View.readAt (Elt F) (sT).view (Rect.unit (s := S144) (k0_off1 L) S16.size (k0_off1_inb L)).toLoadRect
      (View.write (Elt F) (sT).view ft (View.read (Elt F) (tV).view t) Finset.univ)) shapeCasts_S16_S16) :
    extractAt ![0] (extractStridedSlice S1 ![n] V sl) ip = wordAt d t (rowOf L r) := by
  subst hn
  have hV' : V = View.readAt (Elt F) (sT).view (Rect.unit (s := S144) (k0_off1 L) S16.size (k0_off1_inb L)).toLoadRect
      (View.write (Elt F) (sT).view ft (View.read (Elt F) (tV).view t) Finset.univ) :=
    hV.trans (shapeCast_self (α := Elt F .i32) _ _)
  rw [hV', View.write_whole_univ]
  refine congrArg (show S144.Idx → BitVec 32 from t) (funext fun a => ?_)
  match a with
  | 0 =>
    refine Fin.ext ?_
    show k0_off1 L 0 + 1 * (r.val + 0) = 8 * (L 1).val + 4 * (L 0).val + r.val
    rw [off1_eq]
    show 8 * (L 1).val + 4 * (L 0).val + 1 * (r.val + 0) = _
    omega

end Cert.Proof.ValIdeal

end
-- ==== Proof.BodyIdeal.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.LoopIdeal
public import proofs.«01_k».proof.Proof.ValIdeal
public import proofs.«01_k».proof.Proof.OffsIdeal
public import Idealize.ShloMosaic.Lib.Pipeline.Value

@[expose] public section

noncomputable section

namespace Cert.Proof.BodyIdeal

open Cert.KernelIdeal Cert.KernelIdeal.Gen

open Cert.Proof.TileIdeal Cert.Proof.LoopIdeal Cert.Proof.OffsIdeal Cert.Proof.ValIdeal
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "wV" => (Memref.whole Cert.KernelIdeal.main_v12_scv : Memref Cert.KernelIdeal.sig Kind.scVector Space.hbm Cert.KernelIdeal.S128x131072 EltTy.f32)
local notation "tV" => (Memref.whole Cert.KernelIdeal.main_v11_scv : Memref Cert.KernelIdeal.sig Kind.scVector Space.hbm Cert.KernelIdeal.S144 EltTy.i32)
local notation "oV" => (Memref.whole Cert.KernelIdeal.main_v13_scv : Memref Cert.KernelIdeal.sig Kind.scVector Space.hbm Cert.KernelIdeal.S128x122880 EltTy.f32)
local notation "sT" => (Memref.whole Cert.KernelIdeal.cc0_scratch0 : Memref Cert.KernelIdeal.sig Kind.scVector Space.vmem Cert.KernelIdeal.S144 EltTy.i32)
local notation "sI" => (Memref.whole Cert.KernelIdeal.cc0_scratch1 : Memref Cert.KernelIdeal.sig Kind.scVector Space.vmem Cert.KernelIdeal.S30728 EltTy.f32)
local notation "sO" => (Memref.whole Cert.KernelIdeal.cc0_scratch2 : Memref Cert.KernelIdeal.sig Kind.scVector Space.vmem Cert.KernelIdeal.S30720 EltTy.f32)

variable [FloatOps F] (d : Dev nD) (L : grid0.Coords)

/-- Two reshapes of sixteen lanes to sixteen lanes change nothing. -/
theorem pay_id (v : Vec F S16 .f32) : shapeCast S16 (shapeCast S16 v shapeCasts_S16_S16) shapeCasts_S16_S16 = v := by
  rw [shapeCast_self, shapeCast_self]

omit [FloatOps F] in
/-- Elements of the output held under one name of their set and at some contents are held under another name of it, at contents equal there. -/
theorem piece_as {A B : Finset S128x122880.Idx} {f g : Buf (Elt F) (oLoc d)} (hS : A = B) (h : ∀ i ∈ A, f i = g i) :
    (oLoc d ↦[A]{fullShare} f : sProp 𝕄) ⊢ (oLoc d ↦[B]{fullShare} g) :=
  Entails.of_eq ((pointsTo_congr h).trans (by rw [hS]))

set_option maxHeartbeats 40000000 in
set_option maxRecDepth 65536 in
/-- One task, from its share of the wide array and of the table and its sixteen pieces of the output: it leaves every piece at the row
    slid by its offset, provided every offset is less than 8192. -/
theorem tile_body (hF : (K (F := F)).Facts) (w : Buf (Elt F) (wLoc d)) (t : Buf (Elt F) (tLoc d)) (o : Buf (Elt F) (oLoc d))
    (hlt : ∀ R, (wordAt d t R).toNat < 8192) (qw qt : PosShare TreeShare)
    (O : CellTallies nD τ sig (HIx 1)) (W : Waits sig (HIx 1)) (hO : ∀ g, O g none = 0) :
    iprop(levAts (K (F := F)).L (K (F := F)).lev ∗ emp
        ∗ ((wLoc d ↦{qw} w) ∗ (tLoc d ↦{qt} t) ∗ pieces d L o)
        ∗ scopedBufs (tV' d L) ∗ scopedSems0 (tV' d L) ∗ owes (tV' d L) O W)
      ⊢ wp frame (wpE (defs₀ (F := F)) 𝒱₀ (tV' d L) none) Set.univ
          (cc0_shift_kernel L wV (Memref.isWhole_whole _) tV (Memref.isWhole_whole _) oV (Memref.isWhole_whole _)
            sT (Memref.isWhole_whole _) sI (Memref.isWhole_whole _) sO (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32)
          fun _ => iprop(((wLoc d ↦{qw} w) ∗ (tLoc d ↦{qt} t) ∗ pieces d L (shifted d w t))
            ∗ scopedBufs (tV' d L) ∗ scopedSems0 (tV' d L)
            ∗ ∃ W', ⌜∀ p ∈ W', p ∈ W ∨ p.2 = none ∨ p.2 = some (0 : Fin 1)⌝ ∗ owes (tV' d L) O W') := by
  rw [(K (F := F)).scopedBufs_V hF d (cV L) (jV L), SparseCore.Cfg.scopedSems0_V (Val := Elt F) d (cV L) (jV L), ownSems0_V, cells_eq, ownBufs_V,
    pieces_eq d L o, pieces_eq d L (shifted d w t)]
  iintro ⟨#Hlv, -, ⟨Hw, Ht, ⟨Q0, Q1, Q2, Q3, -⟩, ⟨Q4, Q5, Q6, Q7, -⟩, ⟨Q8, Q9, Q10, Q11, -⟩, ⟨Q12, Q13, Q14, Q15, -⟩, -⟩, ⟨⟨%ft, HT⟩, ⟨%fi, HI⟩, ⟨%fo, HO⟩, Hbufs⟩, ⟨⟨S0, S1, S2, S3, S4, S5, S6, S7, S8, S9, S10, S11, S12, S13, S14, S15, S16, S17, S18, S19, S20, S21, S22, S23, S24, S25, S26, S27, S28, S29, S30, S31, S32, -⟩, Hsems⟩, HW⟩
  ihave Hmw := (show levAts (K (F := F)).L (K (F := F)).lev ⊢ Transfers.MayWaits (tV' d L) (default : HIx 1) O from
    (K (F := F)).mayWaits_none (thr := tV' d L) hO) $$ Hlv
  ihave P0 := (show (oLoc d ↦[pieceSet (rowOf L 0) 0]{fullShare} o : sProp 𝕄) ⊢ ((oK0 L).view.loc (tV' d L) ↦[(oK0 L).view.set]{fullShare} o) from piece_as d (set_oK0 L).symm (fun _ _ => rfl)) $$ Q0
  ihave P1 := (show (oLoc d ↦[pieceSet (rowOf L 0) 1]{fullShare} o : sProp 𝕄) ⊢ ((oK1 L).view.loc (tV' d L) ↦[(oK1 L).view.set]{fullShare} o) from piece_as d (set_oK1 L).symm (fun _ _ => rfl)) $$ Q1
  ihave P2 := (show (oLoc d ↦[pieceSet (rowOf L 0) 2]{fullShare} o : sProp 𝕄) ⊢ ((oK2 L).view.loc (tV' d L) ↦[(oK2 L).view.set]{fullShare} o) from piece_as d (set_oK2 L).symm (fun _ _ => rfl)) $$ Q2
  ihave P3 := (show (oLoc d ↦[pieceSet (rowOf L 0) 3]{fullShare} o : sProp 𝕄) ⊢ ((oK3 L).view.loc (tV' d L) ↦[(oK3 L).view.set]{fullShare} o) from piece_as d (set_oK3 L).symm (fun _ _ => rfl)) $$ Q3
  ihave P4 := (show (oLoc d ↦[pieceSet (rowOf L 1) 0]{fullShare} o : sProp 𝕄) ⊢ ((oK4 L).view.loc (tV' d L) ↦[(oK4 L).view.set]{fullShare} o) from piece_as d (set_oK4 L).symm (fun _ _ => rfl)) $$ Q4
  ihave P5 := (show (oLoc d ↦[pieceSet (rowOf L 1) 1]{fullShare} o : sProp 𝕄) ⊢ ((oK5 L).view.loc (tV' d L) ↦[(oK5 L).view.set]{fullShare} o) from piece_as d (set_oK5 L).symm (fun _ _ => rfl)) $$ Q5
  ihave P6 := (show (oLoc d ↦[pieceSet (rowOf L 1) 2]{fullShare} o : sProp 𝕄) ⊢ ((oK6 L).view.loc (tV' d L) ↦[(oK6 L).view.set]{fullShare} o) from piece_as d (set_oK6 L).symm (fun _ _ => rfl)) $$ Q6
  ihave P7 := (show (oLoc d ↦[pieceSet (rowOf L 1) 3]{fullShare} o : sProp 𝕄) ⊢ ((oK7 L).view.loc (tV' d L) ↦[(oK7 L).view.set]{fullShare} o) from piece_as d (set_oK7 L).symm (fun _ _ => rfl)) $$ Q7
  ihave P8 := (show (oLoc d ↦[pieceSet (rowOf L 2) 0]{fullShare} o : sProp 𝕄) ⊢ ((oK8 L).view.loc (tV' d L) ↦[(oK8 L).view.set]{fullShare} o) from piece_as d (set_oK8 L).symm (fun _ _ => rfl)) $$ Q8
  ihave P9 := (show (oLoc d ↦[pieceSet (rowOf L 2) 1]{fullShare} o : sProp 𝕄) ⊢ ((oK9 L).view.loc (tV' d L) ↦[(oK9 L).view.set]{fullShare} o) from piece_as d (set_oK9 L).symm (fun _ _ => rfl)) $$ Q9
  ihave P10 := (show (oLoc d ↦[pieceSet (rowOf L 2) 2]{fullShare} o : sProp 𝕄) ⊢ ((oK10 L).view.loc (tV' d L) ↦[(oK10 L).view.set]{fullShare} o) from piece_as d (set_oK10 L).symm (fun _ _ => rfl)) $$ Q10
  ihave P11 := (show (oLoc d ↦[pieceSet (rowOf L 2) 3]{fullShare} o : sProp 𝕄) ⊢ ((oK11 L).view.loc (tV' d L) ↦[(oK11 L).view.set]{fullShare} o) from piece_as d (set_oK11 L).symm (fun _ _ => rfl)) $$ Q11
  ihave P12 := (show (oLoc d ↦[pieceSet (rowOf L 3) 0]{fullShare} o : sProp 𝕄) ⊢ ((oK12 L).view.loc (tV' d L) ↦[(oK12 L).view.set]{fullShare} o) from piece_as d (set_oK12 L).symm (fun _ _ => rfl)) $$ Q12
  ihave P13 := (show (oLoc d ↦[pieceSet (rowOf L 3) 1]{fullShare} o : sProp 𝕄) ⊢ ((oK13 L).view.loc (tV' d L) ↦[(oK13 L).view.set]{fullShare} o) from piece_as d (set_oK13 L).symm (fun _ _ => rfl)) $$ Q13
  ihave P14 := (show (oLoc d ↦[pieceSet (rowOf L 3) 2]{fullShare} o : sProp 𝕄) ⊢ ((oK14 L).view.loc (tV' d L) ↦[(oK14 L).view.set]{fullShare} o) from piece_as d (set_oK14 L).symm (fun _ _ => rfl)) $$ Q14
  ihave P15 := (show (oLoc d ↦[pieceSet (rowOf L 3) 3]{fullShare} o : sProp 𝕄) ⊢ ((oK15 L).view.loc (tV' d L) ↦[(oK15 L).view.set]{fullShare} o) from piece_as d (set_oK15 L).symm (fun _ _ => rfl)) $$ Q15
  ihave Hw := (show (wLoc d ↦{qw} w : sProp 𝕄) ⊢ ((wV).view.loc (tV' d L) ↦{qw} w) from Entails.refl _) $$ Hw
  ihave Ht := (show (tLoc d ↦{qt} t : sProp 𝕄) ⊢ ((tV).view.loc (tV' d L) ↦{qt} t) from Entails.refl _) $$ Ht
  ihave HT := (show ((tV' d L).loc cc0_scratch0 ↦{fullShare} ft : sProp 𝕄) ⊢ ((sT).view.loc (tV' d L) ↦{fullShare} ft) from Entails.refl _) $$ HT
  ihave HI := (show ((tV' d L).loc cc0_scratch1 ↦{fullShare} fi : sProp 𝕄) ⊢ ((sI).view.loc (tV' d L) ↦{fullShare} fi) from Entails.refl _) $$ HI
  ihave HO := (show ((tV' d L).loc cc0_scratch2 ↦{fullShare} fo : sProp 𝕄) ⊢ ((sO).view.loc (tV' d L) ↦{fullShare} fo) from Entails.refl _) $$ HO
  rw [cc0_shift_kernel_eq_skeleton]; unfold cc0_shift_kernel_skel
  rw [k0_part1_eq_skeleton, k0_part2_eq_skeleton]
  sl_exec (disch := first | exact View.amount_pos _ _ (show 0 < S144.numel by decide) | exact View.amount_pos _ _ (show 0 < S30728.numel by decide) | exact View.amount_pos _ _ (show 0 < S30720.numel by decide))
  have hw1 : (tile_body.sl.v8 d L t ft) = wordAt d t (rowOf L 0) := lane_word d L t ft 0 0 rfl slices_S16_o0_S1 inpos_S1_p0 _ rfl
  have hv1 : (tile_body.sl.v8 d L t ft).toNat < 8192 := hw1 ▸ hlt _
  have hk1 : k0_chk1 L (tile_body.sl.v8 d L t ft) := chk1_of L _ hv1
  sl_exec (disch := first | exact View.amount_pos _ _ (show 0 < S144.numel by decide) | exact View.amount_pos _ _ (show 0 < S30728.numel by decide) | exact View.amount_pos _ _ (show 0 < S30720.numel by decide))
  iapply (shift_loop d L k0_t1_loop k0_t1_ok (by decide) ((tile_body.sl.v8 d L t ft).toNat % 8) (by omega) (k0_off3 (tile_body.sl.v8 d L t ft)) k0_off4
    (k0_off3_inb L _ hk1) k0_off4_inb (off3_eq _ hv1) k0_off4_eq k0_pay3 (fun _ => pay_id _))
  isplitl [HI]; · iexact HI
  isplitl [HO]; · iexact HO
  iintro HI HO
  sl_exec (disch := first | exact View.amount_pos _ _ (show 0 < S144.numel by decide) | exact View.amount_pos _ _ (show 0 < S30728.numel by decide) | exact View.amount_pos _ _ (show 0 < S30720.numel by decide))
  iapply (shift_loop d L k0_t2_loop k0_t2_ok (by decide) ((tile_body.sl.v8 d L t ft).toNat % 8) (by omega) (k0_off6 (tile_body.sl.v8 d L t ft)) k0_off7
    (k0_off6_inb L _ hk1) k0_off7_inb (off6_eq _ hv1) k0_off7_eq k0_pay4 (fun _ => pay_id _))
  isplitl [HI]; · iexact HI
  isplitl [HO]; · iexact HO
  iintro HI HO
  sl_exec (disch := first | exact View.amount_pos _ _ (show 0 < S144.numel by decide) | exact View.amount_pos _ _ (show 0 < S30728.numel by decide) | exact View.amount_pos _ _ (show 0 < S30720.numel by decide))
  iapply (shift_loop d L k0_t3_loop k0_t3_ok (by decide) ((tile_body.sl.v8 d L t ft).toNat % 8) (by omega) (k0_off9 (tile_body.sl.v8 d L t ft)) k0_off10
    (k0_off9_inb L _ hk1) k0_off10_inb (off9_eq _ hv1) k0_off10_eq k0_pay5 (fun _ => pay_id _))
  isplitl [HI]; · iexact HI
  isplitl [HO]; · iexact HO
  iintro HI HO
  sl_exec (disch := first | exact View.amount_pos _ _ (show 0 < S144.numel by decide) | exact View.amount_pos _ _ (show 0 < S30728.numel by decide) | exact View.amount_pos _ _ (show 0 < S30720.numel by decide))
  iapply (shift_loop d L k0_t4_loop k0_t4_ok (by decide) ((tile_body.sl.v8 d L t ft).toNat % 8) (by omega) (k0_off12 (tile_body.sl.v8 d L t ft)) k0_off13
    (k0_off12_inb L _ hk1) k0_off13_inb (off12_eq _ hv1) k0_off13_eq k0_pay6 (fun _ => pay_id _))
  isplitl [HI]; · iexact HI
  isplitl [HO]; · iexact HO
  iintro HI HO
  sl_exec (disch := first | exact View.amount_pos _ _ (show 0 < S144.numel by decide) | exact View.amount_pos _ _ (show 0 < S30728.numel by decide) | exact View.amount_pos _ _ (show 0 < S30720.numel by decide))
  have hw2 : (tile_body.sl.v39 d L t ft) = wordAt d t (rowOf L 1) := lane_word d L t ft 1 1 rfl slices_S16_o1_S1 inpos_S1_p0 _ rfl
  have hv2 : (tile_body.sl.v39 d L t ft).toNat < 8192 := hw2 ▸ hlt _
  have hk2 : k0_chk2 L (tile_body.sl.v39 d L t ft) := chk2_of L _ hv2
  sl_exec (disch := first | exact View.amount_pos _ _ (show 0 < S144.numel by decide) | exact View.amount_pos _ _ (show 0 < S30728.numel by decide) | exact View.amount_pos _ _ (show 0 < S30720.numel by decide))
  iapply (shift_loop d L k0_t5_loop k0_t5_ok (by decide) ((tile_body.sl.v39 d L t ft).toNat % 8) (by omega) (k0_off16 (tile_body.sl.v39 d L t ft)) k0_off17
    (k0_off16_inb L _ hk2) k0_off17_inb (off16_eq _ hv2) k0_off17_eq k0_pay8 (fun _ => pay_id _))
  isplitl [HI]; · iexact HI
  isplitl [HO]; · iexact HO
  iintro HI HO
  sl_exec (disch := first | exact View.amount_pos _ _ (show 0 < S144.numel by decide) | exact View.amount_pos _ _ (show 0 < S30728.numel by decide) | exact View.amount_pos _ _ (show 0 < S30720.numel by decide))
  iapply (shift_loop d L k0_t6_loop k0_t6_ok (by decide) ((tile_body.sl.v39 d L t ft).toNat % 8) (by omega) (k0_off19 (tile_body.sl.v39 d L t ft)) k0_off20
    (k0_off19_inb L _ hk2) k0_off20_inb (off19_eq _ hv2) k0_off20_eq k0_pay9 (fun _ => pay_id _))
  isplitl [HI]; · iexact HI
  isplitl [HO]; · iexact HO
  iintro HI HO
  sl_exec (disch := first | exact View.amount_pos _ _ (show 0 < S144.numel by decide) | exact View.amount_pos _ _ (show 0 < S30728.numel by decide) | exact View.amount_pos _ _ (show 0 < S30720.numel by decide))
  iapply (shift_loop d L k0_t7_loop k0_t7_ok (by decide) ((tile_body.sl.v39 d L t ft).toNat % 8) (by omega) (k0_off22 (tile_body.sl.v39 d L t ft)) k0_off23
    (k0_off22_inb L _ hk2) k0_off23_inb (off22_eq _ hv2) k0_off23_eq k0_pay10 (fun _ => pay_id _))
  isplitl [HI]; · iexact HI
  isplitl [HO]; · iexact HO
  iintro HI HO
  sl_exec (disch := first | exact View.amount_pos _ _ (show 0 < S144.numel by decide) | exact View.amount_pos _ _ (show 0 < S30728.numel by decide) | exact View.amount_pos _ _ (show 0 < S30720.numel by decide))
  iapply (shift_loop d L k0_t8_loop k0_t8_ok (by decide) ((tile_body.sl.v39 d L t ft).toNat % 8) (by omega) (k0_off25 (tile_body.sl.v39 d L t ft)) k0_off26
    (k0_off25_inb L _ hk2) k0_off26_inb (off25_eq _ hv2) k0_off26_eq k0_pay11 (fun _ => pay_id _))
  isplitl [HI]; · iexact HI
  isplitl [HO]; · iexact HO
  iintro HI HO
  sl_exec (disch := first | exact View.amount_pos _ _ (show 0 < S144.numel by decide) | exact View.amount_pos _ _ (show 0 < S30728.numel by decide) | exact View.amount_pos _ _ (show 0 < S30720.numel by decide))
  have hw3 : (tile_body.sl.v70 d L t ft) = wordAt d t (rowOf L 2) := lane_word d L t ft 2 2 rfl slices_S16_o2_S1 inpos_S1_p0 _ rfl
  have hv3 : (tile_body.sl.v70 d L t ft).toNat < 8192 := hw3 ▸ hlt _
  have hk3 : k0_chk3 L (tile_body.sl.v70 d L t ft) := chk3_of L _ hv3
  sl_exec (disch := first | exact View.amount_pos _ _ (show 0 < S144.numel by decide) | exact View.amount_pos _ _ (show 0 < S30728.numel by decide) | exact View.amount_pos _ _ (show 0 < S30720.numel by decide))
  iapply (shift_loop d L k0_t9_loop k0_t9_ok (by decide) ((tile_body.sl.v70 d L t ft).toNat % 8) (by omega) (k0_off29 (tile_body.sl.v70 d L t ft)) k0_off30
    (k0_off29_inb L _ hk3) k0_off30_inb (off29_eq _ hv3) k0_off30_eq k0_pay13 (fun _ => pay_id _))
  isplitl [HI]; · iexact HI
  isplitl [HO]; · iexact HO
  iintro HI HO
  sl_exec (disch := first | exact View.amount_pos _ _ (show 0 < S144.numel by decide) | exact View.amount_pos _ _ (show 0 < S30728.numel by decide) | exact View.amount_pos _ _ (show 0 < S30720.numel by decide))
  iapply (shift_loop d L k0_t10_loop k0_t10_ok (by decide) ((tile_body.sl.v70 d L t ft).toNat % 8) (by omega) (k0_off32 (tile_body.sl.v70 d L t ft)) k0_off33
    (k0_off32_inb L _ hk3) k0_off33_inb (off32_eq _ hv3) k0_off33_eq k0_pay14 (fun _ => pay_id _))
  isplitl [HI]; · iexact HI
  isplitl [HO]; · iexact HO
  iintro HI HO
  sl_exec (disch := first | exact View.amount_pos _ _ (show 0 < S144.numel by decide) | exact View.amount_pos _ _ (show 0 < S30728.numel by decide) | exact View.amount_pos _ _ (show 0 < S30720.numel by decide))
  iapply (shift_loop d L k0_t11_loop k0_t11_ok (by decide) ((tile_body.sl.v70 d L t ft).toNat % 8) (by omega) (k0_off35 (tile_body.sl.v70 d L t ft)) k0_off36
    (k0_off35_inb L _ hk3) k0_off36_inb (off35_eq _ hv3) k0_off36_eq k0_pay15 (fun _ => pay_id _))
  isplitl [HI]; · iexact HI
  isplitl [HO]; · iexact HO
  iintro HI HO
  sl_exec (disch := first | exact View.amount_pos _ _ (show 0 < S144.numel by decide) | exact View.amount_pos _ _ (show 0 < S30728.numel by decide) | exact View.amount_pos _ _ (show 0 < S30720.numel by decide))
  iapply (shift_loop d L k0_t12_loop k0_t12_ok (by decide) ((tile_body.sl.v70 d L t ft).toNat % 8) (by omega) (k0_off38 (tile_body.sl.v70 d L t ft)) k0_off39
    (k0_off38_inb L _ hk3) k0_off39_inb (off38_eq _ hv3) k0_off39_eq k0_pay16 (fun _ => pay_id _))
  isplitl [HI]; · iexact HI
  isplitl [HO]; · iexact HO
  iintro HI HO
  sl_exec (disch := first | exact View.amount_pos _ _ (show 0 < S144.numel by decide) | exact View.amount_pos _ _ (show 0 < S30728.numel by decide) | exact View.amount_pos _ _ (show 0 < S30720.numel by decide))
  have hw4 : (tile_body.sl.v101 d L t ft) = wordAt d t (rowOf L 3) := lane_word d L t ft 3 3 rfl slices_S16_o3_S1 inpos_S1_p0 _ rfl
  have hv4 : (tile_body.sl.v101 d L t ft).toNat < 8192 := hw4 ▸ hlt _
  have hk4 : k0_chk4 L (tile_body.sl.v101 d L t ft) := chk4_of L _ hv4
  sl_exec (disch := first | exact View.amount_pos _ _ (show 0 < S144.numel by decide) | exact View.amount_pos _ _ (show 0 < S30728.numel by decide) | exact View.amount_pos _ _ (show 0 < S30720.numel by decide))
  iapply (shift_loop d L k0_t13_loop k0_t13_ok (by decide) ((tile_body.sl.v101 d L t ft).toNat % 8) (by omega) (k0_off42 (tile_body.sl.v101 d L t ft)) k0_off43
    (k0_off42_inb L _ hk4) k0_off43_inb (off42_eq _ hv4) k0_off43_eq k0_pay18 (fun _ => pay_id _))
  isplitl [HI]; · iexact HI
  isplitl [HO]; · iexact HO
  iintro HI HO
  sl_exec (disch := first | exact View.amount_pos _ _ (show 0 < S144.numel by decide) | exact View.amount_pos _ _ (show 0 < S30728.numel by decide) | exact View.amount_pos _ _ (show 0 < S30720.numel by decide))
  iapply (shift_loop d L k0_t14_loop k0_t14_ok (by decide) ((tile_body.sl.v101 d L t ft).toNat % 8) (by omega) (k0_off45 (tile_body.sl.v101 d L t ft)) k0_off46
    (k0_off45_inb L _ hk4) k0_off46_inb (off45_eq _ hv4) k0_off46_eq k0_pay19 (fun _ => pay_id _))
  isplitl [HI]; · iexact HI
  isplitl [HO]; · iexact HO
  iintro HI HO
  sl_exec (disch := first | exact View.amount_pos _ _ (show 0 < S144.numel by decide) | exact View.amount_pos _ _ (show 0 < S30728.numel by decide) | exact View.amount_pos _ _ (show 0 < S30720.numel by decide))
  iapply (shift_loop d L k0_t15_loop k0_t15_ok (by decide) ((tile_body.sl.v101 d L t ft).toNat % 8) (by omega) (k0_off48 (tile_body.sl.v101 d L t ft)) k0_off49
    (k0_off48_inb L _ hk4) k0_off49_inb (off48_eq _ hv4) k0_off49_eq k0_pay20 (fun _ => pay_id _))
  isplitl [HI]; · iexact HI
  isplitl [HO]; · iexact HO
  iintro HI HO
  sl_exec (disch := first | exact View.amount_pos _ _ (show 0 < S144.numel by decide) | exact View.amount_pos _ _ (show 0 < S30728.numel by decide) | exact View.amount_pos _ _ (show 0 < S30720.numel by decide))
  iapply (shift_loop d L k0_t16_loop k0_t16_ok (by decide) ((tile_body.sl.v101 d L t ft).toNat % 8) (by omega) (k0_off51 (tile_body.sl.v101 d L t ft)) k0_off52
    (k0_off51_inb L _ hk4) k0_off52_inb (off51_eq _ hv4) k0_off52_eq k0_pay21 (fun _ => pay_id _))
  isplitl [HI]; · iexact HI
  isplitl [HO]; · iexact HO
  iintro HI HO
  sl_exec (disch := first | exact View.amount_pos _ _ (show 0 < S144.numel by decide) | exact View.amount_pos _ _ (show 0 < S30728.numel by decide) | exact View.amount_pos _ _ (show 0 < S30720.numel by decide))
  sl_step
  isplitl [Hw Ht P0 P1 P2 P3 P4 P5 P6 P7 P8 P9 P10 P11 P12 P13 P14 P15]
  · isplitl [Hw]; · iexact Hw
    isplitl [Ht]; · iexact Ht
    isplitl [P0 P1 P2 P3]
    · isplitl [P0]
      · iapply (out_done d L w t (rowOf L 0) 0 _ hv1 hw1 (k0_off5 L) (k0_off5_inb L) (k0_off5_eq L) (set_oK0 L)
          (k0_off2 L (tile_body.sl.v8 d L t ft) 0#32) _ (off2_eq L _ hv1 0) _ (tile_body.sl.dma0_2 d L w t ft fi hk1) rfl)
        iexact P0
      isplitl [P1]
      · iapply (out_done d L w t (rowOf L 0) 1 _ hv1 hw1 (k0_off8 L) (k0_off8_inb L) (k0_off8_eq L) (set_oK1 L)
          (k0_off2 L (tile_body.sl.v8 d L t ft) 30720#32) _ (off2_eq L _ hv1 1) _ (tile_body.sl.dma0_4 d L w t ft fi hk1) rfl)
        iexact P1
      isplitl [P2]
      · iapply (out_done d L w t (rowOf L 0) 2 _ hv1 hw1 (k0_off11 L) (k0_off11_inb L) (k0_off11_eq L) (set_oK2 L)
          (k0_off2 L (tile_body.sl.v8 d L t ft) 61440#32) _ (off2_eq L _ hv1 2) _ (tile_body.sl.dma0_6 d L w t ft fi hk1) rfl)
        iexact P2
      isplitl [P3]
      · iapply (out_done d L w t (rowOf L 0) 3 _ hv1 hw1 (k0_off14 L) (k0_off14_inb L) (k0_off14_eq L) (set_oK3 L)
          (k0_off2 L (tile_body.sl.v8 d L t ft) 92160#32) _ (off2_eq L _ hv1 3) _ (tile_body.sl.dma0_8 d L w t ft fi hk1) rfl)
        iexact P3
      iempintro
    isplitl [P4 P5 P6 P7]
    · isplitl [P4]
      · iapply (out_done d L w t (rowOf L 1) 0 _ hv2 hw2 (k0_off18 L) (k0_off18_inb L) (k0_off18_eq L) (set_oK4 L)
          (k0_off15 L (tile_body.sl.v39 d L t ft) 0#32) _ (off15_eq L _ hv2 0) _ (tile_body.sl.dma0_10 d L w t ft fi hk1 hk2) rfl)
        iexact P4
      isplitl [P5]
      · iapply (out_done d L w t (rowOf L 1) 1 _ hv2 hw2 (k0_off21 L) (k0_off21_inb L) (k0_off21_eq L) (set_oK5 L)
          (k0_off15 L (tile_body.sl.v39 d L t ft) 30720#32) _ (off15_eq L _ hv2 1) _ (tile_body.sl.dma0_12 d L w t ft fi hk1 hk2) rfl)
        iexact P5
      isplitl [P6]
      · iapply (out_done d L w t (rowOf L 1) 2 _ hv2 hw2 (k0_off24 L) (k0_off24_inb L) (k0_off24_eq L) (set_oK6 L)
          (k0_off15 L (tile_body.sl.v39 d L t ft) 61440#32) _ (off15_eq L _ hv2 2) _ (tile_body.sl.dma0_14 d L w t ft fi hk1 hk2) rfl)
        iexact P6
      isplitl [P7]
      · iapply (out_done d L w t (rowOf L 1) 3 _ hv2 hw2 (k0_off27 L) (k0_off27_inb L) (k0_off27_eq L) (set_oK7 L)
          (k0_off15 L (tile_body.sl.v39 d L t ft) 92160#32) _ (off15_eq L _ hv2 3) _ (tile_body.sl.dma0_16 d L w t ft fi hk1 hk2) rfl)
        iexact P7
      iempintro
    isplitl [P8 P9 P10 P11]
    · isplitl [P8]
      · iapply (out_done d L w t (rowOf L 2) 0 _ hv3 hw3 (k0_off31 L) (k0_off31_inb L) (k0_off31_eq L) (set_oK8 L)
          (k0_off28 L (tile_body.sl.v70 d L t ft) 0#32) _ (off28_eq L _ hv3 0) _ (tile_body.sl.dma0_18 d L w t ft fi hk1 hk2 hk3) rfl)
        iexact P8
      isplitl [P9]
      · iapply (out_done d L w t (rowOf L 2) 1 _ hv3 hw3 (k0_off34 L) (k0_off34_inb L) (k0_off34_eq L) (set_oK9 L)
          (k0_off28 L (tile_body.sl.v70 d L t ft) 30720#32) _ (off28_eq L _ hv3 1) _ (tile_body.sl.dma0_20 d L w t ft fi hk1 hk2 hk3) rfl)
        iexact P9
      isplitl [P10]
      · iapply (out_done d L w t (rowOf L 2) 2 _ hv3 hw3 (k0_off37 L) (k0_off37_inb L) (k0_off37_eq L) (set_oK10 L)
          (k0_off28 L (tile_body.sl.v70 d L t ft) 61440#32) _ (off28_eq L _ hv3 2) _ (tile_body.sl.dma0_22 d L w t ft fi hk1 hk2 hk3) rfl)
        iexact P10
      isplitl [P11]
      · iapply (out_done d L w t (rowOf L 2) 3 _ hv3 hw3 (k0_off40 L) (k0_off40_inb L) (k0_off40_eq L) (set_oK11 L)
          (k0_off28 L (tile_body.sl.v70 d L t ft) 92160#32) _ (off28_eq L _ hv3 3) _ (tile_body.sl.dma0_24 d L w t ft fi hk1 hk2 hk3) rfl)
        iexact P11
      iempintro
    isplitl [P12 P13 P14 P15]
    · isplitl [P12]
      · iapply (out_done d L w t (rowOf L 3) 0 _ hv4 hw4 (k0_off44 L) (k0_off44_inb L) (k0_off44_eq L) (set_oK12 L)
          (k0_off41 L (tile_body.sl.v101 d L t ft) 0#32) _ (off41_eq L _ hv4 0) _ (tile_body.sl.dma0_26 d L w t ft fi hk1 hk2 hk3 hk4) rfl)
        iexact P12
      isplitl [P13]
      · iapply (out_done d L w t (rowOf L 3) 1 _ hv4 hw4 (k0_off47 L) (k0_off47_inb L) (k0_off47_eq L) (set_oK13 L)
          (k0_off41 L (tile_body.sl.v101 d L t ft) 30720#32) _ (off41_eq L _ hv4 1) _ (tile_body.sl.dma0_28 d L w t ft fi hk1 hk2 hk3 hk4) rfl)
        iexact P13
      isplitl [P14]
      · iapply (out_done d L w t (rowOf L 3) 2 _ hv4 hw4 (k0_off50 L) (k0_off50_inb L) (k0_off50_eq L) (set_oK14 L)
          (k0_off41 L (tile_body.sl.v101 d L t ft) 61440#32) _ (off41_eq L _ hv4 2) _ (tile_body.sl.dma0_30 d L w t ft fi hk1 hk2 hk3 hk4) rfl)
        iexact P14
      isplitl [P15]
      · iapply (out_done d L w t (rowOf L 3) 3 _ hv4 hw4 (k0_off53 L) (k0_off53_inb L) (k0_off53_eq L) (set_oK15 L)
          (k0_off41 L (tile_body.sl.v101 d L t ft) 92160#32) _ (off41_eq L _ hv4 3) _ (tile_body.sl.dma0_32 d L w t ft fi hk1 hk2 hk3 hk4) rfl)
        iexact P15
      iempintro
    iempintro
  isplitl [HT HI HO Hbufs]
  · isplitl [HT]; · iexists _; iexact HT
    isplitl [HI]; · iexists _; iexact HI
    isplitl [HO]; · iexists _; iexact HO
    iexact Hbufs
  isplitl [S0 S1 S2 S3 S4 S5 S6 S7 S8 S9 S10 S11 S12 S13 S14 S15 S16 S17 S18 S19 S20 S21 S22 S23 S24 S25 S26 S27 S28 S29 S30 S31 S32 Hsems]
  · isplitl [S0 S1 S2 S3 S4 S5 S6 S7 S8 S9 S10 S11 S12 S13 S14 S15 S16 S17 S18 S19 S20 S21 S22 S23 S24 S25 S26 S27 S28 S29 S30 S31 S32]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      isplitl [S17]; · iexact S17
      isplitl [S18]; · iexact S18
      isplitl [S19]; · iexact S19
      isplitl [S20]; · iexact S20
      isplitl [S21]; · iexact S21
      isplitl [S22]; · iexact S22
      isplitl [S23]; · iexact S23
      isplitl [S24]; · iexact S24
      isplitl [S25]; · iexact S25
      isplitl [S26]; · iexact S26
      isplitl [S27]; · iexact S27
      isplitl [S28]; · iexact S28
      isplitl [S29]; · iexact S29
      isplitl [S30]; · iexact S30
      isplitl [S31]; · iexact S31
      isplitl [S32]; · iexact S32
      iempintro
    iexact Hsems
  iexists _; isplitr
  swap; · iexact HW
  ipureintro; intro p _
  rcases p.2 with _ | q
  · exact .inr (.inl rfl)
  · exact .inr (.inr (congrArg some (Subsingleton.elim q 0)))

end Cert.Proof.BodyIdeal

end
-- ==== Proof.DealIdeal.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.TileIdeal
public import Idealize.ShloMosaic.Lib.Pipeline.Value

@[expose] public section

noncomputable section

namespace Cert.Proof.DealIdeal

open Cert.KernelIdeal Cert.KernelIdeal.Gen

open Cert.Proof.TileIdeal
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "wV" => (Memref.whole Cert.KernelIdeal.main_v12_scv : Memref Cert.KernelIdeal.sig Kind.scVector Space.hbm Cert.KernelIdeal.S128x131072 EltTy.f32)
local notation "tV" => (Memref.whole Cert.KernelIdeal.main_v11_scv : Memref Cert.KernelIdeal.sig Kind.scVector Space.hbm Cert.KernelIdeal.S144 EltTy.i32)
local notation "oV" => (Memref.whole Cert.KernelIdeal.main_v13_scv : Memref Cert.KernelIdeal.sig Kind.scVector Space.hbm Cert.KernelIdeal.S128x122880 EltTy.f32)
local notation "sT" => (Memref.whole Cert.KernelIdeal.cc0_scratch0 : Memref Cert.KernelIdeal.sig Kind.scVector Space.vmem Cert.KernelIdeal.S144 EltTy.i32)
local notation "sI" => (Memref.whole Cert.KernelIdeal.cc0_scratch1 : Memref Cert.KernelIdeal.sig Kind.scVector Space.vmem Cert.KernelIdeal.S30728 EltTy.f32)
local notation "sO" => (Memref.whole Cert.KernelIdeal.cc0_scratch2 : Memref Cert.KernelIdeal.sig Kind.scVector Space.vmem Cert.KernelIdeal.S30720 EltTy.f32)

variable (d : Dev nD)

/-! ## The output's pieces cover it, and no two overlap -/

theorem mem_piece (R : Fin 128) (q : Fin 4) (x : S128x122880.Idx) :
    x ∈ pieceSet R q ↔ (x 0).val = R.val ∧ 30720 * q.val ≤ (x 1).val ∧ (x 1).val < 30720 * q.val + 30720 := by
  have e : pieceSet R q = (pieceRect R q).set := by
    show ((View.whole (main_v13_scv : Ref sig .scVector)).slice (pieceRect R q)).set = _
    rw [View.set_slice]; exact Finset.map_refl
  rw [e, Rect.mem_set_unit]
  constructor
  · intro h
    have h0 : R.val ≤ (x 0).val ∧ (x 0).val < R.val + 1 := h 0
    have h1 : 30720 * q.val ≤ (x 1).val ∧ (x 1).val < 30720 * q.val + 30720 := h 1
    exact ⟨by omega, h1⟩
  · rintro ⟨h0, h1⟩ a
    match a with
    | 0 => show R.val ≤ (x 0).val ∧ (x 0).val < R.val + 1; omega
    | 1 => exact h1

/-- The grid point of vector subcore `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The elements of one piece, named by SparseCore, subcore, row of the task and quarter of the row. -/
abbrev part (p : Fin 2 × Fin 16 × Fin 4 × Fin 4) : Finset S128x122880.Idx := pieceSet (rowOf (coordsV p.1 p.2.1) p.2.2.1) p.2.2.2

theorem part_disjoint : ∀ p ∈ (Finset.univ : Finset (Fin 2 × Fin 16 × Fin 4 × Fin 4)), ∀ p' ∈ (Finset.univ : Finset (Fin 2 × Fin 16 × Fin 4 × Fin 4)),
    p ≠ p' → Disjoint (part p) (part p') := by
  rintro ⟨c, i, r, q⟩ - ⟨c', i', r', q'⟩ - hne
  refine Finset.disjoint_left.mpr fun x hx hx' => hne ?_
  obtain ⟨h0, h1, h2⟩ := (mem_piece _ _ x).mp hx
  obtain ⟨h0', h1', h2'⟩ := (mem_piece _ _ x).mp hx'
  have e : 8 * i.val + 4 * c.val + r.val = 8 * i'.val + 4 * c'.val + r'.val := h0.symm.trans h0'
  have hc := c.isLt; have hc' := c'.isLt; have hr := r.isLt; have hr' := r'.isLt
  have ei : i = i' := Fin.ext (by omega)
  have ec : c = c' := Fin.ext (by omega)
  have er : r = r' := Fin.ext (by omega)
  have g1 : 30720 * q.val ≤ (x 1).val := h1
  have g2 : (x 1).val < 30720 * q.val + 30720 := h2
  have g1' : 30720 * q'.val ≤ (x 1).val := h1'
  have g2' : (x 1).val < 30720 * q'.val + 30720 := h2'
  have eq : q = q' := Fin.ext (by omega)
  rw [ei, ec, er, eq]

theorem part_cover : (Finset.univ : Finset (Fin 2 × Fin 16 × Fin 4 × Fin 4)).biUnion part = Finset.univ := by
  refine Finset.eq_univ_of_forall fun x => ?_
  have h0 : (x 0).val < 128 := (x 0).isLt
  have h1 : (x 1).val < 122880 := (x 1).isLt
  refine Finset.mem_biUnion.mpr ⟨(⟨(x 0).val / 4 % 2, by omega⟩, ⟨(x 0).val / 8, by omega⟩, ⟨(x 0).val % 4, by omega⟩, ⟨(x 1).val / 30720, by omega⟩),
    Finset.mem_univ _, (mem_piece _ _ x).mpr ⟨?_, ?_, ?_⟩⟩
  · show (x 0).val = 8 * ((x 0).val / 8) + 4 * ((x 0).val / 4 % 2) + (x 0).val % 4
    omega
  · show 30720 * ((x 1).val / 30720) ≤ (x 1).val
    omega
  · show (x 1).val < 30720 * ((x 1).val / 30720) + 30720
    omega

/-- The output held whole is every task's pieces. -/
theorem out_deal (f : Buf (Elt F) (oLoc d)) :
    (oLoc d ↦{fullShare} f : sProp 𝕄)
      = bigSep Finset.univ fun c : Fin 2 => bigSep Finset.univ fun i : Fin 16 => pieces d (coordsV c i) f := by
  have e : (oLoc d ↦{fullShare} f : sProp 𝕄) = bigSep Finset.univ fun p : Fin 2 × Fin 16 × Fin 4 × Fin 4 => oLoc d ↦[part p]{fullShare} f := by
    rw [← pointsTo_biUnion Finset.univ (ℓ := oLoc d) part part_disjoint, part_cover]; try rfl
  rw [e, bigSep_univ_prod]
  refine bigSep_congr fun c _ => ?_
  rw [bigSep_univ_prod]
  refine bigSep_congr fun i _ => ?_
  rw [bigSep_univ_prod]

/-! ## The two tables are read at shares -/

/-- The share at which a task reads. -/
abbrev tok (c : Fin 2) (i : Fin 16) : PosShare TreeShare := Transfers.shareTok fullShare (2 * 16) (finProdFinEquiv (c, i))

theorem toks_eq (ℓ : Loc nD τ sig) (f : Buf (Elt F) ℓ) :
    (bigSep Finset.univ fun n : Fin (2 * 16) => (ℓ ↦{Transfers.shareTok fullShare (2 * 16) n} f : sProp 𝕄))
      = bigSep Finset.univ fun c : Fin 2 => bigSep Finset.univ fun i : Fin 16 => ℓ ↦{tok c i} f := by
  rw [bigSep_univ_equiv (finProdFinEquiv (m := 2) (n := 16)), bigSep_univ_prod]

/-- What a task is handed, the output at `f`. -/
abbrev handed (w : Buf (Elt F) (wLoc d)) (t : Buf (Elt F) (tLoc d)) (f : Buf (Elt F) (oLoc d)) (c : Fin 2) (i : Fin 16) : sProp 𝕄 :=
  iprop((wLoc d ↦{tok c i} w) ∗ (tLoc d ↦{tok c i} t) ∗ pieces d (coordsV c i) f)

theorem handed_all (w : Buf (Elt F) (wLoc d)) (t : Buf (Elt F) (tLoc d)) (f : Buf (Elt F) (oLoc d)) :
    (bigSep Finset.univ fun c : Fin 2 => bigSep Finset.univ fun i : Fin 16 => handed d w t f c i)
      = iprop((bigSep Finset.univ fun n : Fin (2 * 16) => wLoc d ↦{Transfers.shareTok fullShare (2 * 16) n} w)
          ∗ (bigSep Finset.univ fun n : Fin (2 * 16) => tLoc d ↦{Transfers.shareTok fullShare (2 * 16) n} t)
          ∗ (oLoc d ↦{fullShare} f) : sProp 𝕄) := by
  rw [toks_eq, toks_eq, out_deal]
  simp only [handed, bigSep_sep']

/-- The three arrays held whole are what the tasks are handed and a share of each of the two they read. -/
theorem deal (w : Buf (Elt F) (wLoc d)) (t : Buf (Elt F) (tLoc d)) (f : Buf (Elt F) (oLoc d)) :
    iprop((wLoc d ↦{fullShare} w) ∗ (tLoc d ↦{fullShare} t) ∗ (oLoc d ↦{fullShare} f))
      ⊢ (iprop(((wLoc d ↦{Transfers.shareDrop fullShare (2 * 16)} w) ∗ (tLoc d ↦{Transfers.shareDrop fullShare (2 * 16)} t))
          ∗ bigSep Finset.univ fun c : Fin 2 => bigSep Finset.univ fun i : Fin 16 => handed d w t f c i) : sProp 𝕄) := by
  rw [handed_all]
  iintro ⟨Hw, Ht, Ho⟩
  ihave Hw' := (Transfers.pointsTo_toks_split (ℓ := wLoc d) (S := Finset.univ) (f := w) fullShare (2 * 16)) $$ Hw
  ihave Ht' := (Transfers.pointsTo_toks_split (ℓ := tLoc d) (S := Finset.univ) (f := t) fullShare (2 * 16)) $$ Ht
  icases Hw' with ⟨Hw, Hws⟩
  icases Ht' with ⟨Ht, Hts⟩
  isplitl [Hw Ht]
  · isplitl [Hw] <;> iassumption
  isplitl [Hws]; · iexact Hws
  isplitl [Hts]; · iexact Hts
  iexact Ho

/-- And back. -/
theorem undeal (w : Buf (Elt F) (wLoc d)) (t : Buf (Elt F) (tLoc d)) (f : Buf (Elt F) (oLoc d)) :
    iprop(((wLoc d ↦{Transfers.shareDrop fullShare (2 * 16)} w) ∗ (tLoc d ↦{Transfers.shareDrop fullShare (2 * 16)} t))
          ∗ bigSep Finset.univ fun c : Fin 2 => bigSep Finset.univ fun i : Fin 16 => handed d w t f c i)
      ⊢ (iprop((wLoc d ↦{fullShare} w) ∗ (tLoc d ↦{fullShare} t) ∗ (oLoc d ↦{fullShare} f)) : sProp 𝕄) := by
  rw [handed_all]
  iintro ⟨⟨Hw, Ht⟩, Hws, Hts, Ho⟩
  isplitl [Hw Hws]
  · iapply (Transfers.pointsTo_toks_join (ℓ := wLoc d) (S := Finset.univ) (f := w) fullShare (2 * 16))
    isplitl [Hw] <;> iassumption
  isplitl [Ht Hts]
  · iapply (Transfers.pointsTo_toks_join (ℓ := tLoc d) (S := Finset.univ) (f := t) fullShare (2 * 16))
    isplitl [Ht] <;> iassumption
  iexact Ho

end Cert.Proof.DealIdeal

end
-- ==== Proof.HostIdeal.lean ====
module

public import proofs.«01_k».proof.Defs
public import proofs.«01_k».proof.Proof.HostLine
public import proofs.«01_k».proof.Proof.Gen.KernelIdeal
public import proofs.«01_k».proof.Proof.Gen.ReferenceIdeal

/-! # The random offsets: two programs' lines, one beside the other

The kernel's host program draws its row offsets by the same chain of integer operations as the plain program, on arrays of
the same numbers.  Here the two lines are matched operation by operation, and of the chain's last stretch the equations
are kept: a remainder by 8192, so every offset is below 8192. -/

@[expose] public section

noncomputable section

namespace Cert.Proof.HostIdeal

open Idealize.ShloMosaic Idealize.ShloMosaic.StableHlo Idealize.SL.Sem Cert.Proof.HostLine

variable {F : FTy → Type} [FloatOps F]

set_option maxRecDepth 4000

set_option maxHeartbeats 4000000
/-- The block cipher inside the key split. -/
theorem cipher0 : Both (Cert.KernelIdeal.fn_threefry2x32.body (F := F) Cert.KernelIdeal.main_call0.call3.v1 Cert.KernelIdeal.main_call0.call3.v3 Cert.KernelIdeal.main_call0.call3.v10 Cert.KernelIdeal.main_call0.call3.v9 Cert.KernelIdeal.main_call0.call3.call0) (Cert.ReferenceIdeal.fn_threefry2x32.body (F := F) Cert.ReferenceIdeal.main_call0.call3.v1 Cert.ReferenceIdeal.main_call0.call3.v3 Cert.ReferenceIdeal.main_call0.call3.v10 Cert.ReferenceIdeal.main_call0.call3.v9 Cert.ReferenceIdeal.main_call0.call3.call0)
      (pure ⟨⟩) (pure ⟨⟩) 44 266 (fun _ => True) := by
  unfold Cert.KernelIdeal.fn_threefry2x32.body; try unfold Cert.ReferenceIdeal.fn_threefry2x32.body
  refine Both.skip (mid := 104) (P := (fun _ => True)) ?_ (Both.skip (mid := 164) (P := (fun _ => True)) ?_ (Both.skip (mid := 224) (P := (fun _ => True)) ?_ ?_))
  all_goals first
    | unfold Cert.KernelIdeal.fn_threefry2x32.body_part0; try unfold Cert.ReferenceIdeal.fn_threefry2x32.body_part0
    | unfold Cert.KernelIdeal.fn_threefry2x32.body_part1; try unfold Cert.ReferenceIdeal.fn_threefry2x32.body_part1
    | unfold Cert.KernelIdeal.fn_threefry2x32.body_part2; try unfold Cert.ReferenceIdeal.fn_threefry2x32.body_part2
    | unfold Cert.KernelIdeal.fn_threefry2x32.body_part3; try unfold Cert.ReferenceIdeal.fn_threefry2x32.body_part3
  all_goals repeat' first
    | with_reducible exact Both.stop (by decide +kernel)
    | with_reducible refine Both.drop (by first
        | exact Pair.binary (by decide +kernel) (by decide +kernel) (by decide +kernel)
        | exact Pair.unary (by decide +kernel) (by decide +kernel)
        | exact Pair.nullary (by decide +kernel)
        | exact Pair.reshape (by decide +kernel) (by decide +kernel)
        | exact Pair.ternary (by decide +kernel) (by decide +kernel) (by decide +kernel) (by decide +kernel)) ?_
    | (fail_if_success with_reducible refine Both.bind ?_ ?_); with_reducible refine Both.last ?_

/-- The key split. -/
theorem split : Both (Cert.KernelIdeal.fn_threefry_split.body (F := F) (.of Cert.KernelIdeal.main_v6) Cert.KernelIdeal.main_call0.call3) (Cert.ReferenceIdeal.fn_threefry_split.body (F := F) (.of Cert.ReferenceIdeal.main_v6) Cert.ReferenceIdeal.main_call0.call3)
      (pure ⟨⟩) (pure ⟨⟩) 31 269 (fun _ => True) := by
  unfold Cert.KernelIdeal.fn_threefry_split.body; try unfold Cert.ReferenceIdeal.fn_threefry_split.body
  repeat' first
    | with_reducible exact Both.stop (by decide +kernel)
    | with_reducible refine Both.drop (by first
        | exact Pair.binary (by decide +kernel) (by decide +kernel) (by decide +kernel)
        | exact Pair.unary (by decide +kernel) (by decide +kernel)
        | exact Pair.nullary (by decide +kernel)
        | exact Pair.reshape (by decide +kernel) (by decide +kernel)
        | exact Pair.ternary (by decide +kernel) (by decide +kernel) (by decide +kernel) (by decide +kernel)) ?_
    | with_reducible refine Both.skip cipher0 ?_
    | (fail_if_success with_reducible refine Both.bind ?_ ?_); with_reducible refine Both.last ?_

/-- The first draw's block cipher. -/
theorem cipher1 : Both (Cert.KernelIdeal.fn_threefry2x32_1.body (F := F) Cert.KernelIdeal.main_call0.v14 Cert.KernelIdeal.main_call0.v16 Cert.KernelIdeal.main_call0.v35 Cert.KernelIdeal.main_call0.v34 Cert.KernelIdeal.main_call0.call4) (Cert.ReferenceIdeal.fn_threefry2x32_1.body (F := F) Cert.ReferenceIdeal.main_call0.v14 Cert.ReferenceIdeal.main_call0.v16 Cert.ReferenceIdeal.main_call0.v35 Cert.ReferenceIdeal.main_call0.v34 Cert.ReferenceIdeal.main_call0.call4)
      (pure ⟨⟩) (pure ⟨⟩) 301 523 (fun _ => True) := by
  unfold Cert.KernelIdeal.fn_threefry2x32_1.body; try unfold Cert.ReferenceIdeal.fn_threefry2x32_1.body
  refine Both.skip (mid := 361) (P := (fun _ => True)) ?_ (Both.skip (mid := 421) (P := (fun _ => True)) ?_ (Both.skip (mid := 481) (P := (fun _ => True)) ?_ ?_))
  all_goals first
    | unfold Cert.KernelIdeal.fn_threefry2x32_1.body_part0; try unfold Cert.ReferenceIdeal.fn_threefry2x32_1.body_part0
    | unfold Cert.KernelIdeal.fn_threefry2x32_1.body_part1; try unfold Cert.ReferenceIdeal.fn_threefry2x32_1.body_part1
    | unfold Cert.KernelIdeal.fn_threefry2x32_1.body_part2; try unfold Cert.ReferenceIdeal.fn_threefry2x32_1.body_part2
    | unfold Cert.KernelIdeal.fn_threefry2x32_1.body_part3; try unfold Cert.ReferenceIdeal.fn_threefry2x32_1.body_part3
  all_goals repeat' first
    | with_reducible exact Both.stop (by decide +kernel)
    | with_reducible refine Both.drop (by first
        | exact Pair.binary (by decide +kernel) (by decide +kernel) (by decide +kernel)
        | exact Pair.unary (by decide +kernel) (by decide +kernel)
        | exact Pair.nullary (by decide +kernel)
        | exact Pair.reshape (by decide +kernel) (by decide +kernel)
        | exact Pair.ternary (by decide +kernel) (by decide +kernel) (by decide +kernel) (by decide +kernel)) ?_
    | (fail_if_success with_reducible refine Both.bind ?_ ?_); with_reducible refine Both.last ?_

/-- The second draw's block cipher. -/
theorem cipher2 : Both (Cert.KernelIdeal.fn_threefry2x32_1.body (F := F) Cert.KernelIdeal.main_call0.v39 Cert.KernelIdeal.main_call0.v41 Cert.KernelIdeal.main_call0.v60 Cert.KernelIdeal.main_call0.v59 Cert.KernelIdeal.main_call0.call5) (Cert.ReferenceIdeal.fn_threefry2x32_1.body (F := F) Cert.ReferenceIdeal.main_call0.v39 Cert.ReferenceIdeal.main_call0.v41 Cert.ReferenceIdeal.main_call0.v60 Cert.ReferenceIdeal.main_call0.v59 Cert.ReferenceIdeal.main_call0.call5)
      (pure ⟨⟩) (pure ⟨⟩) 552 774 (fun _ => True) := by
  unfold Cert.KernelIdeal.fn_threefry2x32_1.body; try unfold Cert.ReferenceIdeal.fn_threefry2x32_1.body
  refine Both.skip (mid := 612) (P := (fun _ => True)) ?_ (Both.skip (mid := 672) (P := (fun _ => True)) ?_ (Both.skip (mid := 732) (P := (fun _ => True)) ?_ ?_))
  all_goals first
    | unfold Cert.KernelIdeal.fn_threefry2x32_1.body_part0; try unfold Cert.ReferenceIdeal.fn_threefry2x32_1.body_part0
    | unfold Cert.KernelIdeal.fn_threefry2x32_1.body_part1; try unfold Cert.ReferenceIdeal.fn_threefry2x32_1.body_part1
    | unfold Cert.KernelIdeal.fn_threefry2x32_1.body_part2; try unfold Cert.ReferenceIdeal.fn_threefry2x32_1.body_part2
    | unfold Cert.KernelIdeal.fn_threefry2x32_1.body_part3; try unfold Cert.ReferenceIdeal.fn_threefry2x32_1.body_part3
  all_goals repeat' first
    | with_reducible exact Both.stop (by decide +kernel)
    | with_reducible refine Both.drop (by first
        | exact Pair.binary (by decide +kernel) (by decide +kernel) (by decide +kernel)
        | exact Pair.unary (by decide +kernel) (by decide +kernel)
        | exact Pair.nullary (by decide +kernel)
        | exact Pair.reshape (by decide +kernel) (by decide +kernel)
        | exact Pair.ternary (by decide +kernel) (by decide +kernel) (by decide +kernel) (by decide +kernel)) ?_
    | (fail_if_success with_reducible refine Both.bind ?_ ?_); with_reducible refine Both.last ?_

end Cert.Proof.HostIdeal
-- ==== Proof.DrawIdeal.lean ====
module

public import proofs.«01_k».proof.Proof.HostIdeal

/-! # The random offsets are below 8192

The draw's last stretch, its equations kept. -/

@[expose] public section

noncomputable section

namespace Cert.Proof.HostIdeal

open Idealize.ShloMosaic Idealize.ShloMosaic.StableHlo Idealize.SL.Sem Cert.Proof.HostLine

open Cert.KernelIdeal (main_call0 main_c_2 main_c_3)

variable {F : FTy → Type} [FloatOps F]

set_option maxRecDepth 4000

set_option maxHeartbeats 4000000

/-- A number as the one element of a rank-0 array of words. -/
abbrev word (v : BitVec 32) : (⟨Cert.KernelIdeal.S_, .i32⟩ : BufTy).Contents (Elt F) := constantI Cert.KernelIdeal.S_ 32 v

/-- The upper end of the range clipped to a word's range does not exceed the largest word, and the range's ends clipped are the ends. -/
theorem clipped {lo hi c c0 c1 a b c2 c3 d e v3 c4 c5 f g v5 : (⟨Cert.KernelIdeal.S_, .i32⟩ : BufTy).Contents (Elt F)}
    {v1 : (⟨Cert.KernelIdeal.S_, .i1⟩ : BufTy).Contents (Elt F)} {v6 v7 : (⟨Cert.KernelIdeal.S1x1x1x1, .i32⟩ : BufTy).Contents (Elt F)}
    (hlo : lo = word 0) (hhi : hi = word 8192) (ec : c = constantI Cert.KernelIdeal.S_ 32 2147483647#32) (ec0 : c0 = constantI Cert.KernelIdeal.S_ 32 2147483648#32)
    (ec1 : c1 = constantI Cert.KernelIdeal.S_ 32 2147483647#32) (ea : a = maxsi c0 c) (eb : b = minsi c1 a) (ev1 : v1 = cmpi .sgt hi b)
    (ec2 : c2 = constantI Cert.KernelIdeal.S_ 32 2147483648#32) (ec3 : c3 = constantI Cert.KernelIdeal.S_ 32 2147483647#32)
    (ed : d = maxsi c2 lo) (ee : e = minsi c3 d) (e3 : v3 = id e) (ec4 : c4 = constantI Cert.KernelIdeal.S_ 32 2147483648#32)
    (ec5 : c5 = constantI Cert.KernelIdeal.S_ 32 2147483647#32) (ef : f = maxsi c4 hi) (eg : g = minsi c5 f) (e5 : v5 = id g)
    (e6 : v6 = broadcastInDim Cert.KernelIdeal.S1x1x1x1 ![] Cert.KernelIdeal.Facts₀.bcast_S_S1x1x1x1 v3)
    (e7 : v7 = broadcastInDim Cert.KernelIdeal.S1x1x1x1 ![] Cert.KernelIdeal.Facts₀.bcast_S_S1x1x1x1 v5) :
    v1 = constantI Cert.KernelIdeal.S_ 1 0 ∧ v6 = constantI Cert.KernelIdeal.S1x1x1x1 32 0 ∧ v7 = constantI Cert.KernelIdeal.S1x1x1x1 32 8192 := by
  subst e7 e6 e5 eg ef e3 ee ed ev1 eb ea ec ec0 ec1 ec2 ec3 ec4 ec5 hlo hhi
  refine ⟨funext fun _ => ?_, funext fun _ => ?_, funext fun _ => ?_⟩
  · show IntOp.cmpi .sgt (8192 : BitVec 32) (IntOp.minsi 2147483647#32 (IntOp.maxsi 2147483648#32 2147483647#32)) = 0
    decide
  · show IntOp.minsi 2147483647#32 (IntOp.maxsi 2147483648#32 (0 : BitVec 32)) = 0
    decide
  · show IntOp.minsi 2147483647#32 (IntOp.maxsi 2147483648#32 (8192 : BitVec 32)) = 8192
    decide

/-- The range's length is 8192, and a remainder by it added to the range's lower end is below 8192. -/
theorem drawn {v1 : (⟨Cert.KernelIdeal.S_, .i1⟩ : BufTy).Contents (Elt F)} {c16 c17 : (⟨Cert.KernelIdeal.S_, .i32⟩ : BufTy).Contents (Elt F)}
    {v6 v7 v63 v64 v66 v67 v71 v72 v73 : (⟨Cert.KernelIdeal.S1x1x1x1, .i32⟩ : BufTy).Contents (Elt F)}
    {v65 v68 v69 v70 : (⟨Cert.KernelIdeal.S1x1x1x1, .i1⟩ : BufTy).Contents (Elt F)}
    {v84 v85 v86 v87 v88 v89 : (⟨Cert.KernelIdeal.S16x4x1x1, .i32⟩ : BufTy).Contents (Elt F)}
    (h1 : v1 = constantI Cert.KernelIdeal.S_ 1 0) (h6 : v6 = constantI Cert.KernelIdeal.S1x1x1x1 32 0) (h7 : v7 = constantI Cert.KernelIdeal.S1x1x1x1 32 8192)
    (e63 : v63 = subi v7 v6) (e64 : v64 = id v63) (e65 : v65 = cmpi .sle v7 v6) (ec16 : c16 = constantI Cert.KernelIdeal.S_ 32 1#32)
    (e66 : v66 = broadcastInDim Cert.KernelIdeal.S1x1x1x1 ![] Cert.KernelIdeal.Facts₀.bcast_S_S1x1x1x1 c16) (e67 : v67 = select v65 v66 v64)
    (e68 : v68 = cmpi .sgt v7 v6) (e69 : v69 = broadcastInDim Cert.KernelIdeal.S1x1x1x1 ![] Cert.KernelIdeal.Facts₀.bcast_S_S1x1x1x1 v1)
    (e70 : v70 = andi v69 v68) (ec17 : c17 = constantI Cert.KernelIdeal.S_ 32 1#32)
    (e71 : v71 = broadcastInDim Cert.KernelIdeal.S1x1x1x1 ![] Cert.KernelIdeal.Facts₀.bcast_S_S1x1x1x1 c17) (e72 : v72 = addi v67 v71)
    (e73 : v73 = select v70 v72 v67)
    (e85 : v85 = broadcastInDim Cert.KernelIdeal.S16x4x1x1 ![0, 1, 2, 3] Cert.KernelIdeal.Facts₀.bcast_S1x1x1x1_S16x4x1x1_0_1_2_3 v73)
    (e86 : v86 = Host.remui v84 v85) (e87 : v87 = id v86)
    (e88 : v88 = broadcastInDim Cert.KernelIdeal.S16x4x1x1 ![0, 1, 2, 3] Cert.KernelIdeal.Facts₀.bcast_S1x1x1x1_S16x4x1x1_0_1_2_3 v6)
    (e89 : v89 = addi v88 v87) (i : Cert.KernelIdeal.S16x4x1x1.Idx) : (v89 i : BitVec 32).toNat < 8192 := by
  have h73 : v73 = constantI Cert.KernelIdeal.S1x1x1x1 32 8192 := by
    subst e73 e72 e71 ec17 e70 e69 e68 e67 e66 ec16 e65 e64 e63 h7 h6 h1
    funext _
    show Scalar.select (IntOp.andi (0 : BitVec 1) (IntOp.cmpi .sgt (8192 : BitVec 32) 0))
      (IntOp.addi (Scalar.select (IntOp.cmpi .sle (8192 : BitVec 32) 0) (1 : BitVec 32) (IntOp.subi (8192 : BitVec 32) 0)) 1)
      (Scalar.select (IntOp.cmpi .sle (8192 : BitVec 32) 0) (1 : BitVec 32) (IntOp.subi (8192 : BitVec 32) 0)) = 8192
    decide
  clear e63 e64 e65 e66 e67 e68 e69 e70 e71 e72 e73
  subst e89 e88 e87 e86 e85 h73 h6
  show ((0#32 : BitVec 32) + IntOp.remui .host (v84 i : BitVec 32) 8192).toNat < _
  rw [IntOp.remui, if_neg (by decide), BitVec.zero_add, BitVec.toNat_umod]
  exact Nat.mod_lt _ (by decide)

/-- The draw's first half: it leaves the bounds clipped to the words' range, and whether the upper one exceeds it. -/
theorem draw_part0 : Both (Cert.KernelIdeal.fn_randint.body_part0 (F := F) (.of Cert.KernelIdeal.main_v6) (.of Cert.KernelIdeal.main_c_2) (.of Cert.KernelIdeal.main_c_3) Cert.KernelIdeal.main_call0)
      (Cert.ReferenceIdeal.fn_randint.body_part0 (F := F) (.of Cert.ReferenceIdeal.main_v6) (.of Cert.ReferenceIdeal.main_c_2) (.of Cert.ReferenceIdeal.main_c_3) Cert.ReferenceIdeal.main_call0)
      (pure ⟨⟩) (pure ⟨⟩) 13 534
      (fun W => rd W (.of main_c_2) = word (F := F) 0 → rd W (.of main_c_3) = word (F := F) 8192 →
        rd W main_call0.v1 = constantI Cert.KernelIdeal.S_ 1 0 ∧ rd W main_call0.v6 = constantI Cert.KernelIdeal.S1x1x1x1 32 0
          ∧ rd W main_call0.v7 = constantI Cert.KernelIdeal.S1x1x1x1 32 8192) := by
  apply Both.mono
  case h =>
    unfold Cert.KernelIdeal.fn_randint.body_part0; try unfold Cert.ReferenceIdeal.fn_randint.body_part0
    repeat' first
      | with_reducible apply Both.assoc
      | with_reducible apply Both.ret
      | with_reducible apply Both.cons
      | exact Pair.binary (by decide +kernel) (by decide +kernel) (by decide +kernel)
      | exact Pair.unary (by decide +kernel) (by decide +kernel)
      | exact Pair.nullary (by decide +kernel)
      | exact Pair.ternary (by decide +kernel) (by decide +kernel) (by decide +kernel) (by decide +kernel)
      | unfold Cert.KernelIdeal.fn_clip.body; try unfold Cert.ReferenceIdeal.fn_clip.body
      | unfold Cert.KernelIdeal.fn_clip_0.body; try unfold Cert.ReferenceIdeal.fn_clip_0.body
    with_reducible refine Both.skip (P' := fun _ => True) split ?_
    repeat' first
      | with_reducible refine Both.drop (by first
        | exact Pair.binary (by decide +kernel) (by decide +kernel) (by decide +kernel)
        | exact Pair.unary (by decide +kernel) (by decide +kernel)
        | exact Pair.nullary (by decide +kernel)
        | exact Pair.reshape (by decide +kernel) (by decide +kernel)
        | exact Pair.ternary (by decide +kernel) (by decide +kernel) (by decide +kernel) (by decide +kernel)) ?_
      | with_reducible refine Both.skip cipher1 ?_
      | with_reducible exact Both.stop (by decide +kernel)
      | (fail_if_success with_reducible refine Both.bind ?_ ?_); with_reducible refine Both.last ?_
  case hP =>
    rintro W ⟨ec, ec0, ec1, ea, eb, ev1, ec2, ec3, ed, ee, e3, ec4, ec5, ef, eg, e5, e6, e7, -⟩ hlo hhi
    exact clipped hlo hhi ec ec0 ec1 ea eb ev1 ec2 ec3 ed ee e3 ec4 ec5 ef eg e5 e6 e7

/-- The draw's second half ends with a remainder by the range's length. -/
theorem draw_part1 : Both (Cert.KernelIdeal.fn_randint.body_part1 (F := F) (.of Cert.KernelIdeal.main_v6) (.of Cert.KernelIdeal.main_c_2) (.of Cert.KernelIdeal.main_c_3) Cert.KernelIdeal.main_call0)
      (Cert.ReferenceIdeal.fn_randint.body_part1 (F := F) (.of Cert.ReferenceIdeal.main_v6) (.of Cert.ReferenceIdeal.main_c_2) (.of Cert.ReferenceIdeal.main_c_3) Cert.ReferenceIdeal.main_call0)
      (pure ⟨⟩) (pure ⟨⟩) 534 805
      (fun W => rd W main_call0.v1 = constantI Cert.KernelIdeal.S_ 1 0 → rd W main_call0.v6 = constantI Cert.KernelIdeal.S1x1x1x1 32 0 →
        rd W main_call0.v7 = constantI Cert.KernelIdeal.S1x1x1x1 32 8192 → ∀ i, (rd W main_call0.v89 i : BitVec 32).toNat < 8192) := by
  apply Both.mono
  case h =>
    unfold Cert.KernelIdeal.fn_randint.body_part1; try unfold Cert.ReferenceIdeal.fn_randint.body_part1
    iterate 18
      with_reducible apply Both.drop
      on_goal 1 => first
        | exact Pair.binary (by decide +kernel) (by decide +kernel) (by decide +kernel)
        | exact Pair.unary (by decide +kernel) (by decide +kernel)
        | exact Pair.nullary (by decide +kernel)
    with_reducible apply Both.skip
    on_goal 1 => exact cipher2
    repeat' first
      | with_reducible apply Both.cons
      | exact Pair.binary (by decide +kernel) (by decide +kernel) (by decide +kernel)
      | exact Pair.unary (by decide +kernel) (by decide +kernel)
      | exact Pair.nullary (by decide +kernel)
      | exact Pair.ternary (by decide +kernel) (by decide +kernel) (by decide +kernel) (by decide +kernel)
      | with_reducible exact Both.stop (by decide +kernel)
      | (fail_if_success with_reducible apply Both.bind); with_reducible apply Both.last
  case hP =>
    rintro W ⟨-, e63, e64, e65, ec16, e66, e67, e68, e69, e70, ec17, e71, e72, e73, -, -, -, -, -, -, -, -, -, -, -, -, e85, e86, e87, e88, e89, -⟩ h1 h6 h7 i
    exact drawn h1 h6 h7 e63 e64 e65 ec16 e66 e67 e68 e69 e70 ec17 e71 e72 e73 e85 e86 e87 e88 e89 i

end Cert.Proof.HostIdeal
-- ==== Proof.MainIdeal.lean ====
module

public import proofs.«01_k».proof.Proof.DrawIdeal
public import proofs.«01_k».proof.Proof.RefLine

/-! # The kernel's host program as a line of operations

The host program is its constants, the draw, the layout of the offsets and of the waveforms, the SparseCore call, and a
reshape of its result.  The line before the call leaves the waveforms as 128 rows, and every row's offset, below 8192. -/

@[expose] public section

noncomputable section

namespace Cert.Proof.MainIdeal

open Idealize.ShloMosaic Idealize.ShloMosaic.StableHlo Idealize.SL.Sem Cert.Proof.HostLine
open Cert.KernelIdeal Cert.KernelIdeal.Facts₀ Cert.KernelIdeal.Facts

variable {F : FTy → Type} [FloatOps F]

set_option maxRecDepth 4000

set_option maxHeartbeats 4000000

/-- The call and what follows it. -/
def last (d : Dev nD) : Prog (TpuEff nD τ sig (Elt F) (SparseCore.Sig (Pipeline.Sig Λ₀ (Fin 0) fun p => (pcfgs (F := F) p).Adm) 1) .tc) PUnit := do
  sc.run d 0
  hlo rfl (StableHlo.reshape main_v13 main_v14 (rfl : (.f32 : EltTy) = .f32) shapeCasts_S128x122880_S16x4x2x122880) (fun _ => .ret ⟨⟩)
  pure ⟨⟩

/-- The host program after its draw. -/
def rest (d : Dev nD) : Prog (TpuEff nD τ sig (Elt F) (SparseCore.Sig (Pipeline.Sig Λ₀ (Fin 0) fun p => (pcfgs (F := F) p).Adm) 1) .tc) PUnit := do
  hlo rfl (TRef.reshape (.of main_v7 : TRef sig ⟨S16x4x1x1, .i32⟩) (.of main_v8 : TRef sig ⟨S64x1, .i32⟩) (rfl : (.i32 : EltTy) = .i32) shapeCasts_S16x4x1x1_S64x1) (fun _ => .ret ⟨⟩)
  hlo rfl (TRef.unary (.of main_v8 : TRef sig ⟨S64x1, .i32⟩) (.of main_v9 : TRef sig ⟨S64x2, .i32⟩) (broadcastInDim S64x2 ![0, 1] bcast_S64x1_S64x2_0_1)) (fun _ => .ret ⟨⟩)
  hlo rfl (TRef.reshape (.of main_v9 : TRef sig ⟨S64x2, .i32⟩) (.of main_v10 : TRef sig ⟨S128, .i32⟩) (rfl : (.i32 : EltTy) = .i32) shapeCasts_S64x2_S128) (fun _ => .ret ⟨⟩)
  hlo rfl (TRef.nullary (.of main_c_4 : TRef sig ⟨S_, .i32⟩) (constantI S_ 32 0#32)) (fun _ => .ret ⟨⟩)
  fn_pad.body (.of main_v10) (.of main_c_4) main_call1
  hlo rfl (TRef.reshape (.of main_arg0 : TRef sig ⟨S16x4x2x131072, .f32⟩) (.of main_v12 : TRef sig ⟨S128x131072, .f32⟩) (rfl : (.f32 : EltTy) = .f32) shapeCasts_S16x4x2x131072_S128x131072) (fun _ => .ret ⟨⟩)
  last d

/-- The host program, its lines typed. -/
def opening (d : Dev nD) : Prog (TpuEff nD τ sig (Elt F) (SparseCore.Sig (Pipeline.Sig Λ₀ (Fin 0) fun p => (pcfgs (F := F) p).Adm) 1) .tc) PUnit := do
  hlo rfl (TRef.nullary (.of main_c : TRef sig ⟨S_, .i32⟩) (constantI S_ 32 42#32)) (fun _ => .ret ⟨⟩)
  hlo rfl (TRef.nullary (.of main_c_0 : TRef sig ⟨S_, .i32⟩) (constantI S_ 32 32#32)) (fun _ => .ret ⟨⟩)
  hlo rfl (TRef.binary (.of main_c : TRef sig ⟨S_, .i32⟩) (.of main_c_0 : TRef sig ⟨S_, .i32⟩) (.of main_v0 : TRef sig ⟨S_, .i32⟩) Host.shrui) (fun _ => .ret ⟨⟩)
  hlo rfl (TRef.unary (.of main_v0 : TRef sig ⟨S_, .i32⟩) (.of main_v1 : TRef sig ⟨S_, .i32⟩) id) (fun _ => .ret ⟨⟩)
  hlo rfl (TRef.unary (.of main_v1 : TRef sig ⟨S_, .i32⟩) (.of main_v2 : TRef sig ⟨S1, .i32⟩) (broadcastInDim S1 ![] bcast_S_S1)) (fun _ => .ret ⟨⟩)
  hlo rfl (TRef.nullary (.of main_c_1 : TRef sig ⟨S_, .i32⟩) (constantI S_ 32 4294967295#32)) (fun _ => .ret ⟨⟩)
  hlo rfl (TRef.binary (.of main_c : TRef sig ⟨S_, .i32⟩) (.of main_c_1 : TRef sig ⟨S_, .i32⟩) (.of main_v3 : TRef sig ⟨S_, .i32⟩) andi) (fun _ => .ret ⟨⟩)
  hlo rfl (TRef.unary (.of main_v3 : TRef sig ⟨S_, .i32⟩) (.of main_v4 : TRef sig ⟨S_, .i32⟩) id) (fun _ => .ret ⟨⟩)
  hlo rfl (TRef.unary (.of main_v4 : TRef sig ⟨S_, .i32⟩) (.of main_v5 : TRef sig ⟨S1, .i32⟩) (broadcastInDim S1 ![] bcast_S_S1)) (fun _ => .ret ⟨⟩)
  hlo rfl (TRef.binary (.of main_v2 : TRef sig ⟨S1, .i32⟩) (.of main_v5 : TRef sig ⟨S1, .i32⟩) (.of main_v6 : TRef sig ⟨S2, .i32⟩) (fun a b => concatenate S2 0 [⟨S1, a⟩, ⟨S1, b⟩] concatenates_S1_S1_S2_d0)) (fun _ => .ret ⟨⟩)
  hlo rfl (TRef.nullary (.of main_c_2 : TRef sig ⟨S_, .i32⟩) (constantI S_ 32 0#32)) (fun _ => .ret ⟨⟩)
  hlo rfl (TRef.nullary (.of main_c_3 : TRef sig ⟨S_, .i32⟩) (constantI S_ 32 8192#32)) (fun _ => .ret ⟨⟩)
  fn_randint.body (.of main_v6) (.of main_c_2) (.of main_c_3) main_call0
  rest d

/-- The host program is that. -/
theorem main_eq (d : Dev nD) : main (F := F) d = opening d := rfl

/-- The two programs up to the end of their draws: they leave equal arrays, and offsets below 8192. -/
theorem draw_lines (d : Dev nD) (d' : Dev Cert.ReferenceIdeal.nD) :
    Both (opening (F := F) d) (Cert.Proof.RefLine.opening (F := F) d') (rest d) (Cert.Proof.RefLine.rest d') 1 805
      (fun W => ∀ i, (rd W (.of main_v7 : TRef sig ⟨S16x4x1x1, .i32⟩) i : BitVec 32).toNat < 8192) := by
  apply Both.mono
  case h =>
    unfold opening; try unfold Cert.Proof.RefLine.opening
    iterate 12
      with_reducible apply Both.cons
      on_goal 1 => first
        | exact Pair.binary (by decide +kernel) (by decide +kernel) (by decide +kernel)
        | exact Pair.unary (by decide +kernel) (by decide +kernel)
        | exact Pair.nullary (by decide +kernel)
    unfold Cert.KernelIdeal.fn_randint.body; try unfold Cert.ReferenceIdeal.fn_randint.body
    with_reducible apply Both.assoc
    with_reducible apply Both.bind
    on_goal 1 => exact Cert.Proof.HostIdeal.draw_part0
    with_reducible apply Both.bind
    on_goal 1 => exact Cert.Proof.HostIdeal.draw_part1
    exact Both.done
  case hP =>
    rintro W ⟨-, -, -, -, -, -, -, -, -, -, e2, e3, h0, h1, -⟩
    obtain ⟨a, b, c⟩ := h0 e2 e3
    exact h1 a b c

/-- The layout of the offsets, each twice (one per channel) and 16 zeroes after them, and of the waveforms. -/
theorem layout_lines (d : Dev nD) : Both (rest (F := F) d) (rest (F := F) d) (last d) (last d) 805 812 (fun W =>
    ∃ (v8 : (⟨S64x1, .i32⟩ : BufTy).Contents (Elt F)) (v10 : (⟨S128, .i32⟩ : BufTy).Contents (Elt F)),
      v8 = shapeCast S64x1 (rd W (.of main_v7 : TRef sig ⟨S16x4x1x1, .i32⟩) : S16x4x1x1.Idx → BitVec 32) shapeCasts_S16x4x1x1_S64x1
      ∧ v10 = shapeCast S128 (broadcastInDim S64x2 ![0, 1] bcast_S64x1_S64x2_0_1 v8) shapeCasts_S64x2_S128
      ∧ rd W (.of main_v11 : TRef sig ⟨S144, .i32⟩) = pad S144 ![0] ![16] ![0] v10 (constantI S_ 32 0#32) pads_S128_S144_0160 h_S_
      ∧ rd W (.of main_v12 : TRef sig ⟨S128x131072, .f32⟩)
        = shapeCast S128x131072 (rd W (.of main_arg0 : TRef sig ⟨S16x4x2x131072, .f32⟩) : S16x4x2x131072.Idx → Elt F .f32) shapeCasts_S16x4x2x131072_S128x131072) := by
  apply Both.mono
  case h =>
    unfold rest
    repeat' first
      | with_reducible apply Both.assoc
      | with_reducible apply Both.ret
      | with_reducible apply Both.cons
      | unfold fn_pad.body
      | exact Pair.binary (by decide +kernel) (by decide +kernel) (by decide +kernel)
      | exact Pair.unary (by decide +kernel) (by decide +kernel)
      | exact Pair.nullary (by decide +kernel)
      | exact Pair.reshape (by decide +kernel) (by decide +kernel)
      | with_reducible exact Both.stop (by decide +kernel)
  case hP =>
    rintro W ⟨e8, e9, e10, e4, p0, e11, e12, -⟩
    exact ⟨_, _, e8, e10.trans (congrArg (fun x => shapeCast S128 x shapeCasts_S64x2_S128) e9),
      e11.trans (congrArg (fun x => pad S144 ![0] ![16] ![0] (rd W (.of main_v10 : TRef sig ⟨S128, .i32⟩)) x pads_S128_S144_0160 h_S_) (p0.trans e4)), e12⟩

end Cert.Proof.MainIdeal
-- ==== Proof.RunIdeal.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.BodyIdeal
public import proofs.«01_k».proof.Proof.DealIdeal
public import proofs.«01_k».proof.Proof.MainIdeal
public import Idealize.ShloMosaic.Lib.Pipeline.FrameTail
public import Idealize.ShloMosaic.Lib.Pipeline.Value

@[expose] public section

noncomputable section

namespace Cert.Proof.RunIdeal

open Cert.KernelIdeal Cert.KernelIdeal.Gen

open Cert.Proof.TileIdeal Cert.Proof.ValIdeal Cert.Proof.BodyIdeal Cert.Proof.DealIdeal
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "wV" => (Memref.whole Cert.KernelIdeal.main_v12_scv : Memref Cert.KernelIdeal.sig Kind.scVector Space.hbm Cert.KernelIdeal.S128x131072 EltTy.f32)
local notation "tV" => (Memref.whole Cert.KernelIdeal.main_v11_scv : Memref Cert.KernelIdeal.sig Kind.scVector Space.hbm Cert.KernelIdeal.S144 EltTy.i32)
local notation "oV" => (Memref.whole Cert.KernelIdeal.main_v13_scv : Memref Cert.KernelIdeal.sig Kind.scVector Space.hbm Cert.KernelIdeal.S128x122880 EltTy.f32)
local notation "sT" => (Memref.whole Cert.KernelIdeal.cc0_scratch0 : Memref Cert.KernelIdeal.sig Kind.scVector Space.vmem Cert.KernelIdeal.S144 EltTy.i32)
local notation "sI" => (Memref.whole Cert.KernelIdeal.cc0_scratch1 : Memref Cert.KernelIdeal.sig Kind.scVector Space.vmem Cert.KernelIdeal.S30728 EltTy.f32)
local notation "sO" => (Memref.whole Cert.KernelIdeal.cc0_scratch2 : Memref Cert.KernelIdeal.sig Kind.scVector Space.vmem Cert.KernelIdeal.S30720 EltTy.f32)

variable [FloatOps F]
variable (m : (ℓ : Loc nD τ sig) → Buf (Elt F) ℓ) (ρ : Dev nD → PrngReg)
variable (A : Dev nD → Valuation τ sig (Elt F))

/-! The launch. `A d` is the contents of device `d`'s arrays when its host program reaches the call. -/

abbrev wAt (d : Dev nD) : Buf (Elt F) (wLoc d) := A d (Proc.devRef .tc main_v12)
abbrev tAt (d : Dev nD) : Buf (Elt F) (tLoc d) := A d (Proc.devRef .tc main_v11)
abbrev oAt (d : Dev nD) : Buf (Elt F) (oLoc d) := A d (Proc.devRef .tc main_v13)
/-- The shifted rows of the arrays at the call. -/
abbrev sAt (d : Dev nD) : Buf (Elt F) (oLoc d) := shifted d (wAt A d) (tAt A d)

/-- What one task takes, its pieces of the output as they were, and what it brings back, the pieces shifted. -/
abbrev takes (d : Dev nD) (c : Fin ((K (F := F)).nCore 0)) (i : Fin ((K (F := F)).nSub 0)) : sProp 𝕄 :=
  handed d (wAt A d) (tAt A d) (oAt A d) (Fin.cast nCore_zero c) (Fin.cast nSub_zero i)
abbrev brings (d : Dev nD) (c : Fin ((K (F := F)).nCore 0)) (i : Fin ((K (F := F)).nSub 0)) : sProp 𝕄 :=
  handed d (wAt A d) (tAt A d) (sAt A d) (Fin.cast nCore_zero c) (Fin.cast nSub_zero i)

/-- A SparseCore takes and brings back what its sixteen tasks do. -/
def P : (K (F := F)).Pay (nD := nD) (Val := Elt F) (Name := ℕ) (U := UU) where
  st := fun q d c => match q with | 0 => bigSep Finset.univ fun i => takes A d c i
  dn := fun q d c => match q with | 0 => bigSep Finset.univ fun i => brings A d c i
  go := fun q d c i => match q with | 0 => takes A d c i
  td := fun q d c i => match q with | 0 => brings A d c i
  x := fun _ _ => iprop(emp)

instance P_storable : (P A).IsStorable where
  st q d c := match q with
    | 0 => (inferInstance : BI.Storable (upEmb : UEmb _ 𝕄) (bigSep Finset.univ fun i => takes A d c i))
  dn q d c := match q with
    | 0 => (inferInstance : BI.Storable (upEmb : UEmb _ 𝕄) (bigSep Finset.univ fun i => brings A d c i))
  go q d c i := match q with
    | 0 => (inferInstance : BI.Storable (upEmb : UEmb _ 𝕄) (takes A d c i))
  td q d c i := match q with
    | 0 => (inferInstance : BI.Storable (upEmb : UEmb _ 𝕄) (brings A d c i))

theorem vecSplit : (K (F := F)).VecSplit' (P A) 0 := by
  intro d c
  show (bigSep Finset.univ fun i => takes A d c i) ⊢ |={Set.univ}=> iprop(
      (bigSep Finset.univ fun i => takes A d c i)
      ∗ ((bigSep Finset.univ fun i => brings A d c i) -∗ (bigSep Finset.univ fun i => brings A d c i)))
  iintro H; imodintro
  isplitl [H]; · iexact H
  iintro H; iexact H

theorem defs₀_vector (c : Fin τ.nSC) (s : Fin τ.nSub) :
    defs₀ (F := F) (.scVector c s) 0 ()
      = SparseCore.onTile hcore0 hsub0 (fun c s => cc0_shift_kernel (coordsV c s)
          wV (Memref.isWhole_whole _) tV (Memref.isWhole_whole _) oV (Memref.isWhole_whole _)
          sT (Memref.isWhole_whole _) sI (Memref.isWhole_whole _) sO (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32) ⟨⟩ c s := rfl

theorem tileObl (hF : (K (F := F)).Facts) (hlt : ∀ d R, (wordAt d (tAt A d) R).toNat < 8192) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (wAt A d) (tAt A d) (oAt A d) (hlt d) _ _ O W hO

/-! ## The launch's element -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P A).x q thr) = bigSep Finset.univ fun _ => iprop(emp) from
    bigSep_congr fun _ _ => bigSep_univ_of_subsingleton (0 : Fin 1), emps]
  iempintro

/-! ## The host program -/

abbrev aRef : DevRef τ sig := Proc.devRef .tc main_arg0
abbrev tRef : DevRef τ sig := Proc.devRef .tc main_v11
abbrev wRef : DevRef τ sig := Proc.devRef .tc main_v12
abbrev oRef : DevRef τ sig := Proc.devRef .tc main_v13
abbrev yRef : DevRef τ sig := Proc.devRef .tc main_v14

theorem w_ne_t : wRef ≠ tRef := fun e => absurd (Proc.devRef_injective _ e) (show (main_v12 : Ref sig .tc) ≠ main_v11 by decide)
theorem w_ne_o : wRef ≠ oRef := fun e => absurd (Proc.devRef_injective _ e) (show (main_v12 : Ref sig .tc) ≠ main_v13 by decide)
theorem t_ne_o : tRef ≠ oRef := fun e => absurd (Proc.devRef_injective _ e) (show (main_v11 : Ref sig .tc) ≠ main_v13 by decide)
theorem a_ne_o : aRef ≠ oRef := fun e => absurd (Proc.devRef_injective _ e) (show (main_arg0 : Ref sig .tc) ≠ main_v13 by decide)
theorem a_ne_y : aRef ≠ yRef := fun e => absurd (Proc.devRef_injective _ e) (show (main_arg0 : Ref sig .tc) ≠ main_v14 by decide)

/-- The three arrays the call takes. -/
abbrev calls : Finset (DevRef τ sig) := {wRef, tRef, oRef}
/-- The argument and the result. -/
abbrev ends : Finset (DevRef τ sig) := {aRef, yRef}

theorem calls_sub : calls ⊆ Pipeline.ucRefs τ sig := by
  intro b hb
  simp only [calls, Finset.mem_insert, Finset.mem_singleton] at hb
  rcases hb with rfl | rfl | rfl <;> exact Pipeline.devRef_mem_ucRefs rfl

theorem ends_sub : ends ⊆ Pipeline.ucRefs τ sig := by
  intro b hb
  simp only [ends, Finset.mem_insert, Finset.mem_singleton] at hb
  rcases hb with rfl | rfl <;> exact Pipeline.devRef_mem_ucRefs rfl

theorem held_calls (d : Dev nD) (W : Valuation τ sig (Elt F)) :
    (StableHlo.held (d.tc : Thread nD τ) calls W : sProp 𝕄)
      = iprop((wLoc d ↦{fullShare} W wRef) ∗ (tLoc d ↦{fullShare} W tRef) ∗ (oLoc d ↦{fullShare} W oRef)) := by
  unfold StableHlo.held
  rw [SparseCore.bigSep_insert' (by simp [w_ne_t, w_ne_o]), SparseCore.bigSep_insert' (by simp [t_ne_o]), bigSep_singleton]

abbrev aLoc (d : Dev nD) : Loc nD τ sig := (SparseCore.T d).loc main_arg0
abbrev yLoc (d : Dev nD) : Loc nD τ sig := (SparseCore.T d).loc main_v14

theorem held_ends (d : Dev nD) (W : Valuation τ sig (Elt F)) :
    (StableHlo.held (d.tc : Thread nD τ) ends W : sProp 𝕄)
      = iprop((aLoc d ↦{fullShare} W aRef) ∗ (yLoc d ↦{fullShare} W yRef)) := by
  unfold StableHlo.held
  rw [SparseCore.bigSep_insert' (by simp [a_ne_y]), bigSep_singleton]

/-- The arrays after the call: the output shifted, the rest as they were. -/
def called (d : Dev nD) : Valuation τ sig (Elt F) := Function.update (A d) oRef (sAt A d)

theorem called_o (d : Dev nD) : called A d oRef = sAt A d := Function.update_self ..
theorem called_ne (d : Dev nD) {b : DevRef τ sig} (h : b ≠ oRef) : called A d b = A d b := Function.update_of_ne h ..

/-- The line of the host program after the call. -/
abbrev shapes : HloOp τ sig (Elt F) :=
  StableHlo.reshape main_v13 main_v14 (rfl : (.f32 : EltTy) = .f32) shapeCasts_S128x122880_S16x4x2x122880

/-- The result: the shifted rows, at the argument's layout. -/
abbrev yAt (d : Dev nD) : Buf (Elt F) (yLoc d) := shapeCast S16x4x2x122880 (sAt A d : S128x122880.Idx → Elt F .f32) shapeCasts_S128x122880_S16x4x2x122880

theorem final_y (d : Dev nD) : (shapes (F := F)).result (called A d) yRef = yAt A d := by
  refine (StableHlo.reshape_result main_v13 main_v14 _ _ _ _ _).trans ?_
  rw [called_o]; rfl

theorem final_a (d : Dev nD) : (shapes (F := F)).result (called A d) aRef = A d aRef :=
  (StableHlo.reshape_result_ne (r := main_arg0) _ _ _ _ _ _ _ (by decide)).trans (called_ne A d a_ne_o)

abbrev FIN (d : Dev nD) : sProp 𝕄 := iprop((aLoc d ↦{fullShare} A d aRef) ∗ (yLoc d ↦{fullShare} yAt A d))

theorem st0_eq (d : Dev nD) :
    (bigSep Finset.univ fun c : Fin ((K (F := F)).nCore 0) => (P A).st 0 d c)
      = (bigSep Finset.univ fun c : Fin 2 => bigSep Finset.univ fun i : Fin 16 => handed d (wAt A d) (tAt A d) (oAt A d) c i : sProp 𝕄) := rfl
theorem dn0_eq (d : Dev nD) :
    (bigSep Finset.univ fun c : Fin ((K (F := F)).nCore 0) => (P A).dn 0 d c)
      = (bigSep Finset.univ fun c : Fin 2 => bigSep Finset.univ fun i : Fin 16 => handed d (wAt A d) (tAt A d) (sAt A d) c i : sProp 𝕄) := rfl

/-- The arrays after the call, put together again. -/
theorem rejoin (d : Dev nD) :
    (iprop(((wLoc d ↦{fullShare} wAt A d) ∗ (tLoc d ↦{fullShare} tAt A d) ∗ (oLoc d ↦{fullShare} sAt A d))
        ∗ StableHlo.held (d.tc : Thread nD τ) (Pipeline.ucRefs τ sig \ calls) (A d)) : sProp 𝕄)
      = StableHlo.held (d.tc : Thread nD τ) (Pipeline.ucRefs τ sig) (called A d) := by
  rw [StableHlo.held_sub_split _ calls_sub (called A d), held_calls, called_o, called_ne A d w_ne_o, called_ne A d t_ne_o,
    StableHlo.held_congr (V := called A d) (V' := A d) _ fun b hb => called_ne A d fun e => (Finset.mem_sdiff.mp hb).2 (by subst e; simp [calls])]

/-- The result's line and the end, from the arrays after the call. -/
theorem closing (d : Dev nD) (Q : PUnit → sProp 𝕄) :
    iprop((boundary (d.tc : Thread nD τ) ∗ StableHlo.held (d.tc : Thread nD τ) (Pipeline.ucRefs τ sig) (called A d))
        ∗ ((boundary (d.tc : Thread nD τ) ∗ FIN A d) -∗ Q ⟨⟩))
      ⊢ wp frame (wpE ((K (F := F)).defs (D (F := F))) 𝒱 (SparseCore.T d) none) Set.univ
          (hlo rfl (shapes (F := F)) (fun _ => .ret (⟨⟩ : PUnit))) Q := by
  iintro ⟨H, HQ⟩
  iapply (StableHlo.wp_hlo_within 𝒱 (SparseCore.T d) none Set.univ (op := shapes (F := F)) (S := Pipeline.ucRefs τ sig)
    (Pipeline.sub_ucRefs _ (StableHlo.reshape_bufs_sub ..)) (V := called A d)) $$ H
  iintro ⟨Hb, Hh⟩
  rw [wp_ret]
  imodintro
  iapply HQ
  isplitl [Hb]; · iexact Hb
  ihave Hh' := (Entails.of_eq (StableHlo.held_sub_split (d.tc : Thread nD τ) ends_sub _)) $$ Hh
  icases Hh' with ⟨He, -⟩
  iapply (Entails.of_eq ((held_ends d ((shapes (F := F)).result (called A d))).trans (by rw [final_y, final_a])))
  iexact He

variable {ops : Dev nD → List (HloOp τ sig (Elt F))}

/-- The host program on one device. -/
theorem hmain (hm : ∀ d, main (F := F) d = StableHlo.seq (ops d) >>= fun _ => MainIdeal.last d) (hr : ∀ d, HostLine.Rising 1 (ops d) 812)
    (hV : ∀ d, A d = StableHlo.after (ops d) (StableHlo.launchContents m d)) (κ : GSem nD τ sig → ℕ) (d : Dev nD) :
    iprop((K (F := F)).ctx EH (P A) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN A d ∗ (K (F := F)).tcEnd d) := by
  unfold SparseCore.Cfg.tcRes SparseCore.Cfg.tcEnd
  rw [hm, show (unscopedBufs d (fun b => m ((SparseCore.T d).loc b)) : sProp 𝕄) = _ from Pipeline.unscopedBufs_held d (StableHlo.launchContents m d)]
  iintro ⟨#Hctx, Hst, ⟨Hb, Hh, Hts, -⟩, -⟩
  ihave Hbh : iprop(boundary (d.tc : Thread nD τ) ∗ StableHlo.held (d.tc : Thread nD τ) (Pipeline.ucRefs τ sig) (StableHlo.launchContents m d)) $$ [Hb Hh]
  · isplitl [Hb] <;> iassumption
  iapply (StableHlo.wp_seq 𝒱 none Set.univ d (Pipeline.ucRefs τ sig) (fun _ => MainIdeal.last d) (ops d)
    (fun op h => Pipeline.sub_ucRefs op (HostLine.rising_ok (hr d) op h).1) (fun op h => (HostLine.rising_ok (hr d) op h).2) (StableHlo.launchContents m d)) $$ Hbh
  rw [← hV d]
  iintro ⟨Hb, Hh⟩
  ihave Hh' := (Entails.of_eq (StableHlo.held_sub_split (d.tc : Thread nD τ) calls_sub (A d))) $$ Hh
  icases Hh' with ⟨Hc, Hrest⟩
  ihave Hc' := (Entails.of_eq (held_calls d (A d))) $$ Hc
  ihave Hd := (deal d (wAt A d) (tAt A d) (oAt A d)) $$ Hc'
  icases Hd with ⟨Hkeep, Hgo⟩
  unfold MainIdeal.last
  simp only [wp_bind, wp_pure]
  iapply ((K (F := F)).wp_run (D (F := F)) 𝒱 (EH := EH) (P := P A) κ d 0)
  isplitr; · iexact Hctx
  isplitl [Hst]; · iexact Hst
  isplitl [Hgo]; · iapply (Entails.of_eq (st0_eq A d).symm); iexact Hgo
  iintro ⟨Hst, Hdn⟩
  ihave Hdn' := (Entails.of_eq (dn0_eq A d)) $$ Hdn
  ihave Hj := (undeal d (wAt A d) (tAt A d) (sAt A d)) $$ [Hkeep Hdn']
  · isplitl [Hkeep] <;> iassumption
  ihave Hh := (Entails.of_eq (rejoin A d)) $$ [Hj Hrest]
  · isplitl [Hj] <;> iassumption
  iapply (closing A d)
  isplitl [Hb Hh]
  · isplitl [Hb] <;> iassumption
  iintro ⟨Hb, HF⟩
  imodintro
  isplitl [Hst]; · iexact Hst
  isplitl [HF]; · iexact HF
  isplitl [Hb] <;> iassumption

def fq (d : Dev nD) (s' : Phys nD τ sig (Elt F)) : Prop := s'.mem.mem (aLoc d) = A d aRef ∧ s'.mem.mem (yLoc d) = yAt A d

theorem hfin (d : Dev nD) (s' : Phys nD τ sig (Elt F)) : iprop(FIN A d ∗ SI s') ⊢ (⌜fq A d s'⌝ : sProp 𝕄) := by
  iintro ⟨⟨Hx, Ha⟩, HSI⟩
  ihave H := (persistent_entails_right (SI_pointsTo_agree (st := s') (ℓ := aLoc d) (I := Finset.univ) (q := fullShare) (f := A d aRef))) $$ [HSI Hx]
  · isplitl [HSI] <;> iassumption
  icases H with ⟨%hx, HSI, -⟩
  ihave H := (SI_pointsTo_agree (st := s') (ℓ := yLoc d) (I := Finset.univ) (q := fullShare) (f := yAt A d)) $$ [HSI Ha]
  · isplitl [HSI] <;> iassumption
  icases H with %ha
  ipureintro; exact ⟨funext fun i => hx i (Finset.mem_univ i), funext fun i => ha i (Finset.mem_univ i)⟩

/-- Every run ends with the argument as the line before the call left it, the result the shifted rows, and no semaphore raised. -/
theorem run_main [∀ e, Nonempty (Elt F e)] (hm : ∀ d, main (F := F) d = StableHlo.seq (ops d) >>= fun _ => MainIdeal.last d)
    (hr : ∀ d, HostLine.Rising 1 (ops d) 812) (hV : ∀ d, A d = StableHlo.after (ops d) (StableHlo.launchContents m d))
    (hlt : ∀ d R, (wordAt d (tAt A d) R).toNat < 8192) :
    θ_run (Cert.KernelIdeal.defs (F := F)) (Cert.KernelIdeal.threads (F := F)) ⟨m, fun _ => 0, ρ⟩
      (fun r => (∀ d : Dev nD, r.2.mem (aLoc d) = A d aRef ∧ r.2.mem (yLoc d) = yAt A d) ∧ r.2.sem = fun _ => 0) :=
  SparseCore.Cfg.θ_run_sc_quiescent (K := K (F := F)) (D := D (F := F)) (𝒱 := 𝒱) (EH := EH) (P := P A) (A := ∅) facts v₀
    (fun q hq => match q with | 0 => nomatch hq)
    (fun q _ => match q with | 0 => tileObl A facts hlt)
    (fun q _ => match q with | 0 => SparseCore.Cfg.VecSplit.of_plain (vecSplit A))
    m ρ main (fun _ => iprop(emp)) (FIN A) (u₀ (F := F)) (sep_elim_left.trans (hu₀ A)) (hmain m ρ A hm hr hV) (fq A) (hfin A) _ (fun _ h hz => ⟨h, hz⟩)

end Cert.Proof.RunIdeal

end
-- ==== Proof.LayoutIdeal.lean ====
module

public import proofs.«01_k».proof.Proof.ValIdeal
public import proofs.«01_k».proof.Proof.MainIdeal
public import Idealize.ShloMosaic.Lib.Pipeline.Value
public import Idealize.ShloMosaic.Lib.KernelVsHost

/-! # What the line before the call leaves, entry by entry

Row `R` of the 128 is signal `R % 2` of source `R / 2 % 4` of batch `R / 8`; its word of the table is that source's offset. -/

@[expose] public section

noncomputable section

namespace Cert.Proof.LayoutIdeal

open Idealize.ShloMosaic Idealize.ShloMosaic.StableHlo Idealize.SL.Sem Cert.Proof.HostLine Cert.Proof.ValIdeal Cert.Proof.TileIdeal
open Cert.KernelIdeal Cert.KernelIdeal.Facts₀ Cert.KernelIdeal.Facts

variable {F : FTy → Type}

/-- The offset of source `s` of batch `b`, among the drawn offsets. -/
def source (b : Fin 16) (s : Fin 4) : S16x4x1x1.Idx := fun | 0 => b | 1 => s | 2 => (0 : Fin 1) | 3 => (0 : Fin 1)

/-- The batch and the source of a row. -/
def batchOf (R : Fin 128) : Fin 16 := ⟨R.val / 8, by omega⟩
def sourceOf (R : Fin 128) : Fin 4 := ⟨R.val / 2 % 4, by omega⟩

/-- The offsets, each repeated for its source's two signals, padded to the table's length: row `R`'s word. -/
theorem table_word (v : S16x4x1x1.Idx → BitVec 32) (z : S_.Idx → BitVec 32) (R : Fin 128) (j : S144.Idx) (hj : (j 0).val = R.val) :
    pad S144 ![0] ![16] ![0] (shapeCast S128 (broadcastInDim S64x2 ![0, 1] bcast_S64x1_S64x2_0_1 (shapeCast S64x1 v shapeCasts_S16x4x1x1_S64x1)) shapeCasts_S64x2_S128)
      z pads_S128_S144_0160 h_S_ j = v (source (batchOf R) (sourceOf R)) := by
  refine (pad_apply_of_inside (s := S128) (t := S144) _ _ _ _ _ _ _ j (fun | 0 => (R : Fin 128)) (fun | 0 => ?_)).trans ?_
  · show (j 0).val = 0 + R.val * (0 + 1)
    omega
  refine (shapeCast_apply (s := S64x2) (t := S128) _ _ _ (fun | 0 => (⟨R.val / 2, by omega⟩ : Fin 64) | 1 => (⟨R.val % 2, by omega⟩ : Fin 2)) ?_).trans ?_
  · refine (Shape.rowMajor_val_two (d := ![64, 2]) _).trans (Eq.trans ?_ (Shape.rowMajor_val_one (d := ![128]) _).symm)
    show R.val / 2 * 2 + R.val % 2 = R.val
    omega
  show shapeCast S64x1 v shapeCasts_S16x4x1x1_S64x1 _ = _
  refine shapeCast_apply (s := S16x4x1x1) (t := S64x1) _ _ _ _ ?_
  refine (Shape.rowMajor_val_four (d := ![16, 4, 1, 1]) _).trans (Eq.trans ?_ (Shape.rowMajor_val_two (d := ![64, 1]) _).symm)
  show ((R.val / 8 * 4 + R.val / 2 % 4) * 1 + 0) * 1 + 0 = R.val / 2 * 1 + 0
  omega

variable [FloatOps F]

/-- The facts the host line leaves, as `MainIdeal.layout_lines` states them. -/
abbrev Laid (W : Valuation τ sig (Elt F)) : Prop :=
  ∃ (v8 : (⟨S64x1, .i32⟩ : BufTy).Contents (Elt F)) (v10 : (⟨S128, .i32⟩ : BufTy).Contents (Elt F)), v8 = shapeCast S64x1 (rd W (.of main_v7 : TRef sig ⟨S16x4x1x1, .i32⟩) : S16x4x1x1.Idx → BitVec 32) shapeCasts_S16x4x1x1_S64x1
      ∧ v10 = shapeCast S128 (broadcastInDim S64x2 ![0, 1] bcast_S64x1_S64x2_0_1 v8) shapeCasts_S64x2_S128
      ∧ rd W (.of main_v11 : TRef sig ⟨S144, .i32⟩) = pad S144 ![0] ![16] ![0] v10 (constantI S_ 32 0#32) pads_S128_S144_0160 h_S_
      ∧ rd W (.of main_v12 : TRef sig ⟨S128x131072, .f32⟩)
        = shapeCast S128x131072 (rd W (.of main_arg0 : TRef sig ⟨S16x4x2x131072, .f32⟩) : S16x4x2x131072.Idx → Elt F .f32) shapeCasts_S16x4x2x131072_S128x131072

/-- Row `R`'s word of the table is the offset drawn for its source. -/
theorem laid_word (d : Dev nD) (W : Valuation τ sig (Elt F)) (h : Laid W) (R : Fin 128) :
    wordAt d (at' W main_v11) R = (rd W (.of main_v7 : TRef sig ⟨S16x4x1x1, .i32⟩)) (source (batchOf R) (sourceOf R)) := by
  obtain ⟨v8, v10, e8, e10, e11, -⟩ := h
  have e : (at' W main_v11 : S144.Idx → BitVec 32) = rd W (.of main_v11 : TRef sig ⟨S144, .i32⟩) := rfl
  show (at' W main_v11 : S144.Idx → BitVec 32) _ = _
  rw [e, e11, e10, e8]
  exact table_word _ _ R _ rfl

/-- The host program up to the call is one line of operations, leaving the drawn offsets below 8192 and the layout stated above. -/
theorem host_line (d : Dev nD) : ∃ ops : List (HloOp τ sig (Elt F)), main (F := F) d = seq ops >>= (fun _ => MainIdeal.last d) ∧ Rising 1 ops 812
    ∧ ∀ W, Fix ops W → (∀ i, (rd W (.of main_v7 : TRef sig ⟨S16x4x1x1, .i32⟩) i : BitVec 32).toNat < 8192) ∧ Laid W := by
  rw [MainIdeal.main_eq]
  exact One.trans (MainIdeal.draw_lines d (0 : Dev Cert.ReferenceIdeal.nD)).one (MainIdeal.layout_lines d).one

/-- The table's words are below 8192. -/
theorem laid_lt (d : Dev nD) (W : Valuation τ sig (Elt F))
    (h : (∀ i, (rd W (.of main_v7 : TRef sig ⟨S16x4x1x1, .i32⟩) i : BitVec 32).toNat < 8192) ∧ Laid W) (R : Fin 128) :
    (wordAt d (at' W main_v11) R).toNat < 8192 := by
  rw [laid_word d W h.2 R]; exact h.1 _

end Cert.Proof.LayoutIdeal

end
-- ==== Proof.FrameIdeal.lean ====
module

public import proofs.«01_k».proof.Proof.RunIdeal
public import proofs.«01_k».proof.Proof.LayoutIdeal

/-! # Every run of the kernel ends, the argument as it was, no semaphore raised -/

@[expose] public section

noncomputable section

namespace Cert.Proof.FrameIdeal

open Idealize.ShloMosaic Idealize.ShloMosaic.StableHlo Idealize.SL.Sem Cert.Proof.HostLine Cert.Proof.RunIdeal Cert.Proof.LayoutIdeal
open Cert.KernelIdeal

variable {F : FTy → Type} [FloatOps F]

/-- The argument is not written before the call. -/
theorem arg_kept (m : (ℓ : Loc nD τ sig) → Buf (Elt F) ℓ) (d : Dev nD) {ops : List (HloOp τ sig (Elt F))} {hi : ℕ} (h : Rising 1 ops hi) :
    after ops (launchContents m d) aRef = m (aLoc d) :=
  rising_keeps h (launchContents m d) (r := main_arg0) (Or.inr Nat.one_pos)

theorem frame : Cert.quiescent_KernelIdeal := fun m ρ _ => by
  choose ops hm hr hP using fun d => host_line (F := Ideal) d
  have run := run_main m ρ (fun d => after (ops d) (launchContents m d)) hm hr (fun _ => rfl)
    (fun d R => laid_lt d _ (hP d _ (rising_fix (hr d) _)) R)
  exact (θ_run _ _ _).mono (fun _ h => ⟨fun c => (h.1 c).1.trans (arg_kept m c (hr c)), h.2⟩) run

end Cert.Proof.FrameIdeal

end
-- ==== Proof.RefValue.lean ====
module

public import proofs.«01_k».proof.Proof.RefLine
public import Idealize.ShloMosaic.Lib.Pipeline.Value

/-! # What the plain program takes

Entry `t` of a signal of a source is the signal's entry `t` places after the source's offset: the column stays inside the
signal, so no index is wrapped, clamped or refused. -/

@[expose] public section

noncomputable section

namespace Cert.Proof.RefValue

open Idealize.ShloMosaic Idealize.ShloMosaic.StableHlo Idealize.SL.Sem Cert.Proof.HostLine
open Cert.ReferenceIdeal Cert.ReferenceIdeal.Facts₀ Cert.ReferenceIdeal.Facts

variable {F : FTy → Type}

/-- The offset of source `s` of batch `b`. -/
def source (b : Fin 16) (s : Fin 4) : S16x4x1x1.Idx := fun | 0 => b | 1 => s | 2 => (0 : Fin 1) | 3 => (0 : Fin 1)

/-- Place `n` of a signal of the argument. -/
def place (b : Fin 16) (s : Fin 4) (c : Fin 2) (n : ℕ) : S16x4x2x131072.Idx :=
  fun | 0 => b | 1 => s | 2 => c | 3 => (Fin.ofNat 131072 n : Fin 131072)

/-- A column index of the result, without its last axis. -/
def column (i : S16x4x2x122880x1.Idx) : S16x4x2x122880.Idx :=
  fun | 0 => (i 0 : Fin 16) | 1 => (i 1 : Fin 4) | 2 => (i 2 : Fin 2) | 3 => (i 3 : Fin 122880)

theorem andi_ones {ι : Type} (g : ι → BitVec 1) (h : ∀ n, g n = 1#1) : ∀ l : List ι, l.foldl (fun r n => IntOp.andi r (g n)) 1#1 = 1#1
  | [] => rfl
  | a :: l => by rw [List.foldl_cons, h a]; exact andi_ones g h l

/-- A conjunction of ones is one. -/
theorem reduce_ones (v : S16x4x2x122880x1.Idx → BitVec 1) (h : ∀ i, v i = 1#1) (j : S16x4x2x122880.Idx) :
    Host.reduce IntOp.andi v (constantI S_ 1 1#1) reducesTo_S16x4x2x122880x1_S16x4x2x122880_d4 h_S_ j = 1#1 :=
  andi_ones (fun n => v (S16x4x2x122880x1.rowMajor.symm n)) (fun _ => h _) _

/-- The columns taken: the entry's own, past its source's offset. -/
theorem cols (v7 : S16x4x1x1.Idx → BitVec 32) (j : S16x4x2x122880.Idx) :
    addi (broadcastInDim S16x4x2x122880 ![0, 1, 2, 3] bcast_S1x1x1x122880_S16x4x2x122880_0_1_2_3
            (broadcastInDim S1x1x1x122880 ![3] bcast_S122880_S1x1x1x122880_3 (iotaInDim S122880 32 0)))
          (broadcastInDim S16x4x2x122880 ![0, 1, 2, 3] bcast_S16x4x2x1_S16x4x2x122880_0_1_2_3
            (broadcastInDim S16x4x2x1 ![0, 1, 2, 3] bcast_S16x4x1x1_S16x4x2x1_0_1_2_3 v7)) j
      = BitVec.ofNat 32 (j 3).val + v7 (source (j 0) (j 1)) := by
  show BitVec.ofNat 32 (j 3).val + v7 _ = _
  congr 2
  funext a
  match a with
  | 0 => rfl
  | 1 => rfl
  | 2 => rfl
  | 3 => rfl

/-- Such a column, as a number. -/
theorem col_nat (t : Fin 122880) (o : BitVec 32) (ho : o.toNat < 8192) : (BitVec.ofNat 32 t.val + o).toNat = t.val + o.toNat := by
  have := t.isLt
  rw [BitVec.toNat_add, BitVec.toNat_ofNat]
  omega

theorem col_int (c : BitVec 32) (h : c.toNat < 131072) : c.toInt = (c.toNat : Int) := by
  rw [BitVec.toInt_eq_toNat_of_lt (by omega)]

theorem not_neg (c : BitVec 32) (h : c.toNat < 131072) : IntOp.cmpi .slt c 0#32 = 0#1 := by
  show BitVec.ofBool (c.slt 0#32) = _
  rw [show c.slt 0#32 = false from by rw [BitVec.slt, col_int c h]; simp]
  rfl

theorem at_least (c : BitVec 32) (h : c.toNat < 131072) : IntOp.cmpi .sge c 0#32 = 1#1 := by
  show BitVec.ofBool ((0#32).sle c) = _
  rw [show (0#32).sle c = true from by rw [BitVec.sle, col_int c h]; simp]
  rfl

theorem at_most (c : BitVec 32) (h : c.toNat < 131072) : IntOp.cmpi .sle c 131071#32 = 1#1 := by
  show BitVec.ofBool (c.sle 131071#32) = _
  rw [show c.sle 131071#32 = true from by
    rw [BitVec.sle, col_int c h, col_int 131071#32 (by decide)]
    simp only [decide_eq_true_eq, BitVec.toNat_ofNat]
    omega]
  rfl

/-- The gather's dimension numbers. -/
abbrev G := gather_S16x4x2x131072_S16x4x2x122880x1_S16x4x2x122880_n_3_012_012_3_4_1111

/-- The gather reads, in its own signal, the column its index names. -/
theorem taken {α : Type} (x : S16x4x2x131072.Idx → α) (v : S16x4x2x122880x1.Idx → BitVec 32) (u : S16x4x2x122880.Idx → BitVec 32)
    (hv : ∀ i, v i = u (column i)) (j : S16x4x2x122880.Idx) (h : (u j).toNat < 131072) :
    Host.gather gather_S16x4x2x131072_S16x4x2x122880x1_S16x4x2x122880_n_3_012_012_3_4_1111 x v j = x (place (j 0) (j 1) (j 2) (u j).toNat) := by
  refine congrArg x (funext fun a => Fin.ext ?_)
  match a with
  | 0 =>
    show G.start j v 0 + G.batchCoord j 0 + G.offCoord j 0 = (j 0).val
    rw [G.start_batching j v 0 (by decide), G.offCoord_eq_zero j 0 (by decide), Nat.zero_add, Nat.add_zero]
    rfl
  | 1 =>
    show G.start j v 1 + G.batchCoord j 1 + G.offCoord j 1 = (j 1).val
    rw [G.start_batching j v 1 (by decide), G.offCoord_eq_zero j 1 (by decide), Nat.zero_add, Nat.add_zero]
    rfl
  | 2 =>
    show G.start j v 2 + G.batchCoord j 2 + G.offCoord j 2 = (j 2).val
    rw [G.start_batching j v 2 (by decide), G.offCoord_eq_zero j 2 (by decide), Nat.zero_add, Nat.add_zero]
    rfl
  | 3 =>
    show G.start j v 3 + G.batchCoord j 3 + G.offCoord j 3 = (u j).toNat % 131072
    rw [G.batchCoord_eq_zero j 3 (by decide), G.offCoord_eq_zero j 3 (by decide), Nat.mod_eq_of_lt h]
    show G.start j v 3 = _
    have e : ∀ k, v (G.siIdx j k) = u j := fun k => (hv _).trans (congrArg u (funext fun b => Fin.ext (match b with
      | 0 => rfl | 1 => rfl | 2 => rfl | 3 => rfl)))
    show min (v (G.siIdx j _)).toInt.toNat (131072 - 1) = _
    rw [e, col_int _ h, Int.toNat_natCast]
    omega

/-- The index array's last axis has one place. -/
theorem unlast (u : S16x4x2x122880.Idx → BitVec 32) (i : S16x4x2x122880x1.Idx) :
    shapeCast S16x4x2x122880x1 u shapeCasts_S16x4x2x122880_S16x4x2x122880x1 i = u (column i) := by
  refine shapeCast_apply (s := S16x4x2x122880) (t := S16x4x2x122880x1) _ _ _ _ ?_
  refine (Shape.rowMajor_val_four (d := ![16, 4, 2, 122880]) _).trans (Eq.trans ?_ (Shape.rowMajor_val_five (d := ![16, 4, 2, 122880, 1]) _).symm)
  have h : (i 4).val < 1 := (i 4).isLt
  show (((i 0).val * 4 + (i 1).val) * 2 + (i 2).val) * 122880 + (i 3).val = ((((i 0).val * 4 + (i 1).val) * 2 + (i 2).val) * 122880 + (i 3).val) * 1 + (i 4).val
  omega

variable [FloatOps F]

/-- The facts the plain program's line leaves, as `RefLine.lines` states them. -/
abbrev Lined (W : Valuation τ sig (Elt F)) : Prop :=
  ∃ (v8 : (⟨S16x4x2x1, .i32⟩ : BufTy).Contents (Elt F)) (v13 v4 : (⟨S16x4x2x122880, .i32⟩ : BufTy).Contents (Elt F))
      (v5 : (⟨S16x4x2x122880x1, .i32⟩ : BufTy).Contents (Elt F)) (v11 : (⟨S16x4x2x122880x1, .i1⟩ : BufTy).Contents (Elt F)),
      v8 = broadcastInDim S16x4x2x1 ![0, 1, 2, 3] bcast_S16x4x1x1_S16x4x2x1_0_1_2_3 (rd W (.of main_v7 : TRef sig ⟨S16x4x1x1, .i32⟩))
      ∧ v13 = addi (broadcastInDim S16x4x2x122880 ![0, 1, 2, 3] bcast_S1x1x1x122880_S16x4x2x122880_0_1_2_3
            (broadcastInDim S1x1x1x122880 ![3] bcast_S122880_S1x1x1x122880_3 (iotaInDim S122880 32 0)))
          (broadcastInDim S16x4x2x122880 ![0, 1, 2, 3] bcast_S16x4x2x1_S16x4x2x122880_0_1_2_3 v8)
      ∧ v4 = select (cmpi .slt v13 (broadcastInDim S16x4x2x122880 ![] bcast_S_S16x4x2x122880 (constantI S_ 32 0#32)))
          (addi v13 (broadcastInDim S16x4x2x122880 ![] bcast_S_S16x4x2x122880 (constantI S_ 32 131072#32))) v13
      ∧ v5 = (fun i => (rfl : (.i32 : EltTy) = .i32) ▸ shapeCast S16x4x2x122880x1 v4 shapeCasts_S16x4x2x122880_S16x4x2x122880x1 i)
      ∧ v11 = andi (cmpi .sge v5 (broadcastInDim S16x4x2x122880x1 ![] bcast_S_S16x4x2x122880x1 (constantI S_ 32 0#32)))
          (cmpi .sle v5 (broadcastInDim S16x4x2x122880x1 ![0, 1, 2, 3, 4] bcast_S1x1x1x1x1_S16x4x2x122880x1_0_1_2_3_4
            (broadcastInDim S1x1x1x1x1 ![4] bcast_S1_S1x1x1x1x1_4 (constantI S1 32 131071#32))))
      ∧ rd W (.of main_v14 : TRef sig ⟨S16x4x2x122880, .f32⟩) = select (Host.reduce IntOp.andi v11 (constantI S_ 1 1#1) reducesTo_S16x4x2x122880x1_S16x4x2x122880_d4 h_S_)
          (Host.gather gather_S16x4x2x131072_S16x4x2x122880x1_S16x4x2x122880_n_3_012_012_3_4_1111 (rd W (.of main_arg0 : TRef sig ⟨S16x4x2x131072, .f32⟩)) v5)
          (broadcastInDim S16x4x2x122880 ![] bcast_S_S16x4x2x122880 (constant S_ .f32 0x7FC00000#32))

/-- The plain program's result, entry by entry, from the contents `RefLine.lines` describes. -/
theorem value (W : Valuation τ sig (Elt F)) (h : Lined W)
    (hlt : ∀ i, (rd W (.of main_v7 : TRef sig ⟨S16x4x1x1, .i32⟩) i : BitVec 32).toNat < 8192) (j : S16x4x2x122880.Idx) :
    (rd W (.of main_v14 : TRef sig ⟨S16x4x2x122880, .f32⟩) : S16x4x2x122880.Idx → Elt F .f32) j
      = (rd W (.of main_arg0 : TRef sig ⟨S16x4x2x131072, .f32⟩) : S16x4x2x131072.Idx → Elt F .f32)
          (place (j 0) (j 1) (j 2) ((j 3).val + (rd W (.of main_v7 : TRef sig ⟨S16x4x1x1, .i32⟩) (source (j 0) (j 1)) : BitVec 32).toNat)) := by
  obtain ⟨v8, v13, v4, v5, v11, e8, e13, e4, e5, e11, e14⟩ := h
  have n13 : ∀ i : S16x4x2x122880.Idx, (v13 i : BitVec 32).toNat = (i 3).val + (rd W (.of main_v7 : TRef sig ⟨S16x4x1x1, .i32⟩) (source (i 0) (i 1)) : BitVec 32).toNat := fun i => by
    rw [e13, e8]
    exact (congrArg BitVec.toNat (cols _ i)).trans (col_nat (i 3) _ (hlt _))
  have b13 : ∀ i : S16x4x2x122880.Idx, (v13 i : BitVec 32).toNat < 131072 := fun i => by
    have h0 := n13 i
    have h1 := hlt (source (i 0) (i 1))
    have h2 : (i 3).val < 122880 := (i 3).isLt
    omega
  have q4 : v4 = v13 := by
    rw [e4]
    funext i
    show Scalar.select (IntOp.cmpi .slt (v13 i : BitVec 32) 0#32) _ _ = _
    rw [not_neg _ (b13 i)]
    rfl
  have q5 : ∀ i, (v5 i : BitVec 32) = v13 (column i) := fun i => by
    rw [e5, q4]
    exact unlast _ i
  have q11 : ∀ i, (v11 i : BitVec 1) = 1#1 := fun i => by
    rw [e11]
    show IntOp.andi (IntOp.cmpi .sge (v5 i : BitVec 32) 0#32) (IntOp.cmpi .sle (v5 i : BitVec 32) 131071#32) = 1#1
    rw [q5, at_least _ (b13 _), at_most _ (b13 _)]
    rfl
  rw [e14]
  show Scalar.select (Host.reduce IntOp.andi v11 (constantI S_ 1 1#1) reducesTo_S16x4x2x122880x1_S16x4x2x122880_d4 h_S_ j) _ _ = _
  rw [reduce_ones v11 q11 j]
  refine (show ∀ {α : Type} (a b : α), Scalar.select 1#1 a b = a from fun _ _ => rfl) _ _ |>.trans ?_
  rw [← n13 j]
  exact taken _ v5 v13 q5 j (b13 j)

end Cert.Proof.RefValue

end
-- ==== Proof.Equation.lean ====
module

public import proofs.«01_k».proof.Proof.RunIdeal
public import proofs.«01_k».proof.Proof.LayoutIdeal
public import proofs.«01_k».proof.Proof.FrameIdeal
public import proofs.«01_k».proof.Proof.RefValue

/-! # The kernel's result is the plain program's

Both programs draw the same offsets.  Entry `(b, s, c, t)` of either result is the argument's entry `(b, s, c, t + o)`
where `o` is the offset drawn for source `s` of batch `b`. -/

@[expose] public section

noncomputable section

namespace Cert.Proof.Equation

open Idealize.ShloMosaic Idealize.ShloMosaic.StableHlo Idealize.SL.Sem Cert.Proof.HostLine
open Cert.Proof.RefValue (place Lined)
open Cert.Proof.LayoutIdeal (Laid source)
open Cert.Proof.RunIdeal (wAt tAt sAt yAt aRef aLoc yLoc)

variable {F : FTy → Type} [FloatOps F]

section Kernel

open Cert.KernelIdeal Cert.KernelIdeal.Facts₀ Cert.KernelIdeal.Facts

/-- The row of a signal. -/
def rowAt (b : Fin 16) (s : Fin 4) (c : Fin 2) : Fin 128 := ⟨(b.val * 4 + s.val) * 2 + c.val, by omega⟩

/-- The argument as 128 rows, entry by entry. -/
theorem wide_entry {α : Type} (x : S16x4x2x131072.Idx → α) (b : Fin 16) (s : Fin 4) (c : Fin 2) (n : ℕ) (hn : n < 131072) :
    shapeCast S128x131072 x shapeCasts_S16x4x2x131072_S128x131072 (ValIdeal.at2 (rowAt b s c) n) = x (place b s c n) := by
  refine shapeCast_apply (s := S16x4x2x131072) (t := S128x131072) _ _ _ _ ?_
  refine (Shape.rowMajor_val_four (d := ![16, 4, 2, 131072]) _).trans (Eq.trans ?_ (Shape.rowMajor_val_two (d := ![128, 131072]) _).symm)
  show ((b.val * 4 + s.val) * 2 + c.val) * 131072 + n % 131072 = ((b.val * 4 + s.val) * 2 + c.val) * 131072 + n % 131072
  rfl

/-- The result of 128 rows at the argument's layout, entry by entry. -/
theorem narrow_entry {α : Type} (x : S128x122880.Idx → α) (j : S16x4x2x122880.Idx) :
    shapeCast S16x4x2x122880 x shapeCasts_S128x122880_S16x4x2x122880 j
      = x (fun | 0 => rowAt (j 0) (j 1) (j 2) | 1 => (j 3 : Fin 122880)) := by
  refine shapeCast_apply (s := S128x122880) (t := S16x4x2x122880) _ _ _ _ ?_
  exact (Shape.rowMajor_val_two (d := ![128, 122880]) _).trans (Shape.rowMajor_val_four (d := ![16, 4, 2, 122880]) j).symm

/-- The kernel's result, entry by entry. -/
theorem kernel_entry (A : Dev nD → Valuation τ sig (Elt F)) (d : Dev nD) (h : Laid (A d))
    (hlt : ∀ i, (rd (A d) (.of main_v7 : TRef sig ⟨S16x4x1x1, .i32⟩) i : BitVec 32).toNat < 8192) (j : S16x4x2x122880.Idx) :
    (yAt A d : S16x4x2x122880.Idx → Elt F .f32) j
      = (rd (A d) (.of main_arg0 : TRef sig ⟨S16x4x2x131072, .f32⟩) : S16x4x2x131072.Idx → Elt F .f32)
          (place (j 0) (j 1) (j 2) ((j 3).val + (rd (A d) (.of main_v7 : TRef sig ⟨S16x4x1x1, .i32⟩) (source (j 0) (j 1)) : BitVec 32).toNat)) := by
  have e12 : wAt A d = shapeCast S128x131072 (rd (A d) (.of main_arg0 : TRef sig ⟨S16x4x2x131072, .f32⟩) : S16x4x2x131072.Idx → Elt F .f32) shapeCasts_S16x4x2x131072_S128x131072 := by
    obtain ⟨_, _, _, _, _, e⟩ := h; exact e
  have h0 : (j 0).val < 16 := (j 0).isLt
  have h1 : (j 1).val < 4 := (j 1).isLt
  have h2 : (j 2).val < 2 := (j 2).isLt
  have h3 : (j 3).val < 122880 := (j 3).isLt
  have hb : LayoutIdeal.batchOf (rowAt (j 0) (j 1) (j 2)) = j 0 := Fin.ext (by
    show (((j 0).val * 4 + (j 1).val) * 2 + (j 2).val) / 8 = (j 0).val
    omega)
  have hs : LayoutIdeal.sourceOf (rowAt (j 0) (j 1) (j 2)) = j 1 := Fin.ext (by
    show (((j 0).val * 4 + (j 1).val) * 2 + (j 2).val) / 2 % 4 = (j 1).val
    omega)
  have hw : ValIdeal.wordAt d (tAt A d) (rowAt (j 0) (j 1) (j 2)) = rd (A d) (.of main_v7 : TRef sig ⟨S16x4x1x1, .i32⟩) (source (j 0) (j 1)) := by
    refine (LayoutIdeal.laid_word d (A d) h _).trans ?_
    rw [hb, hs]
  refine (narrow_entry _ j).trans ?_
  show (wAt A d : S128x131072.Idx → Elt F .f32) (ValIdeal.at2 (rowAt (j 0) (j 1) (j 2)) ((j 3).val + (ValIdeal.wordAt d (tAt A d) (rowAt (j 0) (j 1) (j 2))).toNat)) = _
  rw [hw, e12]
  exact wide_entry _ _ _ _ _ (by have := hlt (source (j 0) (j 1)); omega)

end Kernel

/-- The two host programs as lines of operations that draw the same offsets. -/
theorem lines (d : Dev Cert.KernelIdeal.nD) (d' : Dev Cert.ReferenceIdeal.nD) :
    ∃ (ops : List (HloOp Cert.KernelIdeal.τ Cert.KernelIdeal.sig (Elt F))) (ops' : List (HloOp Cert.ReferenceIdeal.τ Cert.ReferenceIdeal.sig (Elt F))),
      (Cert.KernelIdeal.main (F := F) d = seq ops >>= fun _ => MainIdeal.last d) ∧ (Cert.ReferenceIdeal.main (F := F) d' = seq ops' >>= fun _ => pure ⟨⟩)
      ∧ Rising 1 ops 812 ∧ Rising 1 ops' 833
      ∧ (∀ W, Fix ops W → (∀ i, (rd W (.of Cert.KernelIdeal.main_v7 : TRef Cert.KernelIdeal.sig ⟨Cert.KernelIdeal.S16x4x1x1, .i32⟩) i : BitVec 32).toNat < 8192) ∧ Laid W)
      ∧ (∀ W, Fix ops' W → Lined W)
      ∧ ∀ V V', Agree 1 V V' → Agree 805 (after ops V) (after ops' V') := by
  rw [MainIdeal.main_eq, RefLine.main_eq]
  exact Both.continue (MainIdeal.draw_lines d d') (MainIdeal.layout_lines d).one (RefLine.lines d').one

/-- The equal results, entry by entry, from contents that agree on the argument and the offsets. -/
theorem results (A : Dev Cert.KernelIdeal.nD → Valuation Cert.KernelIdeal.τ Cert.KernelIdeal.sig (Elt F)) (d : Dev Cert.KernelIdeal.nD)
    (W' : Valuation Cert.ReferenceIdeal.τ Cert.ReferenceIdeal.sig (Elt F)) (h : Laid (A d)) (h' : Lined W')
    (hlt : ∀ i, (rd (A d) (.of Cert.KernelIdeal.main_v7 : TRef Cert.KernelIdeal.sig ⟨Cert.KernelIdeal.S16x4x1x1, .i32⟩) i : BitVec 32).toNat < 8192)
    (hA : Agree 805 (A d) W') :
    (yAt A d : Cert.KernelIdeal.S16x4x2x122880.Idx → Elt F .f32) = at' W' Cert.ReferenceIdeal.main_v14 := by
  have e7 : at' (A d) Cert.KernelIdeal.main_v7 = at' W' Cert.ReferenceIdeal.main_v7 :=
    eq_of_heq (hA Cert.KernelIdeal.main_v7 Cert.ReferenceIdeal.main_v7 ⟨rfl, by decide⟩ ⟨rfl, by decide⟩ rfl)
  have e0 : at' (A d) Cert.KernelIdeal.main_arg0 = at' W' Cert.ReferenceIdeal.main_arg0 :=
    eq_of_heq (hA Cert.KernelIdeal.main_arg0 Cert.ReferenceIdeal.main_arg0 ⟨rfl, by decide⟩ ⟨rfl, by decide⟩ rfl)
  have hlt' : ∀ i, (rd W' (.of Cert.ReferenceIdeal.main_v7 : TRef Cert.ReferenceIdeal.sig ⟨Cert.ReferenceIdeal.S16x4x1x1, .i32⟩) i : BitVec 32).toNat < 8192 := fun i => by
    refine (congrArg (fun v : Cert.KernelIdeal.S16x4x1x1.Idx → BitVec 32 => (v i).toNat) e7.symm).trans_lt (hlt i)
  funext j
  refine (kernel_entry A d h hlt j).trans (Eq.trans ?_ (RefValue.value W' h' hlt' j).symm)
  show (at' (A d) Cert.KernelIdeal.main_arg0 : Cert.KernelIdeal.S16x4x2x131072.Idx → Elt F .f32)
      (place (j 0) (j 1) (j 2) ((j 3).val + ((at' (A d) Cert.KernelIdeal.main_v7 : Cert.KernelIdeal.S16x4x1x1.Idx → BitVec 32) (source (j 0) (j 1))).toNat)) = _
  rw [e0, e7]
  rfl

/-- Contents that agree on the argument. -/
theorem launch_agree (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (e : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Agree 1 (launchContents m c) (launchContents m' c) := by
  rintro ⟨sp, i, n⟩ ⟨sp', i', n'⟩ ⟨hs, hi⟩ ⟨hs', hi'⟩ -
  dsimp only at hs hi hs' hi'
  subst hs hs'
  have z : i = (0 : Fin 814) := Fin.ext (by show i.val = 0; omega)
  have z' : i' = (0 : Fin 833) := Fin.ext (by show i'.val = 0; omega)
  subst z z'
  exact heq_of_eq e.symm

/-- The plain program's run: it ends with every array at what its line leaves. -/
theorem ref_run (ops' : Dev Cert.ReferenceIdeal.nD → List (HloOp Cert.ReferenceIdeal.τ Cert.ReferenceIdeal.sig (Elt F)))
    (hm : ∀ d, Cert.ReferenceIdeal.main (F := F) d = seq (ops' d) >>= fun _ => pure ⟨⟩) (hr : ∀ d, Rising 1 (ops' d) 833)
    (m' : (ℓ : Loc Cert.ReferenceIdeal.nD Cert.ReferenceIdeal.τ Cert.ReferenceIdeal.sig) → Buf (Elt F) ℓ) (g' : Dev Cert.ReferenceIdeal.nD → PrngReg) :
    θ_run (Cert.ReferenceIdeal.defs (F := F)) (onTc (τ := Cert.ReferenceIdeal.τ) (Cert.ReferenceIdeal.main (F := F))) ⟨m', fun _ => 0, g'⟩ (fun r =>
      ∀ (d : Dev Cert.ReferenceIdeal.nD) (b : Ref Cert.ReferenceIdeal.sig .tc), r.2.mem ((d.tc : Thread Cert.ReferenceIdeal.nD Cert.ReferenceIdeal.τ).loc b)
        = after (ops' d) (launchContents m' d) (Proc.devRef .tc b)) :=
  run_seq (by decide +kernel) (by decide +kernel) _ _ ops' (fun d => (hm d).trans (bind_pure _))
    (fun d => List.forall_iff_forall_mem.mpr fun op ho => (rising_ok (hr d) op ho).1) m' g' (fun d op ho => (rising_ok (hr d) op ho).2)

theorem ref_arg (m' : (ℓ : Loc Cert.ReferenceIdeal.nD Cert.ReferenceIdeal.τ Cert.ReferenceIdeal.sig) → Buf (Elt F) ℓ) (d : Dev Cert.ReferenceIdeal.nD)
    {ops' : List (HloOp Cert.ReferenceIdeal.τ Cert.ReferenceIdeal.sig (Elt F))} {hi : ℕ} (h : Rising 1 ops' hi) :
    after ops' (launchContents m' d) (Proc.devRef .tc Cert.ReferenceIdeal.main_arg0)
      = m' ((d.tc : Thread Cert.ReferenceIdeal.nD Cert.ReferenceIdeal.τ).loc Cert.ReferenceIdeal.main_arg0) :=
  rising_keeps h (launchContents m' d) (r := Cert.ReferenceIdeal.main_arg0) (Or.inr Nat.one_pos)

/-- Every run of the plain program ends, the argument as it was; it declares no semaphore. -/
theorem ref_frame : Cert.quiescent_ReferenceIdeal := fun m' g' _ => by
  choose ops ops' _ hm _ hr _ _ _ using fun d : Dev Cert.ReferenceIdeal.nD => lines (F := Ideal) (0 : Dev Cert.KernelIdeal.nD) d
  exact (θ_run _ _ _).mono (fun r h => ⟨fun c => (h c _).trans (ref_arg m' c (hr c)), sem_eq_zero_of_no_sems (by decide) r.2⟩)
    (ref_run ops' hm hr m' g')

/-- The two programs, from one argument, end with one result. -/
theorem algebraic : Cert.algebraic_KernelIdeal_ReferenceIdeal := fun m g m' g' _ hag => by
  choose ops ops' hm hm' hr hr' hP hP' hA using fun d : Dev Cert.KernelIdeal.nD => lines (F := Ideal) d d
  have fix : ∀ d, Fix (ops d) (after (ops d) (launchContents m d)) := fun d => rising_fix (hr d) _
  have fix' : ∀ d, Fix (ops' d) (after (ops' d) (launchContents m' d)) := fun d => rising_fix (hr' d) _
  refine ⟨yAt (fun d => after (ops d) (launchContents m d)), ?_, ?_⟩
  · exact (θ_run _ _ _).mono (fun _ h c => ⟨(h.1 c).2, (h.1 c).1.trans (FrameIdeal.arg_kept m c (hr c))⟩)
      (RunIdeal.run_main m g (fun d => after (ops d) (launchContents m d)) hm hr (fun _ => rfl)
        (fun d R => LayoutIdeal.laid_lt d _ (hP d _ (fix d)) R))
  · exact (θ_run _ _ _).mono (fun _ h c => ⟨(h c Cert.ReferenceIdeal.main_v14).trans
        (results (fun d => after (ops d) (launchContents m d)) c _ (hP c _ (fix c)).2 (hP' c _ (fix' c)) (hP c _ (fix c)).1
          (hA c _ _ (launch_agree m m' c (hag c)))).symm, (h c Cert.ReferenceIdeal.main_arg0).trans (ref_arg m' c (hr' c))⟩)
      (ref_run ops' hm' hr' m' g')

end Cert.Proof.Equation

end
-- ==== Proof.lean ====
module

public import proofs.«01_k».proof.Defs
public import proofs.«01_k».proof.Proof.FrameBits
public import proofs.«01_k».proof.Proof.FrameIdeal
public import proofs.«01_k».proof.Proof.Equation

@[expose] public section

noncomputable section

namespace Cert.Proof

/-- The five claims. -/
theorem claim : Cert.Claim :=
  ⟨Cert.Kernel.Gen.facts, Cert.KernelIdeal.Gen.facts, Cert.ReferenceIdeal.Gen.facts,
    FrameBits.frame, FrameIdeal.frame, Equation.ref_frame, trivial, Equation.algebraic⟩

end Cert.Proof

end
